-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_qk [hPre_finite_qk : Cert.Pre_finite_qk.Facts] (m : (ℓ : Loc Cert.KernelIdeal.nD Cert.KernelIdeal.τ Cert.KernelIdeal.sig) → Buf (Elt Ideal) ℓ) : Prop :=
  ∀ c : Dev Cert.KernelIdeal.nD,
    (Cert.Pre_finite_qk.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_qk [hPre_finite_qk : Cert.Pre_finite_qk.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_qk.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjRefIdeal (m : (ℓ : Loc Cert.InProjRefIdeal.nD Cert.InProjRefIdeal.τ Cert.InProjRefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_MemKv (m : (ℓ : Loc Cert.MemKv.nD Cert.MemKv.τ Cert.MemKv.sig) → Buf (Elt Bits) ℓ) : Prop :=
  True

def Pre_MemKvIdeal (m : (ℓ : Loc Cert.MemKvIdeal.nD Cert.MemKvIdeal.τ Cert.MemKvIdeal.sig) → Buf (Elt Ideal) ℓ) : Prop :=
  True

def Pre_MemKvRefIdeal (m : (ℓ : Loc Cert.MemKvRefIdeal.nD Cert.MemKvRefIdeal.τ Cert.MemKvRefIdeal.sig) → Buf (Elt Ideal) ℓ) : Prop :=
  True

def Pre_MemAttn (m : (ℓ : Loc Cert.MemAttn.nD Cert.MemAttn.τ Cert.MemAttn.sig) → Buf (Elt Bits) ℓ) : Prop :=
  True

def Pre_MemAttnIdeal (m : (ℓ : Loc Cert.MemAttnIdeal.nD Cert.MemAttnIdeal.τ Cert.MemAttnIdeal.sig) → Buf (Elt Ideal) ℓ) : Prop :=
  True

def Pre_MemAttnIdeal_finite_mem [hPre_finite_mem : Cert.Pre_finite_mem.Facts] (m : (ℓ : Loc Cert.MemAttnIdeal.nD Cert.MemAttnIdeal.τ Cert.MemAttnIdeal.sig) → Buf (Elt Ideal) ℓ) : Prop :=
  ∀ c : Dev Cert.MemAttnIdeal.nD,
    (Cert.Pre_finite_mem.fn (F := Ideal) (m ((c.tc : Thread Cert.MemAttnIdeal.nD Cert.MemAttnIdeal.τ).loc Cert.MemAttnIdeal.main_arg0)) (m ((c.tc : Thread Cert.MemAttnIdeal.nD Cert.MemAttnIdeal.τ).loc Cert.MemAttnIdeal.main_arg1)) (m ((c.tc : Thread Cert.MemAttnIdeal.nD Cert.MemAttnIdeal.τ).loc Cert.MemAttnIdeal.main_arg2)) (m ((c.tc : Thread Cert.MemAttnIdeal.nD Cert.MemAttnIdeal.τ).loc Cert.MemAttnIdeal.main_arg3))) = (fun _ => 1#1)

def Pre_MemAttnRefIdeal (m : (ℓ : Loc Cert.MemAttnRefIdeal.nD Cert.MemAttnRefIdeal.τ Cert.MemAttnRefIdeal.sig) → Buf (Elt Ideal) ℓ) : Prop :=
  True

def Pre_MemAttnRefIdeal_finite_mem [hPre_finite_mem : Cert.Pre_finite_mem.Facts] (m : (ℓ : Loc Cert.MemAttnRefIdeal.nD Cert.MemAttnRefIdeal.τ Cert.MemAttnRefIdeal.sig) → Buf (Elt Ideal) ℓ) : Prop :=
  ∀ c : Dev Cert.MemAttnRefIdeal.nD,
    (Cert.Pre_finite_mem.fn (F := Ideal) (m ((c.tc : Thread Cert.MemAttnRefIdeal.nD Cert.MemAttnRefIdeal.τ).loc Cert.MemAttnRefIdeal.main_arg0)) (m ((c.tc : Thread Cert.MemAttnRefIdeal.nD Cert.MemAttnRefIdeal.τ).loc Cert.MemAttnRefIdeal.main_arg1)) (m ((c.tc : Thread Cert.MemAttnRefIdeal.nD Cert.MemAttnRefIdeal.τ).loc Cert.MemAttnRefIdeal.main_arg2)) (m ((c.tc : Thread Cert.MemAttnRefIdeal.nD Cert.MemAttnRefIdeal.τ).loc Cert.MemAttnRefIdeal.main_arg3))) = (fun _ => 1#1)

def Pre_MlaPrep (m : (ℓ : Loc Cert.MlaPrep.nD Cert.MlaPrep.τ Cert.MlaPrep.sig) → Buf (Elt Bits) ℓ) : Prop :=
  True

def Pre_MlaPrepIdeal (m : (ℓ : Loc Cert.MlaPrepIdeal.nD Cert.MlaPrepIdeal.τ Cert.MlaPrepIdeal.sig) → Buf (Elt Ideal) ℓ) : Prop :=
  True

def Pre_MlaPrepRefIdeal (m : (ℓ : Loc Cert.MlaPrepRefIdeal.nD Cert.MlaPrepRefIdeal.τ Cert.MlaPrepRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_qk [hKernelIdeal : Cert.KernelIdeal.Facts] [hPre_finite_qk : Cert.Pre_finite_qk.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_qk m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_qk [hReferenceIdeal : Cert.ReferenceIdeal.Facts] [hPre_finite_qk : Cert.Pre_finite_qk.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_qk m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1)
      ∧ r.2.mem ((c.tc : Thread Cert.InProjRefIdeal.nD Cert.InProjRefIdeal.τ).loc Cert.InProjRefIdeal.main_arg2) = m ((c.tc : Thread Cert.InProjRefIdeal.nD Cert.InProjRefIdeal.τ).loc Cert.InProjRefIdeal.main_arg2))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7)
      ∧ r.2.mem ((c.tc : Thread Cert.Merge.nD Cert.Merge.τ).loc Cert.Merge.main_arg8) = m ((c.tc : Thread Cert.Merge.nD Cert.Merge.τ).loc Cert.Merge.main_arg8))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6)
      ∧ r.2.mem ((c.tc : Thread Cert.MergeRefIdeal.nD Cert.MergeRefIdeal.τ).loc Cert.MergeRefIdeal.main_arg7) = m ((c.tc : Thread Cert.MergeRefIdeal.nD Cert.MergeRefIdeal.τ).loc Cert.MergeRefIdeal.main_arg7)
      ∧ r.2.mem ((c.tc : Thread Cert.MergeRefIdeal.nD Cert.MergeRefIdeal.τ).loc Cert.MergeRefIdeal.main_arg8) = m ((c.tc : Thread Cert.MergeRefIdeal.nD Cert.MergeRefIdeal.τ).loc Cert.MergeRefIdeal.main_arg8))
      ∧ r.2.sem = fun _ => 0)

def quiescent_MemKv [hMemKv : Cert.MemKv.Facts] : Prop :=
  ∀ (m : (ℓ : Loc Cert.MemKv.nD Cert.MemKv.τ Cert.MemKv.sig) → Buf (Elt Bits) ℓ) (g : Dev Cert.MemKv.nD → PrngReg), Pre_MemKv m →
    θ_run (Cert.MemKv.defs (F := Bits)) (onTc (τ := Cert.MemKv.τ) (Cert.MemKv.main (F := Bits))) ⟨m, fun _ => 0, g⟩ (fun r => (∀ c : Dev Cert.MemKv.nD,
      r.2.mem ((c.tc : Thread Cert.MemKv.nD Cert.MemKv.τ).loc Cert.MemKv.main_arg0) = m ((c.tc : Thread Cert.MemKv.nD Cert.MemKv.τ).loc Cert.MemKv.main_arg0)
      ∧ r.2.mem ((c.tc : Thread Cert.MemKv.nD Cert.MemKv.τ).loc Cert.MemKv.main_arg1) = m ((c.tc : Thread Cert.MemKv.nD Cert.MemKv.τ).loc Cert.MemKv.main_arg1)
      ∧ r.2.mem ((c.tc : Thread Cert.MemKv.nD Cert.MemKv.τ).loc Cert.MemKv.main_arg2) = m ((c.tc : Thread Cert.MemKv.nD Cert.MemKv.τ).loc Cert.MemKv.main_arg2)
      ∧ r.2.mem ((c.tc : Thread Cert.MemKv.nD Cert.MemKv.τ).loc Cert.MemKv.main_arg3) = m ((c.tc : Thread Cert.MemKv.nD Cert.MemKv.τ).loc Cert.MemKv.main_arg3))
      ∧ r.2.sem = fun _ => 0)

def quiescent_MemKvIdeal [hMemKvIdeal : Cert.MemKvIdeal.Facts] : Prop :=
  ∀ (m : (ℓ : Loc Cert.MemKvIdeal.nD Cert.MemKvIdeal.τ Cert.MemKvIdeal.sig) → Buf (Elt Ideal) ℓ) (g : Dev Cert.MemKvIdeal.nD → PrngReg), Pre_MemKvIdeal m →
    θ_run (Cert.MemKvIdeal.defs (F := Ideal)) (onTc (τ := Cert.MemKvIdeal.τ) (Cert.MemKvIdeal.main (F := Ideal))) ⟨m, fun _ => 0, g⟩ (fun r => (∀ c : Dev Cert.MemKvIdeal.nD,
      r.2.mem ((c.tc : Thread Cert.MemKvIdeal.nD Cert.MemKvIdeal.τ).loc Cert.MemKvIdeal.main_arg0) = m ((c.tc : Thread Cert.MemKvIdeal.nD Cert.MemKvIdeal.τ).loc Cert.MemKvIdeal.main_arg0)
      ∧ r.2.mem ((c.tc : Thread Cert.MemKvIdeal.nD Cert.MemKvIdeal.τ).loc Cert.MemKvIdeal.main_arg1) = m ((c.tc : Thread Cert.MemKvIdeal.nD Cert.MemKvIdeal.τ).loc Cert.MemKvIdeal.main_arg1)
      ∧ r.2.mem ((c.tc : Thread Cert.MemKvIdeal.nD Cert.MemKvIdeal.τ).loc Cert.MemKvIdeal.main_arg2) = m ((c.tc : Thread Cert.MemKvIdeal.nD Cert.MemKvIdeal.τ).loc Cert.MemKvIdeal.main_arg2)
      ∧ r.2.mem ((c.tc : Thread Cert.MemKvIdeal.nD Cert.MemKvIdeal.τ).loc Cert.MemKvIdeal.main_arg3) = m ((c.tc : Thread Cert.MemKvIdeal.nD Cert.MemKvIdeal.τ).loc Cert.MemKvIdeal.main_arg3))
      ∧ r.2.sem = fun _ => 0)

def quiescent_MemKvRefIdeal [hMemKvRefIdeal : Cert.MemKvRefIdeal.Facts] : Prop :=
  ∀ (m : (ℓ : Loc Cert.MemKvRefIdeal.nD Cert.MemKvRefIdeal.τ Cert.MemKvRefIdeal.sig) → Buf (Elt Ideal) ℓ) (g : Dev Cert.MemKvRefIdeal.nD → PrngReg), Pre_MemKvRefIdeal m →
    θ_run (Cert.MemKvRefIdeal.defs (F := Ideal)) (onTc (τ := Cert.MemKvRefIdeal.τ) (Cert.MemKvRefIdeal.main (F := Ideal))) ⟨m, fun _ => 0, g⟩ (fun r => (∀ c : Dev Cert.MemKvRefIdeal.nD,
      r.2.mem ((c.tc : Thread Cert.MemKvRefIdeal.nD Cert.MemKvRefIdeal.τ).loc Cert.MemKvRefIdeal.main_arg0) = m ((c.tc : Thread Cert.MemKvRefIdeal.nD Cert.MemKvRefIdeal.τ).loc Cert.MemKvRefIdeal.main_arg0)
      ∧ r.2.mem ((c.tc : Thread Cert.MemKvRefIdeal.nD Cert.MemKvRefIdeal.τ).loc Cert.MemKvRefIdeal.main_arg1) = m ((c.tc : Thread Cert.MemKvRefIdeal.nD Cert.MemKvRefIdeal.τ).loc Cert.MemKvRefIdeal.main_arg1)
      ∧ r.2.mem ((c.tc : Thread Cert.MemKvRefIdeal.nD Cert.MemKvRefIdeal.τ).loc Cert.MemKvRefIdeal.main_arg2) = m ((c.tc : Thread Cert.MemKvRefIdeal.nD Cert.MemKvRefIdeal.τ).loc Cert.MemKvRefIdeal.main_arg2)
      ∧ r.2.mem ((c.tc : Thread Cert.MemKvRefIdeal.nD Cert.MemKvRefIdeal.τ).loc Cert.MemKvRefIdeal.main_arg3) = m ((c.tc : Thread Cert.MemKvRefIdeal.nD Cert.MemKvRefIdeal.τ).loc Cert.MemKvRefIdeal.main_arg3))
      ∧ r.2.sem = fun _ => 0)

def quiescent_MemAttn [hMemAttn : Cert.MemAttn.Facts] : Prop :=
  ∀ (m : (ℓ : Loc Cert.MemAttn.nD Cert.MemAttn.τ Cert.MemAttn.sig) → Buf (Elt Bits) ℓ) (g : Dev Cert.MemAttn.nD → PrngReg), Pre_MemAttn m →
    θ_run (Cert.MemAttn.defs (F := Bits)) (onTc (τ := Cert.MemAttn.τ) (Cert.MemAttn.main (F := Bits))) ⟨m, fun _ => 0, g⟩ (fun r => (∀ c : Dev Cert.MemAttn.nD,
      r.2.mem ((c.tc : Thread Cert.MemAttn.nD Cert.MemAttn.τ).loc Cert.MemAttn.main_arg0) = m ((c.tc : Thread Cert.MemAttn.nD Cert.MemAttn.τ).loc Cert.MemAttn.main_arg0)
      ∧ r.2.mem ((c.tc : Thread Cert.MemAttn.nD Cert.MemAttn.τ).loc Cert.MemAttn.main_arg1) = m ((c.tc : Thread Cert.MemAttn.nD Cert.MemAttn.τ).loc Cert.MemAttn.main_arg1)
      ∧ r.2.mem ((c.tc : Thread Cert.MemAttn.nD Cert.MemAttn.τ).loc Cert.MemAttn.main_arg2) = m ((c.tc : Thread Cert.MemAttn.nD Cert.MemAttn.τ).loc Cert.MemAttn.main_arg2)
      ∧ r.2.mem ((c.tc : Thread Cert.MemAttn.nD Cert.MemAttn.τ).loc Cert.MemAttn.main_arg3) = m ((c.tc : Thread Cert.MemAttn.nD Cert.MemAttn.τ).loc Cert.MemAttn.main_arg3))
      ∧ r.2.sem = fun _ => 0)

def quiescent_MemAttnIdeal [hMemAttnIdeal : Cert.MemAttnIdeal.Facts] : Prop :=
  ∀ (m : (ℓ : Loc Cert.MemAttnIdeal.nD Cert.MemAttnIdeal.τ Cert.MemAttnIdeal.sig) → Buf (Elt Ideal) ℓ) (g : Dev Cert.MemAttnIdeal.nD → PrngReg), Pre_MemAttnIdeal m →
    θ_run (Cert.MemAttnIdeal.defs (F := Ideal)) (onTc (τ := Cert.MemAttnIdeal.τ) (Cert.MemAttnIdeal.main (F := Ideal))) ⟨m, fun _ => 0, g⟩ (fun r => (∀ c : Dev Cert.MemAttnIdeal.nD,
      r.2.mem ((c.tc : Thread Cert.MemAttnIdeal.nD Cert.MemAttnIdeal.τ).loc Cert.MemAttnIdeal.main_arg0) = m ((c.tc : Thread Cert.MemAttnIdeal.nD Cert.MemAttnIdeal.τ).loc Cert.MemAttnIdeal.main_arg0)
      ∧ r.2.mem ((c.tc : Thread Cert.MemAttnIdeal.nD Cert.MemAttnIdeal.τ).loc Cert.MemAttnIdeal.main_arg1) = m ((c.tc : Thread Cert.MemAttnIdeal.nD Cert.MemAttnIdeal.τ).loc Cert.MemAttnIdeal.main_arg1)
      ∧ r.2.mem ((c.tc : Thread Cert.MemAttnIdeal.nD Cert.MemAttnIdeal.τ).loc Cert.MemAttnIdeal.main_arg2) = m ((c.tc : Thread Cert.MemAttnIdeal.nD Cert.MemAttnIdeal.τ).loc Cert.MemAttnIdeal.main_arg2)
      ∧ r.2.mem ((c.tc : Thread Cert.MemAttnIdeal.nD Cert.MemAttnIdeal.τ).loc Cert.MemAttnIdeal.main_arg3) = m ((c.tc : Thread Cert.MemAttnIdeal.nD Cert.MemAttnIdeal.τ).loc Cert.MemAttnIdeal.main_arg3))
      ∧ r.2.sem = fun _ => 0)

def quiescent_MemAttnIdeal_pre_finite_mem [hMemAttnIdeal : Cert.MemAttnIdeal.Facts] [hPre_finite_mem : Cert.Pre_finite_mem.Facts] : Prop :=
  ∀ (m : (ℓ : Loc Cert.MemAttnIdeal.nD Cert.MemAttnIdeal.τ Cert.MemAttnIdeal.sig) → Buf (Elt Ideal) ℓ) (g : Dev Cert.MemAttnIdeal.nD → PrngReg), Pre_MemAttnIdeal_finite_mem m →
    θ_run (Cert.MemAttnIdeal.defs (F := Ideal)) (onTc (τ := Cert.MemAttnIdeal.τ) (Cert.MemAttnIdeal.main (F := Ideal))) ⟨m, fun _ => 0, g⟩ (fun r => (∀ c : Dev Cert.MemAttnIdeal.nD,
      r.2.mem ((c.tc : Thread Cert.MemAttnIdeal.nD Cert.MemAttnIdeal.τ).loc Cert.MemAttnIdeal.main_arg0) = m ((c.tc : Thread Cert.MemAttnIdeal.nD Cert.MemAttnIdeal.τ).loc Cert.MemAttnIdeal.main_arg0)
      ∧ r.2.mem ((c.tc : Thread Cert.MemAttnIdeal.nD Cert.MemAttnIdeal.τ).loc Cert.MemAttnIdeal.main_arg1) = m ((c.tc : Thread Cert.MemAttnIdeal.nD Cert.MemAttnIdeal.τ).loc Cert.MemAttnIdeal.main_arg1)
      ∧ r.2.mem ((c.tc : Thread Cert.MemAttnIdeal.nD Cert.MemAttnIdeal.τ).loc Cert.MemAttnIdeal.main_arg2) = m ((c.tc : Thread Cert.MemAttnIdeal.nD Cert.MemAttnIdeal.τ).loc Cert.MemAttnIdeal.main_arg2)
      ∧ r.2.mem ((c.tc : Thread Cert.MemAttnIdeal.nD Cert.MemAttnIdeal.τ).loc Cert.MemAttnIdeal.main_arg3) = m ((c.tc : Thread Cert.MemAttnIdeal.nD Cert.MemAttnIdeal.τ).loc Cert.MemAttnIdeal.main_arg3))
      ∧ r.2.sem = fun _ => 0)

def quiescent_MemAttnRefIdeal [hMemAttnRefIdeal : Cert.MemAttnRefIdeal.Facts] : Prop :=
  ∀ (m : (ℓ : Loc Cert.MemAttnRefIdeal.nD Cert.MemAttnRefIdeal.τ Cert.MemAttnRefIdeal.sig) → Buf (Elt Ideal) ℓ) (g : Dev Cert.MemAttnRefIdeal.nD → PrngReg), Pre_MemAttnRefIdeal m →
    θ_run (Cert.MemAttnRefIdeal.defs (F := Ideal)) (onTc (τ := Cert.MemAttnRefIdeal.τ) (Cert.MemAttnRefIdeal.main (F := Ideal))) ⟨m, fun _ => 0, g⟩ (fun r => (∀ c : Dev Cert.MemAttnRefIdeal.nD,
      r.2.mem ((c.tc : Thread Cert.MemAttnRefIdeal.nD Cert.MemAttnRefIdeal.τ).loc Cert.MemAttnRefIdeal.main_arg0) = m ((c.tc : Thread Cert.MemAttnRefIdeal.nD Cert.MemAttnRefIdeal.τ).loc Cert.MemAttnRefIdeal.main_arg0)
      ∧ r.2.mem ((c.tc : Thread Cert.MemAttnRefIdeal.nD Cert.MemAttnRefIdeal.τ).loc Cert.MemAttnRefIdeal.main_arg1) = m ((c.tc : Thread Cert.MemAttnRefIdeal.nD Cert.MemAttnRefIdeal.τ).loc Cert.MemAttnRefIdeal.main_arg1)
      ∧ r.2.mem ((c.tc : Thread Cert.MemAttnRefIdeal.nD Cert.MemAttnRefIdeal.τ).loc Cert.MemAttnRefIdeal.main_arg2) = m ((c.tc : Thread Cert.MemAttnRefIdeal.nD Cert.MemAttnRefIdeal.τ).loc Cert.MemAttnRefIdeal.main_arg2)
      ∧ r.2.mem ((c.tc : Thread Cert.MemAttnRefIdeal.nD Cert.MemAttnRefIdeal.τ).loc Cert.MemAttnRefIdeal.main_arg3) = m ((c.tc : Thread Cert.MemAttnRefIdeal.nD Cert.MemAttnRefIdeal.τ).loc Cert.MemAttnRefIdeal.main_arg3))
      ∧ r.2.sem = fun _ => 0)

def quiescent_MemAttnRefIdeal_pre_finite_mem [hMemAttnRefIdeal : Cert.MemAttnRefIdeal.Facts] [hPre_finite_mem : Cert.Pre_finite_mem.Facts] : Prop :=
  ∀ (m : (ℓ : Loc Cert.MemAttnRefIdeal.nD Cert.MemAttnRefIdeal.τ Cert.MemAttnRefIdeal.sig) → Buf (Elt Ideal) ℓ) (g : Dev Cert.MemAttnRefIdeal.nD → PrngReg), Pre_MemAttnRefIdeal_finite_mem m →
    θ_run (Cert.MemAttnRefIdeal.defs (F := Ideal)) (onTc (τ := Cert.MemAttnRefIdeal.τ) (Cert.MemAttnRefIdeal.main (F := Ideal))) ⟨m, fun _ => 0, g⟩ (fun r => (∀ c : Dev Cert.MemAttnRefIdeal.nD,
      r.2.mem ((c.tc : Thread Cert.MemAttnRefIdeal.nD Cert.MemAttnRefIdeal.τ).loc Cert.MemAttnRefIdeal.main_arg0) = m ((c.tc : Thread Cert.MemAttnRefIdeal.nD Cert.MemAttnRefIdeal.τ).loc Cert.MemAttnRefIdeal.main_arg0)
      ∧ r.2.mem ((c.tc : Thread Cert.MemAttnRefIdeal.nD Cert.MemAttnRefIdeal.τ).loc Cert.MemAttnRefIdeal.main_arg1) = m ((c.tc : Thread Cert.MemAttnRefIdeal.nD Cert.MemAttnRefIdeal.τ).loc Cert.MemAttnRefIdeal.main_arg1)
      ∧ r.2.mem ((c.tc : Thread Cert.MemAttnRefIdeal.nD Cert.MemAttnRefIdeal.τ).loc Cert.MemAttnRefIdeal.main_arg2) = m ((c.tc : Thread Cert.MemAttnRefIdeal.nD Cert.MemAttnRefIdeal.τ).loc Cert.MemAttnRefIdeal.main_arg2)
      ∧ r.2.mem ((c.tc : Thread Cert.MemAttnRefIdeal.nD Cert.MemAttnRefIdeal.τ).loc Cert.MemAttnRefIdeal.main_arg3) = m ((c.tc : Thread Cert.MemAttnRefIdeal.nD Cert.MemAttnRefIdeal.τ).loc Cert.MemAttnRefIdeal.main_arg3))
      ∧ r.2.sem = fun _ => 0)

def quiescent_MlaPrep [hMlaPrep : Cert.MlaPrep.Facts] : Prop :=
  ∀ (m : (ℓ : Loc Cert.MlaPrep.nD Cert.MlaPrep.τ Cert.MlaPrep.sig) → Buf (Elt Bits) ℓ) (g : Dev Cert.MlaPrep.nD → PrngReg), Pre_MlaPrep m →
    θ_run (Cert.MlaPrep.defs (F := Bits)) (onTc (τ := Cert.MlaPrep.τ) (Cert.MlaPrep.main (F := Bits))) ⟨m, fun _ => 0, g⟩ (fun r => (∀ c : Dev Cert.MlaPrep.nD,
      r.2.mem ((c.tc : Thread Cert.MlaPrep.nD Cert.MlaPrep.τ).loc Cert.MlaPrep.main_arg0) = m ((c.tc : Thread Cert.MlaPrep.nD Cert.MlaPrep.τ).loc Cert.MlaPrep.main_arg0)
      ∧ r.2.mem ((c.tc : Thread Cert.MlaPrep.nD Cert.MlaPrep.τ).loc Cert.MlaPrep.main_arg1) = m ((c.tc : Thread Cert.MlaPrep.nD Cert.MlaPrep.τ).loc Cert.MlaPrep.main_arg1)
      ∧ r.2.mem ((c.tc : Thread Cert.MlaPrep.nD Cert.MlaPrep.τ).loc Cert.MlaPrep.main_arg2) = m ((c.tc : Thread Cert.MlaPrep.nD Cert.MlaPrep.τ).loc Cert.MlaPrep.main_arg2)
      ∧ r.2.mem ((c.tc : Thread Cert.MlaPrep.nD Cert.MlaPrep.τ).loc Cert.MlaPrep.main_arg3) = m ((c.tc : Thread Cert.MlaPrep.nD Cert.MlaPrep.τ).loc Cert.MlaPrep.main_arg3)
      ∧ r.2.mem ((c.tc : Thread Cert.MlaPrep.nD Cert.MlaPrep.τ).loc Cert.MlaPrep.main_arg4) = m ((c.tc : Thread Cert.MlaPrep.nD Cert.MlaPrep.τ).loc Cert.MlaPrep.main_arg4)
      ∧ r.2.mem ((c.tc : Thread Cert.MlaPrep.nD Cert.MlaPrep.τ).loc Cert.MlaPrep.main_arg5) = m ((c.tc : Thread Cert.MlaPrep.nD Cert.MlaPrep.τ).loc Cert.MlaPrep.main_arg5)
      ∧ r.2.mem ((c.tc : Thread Cert.MlaPrep.nD Cert.MlaPrep.τ).loc Cert.MlaPrep.main_arg6) = m ((c.tc : Thread Cert.MlaPrep.nD Cert.MlaPrep.τ).loc Cert.MlaPrep.main_arg6)
      ∧ r.2.mem ((c.tc : Thread Cert.MlaPrep.nD Cert.MlaPrep.τ).loc Cert.MlaPrep.main_arg7) = m ((c.tc : Thread Cert.MlaPrep.nD Cert.MlaPrep.τ).loc Cert.MlaPrep.main_arg7)
      ∧ r.2.mem ((c.tc : Thread Cert.MlaPrep.nD Cert.MlaPrep.τ).loc Cert.MlaPrep.main_arg8) = m ((c.tc : Thread Cert.MlaPrep.nD Cert.MlaPrep.τ).loc Cert.MlaPrep.main_arg8)
      ∧ r.2.mem ((c.tc : Thread Cert.MlaPrep.nD Cert.MlaPrep.τ).loc Cert.MlaPrep.main_arg9) = m ((c.tc : Thread Cert.MlaPrep.nD Cert.MlaPrep.τ).loc Cert.MlaPrep.main_arg9))
      ∧ r.2.sem = fun _ => 0)

def quiescent_MlaPrepIdeal [hMlaPrepIdeal : Cert.MlaPrepIdeal.Facts] : Prop :=
  ∀ (m : (ℓ : Loc Cert.MlaPrepIdeal.nD Cert.MlaPrepIdeal.τ Cert.MlaPrepIdeal.sig) → Buf (Elt Ideal) ℓ) (g : Dev Cert.MlaPrepIdeal.nD → PrngReg), Pre_MlaPrepIdeal m →
    θ_run (Cert.MlaPrepIdeal.defs (F := Ideal)) (onTc (τ := Cert.MlaPrepIdeal.τ) (Cert.MlaPrepIdeal.main (F := Ideal))) ⟨m, fun _ => 0, g⟩ (fun r => (∀ c : Dev Cert.MlaPrepIdeal.nD,
      r.2.mem ((c.tc : Thread Cert.MlaPrepIdeal.nD Cert.MlaPrepIdeal.τ).loc Cert.MlaPrepIdeal.main_arg0) = m ((c.tc : Thread Cert.MlaPrepIdeal.nD Cert.MlaPrepIdeal.τ).loc Cert.MlaPrepIdeal.main_arg0)
      ∧ r.2.mem ((c.tc : Thread Cert.MlaPrepIdeal.nD Cert.MlaPrepIdeal.τ).loc Cert.MlaPrepIdeal.main_arg1) = m ((c.tc : Thread Cert.MlaPrepIdeal.nD Cert.MlaPrepIdeal.τ).loc Cert.MlaPrepIdeal.main_arg1)
      ∧ r.2.mem ((c.tc : Thread Cert.MlaPrepIdeal.nD Cert.MlaPrepIdeal.τ).loc Cert.MlaPrepIdeal.main_arg2) = m ((c.tc : Thread Cert.MlaPrepIdeal.nD Cert.MlaPrepIdeal.τ).loc Cert.MlaPrepIdeal.main_arg2)
      ∧ r.2.mem ((c.tc : Thread Cert.MlaPrepIdeal.nD Cert.MlaPrepIdeal.τ).loc Cert.MlaPrepIdeal.main_arg3) = m ((c.tc : Thread Cert.MlaPrepIdeal.nD Cert.MlaPrepIdeal.τ).loc Cert.MlaPrepIdeal.main_arg3)
      ∧ r.2.mem ((c.tc : Thread Cert.MlaPrepIdeal.nD Cert.MlaPrepIdeal.τ).loc Cert.MlaPrepIdeal.main_arg4) = m ((c.tc : Thread Cert.MlaPrepIdeal.nD Cert.MlaPrepIdeal.τ).loc Cert.MlaPrepIdeal.main_arg4)
      ∧ r.2.mem ((c.tc : Thread Cert.MlaPrepIdeal.nD Cert.MlaPrepIdeal.τ).loc Cert.MlaPrepIdeal.main_arg5) = m ((c.tc : Thread Cert.MlaPrepIdeal.nD Cert.MlaPrepIdeal.τ).loc Cert.MlaPrepIdeal.main_arg5)
      ∧ r.2.mem ((c.tc : Thread Cert.MlaPrepIdeal.nD Cert.MlaPrepIdeal.τ).loc Cert.MlaPrepIdeal.main_arg6) = m ((c.tc : Thread Cert.MlaPrepIdeal.nD Cert.MlaPrepIdeal.τ).loc Cert.MlaPrepIdeal.main_arg6)
      ∧ r.2.mem ((c.tc : Thread Cert.MlaPrepIdeal.nD Cert.MlaPrepIdeal.τ).loc Cert.MlaPrepIdeal.main_arg7) = m ((c.tc : Thread Cert.MlaPrepIdeal.nD Cert.MlaPrepIdeal.τ).loc Cert.MlaPrepIdeal.main_arg7)
      ∧ r.2.mem ((c.tc : Thread Cert.MlaPrepIdeal.nD Cert.MlaPrepIdeal.τ).loc Cert.MlaPrepIdeal.main_arg8) = m ((c.tc : Thread Cert.MlaPrepIdeal.nD Cert.MlaPrepIdeal.τ).loc Cert.MlaPrepIdeal.main_arg8)
      ∧ r.2.mem ((c.tc : Thread Cert.MlaPrepIdeal.nD Cert.MlaPrepIdeal.τ).loc Cert.MlaPrepIdeal.main_arg9) = m ((c.tc : Thread Cert.MlaPrepIdeal.nD Cert.MlaPrepIdeal.τ).loc Cert.MlaPrepIdeal.main_arg9))
      ∧ r.2.sem = fun _ => 0)

def quiescent_MlaPrepRefIdeal [hMlaPrepRefIdeal : Cert.MlaPrepRefIdeal.Facts] : Prop :=
  ∀ (m : (ℓ : Loc Cert.MlaPrepRefIdeal.nD Cert.MlaPrepRefIdeal.τ Cert.MlaPrepRefIdeal.sig) → Buf (Elt Ideal) ℓ) (g : Dev Cert.MlaPrepRefIdeal.nD → PrngReg), Pre_MlaPrepRefIdeal m →
    θ_run (Cert.MlaPrepRefIdeal.defs (F := Ideal)) (onTc (τ := Cert.MlaPrepRefIdeal.τ) (Cert.MlaPrepRefIdeal.main (F := Ideal))) ⟨m, fun _ => 0, g⟩ (fun r => (∀ c : Dev Cert.MlaPrepRefIdeal.nD,
      r.2.mem ((c.tc : Thread Cert.MlaPrepRefIdeal.nD Cert.MlaPrepRefIdeal.τ).loc Cert.MlaPrepRefIdeal.main_arg0) = m ((c.tc : Thread Cert.MlaPrepRefIdeal.nD Cert.MlaPrepRefIdeal.τ).loc Cert.MlaPrepRefIdeal.main_arg0)
      ∧ r.2.mem ((c.tc : Thread Cert.MlaPrepRefIdeal.nD Cert.MlaPrepRefIdeal.τ).loc Cert.MlaPrepRefIdeal.main_arg1) = m ((c.tc : Thread Cert.MlaPrepRefIdeal.nD Cert.MlaPrepRefIdeal.τ).loc Cert.MlaPrepRefIdeal.main_arg1)
      ∧ r.2.mem ((c.tc : Thread Cert.MlaPrepRefIdeal.nD Cert.MlaPrepRefIdeal.τ).loc Cert.MlaPrepRefIdeal.main_arg2) = m ((c.tc : Thread Cert.MlaPrepRefIdeal.nD Cert.MlaPrepRefIdeal.τ).loc Cert.MlaPrepRefIdeal.main_arg2)
      ∧ r.2.mem ((c.tc : Thread Cert.MlaPrepRefIdeal.nD Cert.MlaPrepRefIdeal.τ).loc Cert.MlaPrepRefIdeal.main_arg3) = m ((c.tc : Thread Cert.MlaPrepRefIdeal.nD Cert.MlaPrepRefIdeal.τ).loc Cert.MlaPrepRefIdeal.main_arg3)
      ∧ r.2.mem ((c.tc : Thread Cert.MlaPrepRefIdeal.nD Cert.MlaPrepRefIdeal.τ).loc Cert.MlaPrepRefIdeal.main_arg4) = m ((c.tc : Thread Cert.MlaPrepRefIdeal.nD Cert.MlaPrepRefIdeal.τ).loc Cert.MlaPrepRefIdeal.main_arg4)
      ∧ r.2.mem ((c.tc : Thread Cert.MlaPrepRefIdeal.nD Cert.MlaPrepRefIdeal.τ).loc Cert.MlaPrepRefIdeal.main_arg5) = m ((c.tc : Thread Cert.MlaPrepRefIdeal.nD Cert.MlaPrepRefIdeal.τ).loc Cert.MlaPrepRefIdeal.main_arg5)
      ∧ r.2.mem ((c.tc : Thread Cert.MlaPrepRefIdeal.nD Cert.MlaPrepRefIdeal.τ).loc Cert.MlaPrepRefIdeal.main_arg6) = m ((c.tc : Thread Cert.MlaPrepRefIdeal.nD Cert.MlaPrepRefIdeal.τ).loc Cert.MlaPrepRefIdeal.main_arg6)
      ∧ r.2.mem ((c.tc : Thread Cert.MlaPrepRefIdeal.nD Cert.MlaPrepRefIdeal.τ).loc Cert.MlaPrepRefIdeal.main_arg7) = m ((c.tc : Thread Cert.MlaPrepRefIdeal.nD Cert.MlaPrepRefIdeal.τ).loc Cert.MlaPrepRefIdeal.main_arg7)
      ∧ r.2.mem ((c.tc : Thread Cert.MlaPrepRefIdeal.nD Cert.MlaPrepRefIdeal.τ).loc Cert.MlaPrepRefIdeal.main_arg8) = m ((c.tc : Thread Cert.MlaPrepRefIdeal.nD Cert.MlaPrepRefIdeal.τ).loc Cert.MlaPrepRefIdeal.main_arg8)
      ∧ r.2.mem ((c.tc : Thread Cert.MlaPrepRefIdeal.nD Cert.MlaPrepRefIdeal.τ).loc Cert.MlaPrepRefIdeal.main_arg9) = m ((c.tc : Thread Cert.MlaPrepRefIdeal.nD Cert.MlaPrepRefIdeal.τ).loc Cert.MlaPrepRefIdeal.main_arg9))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite_qk [hKernelIdeal : Cert.KernelIdeal.Facts] [hReferenceIdeal : Cert.ReferenceIdeal.Facts] [hPre_finite_qk : Cert.Pre_finite_qk.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_qk m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_InProj_InProjIdeal : Prop :=
  True

def algebraic_InProjIdeal_InProjRefIdeal [hInProjIdeal : Cert.InProjIdeal.Facts] [hInProjRefIdeal : Cert.InProjRefIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)
      ∧ m' ((c.tc : Thread Cert.InProjRefIdeal.nD Cert.InProjRefIdeal.τ).loc Cert.InProjRefIdeal.main_arg2) = m ((c.tc : Thread Cert.InProjIdeal.nD Cert.InProjIdeal.τ).loc Cert.InProjIdeal.main_arg2)) →
    ∃ (v0 : (c : Dev Cert.InProjIdeal.nD) → Buf (Elt Ideal) ((c.tc : Thread Cert.InProjIdeal.nD Cert.InProjIdeal.τ).loc Cert.InProjIdeal.main_v20_0)) (v1 : (c : Dev Cert.InProjIdeal.nD) → Buf (Elt Ideal) ((c.tc : Thread Cert.InProjIdeal.nD Cert.InProjIdeal.τ).loc Cert.InProjIdeal.main_v20_1)) (v2 : (c : Dev Cert.InProjIdeal.nD) → Buf (Elt Ideal) ((c.tc : Thread Cert.InProjIdeal.nD Cert.InProjIdeal.τ).loc Cert.InProjIdeal.main_v20_2)) (v3 : (c : Dev Cert.InProjIdeal.nD) → Buf (Elt Ideal) ((c.tc : Thread Cert.InProjIdeal.nD Cert.InProjIdeal.τ).loc Cert.InProjIdeal.main_v20_3)) (v4 : (c : Dev Cert.InProjIdeal.nD) → Buf (Elt Ideal) ((c.tc : Thread Cert.InProjIdeal.nD Cert.InProjIdeal.τ).loc Cert.InProjIdeal.main_v20_4)) (v5 : (c : Dev Cert.InProjIdeal.nD) → Buf (Elt Ideal) ((c.tc : Thread Cert.InProjIdeal.nD Cert.InProjIdeal.τ).loc Cert.InProjIdeal.main_v20_5)) (v6 : (c : Dev Cert.InProjIdeal.nD) → Buf (Elt Ideal) ((c.tc : Thread Cert.InProjIdeal.nD Cert.InProjIdeal.τ).loc Cert.InProjIdeal.main_v20_6)) (v7 : (c : Dev Cert.InProjIdeal.nD) → Buf (Elt Ideal) ((c.tc : Thread Cert.InProjIdeal.nD Cert.InProjIdeal.τ).loc Cert.InProjIdeal.main_v20_7)) (v8 : (c : Dev Cert.InProjIdeal.nD) → Buf (Elt Ideal) ((c.tc : Thread Cert.InProjIdeal.nD Cert.InProjIdeal.τ).loc Cert.InProjIdeal.main_v20_8)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v20_0) = v0 c
          ∧ r.2.mem ((c.tc : Thread Cert.InProjIdeal.nD Cert.InProjIdeal.τ).loc Cert.InProjIdeal.main_v20_1) = v1 c
          ∧ r.2.mem ((c.tc : Thread Cert.InProjIdeal.nD Cert.InProjIdeal.τ).loc Cert.InProjIdeal.main_v20_2) = v2 c
          ∧ r.2.mem ((c.tc : Thread Cert.InProjIdeal.nD Cert.InProjIdeal.τ).loc Cert.InProjIdeal.main_v20_3) = v3 c
          ∧ r.2.mem ((c.tc : Thread Cert.InProjIdeal.nD Cert.InProjIdeal.τ).loc Cert.InProjIdeal.main_v20_4) = v4 c
          ∧ r.2.mem ((c.tc : Thread Cert.InProjIdeal.nD Cert.InProjIdeal.τ).loc Cert.InProjIdeal.main_v20_5) = v5 c
          ∧ r.2.mem ((c.tc : Thread Cert.InProjIdeal.nD Cert.InProjIdeal.τ).loc Cert.InProjIdeal.main_v20_6) = v6 c
          ∧ r.2.mem ((c.tc : Thread Cert.InProjIdeal.nD Cert.InProjIdeal.τ).loc Cert.InProjIdeal.main_v20_7) = v7 c
          ∧ r.2.mem ((c.tc : Thread Cert.InProjIdeal.nD Cert.InProjIdeal.τ).loc Cert.InProjIdeal.main_v20_8) = v8 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v15) = v0 c
          ∧ r.2.mem ((c.tc : Thread Cert.InProjRefIdeal.nD Cert.InProjRefIdeal.τ).loc Cert.InProjRefIdeal.main_v16) = v1 c
          ∧ r.2.mem ((c.tc : Thread Cert.InProjRefIdeal.nD Cert.InProjRefIdeal.τ).loc Cert.InProjRefIdeal.main_v17) = v2 c
          ∧ r.2.mem ((c.tc : Thread Cert.InProjRefIdeal.nD Cert.InProjRefIdeal.τ).loc Cert.InProjRefIdeal.main_v18) = v3 c
          ∧ r.2.mem ((c.tc : Thread Cert.InProjRefIdeal.nD Cert.InProjRefIdeal.τ).loc Cert.InProjRefIdeal.main_v19) = v4 c
          ∧ r.2.mem ((c.tc : Thread Cert.InProjRefIdeal.nD Cert.InProjRefIdeal.τ).loc Cert.InProjRefIdeal.main_v24) = v5 c
          ∧ r.2.mem ((c.tc : Thread Cert.InProjRefIdeal.nD Cert.InProjRefIdeal.τ).loc Cert.InProjRefIdeal.main_v25) = v6 c
          ∧ r.2.mem ((c.tc : Thread Cert.InProjRefIdeal.nD Cert.InProjRefIdeal.τ).loc Cert.InProjRefIdeal.main_v26) = v7 c
          ∧ r.2.mem ((c.tc : Thread Cert.InProjRefIdeal.nD Cert.InProjRefIdeal.τ).loc Cert.InProjRefIdeal.main_v27) = v8 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1)
          ∧ r.2.mem ((c.tc : Thread Cert.InProjRefIdeal.nD Cert.InProjRefIdeal.τ).loc Cert.InProjRefIdeal.main_arg2) = m' ((c.tc : Thread Cert.InProjRefIdeal.nD Cert.InProjRefIdeal.τ).loc Cert.InProjRefIdeal.main_arg2))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)
      ∧ m' ((c.tc : Thread Cert.MergeRefIdeal.nD Cert.MergeRefIdeal.τ).loc Cert.MergeRefIdeal.main_arg6) = m ((c.tc : Thread Cert.MergeIdeal.nD Cert.MergeIdeal.τ).loc Cert.MergeIdeal.main_arg6)
      ∧ m' ((c.tc : Thread Cert.MergeRefIdeal.nD Cert.MergeRefIdeal.τ).loc Cert.MergeRefIdeal.main_arg7) = m ((c.tc : Thread Cert.MergeIdeal.nD Cert.MergeIdeal.τ).loc Cert.MergeIdeal.main_arg7)
      ∧ m' ((c.tc : Thread Cert.MergeRefIdeal.nD Cert.MergeRefIdeal.τ).loc Cert.MergeRefIdeal.main_arg8) = m ((c.tc : Thread Cert.MergeIdeal.nD Cert.MergeIdeal.τ).loc Cert.MergeIdeal.main_arg8)) →
    ∃ (v0 : (c : Dev Cert.MergeIdeal.nD) → Buf (Elt Ideal) ((c.tc : Thread Cert.MergeIdeal.nD Cert.MergeIdeal.τ).loc Cert.MergeIdeal.main_v13)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v13) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
          ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v23) = v0 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5)
          ∧ r.2.mem ((c.tc : Thread Cert.MergeRefIdeal.nD Cert.MergeRefIdeal.τ).loc Cert.MergeRefIdeal.main_arg6) = m' ((c.tc : Thread Cert.MergeRefIdeal.nD Cert.MergeRefIdeal.τ).loc Cert.MergeRefIdeal.main_arg6)
          ∧ r.2.mem ((c.tc : Thread Cert.MergeRefIdeal.nD Cert.MergeRefIdeal.τ).loc Cert.MergeRefIdeal.main_arg7) = m' ((c.tc : Thread Cert.MergeRefIdeal.nD Cert.MergeRefIdeal.τ).loc Cert.MergeRefIdeal.main_arg7)
          ∧ r.2.mem ((c.tc : Thread Cert.MergeRefIdeal.nD Cert.MergeRefIdeal.τ).loc Cert.MergeRefIdeal.main_arg8) = m' ((c.tc : Thread Cert.MergeRefIdeal.nD Cert.MergeRefIdeal.τ).loc Cert.MergeRefIdeal.main_arg8))

def preserves_MemKv_MemKvIdeal : Prop :=
  True

def algebraic_MemKvIdeal_MemKvRefIdeal [hMemKvIdeal : Cert.MemKvIdeal.Facts] [hMemKvRefIdeal : Cert.MemKvRefIdeal.Facts] : Prop :=
  ∀ (m : (ℓ : Loc Cert.MemKvIdeal.nD Cert.MemKvIdeal.τ Cert.MemKvIdeal.sig) → Buf (Elt Ideal) ℓ) (g : Dev Cert.MemKvIdeal.nD → PrngReg)
    (m' : (ℓ : Loc Cert.MemKvRefIdeal.nD Cert.MemKvRefIdeal.τ Cert.MemKvRefIdeal.sig) → Buf (Elt Ideal) ℓ) (g' : Dev Cert.MemKvRefIdeal.nD → PrngReg), Pre_MemKvIdeal m →
    (∀ c : Dev Cert.MemKvIdeal.nD,
      m' ((c.tc : Thread Cert.MemKvRefIdeal.nD Cert.MemKvRefIdeal.τ).loc Cert.MemKvRefIdeal.main_arg0) = m ((c.tc : Thread Cert.MemKvIdeal.nD Cert.MemKvIdeal.τ).loc Cert.MemKvIdeal.main_arg0)
      ∧ m' ((c.tc : Thread Cert.MemKvRefIdeal.nD Cert.MemKvRefIdeal.τ).loc Cert.MemKvRefIdeal.main_arg1) = m ((c.tc : Thread Cert.MemKvIdeal.nD Cert.MemKvIdeal.τ).loc Cert.MemKvIdeal.main_arg1)
      ∧ m' ((c.tc : Thread Cert.MemKvRefIdeal.nD Cert.MemKvRefIdeal.τ).loc Cert.MemKvRefIdeal.main_arg2) = m ((c.tc : Thread Cert.MemKvIdeal.nD Cert.MemKvIdeal.τ).loc Cert.MemKvIdeal.main_arg2)
      ∧ m' ((c.tc : Thread Cert.MemKvRefIdeal.nD Cert.MemKvRefIdeal.τ).loc Cert.MemKvRefIdeal.main_arg3) = m ((c.tc : Thread Cert.MemKvIdeal.nD Cert.MemKvIdeal.τ).loc Cert.MemKvIdeal.main_arg3)) →
    ∃ (v0 : (c : Dev Cert.MemKvIdeal.nD) → Buf (Elt Ideal) ((c.tc : Thread Cert.MemKvIdeal.nD Cert.MemKvIdeal.τ).loc Cert.MemKvIdeal.main_v11_0)) (v1 : (c : Dev Cert.MemKvIdeal.nD) → Buf (Elt Ideal) ((c.tc : Thread Cert.MemKvIdeal.nD Cert.MemKvIdeal.τ).loc Cert.MemKvIdeal.main_v11_1)),
      θ_run (Cert.MemKvIdeal.defs (F := Ideal)) (onTc (τ := Cert.MemKvIdeal.τ) (Cert.MemKvIdeal.main (F := Ideal))) ⟨m, fun _ => 0, g⟩ (fun r => ∀ c : Dev Cert.MemKvIdeal.nD,
          r.2.mem ((c.tc : Thread Cert.MemKvIdeal.nD Cert.MemKvIdeal.τ).loc Cert.MemKvIdeal.main_v11_0) = v0 c
          ∧ r.2.mem ((c.tc : Thread Cert.MemKvIdeal.nD Cert.MemKvIdeal.τ).loc Cert.MemKvIdeal.main_v11_1) = v1 c
          ∧ r.2.mem ((c.tc : Thread Cert.MemKvIdeal.nD Cert.MemKvIdeal.τ).loc Cert.MemKvIdeal.main_arg0) = m ((c.tc : Thread Cert.MemKvIdeal.nD Cert.MemKvIdeal.τ).loc Cert.MemKvIdeal.main_arg0)
          ∧ r.2.mem ((c.tc : Thread Cert.MemKvIdeal.nD Cert.MemKvIdeal.τ).loc Cert.MemKvIdeal.main_arg1) = m ((c.tc : Thread Cert.MemKvIdeal.nD Cert.MemKvIdeal.τ).loc Cert.MemKvIdeal.main_arg1)
          ∧ r.2.mem ((c.tc : Thread Cert.MemKvIdeal.nD Cert.MemKvIdeal.τ).loc Cert.MemKvIdeal.main_arg2) = m ((c.tc : Thread Cert.MemKvIdeal.nD Cert.MemKvIdeal.τ).loc Cert.MemKvIdeal.main_arg2)
          ∧ r.2.mem ((c.tc : Thread Cert.MemKvIdeal.nD Cert.MemKvIdeal.τ).loc Cert.MemKvIdeal.main_arg3) = m ((c.tc : Thread Cert.MemKvIdeal.nD Cert.MemKvIdeal.τ).loc Cert.MemKvIdeal.main_arg3))
      ∧ θ_run (Cert.MemKvRefIdeal.defs (F := Ideal)) (onTc (τ := Cert.MemKvRefIdeal.τ) (Cert.MemKvRefIdeal.main (F := Ideal))) ⟨m', fun _ => 0, g'⟩ (fun r => ∀ c : Dev Cert.MemKvRefIdeal.nD,
          r.2.mem ((c.tc : Thread Cert.MemKvRefIdeal.nD Cert.MemKvRefIdeal.τ).loc Cert.MemKvRefIdeal.main_v31) = v0 c
          ∧ r.2.mem ((c.tc : Thread Cert.MemKvRefIdeal.nD Cert.MemKvRefIdeal.τ).loc Cert.MemKvRefIdeal.main_v33) = v1 c
          ∧ r.2.mem ((c.tc : Thread Cert.MemKvRefIdeal.nD Cert.MemKvRefIdeal.τ).loc Cert.MemKvRefIdeal.main_arg0) = m' ((c.tc : Thread Cert.MemKvRefIdeal.nD Cert.MemKvRefIdeal.τ).loc Cert.MemKvRefIdeal.main_arg0)
          ∧ r.2.mem ((c.tc : Thread Cert.MemKvRefIdeal.nD Cert.MemKvRefIdeal.τ).loc Cert.MemKvRefIdeal.main_arg1) = m' ((c.tc : Thread Cert.MemKvRefIdeal.nD Cert.MemKvRefIdeal.τ).loc Cert.MemKvRefIdeal.main_arg1)
          ∧ r.2.mem ((c.tc : Thread Cert.MemKvRefIdeal.nD Cert.MemKvRefIdeal.τ).loc Cert.MemKvRefIdeal.main_arg2) = m' ((c.tc : Thread Cert.MemKvRefIdeal.nD Cert.MemKvRefIdeal.τ).loc Cert.MemKvRefIdeal.main_arg2)
          ∧ r.2.mem ((c.tc : Thread Cert.MemKvRefIdeal.nD Cert.MemKvRefIdeal.τ).loc Cert.MemKvRefIdeal.main_arg3) = m' ((c.tc : Thread Cert.MemKvRefIdeal.nD Cert.MemKvRefIdeal.τ).loc Cert.MemKvRefIdeal.main_arg3))

def preserves_MemAttn_MemAttnIdeal : Prop :=
  True

def algebraic_MemAttnIdeal_MemAttnRefIdeal_pre_finite_mem [hMemAttnIdeal : Cert.MemAttnIdeal.Facts] [hMemAttnRefIdeal : Cert.MemAttnRefIdeal.Facts] [hPre_finite_mem : Cert.Pre_finite_mem.Facts] : Prop :=
  ∀ (m : (ℓ : Loc Cert.MemAttnIdeal.nD Cert.MemAttnIdeal.τ Cert.MemAttnIdeal.sig) → Buf (Elt Ideal) ℓ) (g : Dev Cert.MemAttnIdeal.nD → PrngReg)
    (m' : (ℓ : Loc Cert.MemAttnRefIdeal.nD Cert.MemAttnRefIdeal.τ Cert.MemAttnRefIdeal.sig) → Buf (Elt Ideal) ℓ) (g' : Dev Cert.MemAttnRefIdeal.nD → PrngReg), Pre_MemAttnIdeal_finite_mem m →
    (∀ c : Dev Cert.MemAttnIdeal.nD,
      m' ((c.tc : Thread Cert.MemAttnRefIdeal.nD Cert.MemAttnRefIdeal.τ).loc Cert.MemAttnRefIdeal.main_arg0) = m ((c.tc : Thread Cert.MemAttnIdeal.nD Cert.MemAttnIdeal.τ).loc Cert.MemAttnIdeal.main_arg0)
      ∧ m' ((c.tc : Thread Cert.MemAttnRefIdeal.nD Cert.MemAttnRefIdeal.τ).loc Cert.MemAttnRefIdeal.main_arg1) = m ((c.tc : Thread Cert.MemAttnIdeal.nD Cert.MemAttnIdeal.τ).loc Cert.MemAttnIdeal.main_arg1)
      ∧ m' ((c.tc : Thread Cert.MemAttnRefIdeal.nD Cert.MemAttnRefIdeal.τ).loc Cert.MemAttnRefIdeal.main_arg2) = m ((c.tc : Thread Cert.MemAttnIdeal.nD Cert.MemAttnIdeal.τ).loc Cert.MemAttnIdeal.main_arg2)
      ∧ m' ((c.tc : Thread Cert.MemAttnRefIdeal.nD Cert.MemAttnRefIdeal.τ).loc Cert.MemAttnRefIdeal.main_arg3) = m ((c.tc : Thread Cert.MemAttnIdeal.nD Cert.MemAttnIdeal.τ).loc Cert.MemAttnIdeal.main_arg3)) →
    ∃ (v0 : (c : Dev Cert.MemAttnIdeal.nD) → Buf (Elt Ideal) ((c.tc : Thread Cert.MemAttnIdeal.nD Cert.MemAttnIdeal.τ).loc Cert.MemAttnIdeal.main_v6)),
      θ_run (Cert.MemAttnIdeal.defs (F := Ideal)) (onTc (τ := Cert.MemAttnIdeal.τ) (Cert.MemAttnIdeal.main (F := Ideal))) ⟨m, fun _ => 0, g⟩ (fun r => ∀ c : Dev Cert.MemAttnIdeal.nD,
          r.2.mem ((c.tc : Thread Cert.MemAttnIdeal.nD Cert.MemAttnIdeal.τ).loc Cert.MemAttnIdeal.main_v6) = v0 c
          ∧ r.2.mem ((c.tc : Thread Cert.MemAttnIdeal.nD Cert.MemAttnIdeal.τ).loc Cert.MemAttnIdeal.main_arg0) = m ((c.tc : Thread Cert.MemAttnIdeal.nD Cert.MemAttnIdeal.τ).loc Cert.MemAttnIdeal.main_arg0)
          ∧ r.2.mem ((c.tc : Thread Cert.MemAttnIdeal.nD Cert.MemAttnIdeal.τ).loc Cert.MemAttnIdeal.main_arg1) = m ((c.tc : Thread Cert.MemAttnIdeal.nD Cert.MemAttnIdeal.τ).loc Cert.MemAttnIdeal.main_arg1)
          ∧ r.2.mem ((c.tc : Thread Cert.MemAttnIdeal.nD Cert.MemAttnIdeal.τ).loc Cert.MemAttnIdeal.main_arg2) = m ((c.tc : Thread Cert.MemAttnIdeal.nD Cert.MemAttnIdeal.τ).loc Cert.MemAttnIdeal.main_arg2)
          ∧ r.2.mem ((c.tc : Thread Cert.MemAttnIdeal.nD Cert.MemAttnIdeal.τ).loc Cert.MemAttnIdeal.main_arg3) = m ((c.tc : Thread Cert.MemAttnIdeal.nD Cert.MemAttnIdeal.τ).loc Cert.MemAttnIdeal.main_arg3))
      ∧ θ_run (Cert.MemAttnRefIdeal.defs (F := Ideal)) (onTc (τ := Cert.MemAttnRefIdeal.τ) (Cert.MemAttnRefIdeal.main (F := Ideal))) ⟨m', fun _ => 0, g'⟩ (fun r => ∀ c : Dev Cert.MemAttnRefIdeal.nD,
          r.2.mem ((c.tc : Thread Cert.MemAttnRefIdeal.nD Cert.MemAttnRefIdeal.τ).loc Cert.MemAttnRefIdeal.main_v31) = v0 c
          ∧ r.2.mem ((c.tc : Thread Cert.MemAttnRefIdeal.nD Cert.MemAttnRefIdeal.τ).loc Cert.MemAttnRefIdeal.main_arg0) = m' ((c.tc : Thread Cert.MemAttnRefIdeal.nD Cert.MemAttnRefIdeal.τ).loc Cert.MemAttnRefIdeal.main_arg0)
          ∧ r.2.mem ((c.tc : Thread Cert.MemAttnRefIdeal.nD Cert.MemAttnRefIdeal.τ).loc Cert.MemAttnRefIdeal.main_arg1) = m' ((c.tc : Thread Cert.MemAttnRefIdeal.nD Cert.MemAttnRefIdeal.τ).loc Cert.MemAttnRefIdeal.main_arg1)
          ∧ r.2.mem ((c.tc : Thread Cert.MemAttnRefIdeal.nD Cert.MemAttnRefIdeal.τ).loc Cert.MemAttnRefIdeal.main_arg2) = m' ((c.tc : Thread Cert.MemAttnRefIdeal.nD Cert.MemAttnRefIdeal.τ).loc Cert.MemAttnRefIdeal.main_arg2)
          ∧ r.2.mem ((c.tc : Thread Cert.MemAttnRefIdeal.nD Cert.MemAttnRefIdeal.τ).loc Cert.MemAttnRefIdeal.main_arg3) = m' ((c.tc : Thread Cert.MemAttnRefIdeal.nD Cert.MemAttnRefIdeal.τ).loc Cert.MemAttnRefIdeal.main_arg3))

def preserves_MlaPrep_MlaPrepIdeal : Prop :=
  IdealRules.named_const.Statement Cert.MlaPrepIdeal.κ "inv_qk" .f32 0x3C2AAAAB#32 ((1 / 96 : ℝ) : EReal)

def algebraic_MlaPrepIdeal_MlaPrepRefIdeal [hMlaPrepIdeal : Cert.MlaPrepIdeal.Facts] [hMlaPrepRefIdeal : Cert.MlaPrepRefIdeal.Facts] : Prop :=
  ∀ (m : (ℓ : Loc Cert.MlaPrepIdeal.nD Cert.MlaPrepIdeal.τ Cert.MlaPrepIdeal.sig) → Buf (Elt Ideal) ℓ) (g : Dev Cert.MlaPrepIdeal.nD → PrngReg)
    (m' : (ℓ : Loc Cert.MlaPrepRefIdeal.nD Cert.MlaPrepRefIdeal.τ Cert.MlaPrepRefIdeal.sig) → Buf (Elt Ideal) ℓ) (g' : Dev Cert.MlaPrepRefIdeal.nD → PrngReg), Pre_MlaPrepIdeal m →
    (∀ c : Dev Cert.MlaPrepIdeal.nD,
      m' ((c.tc : Thread Cert.MlaPrepRefIdeal.nD Cert.MlaPrepRefIdeal.τ).loc Cert.MlaPrepRefIdeal.main_arg0) = m ((c.tc : Thread Cert.MlaPrepIdeal.nD Cert.MlaPrepIdeal.τ).loc Cert.MlaPrepIdeal.main_arg0)
      ∧ m' ((c.tc : Thread Cert.MlaPrepRefIdeal.nD Cert.MlaPrepRefIdeal.τ).loc Cert.MlaPrepRefIdeal.main_arg1) = m ((c.tc : Thread Cert.MlaPrepIdeal.nD Cert.MlaPrepIdeal.τ).loc Cert.MlaPrepIdeal.main_arg1)
      ∧ m' ((c.tc : Thread Cert.MlaPrepRefIdeal.nD Cert.MlaPrepRefIdeal.τ).loc Cert.MlaPrepRefIdeal.main_arg2) = m ((c.tc : Thread Cert.MlaPrepIdeal.nD Cert.MlaPrepIdeal.τ).loc Cert.MlaPrepIdeal.main_arg2)
      ∧ m' ((c.tc : Thread Cert.MlaPrepRefIdeal.nD Cert.MlaPrepRefIdeal.τ).loc Cert.MlaPrepRefIdeal.main_arg3) = m ((c.tc : Thread Cert.MlaPrepIdeal.nD Cert.MlaPrepIdeal.τ).loc Cert.MlaPrepIdeal.main_arg3)
      ∧ m' ((c.tc : Thread Cert.MlaPrepRefIdeal.nD Cert.MlaPrepRefIdeal.τ).loc Cert.MlaPrepRefIdeal.main_arg4) = m ((c.tc : Thread Cert.MlaPrepIdeal.nD Cert.MlaPrepIdeal.τ).loc Cert.MlaPrepIdeal.main_arg4)
      ∧ m' ((c.tc : Thread Cert.MlaPrepRefIdeal.nD Cert.MlaPrepRefIdeal.τ).loc Cert.MlaPrepRefIdeal.main_arg5) = m ((c.tc : Thread Cert.MlaPrepIdeal.nD Cert.MlaPrepIdeal.τ).loc Cert.MlaPrepIdeal.main_arg5)
      ∧ m' ((c.tc : Thread Cert.MlaPrepRefIdeal.nD Cert.MlaPrepRefIdeal.τ).loc Cert.MlaPrepRefIdeal.main_arg6) = m ((c.tc : Thread Cert.MlaPrepIdeal.nD Cert.MlaPrepIdeal.τ).loc Cert.MlaPrepIdeal.main_arg6)
      ∧ m' ((c.tc : Thread Cert.MlaPrepRefIdeal.nD Cert.MlaPrepRefIdeal.τ).loc Cert.MlaPrepRefIdeal.main_arg7) = m ((c.tc : Thread Cert.MlaPrepIdeal.nD Cert.MlaPrepIdeal.τ).loc Cert.MlaPrepIdeal.main_arg7)
      ∧ m' ((c.tc : Thread Cert.MlaPrepRefIdeal.nD Cert.MlaPrepRefIdeal.τ).loc Cert.MlaPrepRefIdeal.main_arg8) = m ((c.tc : Thread Cert.MlaPrepIdeal.nD Cert.MlaPrepIdeal.τ).loc Cert.MlaPrepIdeal.main_arg8)
      ∧ m' ((c.tc : Thread Cert.MlaPrepRefIdeal.nD Cert.MlaPrepRefIdeal.τ).loc Cert.MlaPrepRefIdeal.main_arg9) = m ((c.tc : Thread Cert.MlaPrepIdeal.nD Cert.MlaPrepIdeal.τ).loc Cert.MlaPrepIdeal.main_arg9)) →
    ∃ (v0 : (c : Dev Cert.MlaPrepIdeal.nD) → Buf (Elt Ideal) ((c.tc : Thread Cert.MlaPrepIdeal.nD Cert.MlaPrepIdeal.τ).loc Cert.MlaPrepIdeal.main_v72_0)) (v1 : (c : Dev Cert.MlaPrepIdeal.nD) → Buf (Elt Ideal) ((c.tc : Thread Cert.MlaPrepIdeal.nD Cert.MlaPrepIdeal.τ).loc Cert.MlaPrepIdeal.main_v72_1)) (v2 : (c : Dev Cert.MlaPrepIdeal.nD) → Buf (Elt Ideal) ((c.tc : Thread Cert.MlaPrepIdeal.nD Cert.MlaPrepIdeal.τ).loc Cert.MlaPrepIdeal.main_v72_2)),
      θ_run (Cert.MlaPrepIdeal.defs (F := Ideal)) (onTc (τ := Cert.MlaPrepIdeal.τ) (Cert.MlaPrepIdeal.main (F := Ideal))) ⟨m, fun _ => 0, g⟩ (fun r => ∀ c : Dev Cert.MlaPrepIdeal.nD,
          r.2.mem ((c.tc : Thread Cert.MlaPrepIdeal.nD Cert.MlaPrepIdeal.τ).loc Cert.MlaPrepIdeal.main_v72_0) = v0 c
          ∧ r.2.mem ((c.tc : Thread Cert.MlaPrepIdeal.nD Cert.MlaPrepIdeal.τ).loc Cert.MlaPrepIdeal.main_v72_1) = v1 c
          ∧ r.2.mem ((c.tc : Thread Cert.MlaPrepIdeal.nD Cert.MlaPrepIdeal.τ).loc Cert.MlaPrepIdeal.main_v72_2) = v2 c
          ∧ r.2.mem ((c.tc : Thread Cert.MlaPrepIdeal.nD Cert.MlaPrepIdeal.τ).loc Cert.MlaPrepIdeal.main_arg0) = m ((c.tc : Thread Cert.MlaPrepIdeal.nD Cert.MlaPrepIdeal.τ).loc Cert.MlaPrepIdeal.main_arg0)
          ∧ r.2.mem ((c.tc : Thread Cert.MlaPrepIdeal.nD Cert.MlaPrepIdeal.τ).loc Cert.MlaPrepIdeal.main_arg1) = m ((c.tc : Thread Cert.MlaPrepIdeal.nD Cert.MlaPrepIdeal.τ).loc Cert.MlaPrepIdeal.main_arg1)
          ∧ r.2.mem ((c.tc : Thread Cert.MlaPrepIdeal.nD Cert.MlaPrepIdeal.τ).loc Cert.MlaPrepIdeal.main_arg2) = m ((c.tc : Thread Cert.MlaPrepIdeal.nD Cert.MlaPrepIdeal.τ).loc Cert.MlaPrepIdeal.main_arg2)
          ∧ r.2.mem ((c.tc : Thread Cert.MlaPrepIdeal.nD Cert.MlaPrepIdeal.τ).loc Cert.MlaPrepIdeal.main_arg3) = m ((c.tc : Thread Cert.MlaPrepIdeal.nD Cert.MlaPrepIdeal.τ).loc Cert.MlaPrepIdeal.main_arg3)
          ∧ r.2.mem ((c.tc : Thread Cert.MlaPrepIdeal.nD Cert.MlaPrepIdeal.τ).loc Cert.MlaPrepIdeal.main_arg4) = m ((c.tc : Thread Cert.MlaPrepIdeal.nD Cert.MlaPrepIdeal.τ).loc Cert.MlaPrepIdeal.main_arg4)
          ∧ r.2.mem ((c.tc : Thread Cert.MlaPrepIdeal.nD Cert.MlaPrepIdeal.τ).loc Cert.MlaPrepIdeal.main_arg5) = m ((c.tc : Thread Cert.MlaPrepIdeal.nD Cert.MlaPrepIdeal.τ).loc Cert.MlaPrepIdeal.main_arg5)
          ∧ r.2.mem ((c.tc : Thread Cert.MlaPrepIdeal.nD Cert.MlaPrepIdeal.τ).loc Cert.MlaPrepIdeal.main_arg6) = m ((c.tc : Thread Cert.MlaPrepIdeal.nD Cert.MlaPrepIdeal.τ).loc Cert.MlaPrepIdeal.main_arg6)
          ∧ r.2.mem ((c.tc : Thread Cert.MlaPrepIdeal.nD Cert.MlaPrepIdeal.τ).loc Cert.MlaPrepIdeal.main_arg7) = m ((c.tc : Thread Cert.MlaPrepIdeal.nD Cert.MlaPrepIdeal.τ).loc Cert.MlaPrepIdeal.main_arg7)
          ∧ r.2.mem ((c.tc : Thread Cert.MlaPrepIdeal.nD Cert.MlaPrepIdeal.τ).loc Cert.MlaPrepIdeal.main_arg8) = m ((c.tc : Thread Cert.MlaPrepIdeal.nD Cert.MlaPrepIdeal.τ).loc Cert.MlaPrepIdeal.main_arg8)
          ∧ r.2.mem ((c.tc : Thread Cert.MlaPrepIdeal.nD Cert.MlaPrepIdeal.τ).loc Cert.MlaPrepIdeal.main_arg9) = m ((c.tc : Thread Cert.MlaPrepIdeal.nD Cert.MlaPrepIdeal.τ).loc Cert.MlaPrepIdeal.main_arg9))
      ∧ θ_run (Cert.MlaPrepRefIdeal.defs (F := Ideal)) (onTc (τ := Cert.MlaPrepRefIdeal.τ) (Cert.MlaPrepRefIdeal.main (F := Ideal))) ⟨m', fun _ => 0, g'⟩ (fun r => ∀ c : Dev Cert.MlaPrepRefIdeal.nD,
          r.2.mem ((c.tc : Thread Cert.MlaPrepRefIdeal.nD Cert.MlaPrepRefIdeal.τ).loc Cert.MlaPrepRefIdeal.main_v137) = v0 c
          ∧ r.2.mem ((c.tc : Thread Cert.MlaPrepRefIdeal.nD Cert.MlaPrepRefIdeal.τ).loc Cert.MlaPrepRefIdeal.main_v140) = v1 c
          ∧ r.2.mem ((c.tc : Thread Cert.MlaPrepRefIdeal.nD Cert.MlaPrepRefIdeal.τ).loc Cert.MlaPrepRefIdeal.main_v142) = v2 c
          ∧ r.2.mem ((c.tc : Thread Cert.MlaPrepRefIdeal.nD Cert.MlaPrepRefIdeal.τ).loc Cert.MlaPrepRefIdeal.main_arg0) = m' ((c.tc : Thread Cert.MlaPrepRefIdeal.nD Cert.MlaPrepRefIdeal.τ).loc Cert.MlaPrepRefIdeal.main_arg0)
          ∧ r.2.mem ((c.tc : Thread Cert.MlaPrepRefIdeal.nD Cert.MlaPrepRefIdeal.τ).loc Cert.MlaPrepRefIdeal.main_arg1) = m' ((c.tc : Thread Cert.MlaPrepRefIdeal.nD Cert.MlaPrepRefIdeal.τ).loc Cert.MlaPrepRefIdeal.main_arg1)
          ∧ r.2.mem ((c.tc : Thread Cert.MlaPrepRefIdeal.nD Cert.MlaPrepRefIdeal.τ).loc Cert.MlaPrepRefIdeal.main_arg2) = m' ((c.tc : Thread Cert.MlaPrepRefIdeal.nD Cert.MlaPrepRefIdeal.τ).loc Cert.MlaPrepRefIdeal.main_arg2)
          ∧ r.2.mem ((c.tc : Thread Cert.MlaPrepRefIdeal.nD Cert.MlaPrepRefIdeal.τ).loc Cert.MlaPrepRefIdeal.main_arg3) = m' ((c.tc : Thread Cert.MlaPrepRefIdeal.nD Cert.MlaPrepRefIdeal.τ).loc Cert.MlaPrepRefIdeal.main_arg3)
          ∧ r.2.mem ((c.tc : Thread Cert.MlaPrepRefIdeal.nD Cert.MlaPrepRefIdeal.τ).loc Cert.MlaPrepRefIdeal.main_arg4) = m' ((c.tc : Thread Cert.MlaPrepRefIdeal.nD Cert.MlaPrepRefIdeal.τ).loc Cert.MlaPrepRefIdeal.main_arg4)
          ∧ r.2.mem ((c.tc : Thread Cert.MlaPrepRefIdeal.nD Cert.MlaPrepRefIdeal.τ).loc Cert.MlaPrepRefIdeal.main_arg5) = m' ((c.tc : Thread Cert.MlaPrepRefIdeal.nD Cert.MlaPrepRefIdeal.τ).loc Cert.MlaPrepRefIdeal.main_arg5)
          ∧ r.2.mem ((c.tc : Thread Cert.MlaPrepRefIdeal.nD Cert.MlaPrepRefIdeal.τ).loc Cert.MlaPrepRefIdeal.main_arg6) = m' ((c.tc : Thread Cert.MlaPrepRefIdeal.nD Cert.MlaPrepRefIdeal.τ).loc Cert.MlaPrepRefIdeal.main_arg6)
          ∧ r.2.mem ((c.tc : Thread Cert.MlaPrepRefIdeal.nD Cert.MlaPrepRefIdeal.τ).loc Cert.MlaPrepRefIdeal.main_arg7) = m' ((c.tc : Thread Cert.MlaPrepRefIdeal.nD Cert.MlaPrepRefIdeal.τ).loc Cert.MlaPrepRefIdeal.main_arg7)
          ∧ r.2.mem ((c.tc : Thread Cert.MlaPrepRefIdeal.nD Cert.MlaPrepRefIdeal.τ).loc Cert.MlaPrepRefIdeal.main_arg8) = m' ((c.tc : Thread Cert.MlaPrepRefIdeal.nD Cert.MlaPrepRefIdeal.τ).loc Cert.MlaPrepRefIdeal.main_arg8)
          ∧ r.2.mem ((c.tc : Thread Cert.MlaPrepRefIdeal.nD Cert.MlaPrepRefIdeal.τ).loc Cert.MlaPrepRefIdeal.main_arg9) = m' ((c.tc : Thread Cert.MlaPrepRefIdeal.nD Cert.MlaPrepRefIdeal.τ).loc Cert.MlaPrepRefIdeal.main_arg9))

def Claim : Prop :=
  ∃ (hKernel : Cert.Kernel.Facts) (hKernelIdeal : Cert.KernelIdeal.Facts) (hReferenceIdeal : Cert.ReferenceIdeal.Facts) (hInProj : Cert.InProj.Facts) (hInProjIdeal : Cert.InProjIdeal.Facts) (hInProjRefIdeal : Cert.InProjRefIdeal.Facts) (hMerge : Cert.Merge.Facts) (hMergeIdeal : Cert.MergeIdeal.Facts) (hMergeRefIdeal : Cert.MergeRefIdeal.Facts) (hMemKv : Cert.MemKv.Facts) (hMemKvIdeal : Cert.MemKvIdeal.Facts) (hMemKvRefIdeal : Cert.MemKvRefIdeal.Facts) (hMemAttn : Cert.MemAttn.Facts) (hMemAttnIdeal : Cert.MemAttnIdeal.Facts) (hMemAttnRefIdeal : Cert.MemAttnRefIdeal.Facts) (hMlaPrep : Cert.MlaPrep.Facts) (hMlaPrepIdeal : Cert.MlaPrepIdeal.Facts) (hMlaPrepRefIdeal : Cert.MlaPrepRefIdeal.Facts) (hPre_finite_qk : Cert.Pre_finite_qk.Facts) (hPre_finite_mem : Cert.Pre_finite_mem.Facts),
    quiescent_Kernel (hKernel := hKernel)
    ∧ quiescent_KernelIdeal (hKernelIdeal := hKernelIdeal)
    ∧ quiescent_KernelIdeal_pre_finite_qk (hKernelIdeal := hKernelIdeal) (hPre_finite_qk := hPre_finite_qk)
    ∧ quiescent_ReferenceIdeal (hReferenceIdeal := hReferenceIdeal)
    ∧ quiescent_ReferenceIdeal_pre_finite_qk (hReferenceIdeal := hReferenceIdeal) (hPre_finite_qk := hPre_finite_qk)
    ∧ quiescent_InProj (hInProj := hInProj)
    ∧ quiescent_InProjIdeal (hInProjIdeal := hInProjIdeal)
    ∧ quiescent_InProjRefIdeal (hInProjRefIdeal := hInProjRefIdeal)
    ∧ quiescent_Merge (hMerge := hMerge)
    ∧ quiescent_MergeIdeal (hMergeIdeal := hMergeIdeal)
    ∧ quiescent_MergeRefIdeal (hMergeRefIdeal := hMergeRefIdeal)
    ∧ quiescent_MemKv (hMemKv := hMemKv)
    ∧ quiescent_MemKvIdeal (hMemKvIdeal := hMemKvIdeal)
    ∧ quiescent_MemKvRefIdeal (hMemKvRefIdeal := hMemKvRefIdeal)
    ∧ quiescent_MemAttn (hMemAttn := hMemAttn)
    ∧ quiescent_MemAttnIdeal (hMemAttnIdeal := hMemAttnIdeal)
    ∧ quiescent_MemAttnIdeal_pre_finite_mem (hMemAttnIdeal := hMemAttnIdeal) (hPre_finite_mem := hPre_finite_mem)
    ∧ quiescent_MemAttnRefIdeal (hMemAttnRefIdeal := hMemAttnRefIdeal)
    ∧ quiescent_MemAttnRefIdeal_pre_finite_mem (hMemAttnRefIdeal := hMemAttnRefIdeal) (hPre_finite_mem := hPre_finite_mem)
    ∧ quiescent_MlaPrep (hMlaPrep := hMlaPrep)
    ∧ quiescent_MlaPrepIdeal (hMlaPrepIdeal := hMlaPrepIdeal)
    ∧ quiescent_MlaPrepRefIdeal (hMlaPrepRefIdeal := hMlaPrepRefIdeal)
    ∧ preserves_Kernel_KernelIdeal
    ∧ algebraic_KernelIdeal_ReferenceIdeal_pre_finite_qk (hKernelIdeal := hKernelIdeal) (hReferenceIdeal := hReferenceIdeal) (hPre_finite_qk := hPre_finite_qk)
    ∧ preserves_InProj_InProjIdeal
    ∧ algebraic_InProjIdeal_InProjRefIdeal (hInProjIdeal := hInProjIdeal) (hInProjRefIdeal := hInProjRefIdeal)
    ∧ preserves_Merge_MergeIdeal
    ∧ algebraic_MergeIdeal_MergeRefIdeal (hMergeIdeal := hMergeIdeal) (hMergeRefIdeal := hMergeRefIdeal)
    ∧ preserves_MemKv_MemKvIdeal
    ∧ algebraic_MemKvIdeal_MemKvRefIdeal (hMemKvIdeal := hMemKvIdeal) (hMemKvRefIdeal := hMemKvRefIdeal)
    ∧ preserves_MemAttn_MemAttnIdeal
    ∧ algebraic_MemAttnIdeal_MemAttnRefIdeal_pre_finite_mem (hMemAttnIdeal := hMemAttnIdeal) (hMemAttnRefIdeal := hMemAttnRefIdeal) (hPre_finite_mem := hPre_finite_mem)
    ∧ preserves_MlaPrep_MlaPrepIdeal
    ∧ algebraic_MlaPrepIdeal_MlaPrepRefIdeal (hMlaPrepIdeal := hMlaPrepIdeal) (hMlaPrepRefIdeal := hMlaPrepRefIdeal)
-- ==== Pre_finite_mem.lean ====
abbrev S8x4096x512 : Shape := ⟨3, ![8, 4096, 512]⟩
abbrev S8x256x4x128 : Shape := ⟨4, ![8, 256, 4, 128]⟩
abbrev S128 : Shape := ⟨1, ![128]⟩
abbrev S_ : Shape := ⟨0, ![]⟩

class Facts : Prop where
  bcast_S_S8x256x4x128 : S_.BroadcastsInDim S8x256x4x128 (![] : Fin 0 → Fin S8x256x4x128.rank)
  reducesTo_S8x256x4x128_S_d0_1_2_3 : S8x256x4x128.ReducesTo [0, 1, 2, 3] S_
  h_S_ : 0 < S_.numel
  bcast_S_S128 : S_.BroadcastsInDim S128 (![] : Fin 0 → Fin S128.rank)
  reducesTo_S128_S_d0 : S128.ReducesTo [0] S_

variable [Facts]

def fn {F : FTy → Type} [FloatOps F] (main_arg0 : FVec F S8x4096x512 .f32) (main_arg1 : FVec F S8x256x4x128 .f32) (main_arg2 : FVec F S8x256x4x128 .f32) (main_arg3 : FVec F S128 .f32) : IVec S_ 1 :=
  let main_v0 : FVec F S8x256x4x128 .f32 := Host.absf main_arg1
  let main_cst : FVec F S_ .f32 := constant S_ .f32 0x7F800000#32
  let main_v1 : FVec F S8x256x4x128 .f32 := broadcastInDim S8x256x4x128 ![] bcast_S_S8x256x4x128 main_cst
  let main_v2 : IVec S8x256x4x128 1 := cmpf .olt main_v0 main_v1
  let main_c : IVec S_ 1 := constantI S_ 1 1#1
  let main_v3 : IVec S_ 1 := (fun x v => Host.reduce IntOp.andi x v reducesTo_S8x256x4x128_S_d0_1_2_3 h_S_) main_v2 main_c
  let main_v4 : FVec F S128 .f32 := Host.absf main_arg3
  let main_cst_0 : FVec F S_ .f32 := constant S_ .f32 0x7F800000#32
  let main_v5 : FVec F S128 .f32 := broadcastInDim S128 ![] bcast_S_S128 main_cst_0
  let main_v6 : IVec S128 1 := cmpf .olt main_v4 main_v5
  let main_c_1 : IVec S_ 1 := constantI S_ 1 1#1
  let main_v7 : IVec S_ 1 := (fun x v => Host.reduce IntOp.andi x v reducesTo_S128_S_d0 h_S_) main_v6 main_c_1
  let main_v8 : IVec S_ 1 := andi main_v3 main_v7
  main_v8
-- ==== Pre_finite_qk.lean ====
abbrev S8x4096x8x96 : Shape := ⟨4, ![8, 4096, 8, 96]⟩
abbrev S8x4096x8x64 : Shape := ⟨4, ![8, 4096, 8, 64]⟩
abbrev S_ : Shape := ⟨0, ![]⟩

class Facts : Prop where
  bcast_S_S8x4096x8x96 : S_.BroadcastsInDim S8x4096x8x96 (![] : Fin 0 → Fin S8x4096x8x96.rank)
  reducesTo_S8x4096x8x96_S_d0_1_2_3 : S8x4096x8x96.ReducesTo [0, 1, 2, 3] S_
  h_S_ : 0 < S_.numel

variable [Facts]

def fn {F : FTy → Type} [FloatOps F] (main_arg0 : FVec F S8x4096x8x96 .f32) (main_arg1 : FVec F S8x4096x8x96 .f32) (main_arg2 : FVec F S8x4096x8x64 .f32) : IVec S_ 1 :=
  let main_v0 : FVec F S8x4096x8x96 .f32 := Host.absf main_arg0
  let main_cst : FVec F S_ .f32 := constant S_ .f32 0x7F800000#32
  let main_v1 : FVec F S8x4096x8x96 .f32 := broadcastInDim S8x4096x8x96 ![] bcast_S_S8x4096x8x96 main_cst
  let main_v2 : IVec S8x4096x8x96 1 := cmpf .olt main_v0 main_v1
  let main_c : IVec S_ 1 := constantI S_ 1 1#1
  let main_v3 : IVec S_ 1 := (fun x v => Host.reduce IntOp.andi x v reducesTo_S8x4096x8x96_S_d0_1_2_3 h_S_) main_v2 main_c
  let main_v4 : FVec F S8x4096x8x96 .f32 := Host.absf main_arg1
  let main_cst_0 : FVec F S_ .f32 := constant S_ .f32 0x7F800000#32
  let main_v5 : FVec F S8x4096x8x96 .f32 := broadcastInDim S8x4096x8x96 ![] bcast_S_S8x4096x8x96 main_cst_0
  let main_v6 : IVec S8x4096x8x96 1 := cmpf .olt main_v4 main_v5
  let main_c_1 : IVec S_ 1 := constantI S_ 1 1#1
  let main_v7 : IVec S_ 1 := (fun x v => Host.reduce IntOp.andi x v reducesTo_S8x4096x8x96_S_d0_1_2_3 h_S_) main_v6 main_c_1
  let main_v8 : IVec S_ 1 := andi main_v3 main_v7
  main_v8
-- ==== Kernel.lean ====
abbrev S8x4096x8x96 : Shape := ⟨4, ![8, 4096, 8, 96]⟩
abbrev S8x4096x8x64 : Shape := ⟨4, ![8, 4096, 8, 64]⟩
abbrev S_ : Shape := ⟨0, ![]⟩
abbrev S8x4096x8x128 : Shape := ⟨4, ![8, 4096, 8, 128]⟩
abbrev S8x4096x1024 : Shape := ⟨3, ![8, 4096, 1024]⟩
abbrev S8x4096x512 : Shape := ⟨3, ![8, 4096, 512]⟩
abbrev S8x1024x4096 : Shape := ⟨3, ![8, 1024, 4096]⟩
abbrev S8x512x4096 : Shape := ⟨3, ![8, 512, 4096]⟩
abbrev S1x256x512 : Shape := ⟨3, ![1, 256, 512]⟩
abbrev S1x4096x256 : Shape := ⟨3, ![1, 4096, 256]⟩
abbrev S1x128x4096 : Shape := ⟨3, ![1, 128, 4096]⟩
abbrev S1x512x128 : Shape := ⟨3, ![1, 512, 128]⟩
abbrev S2x512x512 : Shape := ⟨3, ![2, 512, 512]⟩
abbrev S2x1x512 : Shape := ⟨3, ![2, 1, 512]⟩
abbrev S2x128x512 : Shape := ⟨3, ![2, 128, 512]⟩
abbrev S512x512 : Shape := ⟨2, ![512, 512]⟩
abbrev S1x128x512 : Shape := ⟨3, ![1, 128, 512]⟩
abbrev S128x512 : Shape := ⟨2, ![128, 512]⟩
abbrev S512x128 : Shape := ⟨2, ![512, 128]⟩
abbrev S1x512x512 : Shape := ⟨3, ![1, 512, 512]⟩
abbrev S1x1x512 : Shape := ⟨3, ![1, 1, 512]⟩
abbrev S1x512 : Shape := ⟨2, ![1, 512]⟩
abbrev S512 : Shape := ⟨1, ![512]⟩

abbrev nBuf : Space → Nat
  | .hbm => 21
  | .vmem => 13
  | .smem => 0
  | _ => 0

abbrev bufTy : (tb : Table) → Fin (tcTables nBuf tb) → BufTy
  | .hbm, ⟨0, _⟩ => ⟨S8x4096x8x96, .f32⟩
  | .hbm, ⟨1, _⟩ => ⟨S8x4096x8x96, .f32⟩
  | .hbm, ⟨2, _⟩ => ⟨S8x4096x8x64, .f32⟩
  | .hbm, ⟨3, _⟩ => ⟨S_, .f32⟩
  | .hbm, ⟨4, _⟩ => ⟨S8x4096x8x96, .f32⟩
  | .hbm, ⟨5, _⟩ => ⟨S8x4096x8x96, .f32⟩
  | .hbm, ⟨6, _⟩ => ⟨S_, .i32⟩
  | .hbm, ⟨7, _⟩ => ⟨S_, .f32⟩
  | .hbm, ⟨8, _⟩ => ⟨S8x4096x8x128, .f32⟩
  | .hbm, ⟨9, _⟩ => ⟨S8x4096x1024, .f32⟩
  | .hbm, ⟨10, _⟩ => ⟨S8x4096x1024, .bf16⟩
  | .hbm, ⟨11, _⟩ => ⟨S_, .i32⟩
  | .hbm, ⟨12, _⟩ => ⟨S_, .f32⟩
  | .hbm, ⟨13, _⟩ => ⟨S8x4096x8x128, .f32⟩
  | .hbm, ⟨14, _⟩ => ⟨S8x4096x1024, .f32⟩
  | .hbm, ⟨15, _⟩ => ⟨S8x4096x1024, .bf16⟩
  | .hbm, ⟨16, _⟩ => ⟨S8x4096x512, .f32⟩
  | .hbm, ⟨17, _⟩ => ⟨S8x4096x512, .bf16⟩
  | .hbm, ⟨18, _⟩ => ⟨S8x1024x4096, .bf16⟩
  | .hbm, ⟨19, _⟩ => ⟨S8x512x4096, .bf16⟩
  | .hbm, ⟨20, _⟩ => ⟨S8x4096x512, .bf16⟩
  | .local _ .vmem, ⟨0, _⟩ => ⟨S1x256x512, .bf16⟩
  | .local _ .vmem, ⟨1, _⟩ => ⟨S1x256x512, .bf16⟩
  | .local _ .vmem, ⟨2, _⟩ => ⟨S1x4096x256, .bf16⟩
  | .local _ .vmem, ⟨3, _⟩ => ⟨S1x4096x256, .bf16⟩
  | .local _ .vmem, ⟨4, _⟩ => ⟨S1x128x4096, .bf16⟩
  | .local _ .vmem, ⟨5, _⟩ => ⟨S1x128x4096, .bf16⟩
  | .local _ .vmem, ⟨6, _⟩ => ⟨S1x512x128, .bf16⟩
  | .local _ .vmem, ⟨7, _⟩ => ⟨S1x512x128, .bf16⟩
  | .local _ .vmem, ⟨8, _⟩ => ⟨S2x512x512, .f32⟩
  | .local _ .vmem, ⟨9, _⟩ => ⟨S2x512x512, .f32⟩
  | .local _ .vmem, ⟨10, _⟩ => ⟨S2x1x512, .f32⟩
  | .local _ .vmem, ⟨11, _⟩ => ⟨S2x1x512, .f32⟩
  | .local _ .vmem, ⟨12, _⟩ => ⟨S2x128x512, .f32⟩
  | _, _ => ⟨S8x4096x8x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_call0_v0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c_0 : Ref sig .tc := ⟨.hbm, 11, rfl⟩
abbrev main_call1_v0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_scratch4 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 4, 8], ![false, false, false]⟩

def k0_mult1 : BitVec 32 :=
  let c0_i32 : BitVec 32 := 0#32
  c0_i32
@[reducible] def k0_t1_loop (i : grid0.Coords) : Scf.Loop 32 :=
  let c0_i32_32 : BitVec 32 := 0#32
  let arg2 : BitVec 32 := BitVec.ofNat 32 (i 2).val
  let c0_i32_26 : BitVec 32 := 0#32
  let v34 : BitVec 1 := Scalar.cmpi .sgt arg2 c0_i32_26
  let v35 : BitVec 32 := Scalar.extui v34
  let c0_i32_27 : BitVec 32 := 0#32
  let v36 : BitVec 1 := Scalar.cmpi .slt arg2 c0_i32_27
  let v37 : BitVec 32 := Scalar.extui v36
  let v38 : BitVec 32 := Scalar.subi v35 v37
  let c2_i32 : BitVec 32 := 2#32
  let c0_i32_28 : BitVec 32 := 0#32
  let v39 : BitVec 1 := Scalar.cmpi .sgt c2_i32 c0_i32_28
  let v40 : BitVec 32 := Scalar.extui v39
  let c0_i32_29 : BitVec 32 := 0#32
  let v41 : BitVec 1 := Scalar.cmpi .slt c2_i32 c0_i32_29
  let v42 : BitVec 32 := Scalar.extui v41
  let v43 : BitVec 32 := Scalar.subi v40 v42
  let v44 : BitVec 1 := Scalar.cmpi .ne v38 v43
  let v45 : BitVec 32 := Scalar.remsi arg2 c2_i32
  let c0_i32_30 : BitVec 32 := 0#32
  let v46 : BitVec 1 := Scalar.cmpi .ne v45 c0_i32_30
  let v47 : BitVec 1 := Scalar.andi v44 v46
  let v33 : BitVec 32 := Scalar.divsi arg2 c2_i32
  let c1_i32 : BitVec 32 := 1#32
  let v48 : BitVec 32 := Scalar.subi v33 c1_i32
  let v49 : BitVec 32 := Scalar.select v47 v48 v33
  let v50 : BitVec 32 := Scalar.subi v49 c0_i32_32
  let c1_i32_33 : BitVec 32 := 1#32
  let v52 : BitVec 32 := Scalar.divsi v50 c1_i32_33
  let v53 : BitVec 32 := Scalar.muli v52 c1_i32_33
  let v54 : BitVec 32 := Scalar.addi c0_i32_32 v53
  let c1_i32_34 : BitVec 32 := 1#32
  ⟨c0_i32_32, v54, c1_i32_34⟩
def k0_mult2 (i : grid0.Coords) (k0_t1 : Fin (k0_t1_loop i).trips) : BitVec 32 :=
  let c2_i32_67 : BitVec 32 := 2#32
  let c0_i32_32 : BitVec 32 := 0#32
  let c1_i32_34 : BitVec 32 := 1#32
  let arg12 : BitVec 32 := Scf.iv c0_i32_32 c1_i32_34 k0_t1
  let v102 : BitVec 32 := Scalar.muli c2_i32_67 arg12
  let c1_i32_68 : BitVec 32 := 1#32
  let v103 : BitVec 32 := Scalar.addi v102 c1_i32_68
  let c512_i32 : BitVec 32 := 512#32
  let v104 : BitVec 32 := Scalar.muli v103 c512_i32
  v104
def k0_off1 (i : grid0.Coords) (k0_t1 : Fin (k0_t1_loop i).trips) (c1_i32_68 : BitVec 32) : Fin 3 → Nat :=
  let c0_69 : Index := 0#32
  let c2_i32_67 : BitVec 32 := 2#32
  let c0_i32_32 : BitVec 32 := 0#32
  let c1_i32_34 : BitVec 32 := 1#32
  let arg12 : BitVec 32 := Scf.iv c0_i32_32 c1_i32_34 k0_t1
  let v102 : BitVec 32 := Scalar.muli c2_i32_67 arg12
  let v103 : BitVec 32 := Scalar.addi v102 c1_i32_68
  let c512_i32 : BitVec 32 := 512#32
  let v104 : BitVec 32 := Scalar.muli v103 c512_i32
  let v105 : BitVec 32 := v104
  let v106 : Index := Scalar.indexCast v105
  let c0_70 : Index := 0#32
  ![0, v106.toNat, 0]
def k0_off2 (i : grid0.Coords) (k0_t1 : Fin (k0_t1_loop i).trips) (c1_i32_68 : BitVec 32) : Fin 3 → Nat :=
  let c0_75 : Index := 0#32
  let c2_i32_67 : BitVec 32 := 2#32
  let c0_i32_32 : BitVec 32 := 0#32
  let c1_i32_34 : BitVec 32 := 1#32
  let arg12 : BitVec 32 := Scf.iv c0_i32_32 c1_i32_34 k0_t1
  let v102 : BitVec 32 := Scalar.muli c2_i32_67 arg12
  let v103 : BitVec 32 := Scalar.addi v102 c1_i32_68
  let c512_i32 : BitVec 32 := 512#32
  let v104 : BitVec 32 := Scalar.muli v103 c512_i32
  let v105 : BitVec 32 := v104
  let v113 : Index := Scalar.indexCast v105
  let c128_76 : Index := 128#32
  ![0, v113.toNat, 128]
def k0_mult3 (i : grid0.Coords) (k0_t1 : Fin (k0_t1_loop i).trips) : BitVec 32 :=
  let c2_i32_67 : BitVec 32 := 2#32
  let c0_i32_32 : BitVec 32 := 0#32
  let c1_i32_34 : BitVec 32 := 1#32
  let arg12 : BitVec 32 := Scf.iv c0_i32_32 c1_i32_34 k0_t1
  let v102 : BitVec 32 := Scalar.muli c2_i32_67 arg12
  let c512_i32_81 : BitVec 32 := 512#32
  let v120 : BitVec 32 := Scalar.muli v102 c512_i32_81
  v120
def k0_off3 (i : grid0.Coords) (k0_t1 : Fin (k0_t1_loop i).trips) : Fin 3 → Nat :=
  let c0_82 : Index := 0#32
  let c0_83 : Index := 0#32
  let c2_i32_67 : BitVec 32 := 2#32
  let c0_i32_32 : BitVec 32 := 0#32
  let c1_i32_34 : BitVec 32 := 1#32
  let arg12 : BitVec 32 := Scf.iv c0_i32_32 c1_i32_34 k0_t1
  let v102 : BitVec 32 := Scalar.muli c2_i32_67 arg12
  let c512_i32_81 : BitVec 32 := 512#32
  let v120 : BitVec 32 := Scalar.muli v102 c512_i32_81
  let v121 : BitVec 32 := v120
  let v122 : Index := Scalar.indexCast v121
  ![0, 0, v122.toNat]
def k0_mult4 (i : grid0.Coords) (k0_t1 : Fin (k0_t1_loop i).trips) : BitVec 32 :=
  let c2_i32_67 : BitVec 32 := 2#32
  let c0_i32_32 : BitVec 32 := 0#32
  let c1_i32_34 : BitVec 32 := 1#32
  let arg12 : BitVec 32 := Scf.iv c0_i32_32 c1_i32_34 k0_t1
  let v102 : BitVec 32 := Scalar.muli c2_i32_67 arg12
  let c2_i32_132 : BitVec 32 := 2#32
  let v193 : BitVec 32 := Scalar.addi v102 c2_i32_132
  let c512_i32_133 : BitVec 32 := 512#32
  let v194 : BitVec 32 := Scalar.muli v193 c512_i32_133
  v194
def k0_mult5 (i : grid0.Coords) (k0_t1 : Fin (k0_t1_loop i).trips) : BitVec 32 :=
  let c2_i32_67 : BitVec 32 := 2#32
  let c0_i32_32 : BitVec 32 := 0#32
  let c1_i32_34 : BitVec 32 := 1#32
  let arg12 : BitVec 32 := Scf.iv c0_i32_32 c1_i32_34 k0_t1
  let v102 : BitVec 32 := Scalar.muli c2_i32_67 arg12
  let c1_i32_146 : BitVec 32 := 1#32
  let v210 : BitVec 32 := Scalar.addi v102 c1_i32_146
  let c512_i32_147 : BitVec 32 := 512#32
  let v211 : BitVec 32 := Scalar.muli v210 c512_i32_147
  v211
def k0_off4 (i : grid0.Coords) (k0_t1 : Fin (k0_t1_loop i).trips) : Fin 3 → Nat :=
  let c0_148 : Index := 0#32
  let c0_149 : Index := 0#32
  let c2_i32_67 : BitVec 32 := 2#32
  let c0_i32_32 : BitVec 32 := 0#32
  let c1_i32_34 : BitVec 32 := 1#32
  let arg12 : BitVec 32 := Scf.iv c0_i32_32 c1_i32_34 k0_t1
  let v102 : BitVec 32 := Scalar.muli c2_i32_67 arg12
  let c1_i32_146 : BitVec 32 := 1#32
  let v210 : BitVec 32 := Scalar.addi v102 c1_i32_146
  let c512_i32_147 : BitVec 32 := 512#32
  let v211 : BitVec 32 := Scalar.muli v210 c512_i32_147
  let v212 : BitVec 32 := v211
  let v213 : Index := Scalar.indexCast v212
  ![0, 0, v213.toNat]
@[reducible] def k0_t2_loop (i : grid0.Coords) : Scf.Loop 32 :=
  let c0_i32_32 : BitVec 32 := 0#32
  let arg2 : BitVec 32 := BitVec.ofNat 32 (i 2).val
  let c0_i32_26 : BitVec 32 := 0#32
  let v34 : BitVec 1 := Scalar.cmpi .sgt arg2 c0_i32_26
  let v35 : BitVec 32 := Scalar.extui v34
  let c0_i32_27 : BitVec 32 := 0#32
  let v36 : BitVec 1 := Scalar.cmpi .slt arg2 c0_i32_27
  let v37 : BitVec 32 := Scalar.extui v36
  let v38 : BitVec 32 := Scalar.subi v35 v37
  let c2_i32 : BitVec 32 := 2#32
  let c0_i32_28 : BitVec 32 := 0#32
  let v39 : BitVec 1 := Scalar.cmpi .sgt c2_i32 c0_i32_28
  let v40 : BitVec 32 := Scalar.extui v39
  let c0_i32_29 : BitVec 32 := 0#32
  let v41 : BitVec 1 := Scalar.cmpi .slt c2_i32 c0_i32_29
  let v42 : BitVec 32 := Scalar.extui v41
  let v43 : BitVec 32 := Scalar.subi v40 v42
  let v44 : BitVec 1 := Scalar.cmpi .ne v38 v43
  let v45 : BitVec 32 := Scalar.remsi arg2 c2_i32
  let c0_i32_30 : BitVec 32 := 0#32
  let v46 : BitVec 1 := Scalar.cmpi .ne v45 c0_i32_30
  let v47 : BitVec 1 := Scalar.andi v44 v46
  let v33 : BitVec 32 := Scalar.divsi arg2 c2_i32
  let c1_i32 : BitVec 32 := 1#32
  let v48 : BitVec 32 := Scalar.subi v33 c1_i32
  let v49 : BitVec 32 := Scalar.select v47 v48 v33
  let v50 : BitVec 32 := Scalar.subi v49 c0_i32_32
  let c1_i32_33 : BitVec 32 := 1#32
  let v52 : BitVec 32 := Scalar.divsi v50 c1_i32_33
  let v53 : BitVec 32 := Scalar.muli v52 c1_i32_33
  let v54 : BitVec 32 := Scalar.addi c0_i32_32 v53
  let v51 : BitVec 32 := Scalar.addi c0_i32_32 v50
  let c1_i32_35 : BitVec 32 := 1#32
  ⟨v54, v51, c1_i32_35⟩
def k0_mult6 (i : grid0.Coords) (k0_t2 : Fin (k0_t2_loop i).trips) : BitVec 32 :=
  let c2_i32_67 : BitVec 32 := 2#32
  let c0_i32_32 : BitVec 32 := 0#32
  let arg2 : BitVec 32 := BitVec.ofNat 32 (i 2).val
  let c0_i32_26 : BitVec 32 := 0#32
  let v34 : BitVec 1 := Scalar.cmpi .sgt arg2 c0_i32_26
  let v35 : BitVec 32 := Scalar.extui v34
  let c0_i32_27 : BitVec 32 := 0#32
  let v36 : BitVec 1 := Scalar.cmpi .slt arg2 c0_i32_27
  let v37 : BitVec 32 := Scalar.extui v36
  let v38 : BitVec 32 := Scalar.subi v35 v37
  let c2_i32 : BitVec 32 := 2#32
  let c0_i32_28 : BitVec 32 := 0#32
  let v39 : BitVec 1 := Scalar.cmpi .sgt c2_i32 c0_i32_28
  let v40 : BitVec 32 := Scalar.extui v39
  let c0_i32_29 : BitVec 32 := 0#32
  let v41 : BitVec 1 := Scalar.cmpi .slt c2_i32 c0_i32_29
  let v42 : BitVec 32 := Scalar.extui v41
  let v43 : BitVec 32 := Scalar.subi v40 v42
  let v44 : BitVec 1 := Scalar.cmpi .ne v38 v43
  let v45 : BitVec 32 := Scalar.remsi arg2 c2_i32
  let c0_i32_30 : BitVec 32 := 0#32
  let v46 : BitVec 1 := Scalar.cmpi .ne v45 c0_i32_30
  let v47 : BitVec 1 := Scalar.andi v44 v46
  let v33 : BitVec 32 := Scalar.divsi arg2 c2_i32
  let c1_i32 : BitVec 32 := 1#32
  let v48 : BitVec 32 := Scalar.subi v33 c1_i32
  let v49 : BitVec 32 := Scalar.select v47 v48 v33
  let v50 : BitVec 32 := Scalar.subi v49 c0_i32_32
  let c1_i32_33 : BitVec 32 := 1#32
  let v52 : BitVec 32 := Scalar.divsi v50 c1_i32_33
  let v53 : BitVec 32 := Scalar.muli v52 c1_i32_33
  let v54 : BitVec 32 := Scalar.addi c0_i32_32 v53
  let c1_i32_35 : BitVec 32 := 1#32
  let arg12 : BitVec 32 := Scf.iv v54 c1_i32_35 k0_t2
  let v102 : BitVec 32 := Scalar.muli c2_i32_67 arg12
  let c1_i32_68 : BitVec 32 := 1#32
  let v103 : BitVec 32 := Scalar.addi v102 c1_i32_68
  let c512_i32 : BitVec 32 := 512#32
  let v104 : BitVec 32 := Scalar.muli v103 c512_i32
  v104
def k0_off5 (i : grid0.Coords) (k0_t2 : Fin (k0_t2_loop i).trips) (c1_i32_68 : BitVec 32) : Fin 3 → Nat :=
  let c0_69 : Index := 0#32
  let c2_i32_67 : BitVec 32 := 2#32
  let c0_i32_32 : BitVec 32 := 0#32
  let arg2 : BitVec 32 := BitVec.ofNat 32 (i 2).val
  let c0_i32_26 : BitVec 32 := 0#32
  let v34 : BitVec 1 := Scalar.cmpi .sgt arg2 c0_i32_26
  let v35 : BitVec 32 := Scalar.extui v34
  let c0_i32_27 : BitVec 32 := 0#32
  let v36 : BitVec 1 := Scalar.cmpi .slt arg2 c0_i32_27
  let v37 : BitVec 32 := Scalar.extui v36
  let v38 : BitVec 32 := Scalar.subi v35 v37
  let c2_i32 : BitVec 32 := 2#32
  let c0_i32_28 : BitVec 32 := 0#32
  let v39 : BitVec 1 := Scalar.cmpi .sgt c2_i32 c0_i32_28
  let v40 : BitVec 32 := Scalar.extui v39
  let c0_i32_29 : BitVec 32 := 0#32
  let v41 : BitVec 1 := Scalar.cmpi .slt c2_i32 c0_i32_29
  let v42 : BitVec 32 := Scalar.extui v41
  let v43 : BitVec 32 := Scalar.subi v40 v42
  let v44 : BitVec 1 := Scalar.cmpi .ne v38 v43
  let v45 : BitVec 32 := Scalar.remsi arg2 c2_i32
  let c0_i32_30 : BitVec 32 := 0#32
  let v46 : BitVec 1 := Scalar.cmpi .ne v45 c0_i32_30
  let v47 : BitVec 1 := Scalar.andi v44 v46
  let v33 : BitVec 32 := Scalar.divsi arg2 c2_i32
  let c1_i32 : BitVec 32 := 1#32
  let v48 : BitVec 32 := Scalar.subi v33 c1_i32
  let v49 : BitVec 32 := Scalar.select v47 v48 v33
  let v50 : BitVec 32 := Scalar.subi v49 c0_i32_32
  let c1_i32_33 : BitVec 32 := 1#32
  let v52 : BitVec 32 := Scalar.divsi v50 c1_i32_33
  let v53 : BitVec 32 := Scalar.muli v52 c1_i32_33
  let v54 : BitVec 32 := Scalar.addi c0_i32_32 v53
  let c1_i32_35 : BitVec 32 := 1#32
  let arg12 : BitVec 32 := Scf.iv v54 c1_i32_35 k0_t2
  let v102 : BitVec 32 := Scalar.muli c2_i32_67 arg12
  let v103 : BitVec 32 := Scalar.addi v102 c1_i32_68
  let c512_i32 : BitVec 32 := 512#32
  let v104 : BitVec 32 := Scalar.muli v103 c512_i32
  let v105 : BitVec 32 := v104
  let v106 : Index := Scalar.indexCast v105
  let c0_70 : Index := 0#32
  ![0, v106.toNat, 0]
def k0_off6 (i : grid0.Coords) (k0_t2 : Fin (k0_t2_loop i).trips) (c1_i32_68 : BitVec 32) : Fin 3 → Nat :=
  let c0_75 : Index := 0#32
  let c2_i32_67 : BitVec 32 := 2#32
  let c0_i32_32 : BitVec 32 := 0#32
  let arg2 : BitVec 32 := BitVec.ofNat 32 (i 2).val
  let c0_i32_26 : BitVec 32 := 0#32
  let v34 : BitVec 1 := Scalar.cmpi .sgt arg2 c0_i32_26
  let v35 : BitVec 32 := Scalar.extui v34
  let c0_i32_27 : BitVec 32 := 0#32
  let v36 : BitVec 1 := Scalar.cmpi .slt arg2 c0_i32_27
  let v37 : BitVec 32 := Scalar.extui v36
  let v38 : BitVec 32 := Scalar.subi v35 v37
  let c2_i32 : BitVec 32 := 2#32
  let c0_i32_28 : BitVec 32 := 0#32
  let v39 : BitVec 1 := Scalar.cmpi .sgt c2_i32 c0_i32_28
  let v40 : BitVec 32 := Scalar.extui v39
  let c0_i32_29 : BitVec 32 := 0#32
  let v41 : BitVec 1 := Scalar.cmpi .slt c2_i32 c0_i32_29
  let v42 : BitVec 32 := Scalar.extui v41
  let v43 : BitVec 32 := Scalar.subi v40 v42
  let v44 : BitVec 1 := Scalar.cmpi .ne v38 v43
  let v45 : BitVec 32 := Scalar.remsi arg2 c2_i32
  let c0_i32_30 : BitVec 32 := 0#32
  let v46 : BitVec 1 := Scalar.cmpi .ne v45 c0_i32_30
  let v47 : BitVec 1 := Scalar.andi v44 v46
  let v33 : BitVec 32 := Scalar.divsi arg2 c2_i32
  let c1_i32 : BitVec 32 := 1#32
  let v48 : BitVec 32 := Scalar.subi v33 c1_i32
  let v49 : BitVec 32 := Scalar.select v47 v48 v33
  let v50 : BitVec 32 := Scalar.subi v49 c0_i32_32
  let c1_i32_33 : BitVec 32 := 1#32
  let v52 : BitVec 32 := Scalar.divsi v50 c1_i32_33
  let v53 : BitVec 32 := Scalar.muli v52 c1_i32_33
  let v54 : BitVec 32 := Scalar.addi c0_i32_32 v53
  let c1_i32_35 : BitVec 32 := 1#32
  let arg12 : BitVec 32 := Scf.iv v54 c1_i32_35 k0_t2
  let v102 : BitVec 32 := Scalar.muli c2_i32_67 arg12
  let v103 : BitVec 32 := Scalar.addi v102 c1_i32_68
  let c512_i32 : BitVec 32 := 512#32
  let v104 : BitVec 32 := Scalar.muli v103 c512_i32
  let v105 : BitVec 32 := v104
  let v113 : Index := Scalar.indexCast v105
  let c128_76 : Index := 128#32
  ![0, v113.toNat, 128]
def k0_mult7 (i : grid0.Coords) (k0_t2 : Fin (k0_t2_loop i).trips) : BitVec 32 :=
  let c2_i32_67 : BitVec 32 := 2#32
  let c0_i32_32 : BitVec 32 := 0#32
  let arg2 : BitVec 32 := BitVec.ofNat 32 (i 2).val
  let c0_i32_26 : BitVec 32 := 0#32
  let v34 : BitVec 1 := Scalar.cmpi .sgt arg2 c0_i32_26
  let v35 : BitVec 32 := Scalar.extui v34
  let c0_i32_27 : BitVec 32 := 0#32
  let v36 : BitVec 1 := Scalar.cmpi .slt arg2 c0_i32_27
  let v37 : BitVec 32 := Scalar.extui v36
  let v38 : BitVec 32 := Scalar.subi v35 v37
  let c2_i32 : BitVec 32 := 2#32
  let c0_i32_28 : BitVec 32 := 0#32
  let v39 : BitVec 1 := Scalar.cmpi .sgt c2_i32 c0_i32_28
  let v40 : BitVec 32 := Scalar.extui v39
  let c0_i32_29 : BitVec 32 := 0#32
  let v41 : BitVec 1 := Scalar.cmpi .slt c2_i32 c0_i32_29
  let v42 : BitVec 32 := Scalar.extui v41
  let v43 : BitVec 32 := Scalar.subi v40 v42
  let v44 : BitVec 1 := Scalar.cmpi .ne v38 v43
  let v45 : BitVec 32 := Scalar.remsi arg2 c2_i32
  let c0_i32_30 : BitVec 32 := 0#32
  let v46 : BitVec 1 := Scalar.cmpi .ne v45 c0_i32_30
  let v47 : BitVec 1 := Scalar.andi v44 v46
  let v33 : BitVec 32 := Scalar.divsi arg2 c2_i32
  let c1_i32 : BitVec 32 := 1#32
  let v48 : BitVec 32 := Scalar.subi v33 c1_i32
  let v49 : BitVec 32 := Scalar.select v47 v48 v33
  let v50 : BitVec 32 := Scalar.subi v49 c0_i32_32
  let c1_i32_33 : BitVec 32 := 1#32
  let v52 : BitVec 32 := Scalar.divsi v50 c1_i32_33
  let v53 : BitVec 32 := Scalar.muli v52 c1_i32_33
  let v54 : BitVec 32 := Scalar.addi c0_i32_32 v53
  let c1_i32_35 : BitVec 32 := 1#32
  let arg12 : BitVec 32 := Scf.iv v54 c1_i32_35 k0_t2
  let v102 : BitVec 32 := Scalar.muli c2_i32_67 arg12
  let c512_i32_81 : BitVec 32 := 512#32
  let v120 : BitVec 32 := Scalar.muli v102 c512_i32_81
  v120
def k0_off7 (i : grid0.Coords) (k0_t2 : Fin (k0_t2_loop i).trips) : Fin 3 → Nat :=
  let c0_82 : Index := 0#32
  let c0_83 : Index := 0#32
  let c2_i32_67 : BitVec 32 := 2#32
  let c0_i32_32 : BitVec 32 := 0#32
  let arg2 : BitVec 32 := BitVec.ofNat 32 (i 2).val
  let c0_i32_26 : BitVec 32 := 0#32
  let v34 : BitVec 1 := Scalar.cmpi .sgt arg2 c0_i32_26
  let v35 : BitVec 32 := Scalar.extui v34
  let c0_i32_27 : BitVec 32 := 0#32
  let v36 : BitVec 1 := Scalar.cmpi .slt arg2 c0_i32_27
  let v37 : BitVec 32 := Scalar.extui v36
  let v38 : BitVec 32 := Scalar.subi v35 v37
  let c2_i32 : BitVec 32 := 2#32
  let c0_i32_28 : BitVec 32 := 0#32
  let v39 : BitVec 1 := Scalar.cmpi .sgt c2_i32 c0_i32_28
  let v40 : BitVec 32 := Scalar.extui v39
  let c0_i32_29 : BitVec 32 := 0#32
  let v41 : BitVec 1 := Scalar.cmpi .slt c2_i32 c0_i32_29
  let v42 : BitVec 32 := Scalar.extui v41
  let v43 : BitVec 32 := Scalar.subi v40 v42
  let v44 : BitVec 1 := Scalar.cmpi .ne v38 v43
  let v45 : BitVec 32 := Scalar.remsi arg2 c2_i32
  let c0_i32_30 : BitVec 32 := 0#32
  let v46 : BitVec 1 := Scalar.cmpi .ne v45 c0_i32_30
  let v47 : BitVec 1 := Scalar.andi v44 v46
  let v33 : BitVec 32 := Scalar.divsi arg2 c2_i32
  let c1_i32 : BitVec 32 := 1#32
  let v48 : BitVec 32 := Scalar.subi v33 c1_i32
  let v49 : BitVec 32 := Scalar.select v47 v48 v33
  let v50 : BitVec 32 := Scalar.subi v49 c0_i32_32
  let c1_i32_33 : BitVec 32 := 1#32
  let v52 : BitVec 32 := Scalar.divsi v50 c1_i32_33
  let v53 : BitVec 32 := Scalar.muli v52 c1_i32_33
  let v54 : BitVec 32 := Scalar.addi c0_i32_32 v53
  let c1_i32_35 : BitVec 32 := 1#32
  let arg12 : BitVec 32 := Scf.iv v54 c1_i32_35 k0_t2
  let v102 : BitVec 32 := Scalar.muli c2_i32_67 arg12
  let c512_i32_81 : BitVec 32 := 512#32
  let v120 : BitVec 32 := Scalar.muli v102 c512_i32_81
  let v121 : BitVec 32 := v120
  let v122 : Index := Scalar.indexCast v121
  ![0, 0, v122.toNat]
def k0_mult8 (i : grid0.Coords) (k0_t2 : Fin (k0_t2_loop i).trips) : BitVec 32 :=
  let c2_i32_67 : BitVec 32 := 2#32
  let c0_i32_32 : BitVec 32 := 0#32
  let arg2 : BitVec 32 := BitVec.ofNat 32 (i 2).val
  let c0_i32_26 : BitVec 32 := 0#32
  let v34 : BitVec 1 := Scalar.cmpi .sgt arg2 c0_i32_26
  let v35 : BitVec 32 := Scalar.extui v34
  let c0_i32_27 : BitVec 32 := 0#32
  let v36 : BitVec 1 := Scalar.cmpi .slt arg2 c0_i32_27
  let v37 : BitVec 32 := Scalar.extui v36
  let v38 : BitVec 32 := Scalar.subi v35 v37
  let c2_i32 : BitVec 32 := 2#32
  let c0_i32_28 : BitVec 32 := 0#32
  let v39 : BitVec 1 := Scalar.cmpi .sgt c2_i32 c0_i32_28
  let v40 : BitVec 32 := Scalar.extui v39
  let c0_i32_29 : BitVec 32 := 0#32
  let v41 : BitVec 1 := Scalar.cmpi .slt c2_i32 c0_i32_29
  let v42 : BitVec 32 := Scalar.extui v41
  let v43 : BitVec 32 := Scalar.subi v40 v42
  let v44 : BitVec 1 := Scalar.cmpi .ne v38 v43
  let v45 : BitVec 32 := Scalar.remsi arg2 c2_i32
  let c0_i32_30 : BitVec 32 := 0#32
  let v46 : BitVec 1 := Scalar.cmpi .ne v45 c0_i32_30
  let v47 : BitVec 1 := Scalar.andi v44 v46
  let v33 : BitVec 32 := Scalar.divsi arg2 c2_i32
  let c1_i32 : BitVec 32 := 1#32
  let v48 : BitVec 32 := Scalar.subi v33 c1_i32
  let v49 : BitVec 32 := Scalar.select v47 v48 v33
  let v50 : BitVec 32 := Scalar.subi v49 c0_i32_32
  let c1_i32_33 : BitVec 32 := 1#32
  let v52 : BitVec 32 := Scalar.divsi v50 c1_i32_33
  let v53 : BitVec 32 := Scalar.muli v52 c1_i32_33
  let v54 : BitVec 32 := Scalar.addi c0_i32_32 v53
  let c1_i32_35 : BitVec 32 := 1#32
  let arg12 : BitVec 32 := Scf.iv v54 c1_i32_35 k0_t2
  let v102 : BitVec 32 := Scalar.muli c2_i32_67 arg12
  let c2_i32_132 : BitVec 32 := 2#32
  let v193 : BitVec 32 := Scalar.addi v102 c2_i32_132
  let c512_i32_133 : BitVec 32 := 512#32
  let v194 : BitVec 32 := Scalar.muli v193 c512_i32_133
  v194
def k0_mult9 (i : grid0.Coords) (k0_t2 : Fin (k0_t2_loop i).trips) : BitVec 32 :=
  let c2_i32_67 : BitVec 32 := 2#32
  let c0_i32_32 : BitVec 32 := 0#32
  let arg2 : BitVec 32 := BitVec.ofNat 32 (i 2).val
  let c0_i32_26 : BitVec 32 := 0#32
  let v34 : BitVec 1 := Scalar.cmpi .sgt arg2 c0_i32_26
  let v35 : BitVec 32 := Scalar.extui v34
  let c0_i32_27 : BitVec 32 := 0#32
  let v36 : BitVec 1 := Scalar.cmpi .slt arg2 c0_i32_27
  let v37 : BitVec 32 := Scalar.extui v36
  let v38 : BitVec 32 := Scalar.subi v35 v37
  let c2_i32 : BitVec 32 := 2#32
  let c0_i32_28 : BitVec 32 := 0#32
  let v39 : BitVec 1 := Scalar.cmpi .sgt c2_i32 c0_i32_28
  let v40 : BitVec 32 := Scalar.extui v39
  let c0_i32_29 : BitVec 32 := 0#32
  let v41 : BitVec 1 := Scalar.cmpi .slt c2_i32 c0_i32_29
  let v42 : BitVec 32 := Scalar.extui v41
  let v43 : BitVec 32 := Scalar.subi v40 v42
  let v44 : BitVec 1 := Scalar.cmpi .ne v38 v43
  let v45 : BitVec 32 := Scalar.remsi arg2 c2_i32
  let c0_i32_30 : BitVec 32 := 0#32
  let v46 : BitVec 1 := Scalar.cmpi .ne v45 c0_i32_30
  let v47 : BitVec 1 := Scalar.andi v44 v46
  let v33 : BitVec 32 := Scalar.divsi arg2 c2_i32
  let c1_i32 : BitVec 32 := 1#32
  let v48 : BitVec 32 := Scalar.subi v33 c1_i32
  let v49 : BitVec 32 := Scalar.select v47 v48 v33
  let v50 : BitVec 32 := Scalar.subi v49 c0_i32_32
  let c1_i32_33 : BitVec 32 := 1#32
  let v52 : BitVec 32 := Scalar.divsi v50 c1_i32_33
  let v53 : BitVec 32 := Scalar.muli v52 c1_i32_33
  let v54 : BitVec 32 := Scalar.addi c0_i32_32 v53
  let c1_i32_35 : BitVec 32 := 1#32
  let arg12 : BitVec 32 := Scf.iv v54 c1_i32_35 k0_t2
  let v102 : BitVec 32 := Scalar.muli c2_i32_67 arg12
  let c1_i32_146 : BitVec 32 := 1#32
  let v210 : BitVec 32 := Scalar.addi v102 c1_i32_146
  let c512_i32_147 : BitVec 32 := 512#32
  let v211 : BitVec 32 := Scalar.muli v210 c512_i32_147
  v211
def k0_off8 (i : grid0.Coords) (k0_t2 : Fin (k0_t2_loop i).trips) : Fin 3 → Nat :=
  let c0_148 : Index := 0#32
  let c0_149 : Index := 0#32
  let c2_i32_67 : BitVec 32 := 2#32
  let c0_i32_32 : BitVec 32 := 0#32
  let arg2 : BitVec 32 := BitVec.ofNat 32 (i 2).val
  let c0_i32_26 : BitVec 32 := 0#32
  let v34 : BitVec 1 := Scalar.cmpi .sgt arg2 c0_i32_26
  let v35 : BitVec 32 := Scalar.extui v34
  let c0_i32_27 : BitVec 32 := 0#32
  let v36 : BitVec 1 := Scalar.cmpi .slt arg2 c0_i32_27
  let v37 : BitVec 32 := Scalar.extui v36
  let v38 : BitVec 32 := Scalar.subi v35 v37
  let c2_i32 : BitVec 32 := 2#32
  let c0_i32_28 : BitVec 32 := 0#32
  let v39 : BitVec 1 := Scalar.cmpi .sgt c2_i32 c0_i32_28
  let v40 : BitVec 32 := Scalar.extui v39
  let c0_i32_29 : BitVec 32 := 0#32
  let v41 : BitVec 1 := Scalar.cmpi .slt c2_i32 c0_i32_29
  let v42 : BitVec 32 := Scalar.extui v41
  let v43 : BitVec 32 := Scalar.subi v40 v42
  let v44 : BitVec 1 := Scalar.cmpi .ne v38 v43
  let v45 : BitVec 32 := Scalar.remsi arg2 c2_i32
  let c0_i32_30 : BitVec 32 := 0#32
  let v46 : BitVec 1 := Scalar.cmpi .ne v45 c0_i32_30
  let v47 : BitVec 1 := Scalar.andi v44 v46
  let v33 : BitVec 32 := Scalar.divsi arg2 c2_i32
  let c1_i32 : BitVec 32 := 1#32
  let v48 : BitVec 32 := Scalar.subi v33 c1_i32
  let v49 : BitVec 32 := Scalar.select v47 v48 v33
  let v50 : BitVec 32 := Scalar.subi v49 c0_i32_32
  let c1_i32_33 : BitVec 32 := 1#32
  let v52 : BitVec 32 := Scalar.divsi v50 c1_i32_33
  let v53 : BitVec 32 := Scalar.muli v52 c1_i32_33
  let v54 : BitVec 32 := Scalar.addi c0_i32_32 v53
  let c1_i32_35 : BitVec 32 := 1#32
  let arg12 : BitVec 32 := Scf.iv v54 c1_i32_35 k0_t2
  let v102 : BitVec 32 := Scalar.muli c2_i32_67 arg12
  let c1_i32_146 : BitVec 32 := 1#32
  let v210 : BitVec 32 := Scalar.addi v102 c1_i32_146
  let c512_i32_147 : BitVec 32 := 512#32
  let v211 : BitVec 32 := Scalar.muli v210 c512_i32_147
  let v212 : BitVec 32 := v211
  let v213 : Index := Scalar.indexCast v212
  ![0, 0, v213.toNat]
def k0_cond1 (i : grid0.Coords) : BitVec 1 :=
  let arg2 : BitVec 32 := BitVec.ofNat 32 (i 2).val
  let c2_i32_36 : BitVec 32 := 2#32
  let c0_i32_37 : BitVec 32 := 0#32
  let v55 : BitVec 1 := Scalar.cmpi .eq c2_i32_36 c0_i32_37
  let c1_i32_38 : BitVec 32 := 1#32
  let v56 : BitVec 32 := Scalar.select v55 c1_i32_38 c2_i32_36
  let v57 : BitVec 32 := Scalar.remsi arg2 v56
  let c0_i32_40 : BitVec 32 := 0#32
  let v59 : BitVec 1 := Scalar.cmpi .slt v57 c0_i32_40
  let c0_i32_41 : BitVec 32 := 0#32
  let v60 : BitVec 1 := Scalar.cmpi .slt v56 c0_i32_41
  let v61 : BitVec 1 := Scalar.xori v59 v60
  let c0_i32_39 : BitVec 32 := 0#32
  let v58 : BitVec 1 := Scalar.cmpi .ne v57 c0_i32_39
  let v62 : BitVec 1 := Scalar.andi v61 v58
  let v63 : BitVec 32 := Scalar.addi v57 v56
  let v64 : BitVec 32 := Scalar.select v62 v63 v57
  let c0_i32_42 : BitVec 32 := 0#32
  let v65 : BitVec 1 := Scalar.cmpi .eq v64 c0_i32_42
  let v66 : BitVec 32 := Scalar.extui v65
  let c0_i32_43 : BitVec 32 := 0#32
  let v67 : BitVec 1 := Scalar.cmpi .ne v66 c0_i32_43
  v67

def k0_mult10 (i : grid0.Coords) : BitVec 32 :=
  let arg2 : BitVec 32 := BitVec.ofNat 32 (i 2).val
  let c512_i32 : BitVec 32 := 512#32
  let v102 : BitVec 32 := Scalar.muli arg2 c512_i32
  v102
def k0_off9 (i : grid0.Coords) : Fin 3 → Nat :=
  let c0_67 : Index := 0#32
  let c0_68 : Index := 0#32
  let arg2 : BitVec 32 := BitVec.ofNat 32 (i 2).val
  let c512_i32 : BitVec 32 := 512#32
  let v102 : BitVec 32 := Scalar.muli arg2 c512_i32
  let v103 : BitVec 32 := v102
  let v104 : Index := Scalar.indexCast v103
  ![0, 0, v104.toNat]
def k0_cond2 (i : grid0.Coords) : BitVec 1 :=
  let arg2 : BitVec 32 := BitVec.ofNat 32 (i 2).val
  let c2_i32_44 : BitVec 32 := 2#32
  let c0_i32_45 : BitVec 32 := 0#32
  let v68 : BitVec 1 := Scalar.cmpi .eq c2_i32_44 c0_i32_45
  let c1_i32_46 : BitVec 32 := 1#32
  let v69 : BitVec 32 := Scalar.select v68 c1_i32_46 c2_i32_44
  let v70 : BitVec 32 := Scalar.remsi arg2 v69
  let c0_i32_48 : BitVec 32 := 0#32
  let v72 : BitVec 1 := Scalar.cmpi .slt v70 c0_i32_48
  let c0_i32_49 : BitVec 32 := 0#32
  let v73 : BitVec 1 := Scalar.cmpi .slt v69 c0_i32_49
  let v74 : BitVec 1 := Scalar.xori v72 v73
  let c0_i32_47 : BitVec 32 := 0#32
  let v71 : BitVec 1 := Scalar.cmpi .ne v70 c0_i32_47
  let v75 : BitVec 1 := Scalar.andi v74 v71
  let v76 : BitVec 32 := Scalar.addi v70 v69
  let v77 : BitVec 32 := Scalar.select v75 v76 v70
  let c1_i32_50 : BitVec 32 := 1#32
  let v78 : BitVec 1 := Scalar.cmpi .eq v77 c1_i32_50
  let v79 : BitVec 32 := Scalar.extui v78
  let c0_i32_51 : BitVec 32 := 0#32
  let v80 : BitVec 1 := Scalar.cmpi .ne v79 c0_i32_51
  v80

def k0_mult11 (i : grid0.Coords) : BitVec 32 :=
  let arg2 : BitVec 32 := BitVec.ofNat 32 (i 2).val
  let c512_i32 : BitVec 32 := 512#32
  let v102 : BitVec 32 := Scalar.muli arg2 c512_i32
  v102
def k0_off10 (i : grid0.Coords) : Fin 3 → Nat :=
  let c0_67 : Index := 0#32
  let arg2 : BitVec 32 := BitVec.ofNat 32 (i 2).val
  let c512_i32 : BitVec 32 := 512#32
  let v102 : BitVec 32 := Scalar.muli arg2 c512_i32
  let v103 : BitVec 32 := v102
  let v104 : Index := Scalar.indexCast v103
  let c0_68 : Index := 0#32
  ![0, v104.toNat, 0]
def k0_off11 (i : grid0.Coords) : Fin 3 → Nat :=
  let c0_73 : Index := 0#32
  let arg2 : BitVec 32 := BitVec.ofNat 32 (i 2).val
  let c512_i32 : BitVec 32 := 512#32
  let v102 : BitVec 32 := Scalar.muli arg2 c512_i32
  let v103 : BitVec 32 := v102
  let v111 : Index := Scalar.indexCast v103
  let c128_74 : Index := 128#32
  ![0, v111.toNat, 128]
def k0_mult12 (i : grid0.Coords) : BitVec 32 :=
  let arg2 : BitVec 32 := BitVec.ofNat 32 (i 2).val
  let c1_i32_79 : BitVec 32 := 1#32
  let v118 : BitVec 32 := Scalar.subi arg2 c1_i32_79
  let c512_i32_80 : BitVec 32 := 512#32
  let v119 : BitVec 32 := Scalar.muli v118 c512_i32_80
  v119
def k0_off12 (i : grid0.Coords) : Fin 3 → Nat :=
  let c0_81 : Index := 0#32
  let c0_82 : Index := 0#32
  let arg2 : BitVec 32 := BitVec.ofNat 32 (i 2).val
  let c1_i32_79 : BitVec 32 := 1#32
  let v118 : BitVec 32 := Scalar.subi arg2 c1_i32_79
  let c512_i32_80 : BitVec 32 := 512#32
  let v119 : BitVec 32 := Scalar.muli v118 c512_i32_80
  let v120 : BitVec 32 := v119
  let v121 : Index := Scalar.indexCast v120
  ![0, 0, v121.toNat]
def k0_mult13 (i : grid0.Coords) : BitVec 32 :=
  let arg2 : BitVec 32 := BitVec.ofNat 32 (i 2).val
  let c512_i32_131 : BitVec 32 := 512#32
  let v192 : BitVec 32 := Scalar.muli arg2 c512_i32_131
  v192
def k0_off13 (i : grid0.Coords) : Fin 3 → Nat :=
  let c0_132 : Index := 0#32
  let c0_133 : Index := 0#32
  let arg2 : BitVec 32 := BitVec.ofNat 32 (i 2).val
  let c512_i32_131 : BitVec 32 := 512#32
  let v192 : BitVec 32 := Scalar.muli arg2 c512_i32_131
  let v193 : BitVec 32 := v192
  let v194 : Index := Scalar.indexCast v193
  ![0, 0, v194.toNat]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x128x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x512x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== KernelIdeal.lean ====
variable {F : FTy → Type} [FloatOps F] [Named F]
def κ : String → Option EReal := fun
  | "mask" => some ⊥
  | _ => none
-- ==== ReferenceIdeal.lean ====
abbrev S8x4096x8x96 : Shape := ⟨4, ![8, 4096, 8, 96]⟩
abbrev S8x4096x8x64 : Shape := ⟨4, ![8, 4096, 8, 64]⟩
abbrev S8x8x4096x4096 : Shape := ⟨4, ![8, 8, 4096, 4096]⟩
abbrev S_ : Shape := ⟨0, ![]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S8x8x4096 : Shape := ⟨3, ![8, 8, 4096]⟩
abbrev S8x8x4096x1 : Shape := ⟨4, ![8, 8, 4096, 1]⟩
abbrev S8x8x64x4096 : Shape := ⟨4, ![8, 8, 64, 4096]⟩
abbrev S8x4096x512 : Shape := ⟨3, ![8, 4096, 512]⟩

abbrev nBuf : Space → Nat
  | .hbm => 36
  | .vmem => 0
  | .smem => 0
  | _ => 0

abbrev bufTy : (tb : Table) → Fin (tcTables nBuf tb) → BufTy
  | .hbm, ⟨0, _⟩ => ⟨S8x4096x8x96, .f32⟩
  | .hbm, ⟨1, _⟩ => ⟨S8x4096x8x96, .f32⟩
  | .hbm, ⟨2, _⟩ => ⟨S8x4096x8x64, .f32⟩
  | .hbm, ⟨3, _⟩ => ⟨S8x8x4096x4096, .f32⟩
  | .hbm, ⟨4, _⟩ => ⟨S_, .f32⟩
  | .hbm, ⟨5, _⟩ => ⟨S8x8x4096x4096, .f32⟩
  | .hbm, ⟨6, _⟩ => ⟨S8x8x4096x4096, .f32⟩
  | .hbm, ⟨7, _⟩ => ⟨S4096, .i32⟩
  | .hbm, ⟨8, _⟩ => ⟨S1x4096, .i32⟩
  | .hbm, ⟨9, _⟩ => ⟨S4096x1, .i32⟩
  | .hbm, ⟨10, _⟩ => ⟨S4096x4096, .i32⟩
  | .hbm, ⟨11, _⟩ => ⟨S4096x4096, .i32⟩
  | .hbm, ⟨12, _⟩ => ⟨S4096x4096, .i1⟩
  | .hbm, ⟨13, _⟩ => ⟨S_, .f32⟩
  | .hbm, ⟨14, _⟩ => ⟨S_, .f32⟩
  | .hbm, ⟨15, _⟩ => ⟨S8x8x4096x4096, .i1⟩
  | .hbm, ⟨16, _⟩ => ⟨S8x8x4096x4096, .f32⟩
  | .hbm, ⟨17, _⟩ => ⟨S8x8x4096x4096, .f32⟩
  | .hbm, ⟨18, _⟩ => ⟨S_, .f32⟩
  | .hbm, ⟨19, _⟩ => ⟨S8x8x4096, .f32⟩
  | .hbm, ⟨20, _⟩ => ⟨S_, .f32⟩
  | .hbm, ⟨21, _⟩ => ⟨S8x8x4096, .f32⟩
  | .hbm, ⟨22, _⟩ => ⟨S8x8x4096, .f32⟩
  | .hbm, ⟨23, _⟩ => ⟨S8x8x4096x1, .f32⟩
  | .hbm, ⟨24, _⟩ => ⟨S8x8x4096x4096, .f32⟩
  | .hbm, ⟨25, _⟩ => ⟨S8x8x4096x4096, .f32⟩
  | .hbm, ⟨26, _⟩ => ⟨S8x8x4096x4096, .f32⟩
  | .hbm, ⟨27, _⟩ => ⟨S_, .f32⟩
  | .hbm, ⟨28, _⟩ => ⟨S8x8x4096, .f32⟩
  | .hbm, ⟨29, _⟩ => ⟨S8x8x4096x1, .f32⟩
  | .hbm, ⟨30, _⟩ => ⟨S8x8x4096x4096, .f32⟩
  | .hbm, ⟨31, _⟩ => ⟨S8x8x4096x4096, .f32⟩
  | .hbm, ⟨32, _⟩ => ⟨S8x8x64x4096, .f32⟩
  | .hbm, ⟨33, _⟩ => ⟨S8x4096x8x64, .f32⟩
  | .hbm, ⟨34, _⟩ => ⟨S8x4096x512, .f32⟩
  | .hbm, ⟨35, _⟩ => ⟨S8x4096x512, .bf16⟩
  | _, _ => ⟨S8x4096x8x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_3 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩

abbrev nD : Nat := 1
abbrev τ : Topo := Topo.v7x

variable {F : FTy → Type} [FloatOps F]
-- ==== InProj.lean ====
abbrev S8x4096x1024 : Shape := ⟨3, ![8, 4096, 1024]⟩
abbrev S1024 : Shape := ⟨1, ![1024]⟩
abbrev S1024x5664 : Shape := ⟨2, ![1024, 5664]⟩
abbrev S32768x1024 : Shape := ⟨2, ![32768, 1024]⟩
abbrev S1024x384 : Shape := ⟨2, ![1024, 384]⟩
abbrev S1024x128 : Shape := ⟨2, ![1024, 128]⟩
abbrev S1024x32 : Shape := ⟨2, ![1024, 32]⟩
abbrev S1024x256 : Shape := ⟨2, ![1024, 256]⟩
abbrev S1024x512 : Shape := ⟨2, ![1024, 512]⟩
abbrev S1024x3072 : Shape := ⟨2, ![1024, 3072]⟩
abbrev S1x1024 : Shape := ⟨2, ![1, 1024]⟩
abbrev S32768x384 : Shape := ⟨2, ![32768, 384]⟩
abbrev S32768x128 : Shape := ⟨2, ![32768, 128]⟩
abbrev S32768x32 : Shape := ⟨2, ![32768, 32]⟩
abbrev S32768x256 : Shape := ⟨2, ![32768, 256]⟩
abbrev S32768x512 : Shape := ⟨2, ![32768, 512]⟩
abbrev S32768x3072 : Shape := ⟨2, ![32768, 3072]⟩
abbrev S512x1024 : Shape := ⟨2, ![512, 1024]⟩
abbrev S512x384 : Shape := ⟨2, ![512, 384]⟩
abbrev S512x128 : Shape := ⟨2, ![512, 128]⟩
abbrev S512x32 : Shape := ⟨2, ![512, 32]⟩
abbrev S512x256 : Shape := ⟨2, ![512, 256]⟩
abbrev S512x512 : Shape := ⟨2, ![512, 512]⟩
abbrev S512x3072 : Shape := ⟨2, ![512, 3072]⟩
abbrev S512 : Shape := ⟨1, ![512]⟩
abbrev S512x1 : Shape := ⟨2, ![512, 1]⟩

abbrev nBuf : Space → Nat
  | .hbm => 32
  | .vmem => 30
  | .smem => 0
  | _ => 0

abbrev bufTy : (tb : Table) → Fin (tcTables nBuf tb) → BufTy
  | .hbm, ⟨0, _⟩ => ⟨S8x4096x1024, .f32⟩
  | .hbm, ⟨1, _⟩ => ⟨S1024, .f32⟩
  | .hbm, ⟨2, _⟩ => ⟨S1024x5664, .f32⟩
  | .hbm, ⟨3, _⟩ => ⟨S32768x1024, .f32⟩
  | .hbm, ⟨4, _⟩ => ⟨S1024x384, .f32⟩
  | .hbm, ⟨5, _⟩ => ⟨S1024x384, .bf16⟩
  | .hbm, ⟨6, _⟩ => ⟨S1024x128, .f32⟩
  | .hbm, ⟨7, _⟩ => ⟨S1024x128, .bf16⟩
  | .hbm, ⟨8, _⟩ => ⟨S1024x32, .f32⟩
  | .hbm, ⟨9, _⟩ => ⟨S1024x32, .bf16⟩
  | .hbm, ⟨10, _⟩ => ⟨S1024x256, .f32⟩
  | .hbm, ⟨11, _⟩ => ⟨S1024x256, .bf16⟩
  | .hbm, ⟨12, _⟩ => ⟨S1024x256, .f32⟩
  | .hbm, ⟨13, _⟩ => ⟨S1024x256, .bf16⟩
  | .hbm, ⟨14, _⟩ => ⟨S1024x512, .f32⟩
  | .hbm, ⟨15, _⟩ => ⟨S1024x512, .bf16⟩
  | .hbm, ⟨16, _⟩ => ⟨S1024x512, .f32⟩
  | .hbm, ⟨17, _⟩ => ⟨S1024x512, .bf16⟩
  | .hbm, ⟨18, _⟩ => ⟨S1024x512, .f32⟩
  | .hbm, ⟨19, _⟩ => ⟨S1024x512, .bf16⟩
  | .hbm, ⟨20, _⟩ => ⟨S1024x3072, .f32⟩
  | .hbm, ⟨21, _⟩ => ⟨S1024x3072, .bf16⟩
  | .hbm, ⟨22, _⟩ => ⟨S1x1024, .f32⟩
  | .hbm, ⟨23, _⟩ => ⟨S32768x384, .f32⟩
  | .hbm, ⟨24, _⟩ => ⟨S32768x128, .f32⟩
  | .hbm, ⟨25, _⟩ => ⟨S32768x32, .f32⟩
  | .hbm, ⟨26, _⟩ => ⟨S32768x256, .f32⟩
  | .hbm, ⟨27, _⟩ => ⟨S32768x256, .f32⟩
  | .hbm, ⟨28, _⟩ => ⟨S32768x512, .bf16⟩
  | .hbm, ⟨29, _⟩ => ⟨S32768x512, .bf16⟩
  | .hbm, ⟨30, _⟩ => ⟨S32768x512, .bf16⟩
  | .hbm, ⟨31, _⟩ => ⟨S32768x3072, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x384, .bf16⟩
  | .local _ .vmem, ⟨4, _⟩ => ⟨S1024x128, .bf16⟩
  | .local _ .vmem, ⟨5, _⟩ => ⟨S1024x32, .bf16⟩
  | .local _ .vmem, ⟨6, _⟩ => ⟨S1024x256, .bf16⟩
  | .local _ .vmem, ⟨7, _⟩ => ⟨S1024x256, .bf16⟩
  | .local _ .vmem, ⟨8, _⟩ => ⟨S1024x512, .bf16⟩
  | .local _ .vmem, ⟨9, _⟩ => ⟨S1024x512, .bf16⟩
  | .local _ .vmem, ⟨10, _⟩ => ⟨S1024x512, .bf16⟩
  | .local _ .vmem, ⟨11, _⟩ => ⟨S1024x3072, .bf16⟩
  | .local _ .vmem, ⟨12, _⟩ => ⟨S512x384, .f32⟩
  | .local _ .vmem, ⟨13, _⟩ => ⟨S512x384, .f32⟩
  | .local _ .vmem, ⟨14, _⟩ => ⟨S512x128, .f32⟩
  | .local _ .vmem, ⟨15, _⟩ => ⟨S512x128, .f32⟩
  | .local _ .vmem, ⟨16, _⟩ => ⟨S512x32, .f32⟩
  | .local _ .vmem, ⟨17, _⟩ => ⟨S512x32, .f32⟩
  | .local _ .vmem, ⟨18, _⟩ => ⟨S512x256, .f32⟩
  | .local _ .vmem, ⟨19, _⟩ => ⟨S512x256, .f32⟩
  | .local _ .vmem, ⟨20, _⟩ => ⟨S512x256, .f32⟩
  | .local _ .vmem, ⟨21, _⟩ => ⟨S512x256, .f32⟩
  | .local _ .vmem, ⟨22, _⟩ => ⟨S512x512, .bf16⟩
  | .local _ .vmem, ⟨23, _⟩ => ⟨S512x512, .bf16⟩
  | .local _ .vmem, ⟨24, _⟩ => ⟨S512x512, .bf16⟩
  | .local _ .vmem, ⟨25, _⟩ => ⟨S512x512, .bf16⟩
  | .local _ .vmem, ⟨26, _⟩ => ⟨S512x512, .bf16⟩
  | .local _ .vmem, ⟨27, _⟩ => ⟨S512x512, .bf16⟩
  | .local _ .vmem, ⟨28, _⟩ => ⟨S512x3072, .bf16⟩
  | .local _ .vmem, ⟨29, _⟩ => ⟨S512x3072, .bf16⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20_0 : Ref sig .tc := ⟨.hbm, 23, rfl⟩
abbrev main_v20_1 : Ref sig .tc := ⟨.hbm, 24, rfl⟩
abbrev main_v20_2 : Ref sig .tc := ⟨.hbm, 25, rfl⟩
abbrev main_v20_3 : Ref sig .tc := ⟨.hbm, 26, rfl⟩
abbrev main_v20_4 : Ref sig .tc := ⟨.hbm, 27, rfl⟩
abbrev main_v20_5 : Ref sig .tc := ⟨.hbm, 28, rfl⟩
abbrev main_v20_6 : Ref sig .tc := ⟨.hbm, 29, rfl⟩
abbrev main_v20_7 : Ref sig .tc := ⟨.hbm, 30, rfl⟩
abbrev main_v20_8 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg11_1 : Ref sig .tc := ⟨.vmem, 13, rfl⟩
abbrev cc0_stg12_0 : Ref sig .tc := ⟨.vmem, 14, rfl⟩
abbrev cc0_stg12_1 : Ref sig .tc := ⟨.vmem, 15, rfl⟩
abbrev cc0_stg13_0 : Ref sig .tc := ⟨.vmem, 16, rfl⟩
abbrev cc0_stg13_1 : Ref sig .tc := ⟨.vmem, 17, rfl⟩
abbrev cc0_stg14_0 : Ref sig .tc := ⟨.vmem, 18, rfl⟩
abbrev cc0_stg14_1 : Ref sig .tc := ⟨.vmem, 19, rfl⟩
abbrev cc0_stg15_0 : Ref sig .tc := ⟨.vmem, 20, rfl⟩
abbrev cc0_stg15_1 : Ref sig .tc := ⟨.vmem, 21, rfl⟩
abbrev cc0_stg16_0 : Ref sig .tc := ⟨.vmem, 22, rfl⟩
abbrev cc0_stg16_1 : Ref sig .tc := ⟨.vmem, 23, rfl⟩
abbrev cc0_stg17_0 : Ref sig .tc := ⟨.vmem, 24, rfl⟩
abbrev cc0_stg17_1 : Ref sig .tc := ⟨.vmem, 25, rfl⟩
abbrev cc0_stg18_0 : Ref sig .tc := ⟨.vmem, 26, rfl⟩
abbrev cc0_stg18_1 : Ref sig .tc := ⟨.vmem, 27, rfl⟩
abbrev cc0_stg19_0 : Ref sig .tc := ⟨.vmem, 28, rfl⟩
abbrev cc0_stg19_1 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem11_1 : DmaSem sig := 13
abbrev cc0_sem12_0 : DmaSem sig := 14
abbrev cc0_sem12_1 : DmaSem sig := 15
abbrev cc0_sem13_0 : DmaSem sig := 16
abbrev cc0_sem13_1 : DmaSem sig := 17
abbrev cc0_sem14_0 : DmaSem sig := 18
abbrev cc0_sem14_1 : DmaSem sig := 19
abbrev cc0_sem15_0 : DmaSem sig := 20
abbrev cc0_sem15_1 : DmaSem sig := 21
abbrev cc0_sem16_0 : DmaSem sig := 22
abbrev cc0_sem16_1 : DmaSem sig := 23
abbrev cc0_sem17_0 : DmaSem sig := 24
abbrev cc0_sem17_1 : DmaSem sig := 25
abbrev cc0_sem18_0 : DmaSem sig := 26
abbrev cc0_sem18_1 : DmaSem sig := 27
abbrev cc0_sem19_0 : DmaSem sig := 28
abbrev cc0_sem19_1 : DmaSem sig := 29

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x384 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x32 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x512 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x512 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x3072 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x384 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x32 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x256 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x256 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x512 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S512x512 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S512x512 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S512x3072 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]
-- ==== InProjRefIdeal.lean ====
abbrev S8x4096x1024 : Shape := ⟨3, ![8, 4096, 1024]⟩
abbrev S1024 : Shape := ⟨1, ![1024]⟩
abbrev S1024x5664 : Shape := ⟨2, ![1024, 5664]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S8x4096x5664 : Shape := ⟨3, ![8, 4096, 5664]⟩
abbrev S32768x5664 : Shape := ⟨2, ![32768, 5664]⟩
abbrev S32768x384 : Shape := ⟨2, ![32768, 384]⟩
abbrev S32768x128 : Shape := ⟨2, ![32768, 128]⟩
abbrev S32768x32 : Shape := ⟨2, ![32768, 32]⟩
abbrev S32768x256 : Shape := ⟨2, ![32768, 256]⟩
abbrev S32768x512 : Shape := ⟨2, ![32768, 512]⟩
abbrev S32768x3072 : Shape := ⟨2, ![32768, 3072]⟩

abbrev nBuf : Space → Nat
  | .hbm => 34
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S1024, .f32⟩
  | .hbm, ⟨2, _⟩ => ⟨S1024x5664, .f32⟩
  | .hbm, ⟨3, _⟩ => ⟨S8x4096x1024, .f32⟩
  | .hbm, ⟨4, _⟩ => ⟨S_, .f32⟩
  | .hbm, ⟨5, _⟩ => ⟨S8x4096, .f32⟩
  | .hbm, ⟨6, _⟩ => ⟨S8x4096x1, .f32⟩
  | .hbm, ⟨7, _⟩ => ⟨S_, .f32⟩
  | .hbm, ⟨8, _⟩ => ⟨S8x4096x1, .f32⟩
  | .hbm, ⟨9, _⟩ => ⟨S8x4096x1, .f32⟩
  | .hbm, ⟨10, _⟩ => ⟨S_, .f32⟩
  | .hbm, ⟨11, _⟩ => ⟨S8x4096x1, .f32⟩
  | .hbm, ⟨12, _⟩ => ⟨S8x4096x1, .f32⟩
  | .hbm, ⟨13, _⟩ => ⟨S8x4096x1, .f32⟩
  | .hbm, ⟨14, _⟩ => ⟨S8x4096x1024, .f32⟩
  | .hbm, ⟨15, _⟩ => ⟨S8x4096x1024, .f32⟩
  | .hbm, ⟨16, _⟩ => ⟨S1x1x1024, .f32⟩
  | .hbm, ⟨17, _⟩ => ⟨S8x4096x1024, .f32⟩
  | .hbm, ⟨18, _⟩ => ⟨S8x4096x1024, .f32⟩
  | .hbm, ⟨19, _⟩ => ⟨S8x4096x5664, .f32⟩
  | .hbm, ⟨20, _⟩ => ⟨S32768x5664, .f32⟩
  | .hbm, ⟨21, _⟩ => ⟨S32768x384, .f32⟩
  | .hbm, ⟨22, _⟩ => ⟨S32768x128, .f32⟩
  | .hbm, ⟨23, _⟩ => ⟨S32768x32, .f32⟩
  | .hbm, ⟨24, _⟩ => ⟨S32768x256, .f32⟩
  | .hbm, ⟨25, _⟩ => ⟨S32768x256, .f32⟩
  | .hbm, ⟨26, _⟩ => ⟨S32768x512, .f32⟩
  | .hbm, ⟨27, _⟩ => ⟨S32768x512, .f32⟩
  | .hbm, ⟨28, _⟩ => ⟨S32768x512, .f32⟩
  | .hbm, ⟨29, _⟩ => ⟨S32768x3072, .f32⟩
  | .hbm, ⟨30, _⟩ => ⟨S32768x512, .bf16⟩
  | .hbm, ⟨31, _⟩ => ⟨S32768x512, .bf16⟩
  | .hbm, ⟨32, _⟩ => ⟨S32768x512, .bf16⟩
  | .hbm, ⟨33, _⟩ => ⟨S32768x3072, .bf16⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩

abbrev nD : Nat := 1
abbrev τ : Topo := Topo.v7x

variable {F : FTy → Type} [FloatOps F]
-- ==== Merge.lean ====
abbrev S8x4096x1024 : Shape := ⟨3, ![8, 4096, 1024]⟩
abbrev S8x4096x3072 : Shape := ⟨3, ![8, 4096, 3072]⟩
abbrev S8x4096x512 : Shape := ⟨3, ![8, 4096, 512]⟩
abbrev S512x1024 : Shape := ⟨2, ![512, 1024]⟩
abbrev S1024x1024 : Shape := ⟨2, ![1024, 1024]⟩
abbrev S32768x1024 : Shape := ⟨2, ![32768, 1024]⟩
abbrev S32768x3072 : Shape := ⟨2, ![32768, 3072]⟩
abbrev S32768x512 : Shape := ⟨2, ![32768, 512]⟩
abbrev S512x3072 : Shape := ⟨2, ![512, 3072]⟩
abbrev S512x512 : Shape := ⟨2, ![512, 512]⟩

abbrev nBuf : Space → Nat
  | .hbm => 23
  | .vmem => 16
  | .smem => 0
  | _ => 0

abbrev bufTy : (tb : Table) → Fin (tcTables nBuf tb) → BufTy
  | .hbm, ⟨0, _⟩ => ⟨S8x4096x1024, .f32⟩
  | .hbm, ⟨1, _⟩ => ⟨S8x4096x3072, .f32⟩
  | .hbm, ⟨2, _⟩ => ⟨S8x4096x512, .f32⟩
  | .hbm, ⟨3, _⟩ => ⟨S8x4096x512, .f32⟩
  | .hbm, ⟨4, _⟩ => ⟨S8x4096x512, .f32⟩
  | .hbm, ⟨5, _⟩ => ⟨S512x1024, .f32⟩
  | .hbm, ⟨6, _⟩ => ⟨S512x1024, .f32⟩
  | .hbm, ⟨7, _⟩ => ⟨S512x1024, .f32⟩
  | .hbm, ⟨8, _⟩ => ⟨S1024x1024, .f32⟩
  | .hbm, ⟨9, _⟩ => ⟨S32768x1024, .f32⟩
  | .hbm, ⟨10, _⟩ => ⟨S32768x3072, .f32⟩
  | .hbm, ⟨11, _⟩ => ⟨S32768x3072, .bf16⟩
  | .hbm, ⟨12, _⟩ => ⟨S32768x512, .f32⟩
  | .hbm, ⟨13, _⟩ => ⟨S32768x512, .bf16⟩
  | .hbm, ⟨14, _⟩ => ⟨S32768x512, .f32⟩
  | .hbm, ⟨15, _⟩ => ⟨S32768x512, .bf16⟩
  | .hbm, ⟨16, _⟩ => ⟨S32768x512, .f32⟩
  | .hbm, ⟨17, _⟩ => ⟨S32768x512, .bf16⟩
  | .hbm, ⟨18, _⟩ => ⟨S512x1024, .bf16⟩
  | .hbm, ⟨19, _⟩ => ⟨S512x1024, .bf16⟩
  | .hbm, ⟨20, _⟩ => ⟨S512x1024, .bf16⟩
  | .hbm, ⟨21, _⟩ => ⟨S1024x1024, .bf16⟩
  | .hbm, ⟨22, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S512x3072, .bf16⟩
  | .local _ .vmem, ⟨3, _⟩ => ⟨S512x3072, .bf16⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S512x512, .bf16⟩
  | .local _ .vmem, ⟨9, _⟩ => ⟨S512x512, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S1024x1024, .bf16⟩
  | .local _ .vmem, ⟨14, _⟩ => ⟨S512x1024, .f32⟩
  | .local _ .vmem, ⟨15, _⟩ => ⟨S512x1024, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x3072 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== MergeRefIdeal.lean ====
abbrev S8x4096x1024 : Shape := ⟨3, ![8, 4096, 1024]⟩
abbrev S8x4096x3072 : Shape := ⟨3, ![8, 4096, 3072]⟩
abbrev S8x4096x512 : Shape := ⟨3, ![8, 4096, 512]⟩
abbrev S512x1024 : Shape := ⟨2, ![512, 1024]⟩
abbrev S1024x1024 : Shape := ⟨2, ![1024, 1024]⟩
abbrev S8x4096x3x1024 : Shape := ⟨4, ![8, 4096, 3, 1024]⟩
abbrev S_ : Shape := ⟨0, ![]⟩
abbrev S8x4096x1x1024 : Shape := ⟨4, ![8, 4096, 1, 1024]⟩
abbrev S32768x1024 : Shape := ⟨2, ![32768, 1024]⟩

abbrev nBuf : Space → Nat
  | .hbm => 35
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S8x4096x3072, .f32⟩
  | .hbm, ⟨2, _⟩ => ⟨S8x4096x512, .f32⟩
  | .hbm, ⟨3, _⟩ => ⟨S8x4096x512, .f32⟩
  | .hbm, ⟨4, _⟩ => ⟨S8x4096x512, .f32⟩
  | .hbm, ⟨5, _⟩ => ⟨S512x1024, .f32⟩
  | .hbm, ⟨6, _⟩ => ⟨S512x1024, .f32⟩
  | .hbm, ⟨7, _⟩ => ⟨S512x1024, .f32⟩
  | .hbm, ⟨8, _⟩ => ⟨S1024x1024, .f32⟩
  | .hbm, ⟨9, _⟩ => ⟨S8x4096x3x1024, .f32⟩
  | .hbm, ⟨10, _⟩ => ⟨S8x4096x3x1024, .f32⟩
  | .hbm, ⟨11, _⟩ => ⟨S8x4096x3x1024, .f32⟩
  | .hbm, ⟨12, _⟩ => ⟨S_, .f32⟩
  | .hbm, ⟨13, _⟩ => ⟨S8x4096x3x1024, .f32⟩
  | .hbm, ⟨14, _⟩ => ⟨S8x4096x3x1024, .f32⟩
  | .hbm, ⟨15, _⟩ => ⟨S_, .f32⟩
  | .hbm, ⟨16, _⟩ => ⟨S8x4096x3x1024, .f32⟩
  | .hbm, ⟨17, _⟩ => ⟨S8x4096x3x1024, .f32⟩
  | .hbm, ⟨18, _⟩ => ⟨S8x4096x1x1024, .f32⟩
  | .hbm, ⟨19, _⟩ => ⟨S8x4096x1024, .f32⟩
  | .hbm, ⟨20, _⟩ => ⟨S8x4096x1024, .f32⟩
  | .hbm, ⟨21, _⟩ => ⟨S8x4096x1024, .f32⟩
  | .hbm, ⟨22, _⟩ => ⟨S8x4096x1x1024, .f32⟩
  | .hbm, ⟨23, _⟩ => ⟨S8x4096x1024, .f32⟩
  | .hbm, ⟨24, _⟩ => ⟨S8x4096x1024, .f32⟩
  | .hbm, ⟨25, _⟩ => ⟨S8x4096x1024, .f32⟩
  | .hbm, ⟨26, _⟩ => ⟨S8x4096x1024, .f32⟩
  | .hbm, ⟨27, _⟩ => ⟨S8x4096x1x1024, .f32⟩
  | .hbm, ⟨28, _⟩ => ⟨S8x4096x1024, .f32⟩
  | .hbm, ⟨29, _⟩ => ⟨S8x4096x1024, .f32⟩
  | .hbm, ⟨30, _⟩ => ⟨S8x4096x1024, .f32⟩
  | .hbm, ⟨31, _⟩ => ⟨S8x4096x1024, .f32⟩
  | .hbm, ⟨32, _⟩ => ⟨S8x4096x1024, .f32⟩
  | .hbm, ⟨33, _⟩ => ⟨S8x4096x1024, .f32⟩
  | .hbm, ⟨34, _⟩ => ⟨S32768x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_cst : Ref sig .tc := ⟨.hbm, 12, rfl⟩
abbrev main_v3 : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩

abbrev nD : Nat := 1
abbrev τ : Topo := Topo.v7x

variable {F : FTy → Type} [FloatOps F]
-- ==== MemKv.lean ====
abbrev S8x256x1024 : Shape := ⟨3, ![8, 256, 1024]⟩
abbrev S1024 : Shape := ⟨1, ![1024]⟩
abbrev S1024x1024 : Shape := ⟨2, ![1024, 1024]⟩
abbrev S128 : Shape := ⟨1, ![128]⟩
abbrev S1024x4x2x128 : Shape := ⟨4, ![1024, 4, 2, 128]⟩
abbrev S1024x4x1x128 : Shape := ⟨4, ![1024, 4, 1, 128]⟩
abbrev S1024x4x128 : Shape := ⟨3, ![1024, 4, 128]⟩
abbrev S1024x512 : Shape := ⟨2, ![1024, 512]⟩
abbrev S1x1024 : Shape := ⟨2, ![1, 1024]⟩
abbrev S1x128 : Shape := ⟨2, ![1, 128]⟩
abbrev S8x256x512 : Shape := ⟨3, ![8, 256, 512]⟩
abbrev S1x256x1024 : Shape := ⟨3, ![1, 256, 1024]⟩
abbrev S1x256x512 : Shape := ⟨3, ![1, 256, 512]⟩
abbrev S256x1024 : Shape := ⟨2, ![256, 1024]⟩
abbrev S256 : Shape := ⟨1, ![256]⟩
abbrev S256x1 : Shape := ⟨2, ![256, 1]⟩
abbrev S256x128 : Shape := ⟨2, ![256, 128]⟩
abbrev S1x256x128 : Shape := ⟨3, ![1, 256, 128]⟩
abbrev S256x512 : Shape := ⟨2, ![256, 512]⟩

abbrev nBuf : Space → Nat
  | .hbm => 17
  | .vmem => 9
  | .smem => 0
  | _ => 0

abbrev bufTy : (tb : Table) → Fin (tcTables nBuf tb) → BufTy
  | .hbm, ⟨0, _⟩ => ⟨S8x256x1024, .f32⟩
  | .hbm, ⟨1, _⟩ => ⟨S1024, .f32⟩
  | .hbm, ⟨2, _⟩ => ⟨S1024x1024, .f32⟩
  | .hbm, ⟨3, _⟩ => ⟨S128, .f32⟩
  | .hbm, ⟨4, _⟩ => ⟨S1024x4x2x128, .f32⟩
  | .hbm, ⟨5, _⟩ => ⟨S1024x4x1x128, .f32⟩
  | .hbm, ⟨6, _⟩ => ⟨S1024x4x128, .f32⟩
  | .hbm, ⟨7, _⟩ => ⟨S1024x512, .f32⟩
  | .hbm, ⟨8, _⟩ => ⟨S1024x4x1x128, .f32⟩
  | .hbm, ⟨9, _⟩ => ⟨S1024x4x128, .f32⟩
  | .hbm, ⟨10, _⟩ => ⟨S1024x512, .f32⟩
  | .hbm, ⟨11, _⟩ => ⟨S1024x1024, .f32⟩
  | .hbm, ⟨12, _⟩ => ⟨S1024x1024, .bf16⟩
  | .hbm, ⟨13, _⟩ => ⟨S1x1024, .f32⟩
  | .hbm, ⟨14, _⟩ => ⟨S1x128, .f32⟩
  | .hbm, ⟨15, _⟩ => ⟨S8x256x512, .bf16⟩
  | .hbm, ⟨16, _⟩ => ⟨S8x256x512, .bf16⟩
  | .local _ .vmem, ⟨0, _⟩ => ⟨S1x256x1024, .f32⟩
  | .local _ .vmem, ⟨1, _⟩ => ⟨S1x256x1024, .f32⟩
  | .local _ .vmem, ⟨2, _⟩ => ⟨S1x1024, .f32⟩
  | .local _ .vmem, ⟨3, _⟩ => ⟨S1024x1024, .bf16⟩
  | .local _ .vmem, ⟨4, _⟩ => ⟨S1x128, .f32⟩
  | .local _ .vmem, ⟨5, _⟩ => ⟨S1x256x512, .bf16⟩
  | .local _ .vmem, ⟨6, _⟩ => ⟨S1x256x512, .bf16⟩
  | .local _ .vmem, ⟨7, _⟩ => ⟨S1x256x512, .bf16⟩
  | .local _ .vmem, ⟨8, _⟩ => ⟨S1x256x512, .bf16⟩
  | _, _ => ⟨S8x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11_0 : Ref sig .tc := ⟨.hbm, 15, rfl⟩
abbrev main_v11_1 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== MemKvRefIdeal.lean ====
abbrev S8x256x1024 : Shape := ⟨3, ![8, 256, 1024]⟩
abbrev S1024 : Shape := ⟨1, ![1024]⟩
abbrev S1024x1024 : Shape := ⟨2, ![1024, 1024]⟩
abbrev S128 : Shape := ⟨1, ![128]⟩
abbrev S_ : Shape := ⟨0, ![]⟩
abbrev S8x256 : Shape := ⟨2, ![8, 256]⟩
abbrev S8x256x1 : Shape := ⟨3, ![8, 256, 1]⟩
abbrev S1x1x1024 : Shape := ⟨3, ![1, 1, 1024]⟩
abbrev S8x256x4x256 : Shape := ⟨4, ![8, 256, 4, 256]⟩
abbrev S8x256x4x128 : Shape := ⟨4, ![8, 256, 4, 128]⟩
abbrev S8x256x4 : Shape := ⟨3, ![8, 256, 4]⟩
abbrev S8x256x4x1 : Shape := ⟨4, ![8, 256, 4, 1]⟩
abbrev S1x1x1x128 : Shape := ⟨4, ![1, 1, 1, 128]⟩
abbrev S8x256x512 : Shape := ⟨3, ![8, 256, 512]⟩

abbrev nBuf : Space → Nat
  | .hbm => 44
  | .vmem => 0
  | .smem => 0
  | _ => 0

abbrev bufTy : (tb : Table) → Fin (tcTables nBuf tb) → BufTy
  | .hbm, ⟨0, _⟩ => ⟨S8x256x1024, .f32⟩
  | .hbm, ⟨1, _⟩ => ⟨S1024, .f32⟩
  | .hbm, ⟨2, _⟩ => ⟨S1024x1024, .f32⟩
  | .hbm, ⟨3, _⟩ => ⟨S128, .f32⟩
  | .hbm, ⟨4, _⟩ => ⟨S8x256x1024, .f32⟩
  | .hbm, ⟨5, _⟩ => ⟨S_, .f32⟩
  | .hbm, ⟨6, _⟩ => ⟨S8x256, .f32⟩
  | .hbm, ⟨7, _⟩ => ⟨S8x256x1, .f32⟩
  | .hbm, ⟨8, _⟩ => ⟨S_, .f32⟩
  | .hbm, ⟨9, _⟩ => ⟨S8x256x1, .f32⟩
  | .hbm, ⟨10, _⟩ => ⟨S8x256x1, .f32⟩
  | .hbm, ⟨11, _⟩ => ⟨S_, .f32⟩
  | .hbm, ⟨12, _⟩ => ⟨S8x256x1, .f32⟩
  | .hbm, ⟨13, _⟩ => ⟨S8x256x1, .f32⟩
  | .hbm, ⟨14, _⟩ => ⟨S8x256x1, .f32⟩
  | .hbm, ⟨15, _⟩ => ⟨S8x256x1024, .f32⟩
  | .hbm, ⟨16, _⟩ => ⟨S8x256x1024, .f32⟩
  | .hbm, ⟨17, _⟩ => ⟨S1x1x1024, .f32⟩
  | .hbm, ⟨18, _⟩ => ⟨S8x256x1024, .f32⟩
  | .hbm, ⟨19, _⟩ => ⟨S8x256x1024, .f32⟩
  | .hbm, ⟨20, _⟩ => ⟨S8x256x1024, .f32⟩
  | .hbm, ⟨21, _⟩ => ⟨S8x256x4x256, .f32⟩
  | .hbm, ⟨22, _⟩ => ⟨S8x256x4x128, .f32⟩
  | .hbm, ⟨23, _⟩ => ⟨S8x256x4x128, .f32⟩
  | .hbm, ⟨24, _⟩ => ⟨S_, .f32⟩
  | .hbm, ⟨25, _⟩ => ⟨S8x256x4, .f32⟩
  | .hbm, ⟨26, _⟩ => ⟨S8x256x4x1, .f32⟩
  | .hbm, ⟨27, _⟩ => ⟨S_, .f32⟩
  | .hbm, ⟨28, _⟩ => ⟨S8x256x4x1, .f32⟩
  | .hbm, ⟨29, _⟩ => ⟨S8x256x4x1, .f32⟩
  | .hbm, ⟨30, _⟩ => ⟨S_, .f32⟩
  | .hbm, ⟨31, _⟩ => ⟨S8x256x4x1, .f32⟩
  | .hbm, ⟨32, _⟩ => ⟨S8x256x4x1, .f32⟩
  | .hbm, ⟨33, _⟩ => ⟨S8x256x4x1, .f32⟩
  | .hbm, ⟨34, _⟩ => ⟨S8x256x4x128, .f32⟩
  | .hbm, ⟨35, _⟩ => ⟨S8x256x4x128, .f32⟩
  | .hbm, ⟨36, _⟩ => ⟨S1x1x1x128, .f32⟩
  | .hbm, ⟨37, _⟩ => ⟨S8x256x4x128, .f32⟩
  | .hbm, ⟨38, _⟩ => ⟨S8x256x4x128, .f32⟩
  | .hbm, ⟨39, _⟩ => ⟨S8x256x4x128, .f32⟩
  | .hbm, ⟨40, _⟩ => ⟨S8x256x512, .f32⟩
  | .hbm, ⟨41, _⟩ => ⟨S8x256x512, .bf16⟩
  | .hbm, ⟨42, _⟩ => ⟨S8x256x512, .f32⟩
  | .hbm, ⟨43, _⟩ => ⟨S8x256x512, .bf16⟩
  | _, _ => ⟨S8x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_2 : Ref sig .tc := ⟨.hbm, 24, rfl⟩
abbrev main_v17 : Ref sig .tc := ⟨.hbm, 25, rfl⟩
abbrev main_v18 : Ref sig .tc := ⟨.hbm, 26, rfl⟩
abbrev main_cst_3 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩

abbrev nD : Nat := 1
abbrev τ : Topo := Topo.v7x

variable {F : FTy → Type} [FloatOps F]
-- ==== MemAttn.lean ====
abbrev S8x4096x512 : Shape := ⟨3, ![8, 4096, 512]⟩
abbrev S8x256x4x128 : Shape := ⟨4, ![8, 256, 4, 128]⟩
abbrev S128 : Shape := ⟨1, ![128]⟩
abbrev S8x256x512 : Shape := ⟨3, ![8, 256, 512]⟩
abbrev S1x128 : Shape := ⟨2, ![1, 128]⟩
abbrev S1x512x512 : Shape := ⟨3, ![1, 512, 512]⟩
abbrev S1x256x512 : Shape := ⟨3, ![1, 256, 512]⟩
abbrev S1x512x128 : Shape := ⟨3, ![1, 512, 128]⟩
abbrev S512x128 : Shape := ⟨2, ![512, 128]⟩
abbrev S512 : Shape := ⟨1, ![512]⟩
abbrev S512x1 : Shape := ⟨2, ![512, 1]⟩
abbrev S1x256x128 : Shape := ⟨3, ![1, 256, 128]⟩
abbrev S256x128 : Shape := ⟨2, ![256, 128]⟩
abbrev S512x256 : Shape := ⟨2, ![512, 256]⟩

abbrev nBuf : Space → Nat
  | .hbm => 11
  | .vmem => 9
  | .smem => 0
  | _ => 0

abbrev bufTy : (tb : Table) → Fin (tcTables nBuf tb) → BufTy
  | .hbm, ⟨0, _⟩ => ⟨S8x4096x512, .f32⟩
  | .hbm, ⟨1, _⟩ => ⟨S8x256x4x128, .f32⟩
  | .hbm, ⟨2, _⟩ => ⟨S8x256x4x128, .f32⟩
  | .hbm, ⟨3, _⟩ => ⟨S128, .f32⟩
  | .hbm, ⟨4, _⟩ => ⟨S8x4096x512, .bf16⟩
  | .hbm, ⟨5, _⟩ => ⟨S8x256x512, .f32⟩
  | .hbm, ⟨6, _⟩ => ⟨S8x256x512, .bf16⟩
  | .hbm, ⟨7, _⟩ => ⟨S8x256x512, .f32⟩
  | .hbm, ⟨8, _⟩ => ⟨S8x256x512, .bf16⟩
  | .hbm, ⟨9, _⟩ => ⟨S1x128, .f32⟩
  | .hbm, ⟨10, _⟩ => ⟨S8x4096x512, .bf16⟩
  | .local _ .vmem, ⟨0, _⟩ => ⟨S1x512x512, .bf16⟩
  | .local _ .vmem, ⟨1, _⟩ => ⟨S1x512x512, .bf16⟩
  | .local _ .vmem, ⟨2, _⟩ => ⟨S1x256x512, .bf16⟩
  | .local _ .vmem, ⟨3, _⟩ => ⟨S1x256x512, .bf16⟩
  | .local _ .vmem, ⟨4, _⟩ => ⟨S1x256x512, .bf16⟩
  | .local _ .vmem, ⟨5, _⟩ => ⟨S1x256x512, .bf16⟩
  | .local _ .vmem, ⟨6, _⟩ => ⟨S1x128, .f32⟩
  | .local _ .vmem, ⟨7, _⟩ => ⟨S1x512x512, .bf16⟩
  | .local _ .vmem, ⟨8, _⟩ => ⟨S1x512x512, .bf16⟩
  | _, _ => ⟨S8x4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== MemAttnRefIdeal.lean ====
abbrev S8x4096x512 : Shape := ⟨3, ![8, 4096, 512]⟩
abbrev S8x256x4x128 : Shape := ⟨4, ![8, 256, 4, 128]⟩
abbrev S128 : Shape := ⟨1, ![128]⟩
abbrev S8x4096x4x128 : Shape := ⟨4, ![8, 4096, 4, 128]⟩
abbrev S_ : Shape := ⟨0, ![]⟩
abbrev S8x4096x4 : Shape := ⟨3, ![8, 4096, 4]⟩
abbrev S8x4096x4x1 : Shape := ⟨4, ![8, 4096, 4, 1]⟩
abbrev S1x1x1x128 : Shape := ⟨4, ![1, 1, 1, 128]⟩
abbrev S8x4x4096x256 : Shape := ⟨4, ![8, 4, 4096, 256]⟩
abbrev S8x4x4096 : Shape := ⟨3, ![8, 4, 4096]⟩
abbrev S8x4x4096x1 : Shape := ⟨4, ![8, 4, 4096, 1]⟩
abbrev S8x4x128x4096 : Shape := ⟨4, ![8, 4, 128, 4096]⟩

abbrev nBuf : Space → Nat
  | .hbm => 43
  | .vmem => 0
  | .smem => 0
  | _ => 0

abbrev bufTy : (tb : Table) → Fin (tcTables nBuf tb) → BufTy
  | .hbm, ⟨0, _⟩ => ⟨S8x4096x512, .f32⟩
  | .hbm, ⟨1, _⟩ => ⟨S8x256x4x128, .f32⟩
  | .hbm, ⟨2, _⟩ => ⟨S8x256x4x128, .f32⟩
  | .hbm, ⟨3, _⟩ => ⟨S128, .f32⟩
  | .hbm, ⟨4, _⟩ => ⟨S8x4096x4x128, .f32⟩
  | .hbm, ⟨5, _⟩ => ⟨S8x4096x4x128, .f32⟩
  | .hbm, ⟨6, _⟩ => ⟨S_, .f32⟩
  | .hbm, ⟨7, _⟩ => ⟨S8x4096x4, .f32⟩
  | .hbm, ⟨8, _⟩ => ⟨S8x4096x4x1, .f32⟩
  | .hbm, ⟨9, _⟩ => ⟨S_, .f32⟩
  | .hbm, ⟨10, _⟩ => ⟨S8x4096x4x1, .f32⟩
  | .hbm, ⟨11, _⟩ => ⟨S8x4096x4x1, .f32⟩
  | .hbm, ⟨12, _⟩ => ⟨S_, .f32⟩
  | .hbm, ⟨13, _⟩ => ⟨S8x4096x4x1, .f32⟩
  | .hbm, ⟨14, _⟩ => ⟨S8x4096x4x1, .f32⟩
  | .hbm, ⟨15, _⟩ => ⟨S8x4096x4x1, .f32⟩
  | .hbm, ⟨16, _⟩ => ⟨S8x4096x4x128, .f32⟩
  | .hbm, ⟨17, _⟩ => ⟨S8x4096x4x128, .f32⟩
  | .hbm, ⟨18, _⟩ => ⟨S1x1x1x128, .f32⟩
  | .hbm, ⟨19, _⟩ => ⟨S8x4096x4x128, .f32⟩
  | .hbm, ⟨20, _⟩ => ⟨S8x4096x4x128, .f32⟩
  | .hbm, ⟨21, _⟩ => ⟨S8x4x4096x256, .f32⟩
  | .hbm, ⟨22, _⟩ => ⟨S_, .f32⟩
  | .hbm, ⟨23, _⟩ => ⟨S8x4x4096x256, .f32⟩
  | .hbm, ⟨24, _⟩ => ⟨S8x4x4096x256, .f32⟩
  | .hbm, ⟨25, _⟩ => ⟨S_, .f32⟩
  | .hbm, ⟨26, _⟩ => ⟨S8x4x4096, .f32⟩
  | .hbm, ⟨27, _⟩ => ⟨S_, .f32⟩
  | .hbm, ⟨28, _⟩ => ⟨S8x4x4096, .f32⟩
  | .hbm, ⟨29, _⟩ => ⟨S8x4x4096, .f32⟩
  | .hbm, ⟨30, _⟩ => ⟨S8x4x4096x1, .f32⟩
  | .hbm, ⟨31, _⟩ => ⟨S8x4x4096x256, .f32⟩
  | .hbm, ⟨32, _⟩ => ⟨S8x4x4096x256, .f32⟩
  | .hbm, ⟨33, _⟩ => ⟨S8x4x4096x256, .f32⟩
  | .hbm, ⟨34, _⟩ => ⟨S_, .f32⟩
  | .hbm, ⟨35, _⟩ => ⟨S8x4x4096, .f32⟩
  | .hbm, ⟨36, _⟩ => ⟨S8x4x4096x1, .f32⟩
  | .hbm, ⟨37, _⟩ => ⟨S8x4x4096x256, .f32⟩
  | .hbm, ⟨38, _⟩ => ⟨S8x4x4096x256, .f32⟩
  | .hbm, ⟨39, _⟩ => ⟨S8x4x128x4096, .f32⟩
  | .hbm, ⟨40, _⟩ => ⟨S8x4096x4x128, .f32⟩
  | .hbm, ⟨41, _⟩ => ⟨S8x4096x512, .f32⟩
  | .hbm, ⟨42, _⟩ => ⟨S8x4096x512, .bf16⟩
  | _, _ => ⟨S8x4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_2 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_cst_4 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_5 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩

abbrev nD : Nat := 1
abbrev τ : Topo := Topo.v7x

variable {F : FTy → Type} [FloatOps F]
-- ==== MlaPrep.lean ====
abbrev S32768x384 : Shape := ⟨2, ![32768, 384]⟩
abbrev S32768x128 : Shape := ⟨2, ![32768, 128]⟩
abbrev S32768x32 : Shape := ⟨2, ![32768, 32]⟩
abbrev S32768 : Shape := ⟨1, ![32768]⟩
abbrev S384 : Shape := ⟨1, ![384]⟩
abbrev S384x768 : Shape := ⟨2, ![384, 768]⟩
abbrev S128 : Shape := ⟨1, ![128]⟩
abbrev S128x1024 : Shape := ⟨2, ![128, 1024]⟩
abbrev S96 : Shape := ⟨1, ![96]⟩
abbrev S16 : Shape := ⟨1, ![16]⟩
abbrev S_ : Shape := ⟨0, ![]⟩
abbrev S32768x1 : Shape := ⟨2, ![32768, 1]⟩
abbrev S1x16 : Shape := ⟨2, ![1, 16]⟩
abbrev S32768x16 : Shape := ⟨2, ![32768, 16]⟩
abbrev S32768x64 : Shape := ⟨2, ![32768, 64]⟩
abbrev S1x32768x1x128 : Shape := ⟨4, ![1, 32768, 1, 128]⟩
abbrev S128x8x128 : Shape := ⟨3, ![128, 8, 128]⟩
abbrev S128x8x64 : Shape := ⟨3, ![128, 8, 64]⟩
abbrev S128x512 : Shape := ⟨2, ![128, 512]⟩
abbrev S384x8x96 : Shape := ⟨3, ![384, 8, 96]⟩
abbrev S384x8x128 : Shape := ⟨3, ![384, 8, 128]⟩
abbrev S384x1024 : Shape := ⟨2, ![384, 1024]⟩
abbrev S1x128 : Shape := ⟨2, ![1, 128]⟩
abbrev S1x384 : Shape := ⟨2, ![1, 384]⟩
abbrev S384x8x64 : Shape := ⟨3, ![384, 8, 64]⟩
abbrev S384x8x16 : Shape := ⟨3, ![384, 8, 16]⟩
abbrev S384x8x32 : Shape := ⟨3, ![384, 8, 32]⟩
abbrev S1x1x128 : Shape := ⟨3, ![1, 1, 128]⟩
abbrev S1x1x64 : Shape := ⟨3, ![1, 1, 64]⟩
abbrev S1x1x16 : Shape := ⟨3, ![1, 1, 16]⟩
abbrev S1x1x32 : Shape := ⟨3, ![1, 1, 32]⟩
abbrev S32768x1024 : Shape := ⟨2, ![32768, 1024]⟩
abbrev S32768x512 : Shape := ⟨2, ![32768, 512]⟩
abbrev S512x384 : Shape := ⟨2, ![512, 384]⟩
abbrev S512x128 : Shape := ⟨2, ![512, 128]⟩
abbrev S512x32 : Shape := ⟨2, ![512, 32]⟩
abbrev S512x1024 : Shape := ⟨2, ![512, 1024]⟩
abbrev S512x512 : Shape := ⟨2, ![512, 512]⟩
abbrev S512 : Shape := ⟨1, ![512]⟩
abbrev S512x1 : Shape := ⟨2, ![512, 1]⟩
abbrev S512x64 : Shape := ⟨2, ![512, 64]⟩
abbrev S512x16 : Shape := ⟨2, ![512, 16]⟩

abbrev nBuf : Space → Nat
  | .hbm => 101
  | .vmem => 26
  | .smem => 0
  | _ => 0

abbrev bufTy : (tb : Table) → Fin (tcTables nBuf tb) → BufTy
  | .hbm, ⟨0, _⟩ => ⟨S32768x384, .f32⟩
  | .hbm, ⟨1, _⟩ => ⟨S32768x128, .f32⟩
  | .hbm, ⟨2, _⟩ => ⟨S32768x32, .f32⟩
  | .hbm, ⟨3, _⟩ => ⟨S32768, .i32⟩
  | .hbm, ⟨4, _⟩ => ⟨S384, .f32⟩
  | .hbm, ⟨5, _⟩ => ⟨S384x768, .f32⟩
  | .hbm, ⟨6, _⟩ => ⟨S128, .f32⟩
  | .hbm, ⟨7, _⟩ => ⟨S128x1024, .f32⟩
  | .hbm, ⟨8, _⟩ => ⟨S96, .f32⟩
  | .hbm, ⟨9, _⟩ => ⟨S96, .f32⟩
  | .hbm, ⟨10, _⟩ => ⟨S16, .f32⟩
  | .hbm, ⟨11, _⟩ => ⟨S_, .f32⟩
  | .hbm, ⟨12, _⟩ => ⟨S16, .f32⟩
  | .hbm, ⟨13, _⟩ => ⟨S16, .f32⟩
  | .hbm, ⟨14, _⟩ => ⟨S_, .f32⟩
  | .hbm, ⟨15, _⟩ => ⟨S16, .f32⟩
  | .hbm, ⟨16, _⟩ => ⟨S16, .f32⟩
  | .hbm, ⟨17, _⟩ => ⟨S16, .f32⟩
  | .hbm, ⟨18, _⟩ => ⟨S_, .f32⟩
  | .hbm, ⟨19, _⟩ => ⟨S16, .f32⟩
  | .hbm, ⟨20, _⟩ => ⟨S16, .f32⟩
  | .hbm, ⟨21, _⟩ => ⟨S_, .f32⟩
  | .hbm, ⟨22, _⟩ => ⟨S16, .f32⟩
  | .hbm, ⟨23, _⟩ => ⟨S16, .f32⟩
  | .hbm, ⟨24, _⟩ => ⟨S32768, .f32⟩
  | .hbm, ⟨25, _⟩ => ⟨S32768x1, .f32⟩
  | .hbm, ⟨26, _⟩ => ⟨S1x16, .f32⟩
  | .hbm, ⟨27, _⟩ => ⟨S32768x16, .f32⟩
  | .hbm, ⟨28, _⟩ => ⟨S32768x16, .f32⟩
  | .hbm, ⟨29, _⟩ => ⟨S32768x16, .f32⟩
  | .hbm, ⟨30, _⟩ => ⟨S32768x16, .f32⟩
  | .hbm, ⟨31, _⟩ => ⟨S32768x16, .f32⟩
  | .hbm, ⟨32, _⟩ => ⟨S_, .f32⟩
  | .hbm, ⟨33, _⟩ => ⟨S32768x64, .f32⟩
  | .hbm, ⟨34, _⟩ => ⟨S_, .f32⟩
  | .hbm, ⟨35, _⟩ => ⟨S32768x32, .f32⟩
  | .hbm, ⟨36, _⟩ => ⟨S32768x128, .f32⟩
  | .hbm, ⟨37, _⟩ => ⟨S_, .f32⟩
  | .hbm, ⟨38, _⟩ => ⟨S32768x64, .f32⟩
  | .hbm, ⟨39, _⟩ => ⟨S32768x16, .f32⟩
  | .hbm, ⟨40, _⟩ => ⟨S_, .f32⟩
  | .hbm, ⟨41, _⟩ => ⟨S32768x32, .f32⟩
  | .hbm, ⟨42, _⟩ => ⟨S32768x128, .f32⟩
  | .hbm, ⟨43, _⟩ => ⟨S1x32768x1x128, .f32⟩
  | .hbm, ⟨44, _⟩ => ⟨S1x32768x1x128, .f32⟩
  | .hbm, ⟨45, _⟩ => ⟨S32768x128, .f32⟩
  | .hbm, ⟨46, _⟩ => ⟨S1x32768x1x128, .f32⟩
  | .hbm, ⟨47, _⟩ => ⟨S1x32768x1x128, .f32⟩
  | .hbm, ⟨48, _⟩ => ⟨S32768x128, .f32⟩
  | .hbm, ⟨49, _⟩ => ⟨S128x8x128, .f32⟩
  | .hbm, ⟨50, _⟩ => ⟨S128x8x64, .f32⟩
  | .hbm, ⟨51, _⟩ => ⟨S128x512, .f32⟩
  | .hbm, ⟨52, _⟩ => ⟨S128x8x64, .f32⟩
  | .hbm, ⟨53, _⟩ => ⟨S_, .i32⟩
  | .hbm, ⟨54, _⟩ => ⟨S_, .f32⟩
  | .hbm, ⟨55, _⟩ => ⟨S128x8x128, .f32⟩
  | .hbm, ⟨56, _⟩ => ⟨S128x1024, .f32⟩
  | .hbm, ⟨57, _⟩ => ⟨S128x1024, .bf16⟩
  | .hbm, ⟨58, _⟩ => ⟨S128x8x64, .f32⟩
  | .hbm, ⟨59, _⟩ => ⟨S128x512, .f32⟩
  | .hbm, ⟨60, _⟩ => ⟨S128x512, .bf16⟩
  | .hbm, ⟨61, _⟩ => ⟨S384x8x96, .f32⟩
  | .hbm, ⟨62, _⟩ => ⟨S_, .i32⟩
  | .hbm, ⟨63, _⟩ => ⟨S_, .f32⟩
  | .hbm, ⟨64, _⟩ => ⟨S384x8x128, .f32⟩
  | .hbm, ⟨65, _⟩ => ⟨S384x1024, .f32⟩
  | .hbm, ⟨66, _⟩ => ⟨S384x1024, .bf16⟩
  | .hbm, ⟨67, _⟩ => ⟨S_, .i32⟩
  | .hbm, ⟨68, _⟩ => ⟨S_, .f32⟩
  | .hbm, ⟨69, _⟩ => ⟨S128, .f32⟩
  | .hbm, ⟨70, _⟩ => ⟨S1x128, .f32⟩
  | .hbm, ⟨71, _⟩ => ⟨S_, .i32⟩
  | .hbm, ⟨72, _⟩ => ⟨S_, .f32⟩
  | .hbm, ⟨73, _⟩ => ⟨S128, .f32⟩
  | .hbm, ⟨74, _⟩ => ⟨S1x128, .f32⟩
  | .hbm, ⟨75, _⟩ => ⟨S1x384, .f32⟩
  | .hbm, ⟨76, _⟩ => ⟨S1x128, .f32⟩
  | .hbm, ⟨77, _⟩ => ⟨S384x8x128, .bf16⟩
  | .hbm, ⟨78, _⟩ => ⟨S384x8x64, .bf16⟩
  | .hbm, ⟨79, _⟩ => ⟨S384x8x16, .bf16⟩
  | .hbm, ⟨80, _⟩ => ⟨S384x8x16, .bf16⟩
  | .hbm, ⟨81, _⟩ => ⟨S384x8x32, .bf16⟩
  | .hbm, ⟨82, _⟩ => ⟨S384x8x128, .bf16⟩
  | .hbm, ⟨83, _⟩ => ⟨S384x1024, .bf16⟩
  | .hbm, ⟨84, _⟩ => ⟨S1x1x128, .f32⟩
  | .hbm, ⟨85, _⟩ => ⟨S1x1x64, .f32⟩
  | .hbm, ⟨86, _⟩ => ⟨S1x1x16, .f32⟩
  | .hbm, ⟨87, _⟩ => ⟨S1x1x16, .f32⟩
  | .hbm, ⟨88, _⟩ => ⟨S1x1x32, .f32⟩
  | .hbm, ⟨89, _⟩ => ⟨S1x1x128, .f32⟩
  | .hbm, ⟨90, _⟩ => ⟨S1x128, .f32⟩
  | .hbm, ⟨91, _⟩ => ⟨S1x1x128, .f32⟩
  | .hbm, ⟨92, _⟩ => ⟨S1x1x64, .f32⟩
  | .hbm, ⟨93, _⟩ => ⟨S1x1x16, .f32⟩
  | .hbm, ⟨94, _⟩ => ⟨S1x1x16, .f32⟩
  | .hbm, ⟨95, _⟩ => ⟨S1x1x32, .f32⟩
  | .hbm, ⟨96, _⟩ => ⟨S1x1x128, .f32⟩
  | .hbm, ⟨97, _⟩ => ⟨S1x128, .f32⟩
  | .hbm, ⟨98, _⟩ => ⟨S32768x1024, .bf16⟩
  | .hbm, ⟨99, _⟩ => ⟨S32768x1024, .bf16⟩
  | .hbm, ⟨100, _⟩ => ⟨S32768x512, .bf16⟩
  | .local _ .vmem, ⟨0, _⟩ => ⟨S512x384, .f32⟩
  | .local _ .vmem, ⟨1, _⟩ => ⟨S512x384, .f32⟩
  | .local _ .vmem, ⟨2, _⟩ => ⟨S512x128, .f32⟩
  | .local _ .vmem, ⟨3, _⟩ => ⟨S512x128, .f32⟩
  | .local _ .vmem, ⟨4, _⟩ => ⟨S512x32, .f32⟩
  | .local _ .vmem, ⟨5, _⟩ => ⟨S512x32, .f32⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S1x384, .f32⟩
  | .local _ .vmem, ⟨11, _⟩ => ⟨S1x128, .f32⟩
  | .local _ .vmem, ⟨12, _⟩ => ⟨S384x1024, .bf16⟩
  | .local _ .vmem, ⟨13, _⟩ => ⟨S384x1024, .bf16⟩
  | .local _ .vmem, ⟨14, _⟩ => ⟨S128x1024, .bf16⟩
  | .local _ .vmem, ⟨15, _⟩ => ⟨S128x512, .bf16⟩
  | .local _ .vmem, ⟨16, _⟩ => ⟨S1x128, .f32⟩
  | .local _ .vmem, ⟨17, _⟩ => ⟨S1x128, .f32⟩
  | .local _ .vmem, ⟨18, _⟩ => ⟨S1x128, .f32⟩
  | .local _ .vmem, ⟨19, _⟩ => ⟨S1x128, .f32⟩
  | .local _ .vmem, ⟨20, _⟩ => ⟨S512x1024, .bf16⟩
  | .local _ .vmem, ⟨21, _⟩ => ⟨S512x1024, .bf16⟩
  | .local _ .vmem, ⟨22, _⟩ => ⟨S512x1024, .bf16⟩
  | .local _ .vmem, ⟨23, _⟩ => ⟨S512x1024, .bf16⟩
  | .local _ .vmem, ⟨24, _⟩ => ⟨S512x512, .bf16⟩
  | .local _ .vmem, ⟨25, _⟩ => ⟨S512x512, .bf16⟩
  | _, _ => ⟨S32768x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_cst : Ref sig .tc := ⟨.hbm, 11, rfl⟩
abbrev main_v1 : Ref sig .tc := ⟨.hbm, 12, rfl⟩
abbrev main_v2 : Ref sig .tc := ⟨.hbm, 13, rfl⟩
abbrev main_cst_0 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_cst_1 : Ref sig .tc := ⟨.hbm, 18, rfl⟩
abbrev main_v6 : Ref sig .tc := ⟨.hbm, 19, rfl⟩
abbrev main_v7 : Ref sig .tc := ⟨.hbm, 20, rfl⟩
abbrev main_cst_2 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_cst_3 : Ref sig .tc := ⟨.hbm, 32, rfl⟩
abbrev main_v18 : Ref sig .tc := ⟨.hbm, 33, rfl⟩
abbrev main_cst_4 : Ref sig .tc := ⟨.hbm, 34, rfl⟩
abbrev main_v19 : Ref sig .tc := ⟨.hbm, 35, rfl⟩
abbrev main_v20 : Ref sig .tc := ⟨.hbm, 36, rfl⟩
abbrev main_cst_5 : Ref sig .tc := ⟨.hbm, 37, rfl⟩
abbrev main_v21 : Ref sig .tc := ⟨.hbm, 38, rfl⟩
abbrev main_v22 : Ref sig .tc := ⟨.hbm, 39, rfl⟩
abbrev main_cst_6 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_c : Ref sig .tc := ⟨.hbm, 53, rfl⟩
abbrev main_call0_v0 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_c_7 : Ref sig .tc := ⟨.hbm, 62, rfl⟩
abbrev main_call1_v0 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_c_8 : Ref sig .tc := ⟨.hbm, 67, rfl⟩
abbrev main_call2_v0 : Ref sig .tc := ⟨.hbm, 68, rfl⟩
abbrev main_v45 : Ref sig .tc := ⟨.hbm, 69, rfl⟩
abbrev main_v46 : Ref sig .tc := ⟨.hbm, 70, rfl⟩
abbrev main_c_9 : Ref sig .tc := ⟨.hbm, 71, rfl⟩
abbrev main_call3_v0 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72_0 : Ref sig .tc := ⟨.hbm, 98, rfl⟩
abbrev main_v72_1 : Ref sig .tc := ⟨.hbm, 99, rfl⟩
abbrev main_v72_2 : Ref sig .tc := ⟨.hbm, 100, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg13_0 : Ref sig .tc := ⟨.vmem, 18, rfl⟩
abbrev cc0_stg14_0 : Ref sig .tc := ⟨.vmem, 19, rfl⟩
abbrev cc0_stg15_0 : Ref sig .tc := ⟨.vmem, 20, rfl⟩
abbrev cc0_stg15_1 : Ref sig .tc := ⟨.vmem, 21, rfl⟩
abbrev cc0_stg16_0 : Ref sig .tc := ⟨.vmem, 22, rfl⟩
abbrev cc0_stg16_1 : Ref sig .tc := ⟨.vmem, 23, rfl⟩
abbrev cc0_stg17_0 : Ref sig .tc := ⟨.vmem, 24, rfl⟩
abbrev cc0_stg17_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem13_0 : DmaSem sig := 18
abbrev cc0_sem14_0 : DmaSem sig := 19
abbrev cc0_sem15_0 : DmaSem sig := 20
abbrev cc0_sem15_1 : DmaSem sig := 21
abbrev cc0_sem16_0 : DmaSem sig := 22
abbrev cc0_sem16_1 : DmaSem sig := 23
abbrev cc0_sem17_0 : DmaSem sig := 24
abbrev cc0_sem17_1 : DmaSem sig := 25

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x384 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S384x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S384x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128x512 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S512x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x1024 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S512x512 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]
-- ==== MlaPrepIdeal.lean ====
variable {F : FTy → Type} [FloatOps F] [Named F]
def κ : String → Option EReal := fun
  | "inv_qk" => some ((1 / 96 : ℝ) : EReal)
  | _ => none
-- ==== MlaPrepRefIdeal.lean ====
abbrev S32768x384 : Shape := ⟨2, ![32768, 384]⟩
abbrev S32768x128 : Shape := ⟨2, ![32768, 128]⟩
abbrev S32768x32 : Shape := ⟨2, ![32768, 32]⟩
abbrev S32768 : Shape := ⟨1, ![32768]⟩
abbrev S384 : Shape := ⟨1, ![384]⟩
abbrev S384x768 : Shape := ⟨2, ![384, 768]⟩
abbrev S128 : Shape := ⟨1, ![128]⟩
abbrev S128x1024 : Shape := ⟨2, ![128, 1024]⟩
abbrev S96 : Shape := ⟨1, ![96]⟩
abbrev S_ : Shape := ⟨0, ![]⟩
abbrev S32768x1 : Shape := ⟨2, ![32768, 1]⟩
abbrev S1x384 : Shape := ⟨2, ![1, 384]⟩
abbrev S32768x768 : Shape := ⟨2, ![32768, 768]⟩
abbrev S32768x8x96 : Shape := ⟨3, ![32768, 8, 96]⟩
abbrev S1x128 : Shape := ⟨2, ![1, 128]⟩
abbrev S32768x1024 : Shape := ⟨2, ![32768, 1024]⟩
abbrev S32768x8x128 : Shape := ⟨3, ![32768, 8, 128]⟩
abbrev S32768x8x64 : Shape := ⟨3, ![32768, 8, 64]⟩
abbrev S32768x1x32 : Shape := ⟨3, ![32768, 1, 32]⟩
abbrev S32768x8x32 : Shape := ⟨3, ![32768, 8, 32]⟩
abbrev S32768x8 : Shape := ⟨2, ![32768, 8]⟩
abbrev S32768x8x1 : Shape := ⟨3, ![32768, 8, 1]⟩
abbrev S1x1x96 : Shape := ⟨3, ![1, 1, 96]⟩
abbrev S16 : Shape := ⟨1, ![16]⟩
abbrev S1x16 : Shape := ⟨2, ![1, 16]⟩
abbrev S32768x16 : Shape := ⟨2, ![32768, 16]⟩
abbrev S32768x1x16 : Shape := ⟨3, ![32768, 1, 16]⟩
abbrev S32768x8x16 : Shape := ⟨3, ![32768, 8, 16]⟩
abbrev S32768x512 : Shape := ⟨2, ![32768, 512]⟩

abbrev nBuf : Space → Nat
  | .hbm => 178
  | .vmem => 0
  | .smem => 0
  | _ => 0

abbrev hbmTy0_0 (i : Nat) : BufTy := match i % 128 with
  | 0 => ⟨S32768x384, .f32⟩
  | 1 => ⟨S32768x128, .f32⟩
  | 2 => ⟨S32768x32, .f32⟩
  | 3 => ⟨S32768, .i32⟩
  | 4 => ⟨S384, .f32⟩
  | 5 => ⟨S384x768, .f32⟩
  | 6 => ⟨S128, .f32⟩
  | 7 => ⟨S128x1024, .f32⟩
  | 8 => ⟨S96, .f32⟩
  | 9 => ⟨S96, .f32⟩
  | 10 => ⟨S32768x384, .f32⟩
  | 11 => ⟨S_, .f32⟩
  | 12 => ⟨S32768, .f32⟩
  | 13 => ⟨S32768x1, .f32⟩
  | 14 => ⟨S_, .f32⟩
  | 15 => ⟨S32768x1, .f32⟩
  | 16 => ⟨S32768x1, .f32⟩
  | 17 => ⟨S_, .f32⟩
  | 18 => ⟨S32768x1, .f32⟩
  | 19 => ⟨S32768x1, .f32⟩
  | 20 => ⟨S32768x1, .f32⟩
  | 21 => ⟨S32768x384, .f32⟩
  | 22 => ⟨S32768x384, .f32⟩
  | 23 => ⟨S1x384, .f32⟩
  | 24 => ⟨S32768x384, .f32⟩
  | 25 => ⟨S32768x384, .f32⟩
  | 26 => ⟨S32768x768, .f32⟩
  | 27 => ⟨S32768x8x96, .f32⟩
  | 28 => ⟨S32768x128, .f32⟩
  | 29 => ⟨S_, .f32⟩
  | 30 => ⟨S32768, .f32⟩
  | 31 => ⟨S32768x1, .f32⟩
  | 32 => ⟨S_, .f32⟩
  | 33 => ⟨S32768x1, .f32⟩
  | 34 => ⟨S32768x1, .f32⟩
  | 35 => ⟨S_, .f32⟩
  | 36 => ⟨S32768x1, .f32⟩
  | 37 => ⟨S32768x1, .f32⟩
  | 38 => ⟨S32768x1, .f32⟩
  | 39 => ⟨S32768x128, .f32⟩
  | 40 => ⟨S32768x128, .f32⟩
  | 41 => ⟨S1x128, .f32⟩
  | 42 => ⟨S32768x128, .f32⟩
  | 43 => ⟨S32768x128, .f32⟩
  | 44 => ⟨S32768x1024, .f32⟩
  | 45 => ⟨S32768x8x128, .f32⟩
  | 46 => ⟨S32768x8x64, .f32⟩
  | 47 => ⟨S32768x8x64, .f32⟩
  | 48 => ⟨S32768x1x32, .f32⟩
  | 49 => ⟨S32768x8x32, .f32⟩
  | 50 => ⟨S32768x8x96, .f32⟩
  | 51 => ⟨S_, .f32⟩
  | 52 => ⟨S32768x8, .f32⟩
  | 53 => ⟨S32768x8x1, .f32⟩
  | 54 => ⟨S_, .f32⟩
  | 55 => ⟨S32768x8x1, .f32⟩
  | 56 => ⟨S32768x8x1, .f32⟩
  | 57 => ⟨S_, .f32⟩
  | 58 => ⟨S32768x8x1, .f32⟩
  | 59 => ⟨S32768x8x1, .f32⟩
  | 60 => ⟨S32768x8x1, .f32⟩
  | 61 => ⟨S32768x8x96, .f32⟩
  | 62 => ⟨S32768x8x96, .f32⟩
  | 63 => ⟨S1x1x96, .f32⟩
  | 64 => ⟨S32768x8x96, .f32⟩
  | 65 => ⟨S32768x8x96, .f32⟩
  | 66 => ⟨S32768x8x96, .f32⟩
  | 67 => ⟨S32768x8x96, .f32⟩
  | 68 => ⟨S_, .f32⟩
  | 69 => ⟨S32768x8, .f32⟩
  | 70 => ⟨S32768x8x1, .f32⟩
  | 71 => ⟨S_, .f32⟩
  | 72 => ⟨S32768x8x1, .f32⟩
  | 73 => ⟨S32768x8x1, .f32⟩
  | 74 => ⟨S_, .f32⟩
  | 75 => ⟨S32768x8x1, .f32⟩
  | 76 => ⟨S32768x8x1, .f32⟩
  | 77 => ⟨S32768x8x1, .f32⟩
  | 78 => ⟨S32768x8x96, .f32⟩
  | 79 => ⟨S32768x8x96, .f32⟩
  | 80 => ⟨S1x1x96, .f32⟩
  | 81 => ⟨S32768x8x96, .f32⟩
  | 82 => ⟨S32768x8x96, .f32⟩
  | 83 => ⟨S32768x8x64, .f32⟩
  | 84 => ⟨S32768x8x32, .f32⟩
  | 85 => ⟨S16, .f32⟩
  | 86 => ⟨S_, .f32⟩
  | 87 => ⟨S16, .f32⟩
  | 88 => ⟨S16, .f32⟩
  | 89 => ⟨S_, .f32⟩
  | 90 => ⟨S16, .f32⟩
  | 91 => ⟨S16, .f32⟩
  | 92 => ⟨S16, .f32⟩
  | 93 => ⟨S_, .f32⟩
  | 94 => ⟨S16, .f32⟩
  | 95 => ⟨S16, .f32⟩
  | 96 => ⟨S_, .f32⟩
  | 97 => ⟨S16, .f32⟩
  | 98 => ⟨S16, .f32⟩
  | 99 => ⟨S32768, .f32⟩
  | 100 => ⟨S32768x1, .f32⟩
  | 101 => ⟨S1x16, .f32⟩
  | 102 => ⟨S32768x16, .f32⟩
  | 103 => ⟨S32768x16, .f32⟩
  | 104 => ⟨S32768x16, .f32⟩
  | 105 => ⟨S32768x16, .f32⟩
  | 106 => ⟨S32768x1x16, .f32⟩
  | 107 => ⟨S32768x16, .f32⟩
  | 108 => ⟨S32768x1x16, .f32⟩
  | 109 => ⟨S32768x8x16, .f32⟩
  | 110 => ⟨S32768x8x16, .f32⟩
  | 111 => ⟨S32768x8x16, .f32⟩
  | 112 => ⟨S32768x8x16, .f32⟩
  | 113 => ⟨S32768x8x16, .f32⟩
  | 114 => ⟨S32768x8x16, .f32⟩
  | 115 => ⟨S32768x8x16, .f32⟩
  | 116 => ⟨S32768x8x16, .f32⟩
  | 117 => ⟨S32768x8x16, .f32⟩
  | 118 => ⟨S32768x8x16, .f32⟩
  | 119 => ⟨S32768x8x16, .f32⟩
  | 120 => ⟨S32768x8x16, .f32⟩
  | 121 => ⟨S32768x8x32, .f32⟩
  | 122 => ⟨S32768x8x96, .f32⟩
  | 123 => ⟨S32768x8x64, .f32⟩
  | 124 => ⟨S32768x8x32, .f32⟩
  | 125 => ⟨S16, .f32⟩
  | 126 => ⟨S_, .f32⟩
  | 127 => ⟨S16, .f32⟩
  | _ => ⟨S32768x384, .f32⟩

abbrev hbmTy0_1 (i : Nat) : BufTy := match i % 128 with
  | 0 => ⟨S16, .f32⟩
  | 1 => ⟨S_, .f32⟩
  | 2 => ⟨S16, .f32⟩
  | 3 => ⟨S16, .f32⟩
  | 4 => ⟨S16, .f32⟩
  | 5 => ⟨S_, .f32⟩
  | 6 => ⟨S16, .f32⟩
  | 7 => ⟨S16, .f32⟩
  | 8 => ⟨S_, .f32⟩
  | 9 => ⟨S16, .f32⟩
  | 10 => ⟨S16, .f32⟩
  | 11 => ⟨S32768, .f32⟩
  | 12 => ⟨S32768x1, .f32⟩
  | 13 => ⟨S1x16, .f32⟩
  | 14 => ⟨S32768x16, .f32⟩
  | 15 => ⟨S32768x16, .f32⟩
  | 16 => ⟨S32768x16, .f32⟩
  | 17 => ⟨S32768x16, .f32⟩
  | 18 => ⟨S32768x1x16, .f32⟩
  | 19 => ⟨S32768x16, .f32⟩
  | 20 => ⟨S32768x1x16, .f32⟩
  | 21 => ⟨S32768x8x16, .f32⟩
  | 22 => ⟨S32768x8x16, .f32⟩
  | 23 => ⟨S32768x8x16, .f32⟩
  | 24 => ⟨S32768x8x16, .f32⟩
  | 25 => ⟨S32768x8x16, .f32⟩
  | 26 => ⟨S32768x8x16, .f32⟩
  | 27 => ⟨S32768x8x16, .f32⟩
  | 28 => ⟨S32768x8x16, .f32⟩
  | 29 => ⟨S32768x8x16, .f32⟩
  | 30 => ⟨S32768x8x16, .f32⟩
  | 31 => ⟨S32768x8x16, .f32⟩
  | 32 => ⟨S32768x8x16, .f32⟩
  | 33 => ⟨S32768x8x32, .f32⟩
  | 34 => ⟨S32768x8x96, .f32⟩
  | 35 => ⟨S_, .f32⟩
  | 36 => ⟨S32768x8x96, .f32⟩
  | 37 => ⟨S32768x8x96, .f32⟩
  | 38 => ⟨S_, .i32⟩
  | 39 => ⟨S_, .f32⟩
  | 40 => ⟨S32768x8x128, .f32⟩
  | 41 => ⟨S32768x1024, .f32⟩
  | 42 => ⟨S32768x1024, .bf16⟩
  | 43 => ⟨S_, .i32⟩
  | 44 => ⟨S_, .f32⟩
  | 45 => ⟨S32768x8x128, .f32⟩
  | 46 => ⟨S32768x1024, .f32⟩
  | 47 => ⟨S32768x1024, .bf16⟩
  | 48 => ⟨S32768x512, .f32⟩
  | 49 => ⟨S32768x512, .bf16⟩
  | _ => ⟨S32768x384, .f32⟩

abbrev hbmTy (i : Nat) : BufTy := match i / 128 with
  | 0 => hbmTy0_0 i
  | 1 => hbmTy0_1 i
  | _ => ⟨S32768x384, .f32⟩

abbrev bufTy : (tb : Table) → Fin (tcTables nBuf tb) → BufTy
  | .hbm, ⟨i, _⟩ => hbmTy i
  | _, _ => ⟨S32768x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_cst : Ref sig .tc := ⟨.hbm, 11, rfl⟩
abbrev main_v1 : Ref sig .tc := ⟨.hbm, 12, rfl⟩
abbrev main_v2 : Ref sig .tc := ⟨.hbm, 13, rfl⟩
abbrev main_cst_0 : Ref sig .tc := ⟨.hbm, 14, rfl⟩
abbrev main_v3 : Ref sig .tc := ⟨.hbm, 15, rfl⟩
abbrev main_v4 : Ref sig .tc := ⟨.hbm, 16, rfl⟩
abbrev main_cst_1 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst_2 : Ref sig .tc := ⟨.hbm, 29, rfl⟩
abbrev main_v16 : Ref sig .tc := ⟨.hbm, 30, rfl⟩
abbrev main_v17 : Ref sig .tc := ⟨.hbm, 31, rfl⟩
abbrev main_cst_3 : Ref sig .tc := ⟨.hbm, 32, rfl⟩
abbrev main_v18 : Ref sig .tc := ⟨.hbm, 33, rfl⟩
abbrev main_v19 : Ref sig .tc := ⟨.hbm, 34, rfl⟩
abbrev main_cst_4 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_cst_5 : Ref sig .tc := ⟨.hbm, 51, rfl⟩
abbrev main_v35 : Ref sig .tc := ⟨.hbm, 52, rfl⟩
abbrev main_v36 : Ref sig .tc := ⟨.hbm, 53, rfl⟩
abbrev main_cst_6 : Ref sig .tc := ⟨.hbm, 54, rfl⟩
abbrev main_v37 : Ref sig .tc := ⟨.hbm, 55, rfl⟩
abbrev main_v38 : Ref sig .tc := ⟨.hbm, 56, rfl⟩
abbrev main_cst_7 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_cst_8 : Ref sig .tc := ⟨.hbm, 68, rfl⟩
abbrev main_v49 : Ref sig .tc := ⟨.hbm, 69, rfl⟩
abbrev main_v50 : Ref sig .tc := ⟨.hbm, 70, rfl⟩
abbrev main_cst_9 : Ref sig .tc := ⟨.hbm, 71, rfl⟩
abbrev main_v51 : Ref sig .tc := ⟨.hbm, 72, rfl⟩
abbrev main_v52 : Ref sig .tc := ⟨.hbm, 73, rfl⟩
abbrev main_cst_10 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_cst_11 : Ref sig .tc := ⟨.hbm, 86, rfl⟩
abbrev main_v64 : Ref sig .tc := ⟨.hbm, 87, rfl⟩
abbrev main_v65 : Ref sig .tc := ⟨.hbm, 88, rfl⟩
abbrev main_cst_12 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_cst_13 : Ref sig .tc := ⟨.hbm, 93, rfl⟩
abbrev main_v69 : Ref sig .tc := ⟨.hbm, 94, rfl⟩
abbrev main_v70 : Ref sig .tc := ⟨.hbm, 95, rfl⟩
abbrev main_cst_14 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev main_v90 : Ref sig .tc := ⟨.hbm, 116, rfl⟩
abbrev main_v91 : Ref sig .tc := ⟨.hbm, 117, rfl⟩
abbrev main_v92 : Ref sig .tc := ⟨.hbm, 118, rfl⟩
abbrev main_v93 : Ref sig .tc := ⟨.hbm, 119, rfl⟩
abbrev main_v94 : Ref sig .tc := ⟨.hbm, 120, rfl⟩
abbrev main_v95 : Ref sig .tc := ⟨.hbm, 121, rfl⟩
abbrev main_v96 : Ref sig .tc := ⟨.hbm, 122, rfl⟩
abbrev main_v97 : Ref sig .tc := ⟨.hbm, 123, rfl⟩
abbrev main_v98 : Ref sig .tc := ⟨.hbm, 124, rfl⟩
abbrev main_v99 : Ref sig .tc := ⟨.hbm, 125, rfl⟩
abbrev main_cst_15 : Ref sig .tc := ⟨.hbm, 126, rfl⟩
abbrev main_v100 : Ref sig .tc := ⟨.hbm, 127, rfl⟩
abbrev main_v101 : Ref sig .tc := ⟨.hbm, 128, rfl⟩
abbrev main_cst_16 : Ref sig .tc := ⟨.hbm, 129, rfl⟩
abbrev main_v102 : Ref sig .tc := ⟨.hbm, 130, rfl⟩
abbrev main_v103 : Ref sig .tc := ⟨.hbm, 131, rfl⟩
abbrev main_v104 : Ref sig .tc := ⟨.hbm, 132, rfl⟩
abbrev main_cst_17 : Ref sig .tc := ⟨.hbm, 133, rfl⟩
abbrev main_v105 : Ref sig .tc := ⟨.hbm, 134, rfl⟩
abbrev main_v106 : Ref sig .tc := ⟨.hbm, 135, rfl⟩
abbrev main_cst_18 : Ref sig .tc := ⟨.hbm, 136, rfl⟩
abbrev main_v107 : Ref sig .tc := ⟨.hbm, 137, rfl⟩
abbrev main_v108 : Ref sig .tc := ⟨.hbm, 138, rfl⟩
abbrev main_v109 : Ref sig .tc := ⟨.hbm, 139, rfl⟩
abbrev main_v110 : Ref sig .tc := ⟨.hbm, 140, rfl⟩
abbrev main_v111 : Ref sig .tc := ⟨.hbm, 141, rfl⟩
abbrev main_v112 : Ref sig .tc := ⟨.hbm, 142, rfl⟩
abbrev main_v113 : Ref sig .tc := ⟨.hbm, 143, rfl⟩
abbrev main_v114 : Ref sig .tc := ⟨.hbm, 144, rfl⟩
abbrev main_v115 : Ref sig .tc := ⟨.hbm, 145, rfl⟩
abbrev main_v116 : Ref sig .tc := ⟨.hbm, 146, rfl⟩
abbrev main_v117 : Ref sig .tc := ⟨.hbm, 147, rfl⟩
abbrev main_v118 : Ref sig .tc := ⟨.hbm, 148, rfl⟩
abbrev main_v119 : Ref sig .tc := ⟨.hbm, 149, rfl⟩
abbrev main_v120 : Ref sig .tc := ⟨.hbm, 150, rfl⟩
abbrev main_v121 : Ref sig .tc := ⟨.hbm, 151, rfl⟩
abbrev main_v122 : Ref sig .tc := ⟨.hbm, 152, rfl⟩
abbrev main_v123 : Ref sig .tc := ⟨.hbm, 153, rfl⟩
abbrev main_v124 : Ref sig .tc := ⟨.hbm, 154, rfl⟩
abbrev main_v125 : Ref sig .tc := ⟨.hbm, 155, rfl⟩
abbrev main_v126 : Ref sig .tc := ⟨.hbm, 156, rfl⟩
abbrev main_v127 : Ref sig .tc := ⟨.hbm, 157, rfl⟩
abbrev main_v128 : Ref sig .tc := ⟨.hbm, 158, rfl⟩
abbrev main_v129 : Ref sig .tc := ⟨.hbm, 159, rfl⟩
abbrev main_v130 : Ref sig .tc := ⟨.hbm, 160, rfl⟩
abbrev main_v131 : Ref sig .tc := ⟨.hbm, 161, rfl⟩
abbrev main_v132 : Ref sig .tc := ⟨.hbm, 162, rfl⟩
abbrev main_cst_19 : Ref sig .tc := ⟨.hbm, 163, rfl⟩
abbrev main_v133 : Ref sig .tc := ⟨.hbm, 164, rfl⟩
abbrev main_v134 : Ref sig .tc := ⟨.hbm, 165, rfl⟩
abbrev main_c : Ref sig .tc := ⟨.hbm, 166, rfl⟩
abbrev main_call0_v0 : Ref sig .tc := ⟨.hbm, 167, rfl⟩
abbrev main_v135 : Ref sig .tc := ⟨.hbm, 168, rfl⟩
abbrev main_v136 : Ref sig .tc := ⟨.hbm, 169, rfl⟩
abbrev main_v137 : Ref sig .tc := ⟨.hbm, 170, rfl⟩
abbrev main_c_20 : Ref sig .tc := ⟨.hbm, 171, rfl⟩
abbrev main_call1_v0 : Ref sig .tc := ⟨.hbm, 172, rfl⟩
abbrev main_v138 : Ref sig .tc := ⟨.hbm, 173, rfl⟩
abbrev main_v139 : Ref sig .tc := ⟨.hbm, 174, rfl⟩
abbrev main_v140 : Ref sig .tc := ⟨.hbm, 175, rfl⟩
abbrev main_v141 : Ref sig .tc := ⟨.hbm, 176, rfl⟩
abbrev main_v142 : Ref sig .tc := ⟨.hbm, 177, rfl⟩

abbrev nD : Nat := 1
abbrev τ : Topo := Topo.v7x

variable {F : FTy → Type} [FloatOps F]
-- ==== Proof.Plain.RunA.lean ====
/- The body of the kernel's program, run once at a point whose last tile is an even one. -/
module

public import proofs.«01_k».proof.Proof.Gen.Kernel.Frame.Runs

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 0 in
/-- The body's triple IN CASE A (`scf.if` 0 taken, `scf.if` 1 not taken: points 0, 2, … 254: 128 of 256): on whole staging memrefs — the inputs' at their contents,
    the FORGOTTEN outputs' (3) at anything, handed back at some contents nothing names —
    the body runs to the continuation holding the inputs' as they were, the scratch at some contents: the printed functions are their skeletons (`Gen.*_eq_skeleton`),
    which `sl_exec` runs (Lib/Exec.lean) — each `scf.if` decided by the case's hypotheses `hc·`. -/
theorem kernelRun0_A (c : Dev nD) (i : grid0.Coords) (arg3 : Memref sig .tc .vmem S1x256x512 .bf16) (harg3 : arg3.IsWhole) (arg4 : Memref sig .tc .vmem S1x4096x256 .bf16) (harg4 : arg4.IsWhole) (arg5 : Memref sig .tc .vmem S1x128x4096 .bf16) (harg5 : arg5.IsWhole) (arg6 : Memref sig .tc .vmem S1x512x128 .bf16) (harg6 : arg6.IsWhole) (arg7 : Memref sig .tc .vmem S2x512x512 .f32) (harg7 : arg7.IsWhole) (arg8 : Memref sig .tc .vmem S2x512x512 .f32) (harg8 : arg8.IsWhole) (arg9 : Memref sig .tc .vmem S2x1x512 .f32) (harg9 : arg9.IsWhole) (arg10 : Memref sig .tc .vmem S2x1x512 .f32) (harg10 : arg10.IsWhole) (arg11 : Memref sig .tc .vmem S2x128x512 .f32) (harg11 : arg11.IsWhole) (hc0 : cond0_0 i) (hc1 : ¬cond0_1 i)
    (x0 : Vec F S1x256x512 .bf16) (x1 : Vec F S1x4096x256 .bf16) (x2 : Vec F S1x128x4096 .bf16) :
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg3 fullShare x0 ∗ owns (c : Thread nD τ) arg4 fullShare x1 ∗ owns (c : Thread nD τ) arg5 fullShare x2 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)) -∗ K ⟨⟩))
          ⊢ wp frame (wpE (defs₀ (F := F)) Variants.none c none) E (cc0_mla_attn i arg3 harg3 arg4 harg4 arg5 harg5 arg6 harg6 arg7 harg7 arg8 harg8 arg9 harg9 arg10 harg10 arg11 harg11) K := by
    intro E K
    simp only [cc0_mla_attn_eq_skeleton]; unfold cc0_mla_attn_skel
    simp only [k0_part18_eq_skeleton, k0_part19_eq_skeleton, k0_part20_eq_skeleton, k0_part11_eq_skeleton, k0_part12_eq_skeleton]
    unfold owns
    iintro ⟨⟨%f0, %hf0, H0⟩, ⟨%f1, %hf1, H1⟩, ⟨%f2, %hf2, H2⟩, ⟨%d3, %f3, -, H3⟩, ⟨%ds0, %fs0, -, HS0⟩, ⟨%ds1, %fs1, -, HS1⟩, ⟨%ds2, %fs2, -, HS2⟩, ⟨%ds3, %fs3, -, HS3⟩, ⟨%ds4, %fs4, -, HS4⟩, Hk⟩
    obtain rfl := harg3.eq_unread hf0; obtain rfl := harg4.eq_unread hf1; obtain rfl := harg5.eq_unread hf2
    sl_exec (disch := first | sl_exact hc0 | sl_exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _, _; isplitr; swap; · iexact H3
      ipureintro; rfl
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    iexists _, _; isplitr; swap; · iexact HS4
    ipureintro; rfl

end Cert.Kernel.Gen

end
-- ==== Proof.Plain.RunB.lean ====
/- The body of the kernel's program, run once at a point whose last tile is an odd one. -/
module

public import proofs.«01_k».proof.Proof.Plain.RunA

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 0 in
/-- The body's triple IN CASE B (`scf.if` 0 not taken, `scf.if` 1 taken: points 1, 3, … 255: 128 of 256): on whole staging memrefs — the inputs' at their contents,
    the FORGOTTEN outputs' (3) at anything, handed back at some contents nothing names —
    the body runs to the continuation holding the inputs' as they were, the scratch at some contents: the printed functions are their skeletons (`Gen.*_eq_skeleton`),
    which `sl_exec` runs (Lib/Exec.lean) — each `scf.if` decided by the case's hypotheses `hc·`. -/
theorem kernelRun0_B (c : Dev nD) (i : grid0.Coords) (arg3 : Memref sig .tc .vmem S1x256x512 .bf16) (harg3 : arg3.IsWhole) (arg4 : Memref sig .tc .vmem S1x4096x256 .bf16) (harg4 : arg4.IsWhole) (arg5 : Memref sig .tc .vmem S1x128x4096 .bf16) (harg5 : arg5.IsWhole) (arg6 : Memref sig .tc .vmem S1x512x128 .bf16) (harg6 : arg6.IsWhole) (arg7 : Memref sig .tc .vmem S2x512x512 .f32) (harg7 : arg7.IsWhole) (arg8 : Memref sig .tc .vmem S2x512x512 .f32) (harg8 : arg8.IsWhole) (arg9 : Memref sig .tc .vmem S2x1x512 .f32) (harg9 : arg9.IsWhole) (arg10 : Memref sig .tc .vmem S2x1x512 .f32) (harg10 : arg10.IsWhole) (arg11 : Memref sig .tc .vmem S2x128x512 .f32) (harg11 : arg11.IsWhole) (hc0 : ¬cond0_0 i) (hc1 : cond0_1 i)
    (x0 : Vec F S1x256x512 .bf16) (x1 : Vec F S1x4096x256 .bf16) (x2 : Vec F S1x128x4096 .bf16) :
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg3 fullShare x0 ∗ owns (c : Thread nD τ) arg4 fullShare x1 ∗ owns (c : Thread nD τ) arg5 fullShare x2 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)) -∗ K ⟨⟩))
          ⊢ wp frame (wpE (defs₀ (F := F)) Variants.none c none) E (cc0_mla_attn i arg3 harg3 arg4 harg4 arg5 harg5 arg6 harg6 arg7 harg7 arg8 harg8 arg9 harg9 arg10 harg10 arg11 harg11) K := by
    intro E K
    simp only [cc0_mla_attn_eq_skeleton]; unfold cc0_mla_attn_skel
    simp only [k0_part18_eq_skeleton, k0_part19_eq_skeleton, k0_part20_eq_skeleton, k0_part13_eq_skeleton, k0_part14_eq_skeleton, k0_part15_eq_skeleton, k0_part16_eq_skeleton, k0_part17_eq_skeleton]
    unfold owns
    iintro ⟨⟨%f0, %hf0, H0⟩, ⟨%f1, %hf1, H1⟩, ⟨%f2, %hf2, H2⟩, ⟨%d3, %f3, -, H3⟩, ⟨%ds0, %fs0, -, HS0⟩, ⟨%ds1, %fs1, -, HS1⟩, ⟨%ds2, %fs2, -, HS2⟩, ⟨%ds3, %fs3, -, HS3⟩, ⟨%ds4, %fs4, -, HS4⟩, Hk⟩
    obtain rfl := harg3.eq_unread hf0; obtain rfl := harg4.eq_unread hf1; obtain rfl := harg5.eq_unread hf2
    sl_exec (disch := first | sl_exact hc0 | sl_exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _, _; isplitr; swap; · iexact H3
      ipureintro; rfl
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    iexists _, _; isplitr; swap; · iexact HS4
    ipureintro; rfl

end Cert.Kernel.Gen

end
-- ==== Proof.Plain.Frame.lean ====
/- The frame of the kernel's program at any float values: it runs, leaves its arguments as they were, and ends with every
   semaphore counter at zero. -/
module

public import proofs.«01_k».proof.Proof.Plain.RunB
public import Idealize.ShloMosaic.Lib.Claim

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The pipeline's proof data -/

/-- The output windows this certificate FORGETS (3): nothing reads what the kernel leaves in them, so nothing
    of it is named (Lib/Pipeline/Dat.lean `Dat.toRForget`). -/
def forgets0 : Fin 4 → Bool := fun w => w.val == 3

/-- The proof data of the one pipeline on core `c`: the arrays as the region finds them (`V`); after the body at
    point `t` each input's buffer at its block and the outputs, FORGOTTEN, at `Dat.unnamed`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, h⟩ => Pipeline.Dat.unnamed (cfg := cfg0) ⟨3, h⟩ t
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare d))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ (∃ d, owns (c : Thread nD τ) (ms0_3 t) fullShare d))

set_option maxHeartbeats 1600000 in
/-- The body at any point: the inputs' memrefs hold their blocks (`before0_W`); the closed forms say which case the point is in (`by_cases`), an output the case reads before covering holds what the point before left (`before0_W_κ`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2]
  rw [show (dats m 0 c).Φ t.castSucc = Pipeline.ΦA spec0 c from rfl, PhiA0_eq]
  have hN : t.val < 256 := lt_of_lt_of_eq t.isLt (show cfg0.N = 256 from N_0)
  by_cases h0 : t.val % 2 = 0
  · by_cases h1 : t.val % 2 = 1
    · exfalso; omega
    · iintro ⟨⟨⟨HS0, HS1, HS2, HS3, HS4⟩, Hg⟩, Ho, ⟨%d0, H0⟩, ⟨%d1, H1⟩, ⟨%d2, H2⟩, ⟨%d3, H3⟩⟩
      iapply ((kernelRun0_A c (grid0.coords t) _ _ _ _ _ _ _ _ _ _ _ _ _ _ _ _ _ _ ((hcond0_0 t).mpr h0) (fun h => h1 ((hcond0_1 t).mp h)) (iblk m c 0 t) (iblk m c 1 t) (iblk m c 2 t)) Set.univ _)
      isplitl [H0]; · iexact H0
      isplitl [H1]; · iexact H1
      isplitl [H2]; · iexact H2
      isplitl [H3]; · iexists _; iexact H3
      isplitl [HS0]; · iexact HS0
      isplitl [HS1]; · iexact HS1
      isplitl [HS2]; · iexact HS2
      isplitl [HS3]; · iexact HS3
      isplitl [HS4]; · iexact HS4
      iintro ⟨H0, H1, H2, H3, HS0, HS1, HS2, HS3, HS4⟩
      isplitl [HS0 HS1 HS2 HS3 HS4 Hg]
      · isplitl [HS0 HS1 HS2 HS3 HS4]
        · isplitl [HS0]
          · iexact HS0
          isplitl [HS1]
          · iexact HS1
          isplitl [HS2]
          · iexact HS2
          isplitl [HS3]
          · iexact HS3
          iexact HS4
        iexact Hg
      isplitl [Ho]; · iexact Ho
      isplitl [H0]; · iexact H0
      isplitl [H1]; · iexact H1
      isplitl [H2]; · iexact H2
      iexact H3
  · by_cases h1 : t.val % 2 = 1
    · iintro ⟨⟨⟨HS0, HS1, HS2, HS3, HS4⟩, Hg⟩, Ho, ⟨%d0, H0⟩, ⟨%d1, H1⟩, ⟨%d2, H2⟩, ⟨%d3, H3⟩⟩
      iapply ((kernelRun0_B c (grid0.coords t) _ _ _ _ _ _ _ _ _ _ _ _ _ _ _ _ _ _ (fun h => h0 ((hcond0_0 t).mp h)) ((hcond0_1 t).mpr h1) (iblk m c 0 t) (iblk m c 1 t) (iblk m c 2 t)) Set.univ _)
      isplitl [H0]; · iexact H0
      isplitl [H1]; · iexact H1
      isplitl [H2]; · iexact H2
      isplitl [H3]; · iexists _; iexact H3
      isplitl [HS0]; · iexact HS0
      isplitl [HS1]; · iexact HS1
      isplitl [HS2]; · iexact HS2
      isplitl [HS3]; · iexact HS3
      isplitl [HS4]; · iexact HS4
      iintro ⟨H0, H1, H2, H3, HS0, HS1, HS2, HS3, HS4⟩
      isplitl [HS0 HS1 HS2 HS3 HS4 Hg]
      · isplitl [HS0 HS1 HS2 HS3 HS4]
        · isplitl [HS0]
          · iexact HS0
          isplitl [HS1]
          · iexact HS1
          isplitl [HS2]
          · iexact HS2
          isplitl [HS3]
          · iexact HS3
          iexact HS4
        iexact Hg
      isplitl [Ho]; · iexact Ho
      isplitl [H0]; · iexact H0
      isplitl [H1]; · iexact H1
      isplitl [H2]; · iexact H2
      iexact H3
    · exfalso; omega

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

-- `θ_run_frame_forget`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every INPUT array of the pipeline unchanged, nothing stated of the
    FORGOTTEN outputs (window 3) (Lib/Pipeline/Frame.lean `RDat.FramePost` over the proof data with those windows
    forgotten, Dat.lean `Dat.toRForget`), and every other unscoped buffer at its region-entry contents. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c)⟩) (run_main m ρ)

/-- THE FRAME: `Cert.quiescent_Kernel`'s statement (Defs.lean) at any `F` — Proof.lean cites it at `Bits`:
    `theorem Cert.Proof.claim : Cert.Claim := ⟨Cert.Kernel.Gen.facts, fun m ρ _ => Cert.Kernel.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ) ((θ_run defs _ _).mono (fun _ h => h.2) (run_main_quiescent m ρ))

end Cert.Kernel.Gen

end
-- ==== Proof.Attn.Model.lean ====
/- The attention kernel's work as functions on vectors: one tile of scores, one running-softmax update by a tile,
   and the running state after the first tiles. The run of the kernel body (Trip.lean, Body.lean) is stated over
   them, for any float values; what they compute at the exact values is Online.lean's and Value.lean's. -/
module

public import proofs.«01_k».proof.Proof.Gen.KernelIdeal.Skeleton
public import Idealize.ShloMosaic.Lib.VecWindow

@[expose] public section

noncomputable section

namespace Cert.Attn

open Cert.KernelIdeal Cert.KernelIdeal.Gen Idealize.ShloMosaic Idealize.SL.Sem

variable {F : FTy → Type} [FloatOps F] [Named F]

/-- One head's running state for a block of queries: the running maximum, the running sum, the running product. -/
structure St (F : FTy → Type) where
  m : Vec F S1x1x512 .f32
  l : Vec F S1x1x512 .f32
  acc : Vec F S1x128x512 .f32

/-- The state before any key. -/
def St.init : St F where
  m := fun _ => Named.named κ "mask" 0xF149F2CA#32
  l := fun _ => Scalar.ofBits .f32 0x00000000#32
  acc := fun _ => Scalar.ofBits .f32 0x00000000#32

/-- The scores of one tile of keys against the block's queries. -/
abbrev sc (q : FVec F S128x512 .bf16) (kt : Vec F S1x512x128 .bf16) : Vec F S1x512x512 .f32 := k0_pay2 q kt

/-- The positions within a tile: of the key, and of the query. -/
abbrev keyPos : IVec S512x512 32 := iota .tc S512x512 32 [0] iota_S512x512_d0_w32
abbrev qryPos : IVec S512x512 32 := iota .tc S512x512 32 [1] iota_S512x512_d1_w32

/-- The scores of the diagonal tile, masked. -/
abbrev masked (s : Vec F S1x512x512 .f32) : FVec F S512x512 .f32 := k0_pay81 keyPos qryPos s

/-- The running state updated by a tile of scores and the tile's values. -/
def upd (vt : Vec F S1x128x512 .bf16) (s : FVec F S512x512 .f32) (t : St F) : St F where
  m := k0_pay123 s t.m
  l := k0_pay124 s t.m t.l
  acc := k0_pay125 (k0_pay4 vt) s t.m t.acc

/-- An unmasked tile's update. -/
def updFree (vt : Vec F S1x128x512 .bf16) (s : Vec F S1x512x512 .f32) (t : St F) : St F := upd vt (k0_pay5 s) t

/-- The diagonal tile's update. -/
def updDiag (vt : Vec F S1x128x512 .bf16) (s : Vec F S1x512x512 .f32) (t : St F) : St F := upd vt (masked s) t

/-- Tile `j` of the keys of head `a` of the pair. -/
def ktile (x1 : Vec F S1x4096x256 .bf16) (a : Fin 2) (j : ℕ) : Vec F S1x512x128 .bf16 :=
  VecWindow.window x1 ![0, 512 * min j 7, 128 * a.val] S1x512x128.size
    (fun b => by have := a.isLt; fin_cases b <;> simp [Shape.size, S1x512x128, S1x4096x256] <;> omega)

/-- Tile `j` of the values (both heads' rows). -/
def vtile (x2 : Vec F S1x128x4096 .bf16) (j : ℕ) : Vec F S1x128x512 .bf16 :=
  VecWindow.window x2 ![0, 0, 512 * min j 7] S1x128x512.size
    (fun b => by fin_cases b <;> simp [Shape.size, S1x128x512, S1x128x4096] <;> omega)

/-- Head `a`'s block of queries. -/
def qtile (x0 : Vec F S1x256x512 .bf16) (a : Fin 2) : FVec F S128x512 .bf16 :=
  k0_pay134 (VecWindow.window x0 ![0, 128 * a.val, 0] S1x128x512.size
    (fun b => by have := a.isLt; fin_cases b <;> simp [Shape.size, S1x128x512, S1x256x512] <;> omega))

/-- Head `a`'s scores of tile `j`. -/
def scT (q : FVec F S128x512 .bf16) (x1 : Vec F S1x4096x256 .bf16) (a : Fin 2) (j : ℕ) : Vec F S1x512x512 .f32 :=
  sc q (ktile x1 a j)

/-- Head `a`'s state after the first `n` tiles, none of them masked. -/
def state (q : FVec F S128x512 .bf16) (x1 : Vec F S1x4096x256 .bf16) (x2 : Vec F S1x128x4096 .bf16) (a : Fin 2) : ℕ → St F
  | 0 => St.init
  | n + 1 => updFree (vtile x2 n) (scT q x1 a n) (state q x1 x2 a n)

/-- Head `a`'s state after the tiles before the diagonal and the diagonal tile `n`, masked. -/
def fin (q : FVec F S128x512 .bf16) (x1 : Vec F S1x4096x256 .bf16) (x2 : Vec F S1x128x4096 .bf16) (a : Fin 2) (n : ℕ) : St F :=
  updDiag (vtile x2 n) (scT q x1 a n) (state q x1 x2 a n)

/-- The output block at the diagonal tile `n`. -/
def outBlk (x0 : Vec F S1x256x512 .bf16) (x1 : Vec F S1x4096x256 .bf16) (x2 : Vec F S1x128x4096 .bf16) (n : ℕ) : Vec F S1x512x128 .bf16 :=
  k0_pay1 (k0_pay146) (k0_pay147 (fin (qtile x0 0) x1 x2 0 n).acc (fin (qtile x0 0) x1 x2 0 n).l)
    (k0_pay148 (fin (qtile x0 1) x1 x2 1 n).acc (fin (qtile x0 1) x1 x2 1 n).l)

end Cert.Attn

end
-- ==== Proof.Attn.Slices.lean ====
/- A buffer of two halves, stored and loaded half by half: what a load of one half reads after the stores. -/
module

public import Idealize.ShloMosaic.Lib.VecWindow

@[expose] public section

noncomputable section

namespace Cert.Attn

open Idealize.ShloMosaic

variable {sig : RefSig} {κ : Kind} {sp : Space} {s : Shape} {e : EltTy} {Val : EltTy → Type}

/-- A load of the rectangle stored last reads the payload. -/
theorem readAt_same (v : View sig κ sp s e) (f : v.ty.Contents Val) {off size : Fin s.rank → ℕ} (inb inb' : ∀ a, off a + size a ≤ s.size a)
    (w : (Rect.unit off size inb').shape.Idx → Val e) (L : List (View.Piece Val s e)) :
    v.readAt Val (Rect.unit off size inb).toLoadRect (v.writes Val f (⟨Rect.unit off size inb', w⟩ :: L)) = w := by
  rw [View.readAt_unit v _ inb rfl inb, View.read_writes_cons_put v f inb' w L rfl]
  exact VecWindow.window_put_same _ _ _ _ _

/-- A load of a rectangle that the last store missed reads what was there before that store. -/
theorem readAt_skip (v : View sig κ sp s e) (f : v.ty.Contents Val) {off off' size size' : Fin s.rank → ℕ} (inb : ∀ a, off a + size a ≤ s.size a)
    (inb' : ∀ a, off' a + size' a ≤ s.size a) (w : (Rect.unit off' size' inb').shape.Idx → Val e) (L : List (View.Piece Val s e))
    (a : Fin s.rank) (ha : off a + size a ≤ off' a ∨ off' a + size' a ≤ off a) :
    v.readAt Val (Rect.unit off size inb).toLoadRect (v.writes Val f (⟨Rect.unit off' size' inb', w⟩ :: L))
      = v.readAt Val (Rect.unit off size inb).toLoadRect (v.writes Val f L) := by
  rw [View.readAt_unit v _ inb rfl inb, View.readAt_unit v _ inb rfl inb, View.read_writes_cons_put v f inb' w L rfl]
  exact VecWindow.window_put_of_disjoint _ _ _ _ _ _ _ a ha

/-- A load from a buffer stored whole with one value reads that value. -/
theorem readAt_const (v : View sig κ sp s e) (f : v.ty.Contents Val) {off off' size : Fin s.rank → ℕ} (inb : ∀ a, off a + size a ≤ s.size a)
    (inb' : ∀ a, off' a + s.size a ≤ s.size a) (w : (Rect.unit off' s.size inb').shape.Idx → Val e) (L : List (View.Piece Val s e)) (z : Val e)
    (hw : w = fun _ => z) :
    v.readAt Val (Rect.unit off size inb).toLoadRect (v.writes Val f (⟨Rect.unit off' s.size inb', w⟩ :: L)) = fun _ => z := by
  subst hw
  rw [View.readAt_unit v _ inb rfl inb, View.read_writes_full]
  rfl

end Cert.Attn

end
-- ==== Proof.Attn.Trip.lean ====
/- The kernel's loop over pairs of tiles. One trip moves the running states of the two heads by two unmasked tiles and
   leaves the next tile's scores in the first score buffer; so the loop leaves the state after twice its trips. Stated
   for any float values, over the pieces that the run of the loop writes. -/
module

public import proofs.«01_k».proof.Proof.Gen.KernelIdeal.Frame.Runs
public import proofs.«01_k».proof.Proof.Attn.Model
public import proofs.«01_k».proof.Proof.Attn.Slices

@[expose] public section

set_option maxRecDepth 16384

noncomputable section

namespace Cert.Attn

open Cert.KernelIdeal Cert.KernelIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-- The number of trips is half the block's number, rounded down. -/
theorem trips_eq (i : grid0.Coords) : (k0_t1_loop i).trips = (i 2).val / 2 := by
  unfold k0_t1_loop
  generalize i 2 = n
  revert n
  decide +kernel

theorem off1_eq (i : grid0.Coords) (k : Fin (k0_t1_loop i).trips) (r : Fin 2) :
    k0_off1 i k (BitVec.ofNat 32 (1 + r.val)) = ![0, 512 * min (2 * k.val + (1 + r.val)) 7, 128 * (0 : Fin 2).val] := by
  obtain ⟨k, hk⟩ := k
  have h3 : k < 3 := lt_of_lt_of_le hk (k0_t1_abs i).2.1
  unfold k0_off1
  dsimp only
  clear hk
  interval_cases k <;> fin_cases r <;> decide +kernel

theorem off2_eq (i : grid0.Coords) (k : Fin (k0_t1_loop i).trips) (r : Fin 2) :
    k0_off2 i k (BitVec.ofNat 32 (1 + r.val)) = ![0, 512 * min (2 * k.val + (1 + r.val)) 7, 128 * (1 : Fin 2).val] := by
  obtain ⟨k, hk⟩ := k
  have h3 : k < 3 := lt_of_lt_of_le hk (k0_t1_abs i).2.1
  unfold k0_off2
  dsimp only
  clear hk
  interval_cases k <;> fin_cases r <;> decide +kernel

theorem off3_eq (i : grid0.Coords) (k : Fin (k0_t1_loop i).trips) :
    k0_off3 i k = ![0, 0, 512 * min (2 * k.val) 7] := by
  obtain ⟨k, hk⟩ := k
  have h3 : k < 3 := lt_of_lt_of_le hk (k0_t1_abs i).2.1
  unfold k0_off3
  dsimp only
  clear hk
  interval_cases k <;> decide +kernel

theorem off4_eq (i : grid0.Coords) (k : Fin (k0_t1_loop i).trips) :
    k0_off4 i k = ![0, 0, 512 * min (2 * k.val + 1) 7] := by
  obtain ⟨k, hk⟩ := k
  have h3 : k < 3 := lt_of_lt_of_le hk (k0_t1_abs i).2.1
  unfold k0_off4
  dsimp only
  clear hk
  interval_cases k <;> decide +kernel

/-- A buffer of two halves at contents whose halves read `x` and `y`. -/
abbrev Halves3 {sp : Space} {e : EltTy} {s : Shape} (v : View sig .tc sp s e) (size : Fin s.rank → ℕ) (o0 o1 : Fin s.rank → ℕ)
    (i0 : ∀ a, o0 a + size a ≤ s.size a) (i1 : ∀ a, o1 a + size a ≤ s.size a) (f : v.ty.Contents (Elt F))
    (x : (Rect.unit o0 size i0).shape.Idx → Elt F e) (y : (Rect.unit o1 size i1).shape.Idx → Elt F e) : Prop :=
  v.readAt (Elt F) (Rect.unit o0 size i0).toLoadRect f = x ∧ v.readAt (Elt F) (Rect.unit o1 size i1).toLoadRect f = y

abbrev HalvesS (v : View sig .tc .vmem S2x512x512 .f32) (f : v.ty.Contents (Elt F)) (x y : Vec F S1x512x512 .f32) : Prop :=
  Halves3 v S1x512x512.size ![0, 0, 0] ![1, 0, 0] inb_S2x512x512_S1x512x512_0_0_0 inb_S2x512x512_S1x512x512_1_0_0 f x y
abbrev HalvesM (v : View sig .tc .vmem S2x1x512 .f32) (f : v.ty.Contents (Elt F)) (x y : Vec F S1x1x512 .f32) : Prop :=
  Halves3 v S1x1x512.size ![0, 0, 0] ![1, 0, 0] inb_S2x1x512_S1x1x512_0_0_0 inb_S2x1x512_S1x1x512_1_0_0 f x y
abbrev HalvesA (v : View sig .tc .vmem S2x128x512 .f32) (f : v.ty.Contents (Elt F)) (x y : Vec F S1x128x512 .f32) : Prop :=
  Halves3 v S1x128x512.size ![0, 0, 0] ![1, 0, 0] inb_S2x128x512_S1x128x512_0_0_0 inb_S2x128x512_S1x128x512_1_0_0 f x y

/-- Loading one half after a store to the other. -/
theorem skipS0 (v : View sig .tc .vmem S2x512x512 .f32) (f : v.ty.Contents (Elt F)) (i0 i1) (w) (L : List (View.Piece (Elt F) S2x512x512 .f32)) :
    v.readAt (Elt F) (Rect.unit (s := S2x512x512) ![0, 0, 0] ![1, 512, 512] i0).toLoadRect (v.writes (Elt F) f (⟨Rect.unit (s := S2x512x512) ![1, 0, 0] ![1, 512, 512] i1, w⟩ :: L))
      = v.readAt (Elt F) (Rect.unit (s := S2x512x512) ![0, 0, 0] ![1, 512, 512] i0).toLoadRect (v.writes (Elt F) f L) :=
  readAt_skip v f i0 i1 w L (0 : Fin 3) (Or.inl (by decide))
theorem skipS1 (v : View sig .tc .vmem S2x512x512 .f32) (f : v.ty.Contents (Elt F)) (i0 i1) (w) (L : List (View.Piece (Elt F) S2x512x512 .f32)) :
    v.readAt (Elt F) (Rect.unit (s := S2x512x512) ![1, 0, 0] ![1, 512, 512] i1).toLoadRect (v.writes (Elt F) f (⟨Rect.unit (s := S2x512x512) ![0, 0, 0] ![1, 512, 512] i0, w⟩ :: L))
      = v.readAt (Elt F) (Rect.unit (s := S2x512x512) ![1, 0, 0] ![1, 512, 512] i1).toLoadRect (v.writes (Elt F) f L) :=
  readAt_skip v f i1 i0 w L (0 : Fin 3) (Or.inr (by decide))
theorem skipM0 (v : View sig .tc .vmem S2x1x512 .f32) (f : v.ty.Contents (Elt F)) (i0 i1) (w) (L : List (View.Piece (Elt F) S2x1x512 .f32)) :
    v.readAt (Elt F) (Rect.unit (s := S2x1x512) ![0, 0, 0] ![1, 1, 512] i0).toLoadRect (v.writes (Elt F) f (⟨Rect.unit (s := S2x1x512) ![1, 0, 0] ![1, 1, 512] i1, w⟩ :: L))
      = v.readAt (Elt F) (Rect.unit (s := S2x1x512) ![0, 0, 0] ![1, 1, 512] i0).toLoadRect (v.writes (Elt F) f L) :=
  readAt_skip v f i0 i1 w L (0 : Fin 3) (Or.inl (by decide))
theorem skipM1 (v : View sig .tc .vmem S2x1x512 .f32) (f : v.ty.Contents (Elt F)) (i0 i1) (w) (L : List (View.Piece (Elt F) S2x1x512 .f32)) :
    v.readAt (Elt F) (Rect.unit (s := S2x1x512) ![1, 0, 0] ![1, 1, 512] i1).toLoadRect (v.writes (Elt F) f (⟨Rect.unit (s := S2x1x512) ![0, 0, 0] ![1, 1, 512] i0, w⟩ :: L))
      = v.readAt (Elt F) (Rect.unit (s := S2x1x512) ![1, 0, 0] ![1, 1, 512] i1).toLoadRect (v.writes (Elt F) f L) :=
  readAt_skip v f i1 i0 w L (0 : Fin 3) (Or.inr (by decide))
theorem skipA0 (v : View sig .tc .vmem S2x128x512 .f32) (f : v.ty.Contents (Elt F)) (i0 i1) (w) (L : List (View.Piece (Elt F) S2x128x512 .f32)) :
    v.readAt (Elt F) (Rect.unit (s := S2x128x512) ![0, 0, 0] ![1, 128, 512] i0).toLoadRect (v.writes (Elt F) f (⟨Rect.unit (s := S2x128x512) ![1, 0, 0] ![1, 128, 512] i1, w⟩ :: L))
      = v.readAt (Elt F) (Rect.unit (s := S2x128x512) ![0, 0, 0] ![1, 128, 512] i0).toLoadRect (v.writes (Elt F) f L) :=
  readAt_skip v f i0 i1 w L (0 : Fin 3) (Or.inl (by decide))
theorem skipA1 (v : View sig .tc .vmem S2x128x512 .f32) (f : v.ty.Contents (Elt F)) (i0 i1) (w) (L : List (View.Piece (Elt F) S2x128x512 .f32)) :
    v.readAt (Elt F) (Rect.unit (s := S2x128x512) ![1, 0, 0] ![1, 128, 512] i1).toLoadRect (v.writes (Elt F) f (⟨Rect.unit (s := S2x128x512) ![0, 0, 0] ![1, 128, 512] i0, w⟩ :: L))
      = v.readAt (Elt F) (Rect.unit (s := S2x128x512) ![1, 0, 0] ![1, 128, 512] i1).toLoadRect (v.writes (Elt F) f L) :=
  readAt_skip v f i1 i0 w L (0 : Fin 3) (Or.inr (by decide))

/-- Nothing written yet. -/
theorem writes_nil {sp : Space} {e : EltTy} {s : Shape} (v : View sig .tc sp s e) (f : v.ty.Contents (Elt F)) : v.writes (Elt F) f [] = f := rfl

theorem read_k1 {i : grid0.Coords} {k : Fin (k0_t1_loop i).trips} (r : Fin 2) (inb) (v : View sig .tc .vmem S1x4096x256 .bf16) (f : v.ty.Contents (Elt F)) :
    v.readAt (Elt F) (Rect.unit (s := S1x4096x256) (k0_off1 i k (BitVec.ofNat 32 (1 + r.val))) S1x512x128.size inb).toLoadRect f = ktile (v.read (Elt F) f) 0 (2 * k.val + (1 + r.val)) :=
  View.readAt_unit v f inb (off1_eq i k r) _

theorem read_k2 {i : grid0.Coords} {k : Fin (k0_t1_loop i).trips} (r : Fin 2) (inb) (v : View sig .tc .vmem S1x4096x256 .bf16) (f : v.ty.Contents (Elt F)) :
    v.readAt (Elt F) (Rect.unit (s := S1x4096x256) (k0_off2 i k (BitVec.ofNat 32 (1 + r.val))) S1x512x128.size inb).toLoadRect f = ktile (v.read (Elt F) f) 1 (2 * k.val + (1 + r.val)) :=
  View.readAt_unit v f inb (off2_eq i k r) _

theorem read_v3 {i : grid0.Coords} {k : Fin (k0_t1_loop i).trips} (inb) (v : View sig .tc .vmem S1x128x4096 .bf16) (f : v.ty.Contents (Elt F)) :
    v.readAt (Elt F) (Rect.unit (s := S1x128x4096) (k0_off3 i k) S1x128x512.size inb).toLoadRect f = vtile (v.read (Elt F) f) (2 * k.val) :=
  View.readAt_unit v f inb (off3_eq i k) _

theorem read_v4 {i : grid0.Coords} {k : Fin (k0_t1_loop i).trips} (inb) (v : View sig .tc .vmem S1x128x4096 .bf16) (f : v.ty.Contents (Elt F)) :
    v.readAt (Elt F) (Rect.unit (s := S1x128x4096) (k0_off4 i k) S1x128x512.size inb).toLoadRect f = vtile (v.read (Elt F) f) (2 * k.val + 1) :=
  View.readAt_unit v f inb (off4_eq i k) _

/-- What the scratch buffers read after the first `n` tiles. -/
def Holds (q0 q1 : FVec F S128x512 .bf16) (x1 : Vec F S1x4096x256 .bf16) (x2 : Vec F S1x128x4096 .bf16)
    (v7 : View sig .tc .vmem S2x512x512 .f32) (v9 v10 : View sig .tc .vmem S2x1x512 .f32) (v11 : View sig .tc .vmem S2x128x512 .f32)
    (f7 : v7.ty.Contents (Elt F)) (f9 : v9.ty.Contents (Elt F)) (f10 : v10.ty.Contents (Elt F)) (f11 : v11.ty.Contents (Elt F)) (n : ℕ) : Prop :=
  HalvesS v7 f7 (scT q0 x1 0 n) (scT q1 x1 1 n)
    ∧ HalvesM v9 f9 (state q0 x1 x2 0 n).m (state q1 x1 x2 1 n).m
    ∧ HalvesM v10 f10 (state q0 x1 x2 0 n).l (state q1 x1 x2 1 n).l
    ∧ HalvesA v11 f11 (state q0 x1 x2 0 n).acc (state q1 x1 x2 1 n).acc

set_option maxHeartbeats 0 in
/-- ONE TRIP: from the state after `2 k` tiles to the state after `2 (k + 1)`. -/
theorem trip_holds (𝒱 : Variants) (c : Dev nD) (bd : Option 𝒱.V) (i : grid0.Coords) (arg3 : Memref sig .tc .vmem S1x256x512 .bf16) (harg3 : arg3.IsWhole) (arg4 : Memref sig .tc .vmem S1x4096x256 .bf16) (harg4 : arg4.IsWhole) (arg5 : Memref sig .tc .vmem S1x128x4096 .bf16) (harg5 : arg5.IsWhole) (arg6 : Memref sig .tc .vmem S1x512x128 .bf16) (harg6 : arg6.IsWhole) (arg7 : Memref sig .tc .vmem S2x512x512 .f32) (harg7 : arg7.IsWhole) (arg8 : Memref sig .tc .vmem S2x512x512 .f32) (harg8 : arg8.IsWhole) (arg9 : Memref sig .tc .vmem S2x1x512 .f32) (harg9 : arg9.IsWhole) (arg10 : Memref sig .tc .vmem S2x1x512 .f32) (harg10 : arg10.IsWhole) (arg11 : Memref sig .tc .vmem S2x128x512 .f32) (harg11 : arg11.IsWhole)
    (arg2 : BitVec 32) (q0 q1 : FVec F S128x512 .bf16) (x1 : Vec F S1x4096x256 .bf16) (x2 : Vec F S1x128x4096 .bf16)
    (f4 : arg4.view.ty.Contents (Elt F)) (f5 : arg5.view.ty.Contents (Elt F))
    (h4 : arg4.view.read (Elt F) f4 = x1) (h5 : arg5.view.read (Elt F) f5 = x2) (k : Fin (k0_t1_loop i).trips)
    (f7 : arg7.view.ty.Contents (Elt F)) (f8 : arg8.view.ty.Contents (Elt F)) (f9 : arg9.view.ty.Contents (Elt F))
    (f10 : arg10.view.ty.Contents (Elt F)) (f11 : arg11.view.ty.Contents (Elt F))
    (H : Holds q0 q1 x1 x2 arg7.view arg9.view arg10.view arg11.view f7 f9 f10 f11 (2 * k.val)) :
    Holds q0 q1 x1 x2 arg7.view arg9.view arg10.view arg11.view
      (arg7.view.writes (Elt F) f7 (tripL_k0_t1 (F := F) 𝒱 c bd i arg3 harg3 arg4 harg4 arg5 harg5 arg6 harg6 arg7 harg7 arg8 harg8 arg9 harg9 arg10 harg10 arg11 harg11 arg2 q0 q1 f4 f5 k f7 f8 f9 f10 f11).1)
      (arg9.view.writes (Elt F) f9 (tripL_k0_t1 (F := F) 𝒱 c bd i arg3 harg3 arg4 harg4 arg5 harg5 arg6 harg6 arg7 harg7 arg8 harg8 arg9 harg9 arg10 harg10 arg11 harg11 arg2 q0 q1 f4 f5 k f7 f8 f9 f10 f11).2.2.1)
      (arg10.view.writes (Elt F) f10 (tripL_k0_t1 (F := F) 𝒱 c bd i arg3 harg3 arg4 harg4 arg5 harg5 arg6 harg6 arg7 harg7 arg8 harg8 arg9 harg9 arg10 harg10 arg11 harg11 arg2 q0 q1 f4 f5 k f7 f8 f9 f10 f11).2.2.2.1)
      (arg11.view.writes (Elt F) f11 (tripL_k0_t1 (F := F) 𝒱 c bd i arg3 harg3 arg4 harg4 arg5 harg5 arg6 harg6 arg7 harg7 arg8 harg8 arg9 harg9 arg10 harg10 arg11 harg11 arg2 q0 q1 f4 f5 k f7 f8 f9 f10 f11).2.2.2.2) (2 * (k.val + 1)) := by
  obtain ⟨⟨h7a, h7b⟩, ⟨h9a, h9b⟩, ⟨h10a, h10b⟩, ⟨h11a, h11b⟩⟩ := H
  have hn : 2 * (k.val + 1) = 2 * k.val + 1 + 1 := by omega
  rw [hn]
  have hk10 : ∀ inb, arg4.view.readAt (Elt F) (Rect.unit (s := S1x4096x256) (k0_off1 i k 1#32) S1x512x128.size inb).toLoadRect f4 = ktile x1 0 (2 * k.val + 1) :=
    fun inb => h4 ▸ read_k1 (i := i) (k := k) 0 inb arg4.view f4
  have hk11 : ∀ inb, arg4.view.readAt (Elt F) (Rect.unit (s := S1x4096x256) (k0_off1 i k 2#32) S1x512x128.size inb).toLoadRect f4 = ktile x1 0 (2 * k.val + 2) :=
    fun inb => h4 ▸ read_k1 (i := i) (k := k) 1 inb arg4.view f4
  have hk20 : ∀ inb, arg4.view.readAt (Elt F) (Rect.unit (s := S1x4096x256) (k0_off2 i k 1#32) S1x512x128.size inb).toLoadRect f4 = ktile x1 1 (2 * k.val + 1) :=
    fun inb => h4 ▸ read_k2 (i := i) (k := k) 0 inb arg4.view f4
  have hk21 : ∀ inb, arg4.view.readAt (Elt F) (Rect.unit (s := S1x4096x256) (k0_off2 i k 2#32) S1x512x128.size inb).toLoadRect f4 = ktile x1 1 (2 * k.val + 2) :=
    fun inb => h4 ▸ read_k2 (i := i) (k := k) 1 inb arg4.view f4
  have hv3 : ∀ inb, arg5.view.readAt (Elt F) (Rect.unit (s := S1x128x4096) (k0_off3 i k) S1x128x512.size inb).toLoadRect f5 = vtile x2 (2 * k.val) :=
    fun inb => h5 ▸ read_v3 (i := i) (k := k) inb arg5.view f5
  have hv4 : ∀ inb, arg5.view.readAt (Elt F) (Rect.unit (s := S1x128x4096) (k0_off4 i k) S1x128x512.size inb).toLoadRect f5 = vtile x2 (2 * k.val + 1) :=
    fun inb => h5 ▸ read_v4 (i := i) (k := k) inb arg5.view f5
  dsimp (config := { proj := false }) only [tripL_k0_t1]
  delta trip_k0_t1
  dsimp only
  delta trip_k0_t1.sl.HW_arg10_2 trip_k0_t1.sl.HW_arg10_3 trip_k0_t1.sl.HW_arg11_2 trip_k0_t1.sl.HW_arg11_3 trip_k0_t1.sl.HW_arg8_2 trip_k0_t1.sl.HW_arg9_2 trip_k0_t1.sl.HW_arg9_3 trip_k0_t1.sl.arg12 trip_k0_t1.sl.cst_101 trip_k0_t1.sl.cst_71 trip_k0_t1.sl.cst_90 trip_k0_t1.sl.cst_97 trip_k0_t1.sl.v102 trip_k0_t1.sl.v103 trip_k0_t1.sl.v104 trip_k0_t1.sl.v106 trip_k0_t1.sl.v108 trip_k0_t1.sl.v109 trip_k0_t1.sl.v111 trip_k0_t1.sl.v112 trip_k0_t1.sl.v115 trip_k0_t1.sl.v116 trip_k0_t1.sl.v117 trip_k0_t1.sl.v118 trip_k0_t1.sl.v119 trip_k0_t1.sl.v120 trip_k0_t1.sl.v122 trip_k0_t1.sl.v124 trip_k0_t1.sl.v126 trip_k0_t1.sl.v128 trip_k0_t1.sl.v129 trip_k0_t1.sl.v130 trip_k0_t1.sl.v131 trip_k0_t1.sl.v132 trip_k0_t1.sl.v133 trip_k0_t1.sl.v134 trip_k0_t1.sl.v135 trip_k0_t1.sl.v136 trip_k0_t1.sl.v139 trip_k0_t1.sl.v141 trip_k0_t1.sl.v142 trip_k0_t1.sl.v143 trip_k0_t1.sl.v144 trip_k0_t1.sl.v145 trip_k0_t1.sl.v148 trip_k0_t1.sl.v149 trip_k0_t1.sl.v150 trip_k0_t1.sl.v152 trip_k0_t1.sl.v153 trip_k0_t1.sl.v154 trip_k0_t1.sl.v155 trip_k0_t1.sl.v158 trip_k0_t1.sl.v160 trip_k0_t1.sl.v161 trip_k0_t1.sl.v162 trip_k0_t1.sl.v163 trip_k0_t1.sl.v164 trip_k0_t1.sl.v165 trip_k0_t1.sl.v166 trip_k0_t1.sl.v167 trip_k0_t1.sl.v168 trip_k0_t1.sl.v169 trip_k0_t1.sl.v170 trip_k0_t1.sl.v173 trip_k0_t1.sl.v174 trip_k0_t1.sl.v175 trip_k0_t1.sl.v176 trip_k0_t1.sl.v177 trip_k0_t1.sl.v178 trip_k0_t1.sl.v179 trip_k0_t1.sl.v182 trip_k0_t1.sl.v183 trip_k0_t1.sl.v184 trip_k0_t1.sl.v185 trip_k0_t1.sl.v186 trip_k0_t1.sl.v187 trip_k0_t1.sl.v188 trip_k0_t1.sl.v189 trip_k0_t1.sl.v192 trip_k0_t1.sl.v193 trip_k0_t1.sl.v194 trip_k0_t1.sl.v196 trip_k0_t1.sl.v198 trip_k0_t1.sl.v199 trip_k0_t1.sl.v202 trip_k0_t1.sl.v205 trip_k0_t1.sl.v206 trip_k0_t1.sl.v207 trip_k0_t1.sl.v208 trip_k0_t1.sl.v209 trip_k0_t1.sl.v215 trip_k0_t1.sl.v216 trip_k0_t1.sl.v217 trip_k0_t1.sl.v218 trip_k0_t1.sl.v219 trip_k0_t1.sl.v220 trip_k0_t1.sl.v221 trip_k0_t1.sl.v222 trip_k0_t1.sl.v223 trip_k0_t1.sl.v224 trip_k0_t1.sl.v225 trip_k0_t1.sl.v226 trip_k0_t1.sl.v227 trip_k0_t1.sl.v230 trip_k0_t1.sl.v231 trip_k0_t1.sl.v232 trip_k0_t1.sl.v233 trip_k0_t1.sl.v234 trip_k0_t1.sl.v235 trip_k0_t1.sl.v236 trip_k0_t1.sl.v239 trip_k0_t1.sl.v240 trip_k0_t1.sl.v241 trip_k0_t1.sl.v242 trip_k0_t1.sl.v243 trip_k0_t1.sl.v244 trip_k0_t1.sl.v245 trip_k0_t1.sl.v246 trip_k0_t1.sl.v249 trip_k0_t1.sl.v250 trip_k0_t1.sl.v251 trip_k0_t1.sl.v252 trip_k0_t1.sl.v253 trip_k0_t1.sl.v254 trip_k0_t1.sl.v255 trip_k0_t1.sl.v256 trip_k0_t1.sl.v257 trip_k0_t1.sl.v258 trip_k0_t1.sl.v259 trip_k0_t1.sl.v260 trip_k0_t1.sl.v261 trip_k0_t1.sl.v264 trip_k0_t1.sl.v265 trip_k0_t1.sl.v276
  refine ⟨⟨?_, ?_⟩, ⟨?_, ?_⟩, ⟨?_, ?_⟩, ⟨?_, ?_⟩⟩ <;>
    simp only [View.readCov, readAt_same, skipS0, skipS1, skipM0, skipM1, skipA0, skipA1, writes_nil, h7a, h7b, h9a, h9b, h10a, h10b, h11a, h11b, hk10, hk11, hk20, hk21, hv3, hv4] <;>
    rfl

/-- THE LOOP: before trip `k` the state after `2 k` tiles. -/
theorem loop_holds (𝒱 : Variants) (c : Dev nD) (bd : Option 𝒱.V) (i : grid0.Coords) (arg3 : Memref sig .tc .vmem S1x256x512 .bf16) (harg3 : arg3.IsWhole) (arg4 : Memref sig .tc .vmem S1x4096x256 .bf16) (harg4 : arg4.IsWhole) (arg5 : Memref sig .tc .vmem S1x128x4096 .bf16) (harg5 : arg5.IsWhole) (arg6 : Memref sig .tc .vmem S1x512x128 .bf16) (harg6 : arg6.IsWhole) (arg7 : Memref sig .tc .vmem S2x512x512 .f32) (harg7 : arg7.IsWhole) (arg8 : Memref sig .tc .vmem S2x512x512 .f32) (harg8 : arg8.IsWhole) (arg9 : Memref sig .tc .vmem S2x1x512 .f32) (harg9 : arg9.IsWhole) (arg10 : Memref sig .tc .vmem S2x1x512 .f32) (harg10 : arg10.IsWhole) (arg11 : Memref sig .tc .vmem S2x128x512 .f32) (harg11 : arg11.IsWhole)
    (arg2 : BitVec 32) (q0 q1 : FVec F S128x512 .bf16) (x1 : Vec F S1x4096x256 .bf16) (x2 : Vec F S1x128x4096 .bf16)
    (f4 : arg4.view.ty.Contents (Elt F)) (f5 : arg5.view.ty.Contents (Elt F))
    (h4 : arg4.view.read (Elt F) f4 = x1) (h5 : arg5.view.read (Elt F) f5 = x2)
    (g7 : arg7.view.ty.Contents (Elt F)) (g8 : arg8.view.ty.Contents (Elt F)) (g9 : arg9.view.ty.Contents (Elt F))
    (g10 : arg10.view.ty.Contents (Elt F)) (g11 : arg11.view.ty.Contents (Elt F))
    (H : Holds q0 q1 x1 x2 arg7.view arg9.view arg10.view arg11.view g7 g9 g10 g11 0) (k : ℕ) (hk : k ≤ (k0_t1_loop i).trips) :
    Holds q0 q1 x1 x2 arg7.view arg9.view arg10.view arg11.view
      (arg7.view.writes (Elt F) g7 (pb_k0_t1 (F := F) 𝒱 c bd i arg3 harg3 arg4 harg4 arg5 harg5 arg6 harg6 arg7 harg7 arg8 harg8 arg9 harg9 arg10 harg10 arg11 harg11 arg2 q0 q1 f4 f5 g7 g8 g9 g10 g11 k).1)
      (arg9.view.writes (Elt F) g9 (pb_k0_t1 (F := F) 𝒱 c bd i arg3 harg3 arg4 harg4 arg5 harg5 arg6 harg6 arg7 harg7 arg8 harg8 arg9 harg9 arg10 harg10 arg11 harg11 arg2 q0 q1 f4 f5 g7 g8 g9 g10 g11 k).2.2.1)
      (arg10.view.writes (Elt F) g10 (pb_k0_t1 (F := F) 𝒱 c bd i arg3 harg3 arg4 harg4 arg5 harg5 arg6 harg6 arg7 harg7 arg8 harg8 arg9 harg9 arg10 harg10 arg11 harg11 arg2 q0 q1 f4 f5 g7 g8 g9 g10 g11 k).2.2.2.1)
      (arg11.view.writes (Elt F) g11 (pb_k0_t1 (F := F) 𝒱 c bd i arg3 harg3 arg4 harg4 arg5 harg5 arg6 harg6 arg7 harg7 arg8 harg8 arg9 harg9 arg10 harg10 arg11 harg11 arg2 q0 q1 f4 f5 g7 g8 g9 g10 g11 k).2.2.2.2) (2 * k) := by
  induction k with
  | zero => exact H
  | succ k ih =>
    have h := trip_holds 𝒱 c bd i arg3 harg3 arg4 harg4 arg5 harg5 arg6 harg6 arg7 harg7 arg8 harg8 arg9 harg9 arg10 harg10 arg11 harg11 arg2 q0 q1 x1 x2 f4 f5 h4 h5 ⟨k, hk⟩ _ (arg8.view.writes (Elt F) g8 (pb_k0_t1 (F := F) 𝒱 c bd i arg3 harg3 arg4 harg4 arg5 harg5 arg6 harg6 arg7 harg7 arg8 harg8 arg9 harg9 arg10 harg10 arg11 harg11 arg2 q0 q1 f4 f5 g7 g8 g9 g10 g11 k).2.1) _ _ _ (ih (Nat.le_of_succ_le hk))
    rw [show k + 1 = (⟨k, hk⟩ : Fin (k0_t1_loop i).trips).val + 1 from rfl, pb_k0_t1_succ]
    simp only [View.writes_append]
    exact h

end Cert.Attn

end
-- ==== Proof.Attn.Body.lean ====
/- The run of the attention kernel's body at one grid point: from blocks of queries, keys and values it leaves the
   block `outBlk` of outputs. Two cases, as the block's number is even or odd. For any float values. -/
module

public import proofs.«01_k».proof.Proof.Attn.Trip

@[expose] public section

set_option maxRecDepth 16384

noncomputable section

namespace Cert.Attn

open Cert.KernelIdeal Cert.KernelIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-- The second loop has no trips. -/
theorem trips2_eq (i : grid0.Coords) : Scf.trips (k0_t2_loop i).lb (k0_t2_loop i).ub (k0_t2_loop i).st = 0 :=
  Nat.le_zero.mp (k0_t2_abs i).2.1

theorem even_of (i : grid0.Coords) (h : cond0_0 i) : (i 2).val % 2 = 0 := by
  unfold cond0_0 k0_cond1 at h
  generalize i 2 = n at h ⊢
  revert n
  decide +kernel

theorem odd_of (i : grid0.Coords) (h : cond0_1 i) : (i 2).val % 2 = 1 := by
  unfold cond0_1 k0_cond2 at h
  generalize i 2 = n at h ⊢
  revert n
  decide +kernel

theorem off9_eq (i : grid0.Coords) : k0_off9 i = ![0, 0, 512 * min (i 2).val 7] := by
  unfold k0_off9
  generalize i 2 = n
  revert n
  decide +kernel

theorem off10_eq (i : grid0.Coords) : k0_off10 i = ![0, 512 * min (i 2).val 7, 128 * (0 : Fin 2).val] := by
  unfold k0_off10
  generalize i 2 = n
  revert n
  decide +kernel

theorem off11_eq (i : grid0.Coords) : k0_off11 i = ![0, 512 * min (i 2).val 7, 128 * (1 : Fin 2).val] := by
  unfold k0_off11
  generalize i 2 = n
  revert n
  decide +kernel

theorem off12_eq (i : grid0.Coords) (h : (i 2).val % 2 = 1) : k0_off12 i = ![0, 0, 512 * min ((i 2).val - 1) 7] := by
  unfold k0_off12
  generalize i 2 = n at h ⊢
  revert n
  decide +kernel

theorem off13_eq (i : grid0.Coords) : k0_off13 i = ![0, 0, 512 * min (i 2).val 7] := by
  unfold k0_off13
  generalize i 2 = n
  revert n
  decide +kernel

set_option maxHeartbeats 0 in
/-- THE BODY, at a block of even number. -/
theorem body_A (c : Dev nD) (i : grid0.Coords) (arg3 : Memref sig .tc .vmem S1x256x512 .bf16) (harg3 : arg3.IsWhole) (arg4 : Memref sig .tc .vmem S1x4096x256 .bf16) (harg4 : arg4.IsWhole) (arg5 : Memref sig .tc .vmem S1x128x4096 .bf16) (harg5 : arg5.IsWhole) (arg6 : Memref sig .tc .vmem S1x512x128 .bf16) (harg6 : arg6.IsWhole) (arg7 : Memref sig .tc .vmem S2x512x512 .f32) (harg7 : arg7.IsWhole) (arg8 : Memref sig .tc .vmem S2x512x512 .f32) (harg8 : arg8.IsWhole) (arg9 : Memref sig .tc .vmem S2x1x512 .f32) (harg9 : arg9.IsWhole) (arg10 : Memref sig .tc .vmem S2x1x512 .f32) (harg10 : arg10.IsWhole) (arg11 : Memref sig .tc .vmem S2x128x512 .f32) (harg11 : arg11.IsWhole) (hc0 : cond0_0 i) (hc1 : ¬cond0_1 i)
    (x0 : Vec F S1x256x512 .bf16) (x1 : Vec F S1x4096x256 .bf16) (x2 : Vec F S1x128x4096 .bf16) (E : Set ℕ) (K : PUnit → sProp 𝕄) :
    iprop(owns (c : Thread nD τ) arg3 fullShare x0 ∗ owns (c : Thread nD τ) arg4 fullShare x1 ∗ owns (c : Thread nD τ) arg5 fullShare x2 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
        ∗ (iprop(owns (c : Thread nD τ) arg3 fullShare x0 ∗ owns (c : Thread nD τ) arg4 fullShare x1 ∗ owns (c : Thread nD τ) arg5 fullShare x2 ∗ owns (c : Thread nD τ) arg6 fullShare (outBlk x0 x1 x2 (i 2).val) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)) -∗ K ⟨⟩))
      ⊢ wp frame (wpE (defs₀ (F := F)) Variants.none c none) E (cc0_mla_attn i arg3 harg3 arg4 harg4 arg5 harg5 arg6 harg6 arg7 harg7 arg8 harg8 arg9 harg9 arg10 harg10 arg11 harg11) K := by
  simp only [cc0_mla_attn_eq_skeleton]; unfold cc0_mla_attn_skel
  simp only [k0_part18_eq_skeleton, k0_part19_eq_skeleton, k0_part20_eq_skeleton, k0_part11_eq_skeleton, k0_part12_eq_skeleton]
  unfold owns
  iintro ⟨⟨%f0, %hf0, H0⟩, ⟨%f1, %hf1, H1⟩, ⟨%f2, %hf2, H2⟩, ⟨%d3, %f3, -, H3⟩, ⟨%ds0, %fs0, -, HS0⟩, ⟨%ds1, %fs1, -, HS1⟩, ⟨%ds2, %fs2, -, HS2⟩, ⟨%ds3, %fs3, -, HS3⟩, ⟨%ds4, %fs4, -, HS4⟩, Hk⟩
  obtain rfl := harg3.eq_unread hf0; obtain rfl := harg4.eq_unread hf1; obtain rfl := harg5.eq_unread hf2
  sl_exec (disch := first | sl_exact hc0 | sl_exact hc1)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; swap; · iexact H3
    ipureintro
    have hr : body_A.sl.r c arg3 harg3 x0 = qtile x0 0 := by
      delta body_A.sl.r
      exact congrArg k0_pay134 ((View.readAt_unit arg3.view _ _ rfl _).trans (by rw [harg3.read_unread]; rfl))
    have hr1 : body_A.sl.r_1 c arg3 harg3 x0 = qtile x0 1 := by
      delta body_A.sl.r_1
      exact congrArg k0_pay134 ((View.readAt_unit arg3.view _ _ rfl _).trans (by rw [harg3.read_unread]; rfl))
    have hk0 : ∀ inb, arg4.view.readAt (Elt F) (Rect.unit (s := S1x4096x256) ![0, 0, 0] S1x512x128.size inb).toLoadRect (harg4.unread x1) = ktile x1 0 0 :=
      fun inb => (View.readAt_unit arg4.view _ inb rfl inb).trans (by rw [harg4.read_unread]; rfl)
    have hk1 : ∀ inb, arg4.view.readAt (Elt F) (Rect.unit (s := S1x4096x256) ![0, 0, 128] S1x512x128.size inb).toLoadRect (harg4.unread x1) = ktile x1 1 0 :=
      fun inb => (View.readAt_unit arg4.view _ inb rfl inb).trans (by rw [harg4.read_unread]; rfl)
    have hin : Holds (qtile x0 0) (qtile x0 1) x1 x2 arg7.view arg9.view arg10.view arg11.view
        (arg7.view.writes (Elt F) arg7.view.junk (body_A.sl.HS0_2 c arg3 harg3 arg4 harg4 x0 x1)) (arg9.view.writes (Elt F) arg9.view.junk body_A.sl.HS2_1)
        (arg10.view.writes (Elt F) arg10.view.junk body_A.sl.HS3_1) (arg11.view.writes (Elt F) arg11.view.junk body_A.sl.HS4_1) 0 := by
      delta body_A.sl.HS0_2 body_A.sl.HS2_1 body_A.sl.HS3_1 body_A.sl.HS4_1
      rw [hr1]
      refine ⟨⟨?_, ?_⟩, ⟨?_, ?_⟩, ⟨?_, ?_⟩, ⟨?_, ?_⟩⟩
      · simp only [skipS0, readAt_same, hk0]
        rw [← hr]
        rfl
      · simp only [readAt_same, hk1]
        rfl
      · exact readAt_const _ _ _ _ _ _ _ rfl
      · exact readAt_const _ _ _ _ _ _ _ rfl
      · exact readAt_const _ _ _ _ _ _ _ rfl
      · exact readAt_const _ _ _ _ _ _ _ rfl
      · exact readAt_const _ _ _ _ _ _ _ rfl
      · exact readAt_const _ _ _ _ _ _ _ rfl
    have HL := loop_holds Variants.none c none i arg3 harg3 arg4 harg4 arg5 harg5 arg6 harg6 arg7 harg7 arg8 harg8 arg9 harg9 arg10 harg10 arg11 harg11 (BitVec.ofNat 32 (i 2).val) (qtile x0 0) (qtile x0 1) x1 x2
      (harg4.unread x1) (harg5.unread x2) (harg4.read_unread _) (harg5.read_unread _) _ fs1 _ _ _ hin (Scf.trips (k0_t1_loop i).lb (k0_t1_loop i).ub (k0_t1_loop i).st) (le_refl _)
    delta body_A.sl.HS2_1_1 body_A.sl.HS3_1_1 body_A.sl.HS3_2 body_A.sl.HS4_1_1 body_A.sl.HS4_2 body_A.sl.r_2 body_A.sl.r_3 body_A.sl.r_4 body_A.sl.r_5 body_A.sl.r_6 body_A.sl.r_7 body_A.sl.r_8 body_A.sl.v0 body_A.sl.v1 body_A.sl.v107 body_A.sl.v112 body_A.sl.v125 body_A.sl.v136 body_A.sl.v144 body_A.sl.v149 body_A.sl.v162 body_A.sl.v173 body_A.sl.v33 body_A.sl.v34 body_A.sl.v35 body_A.sl.v36 body_A.sl.v37 body_A.sl.v38 body_A.sl.v44 body_A.sl.v45 body_A.sl.v46 body_A.sl.v47 body_A.sl.v48 body_A.sl.v49 body_A.sl.v50 body_A.sl.v52 body_A.sl.v53 body_A.sl.v54 body_A.sl.v57 body_A.sl.v58 body_A.sl.v59 body_A.sl.v84 body_A.sl.v86 body_A.sl.v90 body_A.sl.v92
    simp (config := { proj := false }) only [trips2_eq, hr, hr1]
    generalize pb_k0_t1 (F := F) Variants.none c none i arg3 harg3 arg4 harg4 arg5 harg5 arg6 harg6 arg7 harg7 arg8 harg8 arg9 harg9 arg10 harg10 arg11 harg11 (BitVec.ofNat 32 (i 2).val) (qtile x0 0) (qtile x0 1) (harg4.unread x1) (harg5.unread x2) _ fs1 _ _ _ (Scf.trips (k0_t1_loop i).lb (k0_t1_loop i).ub (k0_t1_loop i).st) = P at HL ⊢
    obtain ⟨⟨h7a, h7b⟩, ⟨h9a, h9b⟩, ⟨h10a, h10b⟩, ⟨h11a, h11b⟩⟩ := HL
    obtain ⟨n, hn⟩ : ∃ n, (i 2).val = 2 * n := ⟨(i 2).val / 2, by have := even_of i hc0; omega⟩
    have ht : Scf.trips (k0_t1_loop i).lb (k0_t1_loop i).ub (k0_t1_loop i).st = n := (trips_eq i).trans (by omega)
    rw [ht] at h7a h7b h9a h9b h10a h10b h11a h11b
    have hv9 : ∀ inb, arg5.view.readAt (Elt F) (Rect.unit (s := S1x128x4096) (k0_off9 i) S1x128x512.size inb).toLoadRect (harg5.unread x2) = vtile x2 (2 * n) :=
      fun inb => (View.readAt_unit arg5.view _ inb (off9_eq i) _).trans (by rw [harg5.read_unread]; exact congrArg (vtile x2) (by omega : ((i 2).val) = 2 * n))
    rw [show outBlk x0 x1 x2 (i 2).val = outBlk x0 x1 x2 (2 * n) from congrArg _ hn]
    simp only [pb_k0_t2.eq_1, List.nil_append, View.readCov, View.writes_append, readAt_same, skipS0, skipS1, skipM0, skipM1, skipA0, skipA1, h7a, h7b, h9a, h9b, h10a, h10b, h11a, h11b, hv9]
    rw [View.read_writes_full]
    rfl
  isplitl [HS0]
  · iexists _, _; isplitr; swap; · iexact HS0
    ipureintro; rfl
  isplitl [HS1]
  · iexists _, _; isplitr; swap; · iexact HS1
    ipureintro; rfl
  isplitl [HS2]
  · iexists _, _; isplitr; swap; · iexact HS2
    ipureintro; rfl
  isplitl [HS3]
  · iexists _, _; isplitr; swap; · iexact HS3
    ipureintro; rfl
  iexists _, _; isplitr; swap; · iexact HS4
  ipureintro; rfl

set_option maxHeartbeats 0 in
/-- THE BODY, at a block of odd number. -/
theorem body_B (c : Dev nD) (i : grid0.Coords) (arg3 : Memref sig .tc .vmem S1x256x512 .bf16) (harg3 : arg3.IsWhole) (arg4 : Memref sig .tc .vmem S1x4096x256 .bf16) (harg4 : arg4.IsWhole) (arg5 : Memref sig .tc .vmem S1x128x4096 .bf16) (harg5 : arg5.IsWhole) (arg6 : Memref sig .tc .vmem S1x512x128 .bf16) (harg6 : arg6.IsWhole) (arg7 : Memref sig .tc .vmem S2x512x512 .f32) (harg7 : arg7.IsWhole) (arg8 : Memref sig .tc .vmem S2x512x512 .f32) (harg8 : arg8.IsWhole) (arg9 : Memref sig .tc .vmem S2x1x512 .f32) (harg9 : arg9.IsWhole) (arg10 : Memref sig .tc .vmem S2x1x512 .f32) (harg10 : arg10.IsWhole) (arg11 : Memref sig .tc .vmem S2x128x512 .f32) (harg11 : arg11.IsWhole) (hc0 : ¬cond0_0 i) (hc1 : cond0_1 i)
    (x0 : Vec F S1x256x512 .bf16) (x1 : Vec F S1x4096x256 .bf16) (x2 : Vec F S1x128x4096 .bf16) (E : Set ℕ) (K : PUnit → sProp 𝕄) :
    iprop(owns (c : Thread nD τ) arg3 fullShare x0 ∗ owns (c : Thread nD τ) arg4 fullShare x1 ∗ owns (c : Thread nD τ) arg5 fullShare x2 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
        ∗ (iprop(owns (c : Thread nD τ) arg3 fullShare x0 ∗ owns (c : Thread nD τ) arg4 fullShare x1 ∗ owns (c : Thread nD τ) arg5 fullShare x2 ∗ owns (c : Thread nD τ) arg6 fullShare (outBlk x0 x1 x2 (i 2).val) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)) -∗ K ⟨⟩))
      ⊢ wp frame (wpE (defs₀ (F := F)) Variants.none c none) E (cc0_mla_attn i arg3 harg3 arg4 harg4 arg5 harg5 arg6 harg6 arg7 harg7 arg8 harg8 arg9 harg9 arg10 harg10 arg11 harg11) K := by
  simp only [cc0_mla_attn_eq_skeleton]; unfold cc0_mla_attn_skel
  simp only [k0_part18_eq_skeleton, k0_part19_eq_skeleton, k0_part20_eq_skeleton, k0_part13_eq_skeleton, k0_part14_eq_skeleton, k0_part15_eq_skeleton, k0_part16_eq_skeleton, k0_part17_eq_skeleton]
  unfold owns
  iintro ⟨⟨%f0, %hf0, H0⟩, ⟨%f1, %hf1, H1⟩, ⟨%f2, %hf2, H2⟩, ⟨%d3, %f3, -, H3⟩, ⟨%ds0, %fs0, -, HS0⟩, ⟨%ds1, %fs1, -, HS1⟩, ⟨%ds2, %fs2, -, HS2⟩, ⟨%ds3, %fs3, -, HS3⟩, ⟨%ds4, %fs4, -, HS4⟩, Hk⟩
  obtain rfl := harg3.eq_unread hf0; obtain rfl := harg4.eq_unread hf1; obtain rfl := harg5.eq_unread hf2
  sl_exec (disch := first | sl_exact hc0 | sl_exact hc1)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; swap; · iexact H3
    ipureintro
    have hr : body_B.sl.r c arg3 harg3 x0 = qtile x0 0 := by
      delta body_B.sl.r
      exact congrArg k0_pay134 ((View.readAt_unit arg3.view _ _ rfl _).trans (by rw [harg3.read_unread]; rfl))
    have hr1 : body_B.sl.r_1 c arg3 harg3 x0 = qtile x0 1 := by
      delta body_B.sl.r_1
      exact congrArg k0_pay134 ((View.readAt_unit arg3.view _ _ rfl _).trans (by rw [harg3.read_unread]; rfl))
    have hk0 : ∀ inb, arg4.view.readAt (Elt F) (Rect.unit (s := S1x4096x256) ![0, 0, 0] S1x512x128.size inb).toLoadRect (harg4.unread x1) = ktile x1 0 0 :=
      fun inb => (View.readAt_unit arg4.view _ inb rfl inb).trans (by rw [harg4.read_unread]; rfl)
    have hk1 : ∀ inb, arg4.view.readAt (Elt F) (Rect.unit (s := S1x4096x256) ![0, 0, 128] S1x512x128.size inb).toLoadRect (harg4.unread x1) = ktile x1 1 0 :=
      fun inb => (View.readAt_unit arg4.view _ inb rfl inb).trans (by rw [harg4.read_unread]; rfl)
    have hin : Holds (qtile x0 0) (qtile x0 1) x1 x2 arg7.view arg9.view arg10.view arg11.view
        (arg7.view.writes (Elt F) arg7.view.junk (body_B.sl.HS0_2 c arg3 harg3 arg4 harg4 x0 x1)) (arg9.view.writes (Elt F) arg9.view.junk body_B.sl.HS2_1)
        (arg10.view.writes (Elt F) arg10.view.junk body_B.sl.HS3_1) (arg11.view.writes (Elt F) arg11.view.junk body_B.sl.HS4_1) 0 := by
      delta body_B.sl.HS0_2 body_B.sl.HS2_1 body_B.sl.HS3_1 body_B.sl.HS4_1
      rw [hr1]
      refine ⟨⟨?_, ?_⟩, ⟨?_, ?_⟩, ⟨?_, ?_⟩, ⟨?_, ?_⟩⟩
      · simp only [skipS0, readAt_same, hk0]
        rw [← hr]
        rfl
      · simp only [readAt_same, hk1]
        rfl
      · exact readAt_const _ _ _ _ _ _ _ rfl
      · exact readAt_const _ _ _ _ _ _ _ rfl
      · exact readAt_const _ _ _ _ _ _ _ rfl
      · exact readAt_const _ _ _ _ _ _ _ rfl
      · exact readAt_const _ _ _ _ _ _ _ rfl
      · exact readAt_const _ _ _ _ _ _ _ rfl
    have HL := loop_holds Variants.none c none i arg3 harg3 arg4 harg4 arg5 harg5 arg6 harg6 arg7 harg7 arg8 harg8 arg9 harg9 arg10 harg10 arg11 harg11 (BitVec.ofNat 32 (i 2).val) (qtile x0 0) (qtile x0 1) x1 x2
      (harg4.unread x1) (harg5.unread x2) (harg4.read_unread _) (harg5.read_unread _) _ fs1 _ _ _ hin (Scf.trips (k0_t1_loop i).lb (k0_t1_loop i).ub (k0_t1_loop i).st) (le_refl _)
    delta body_B.sl.HS1_1 body_B.sl.HS1_2 body_B.sl.HS2_1_1 body_B.sl.HS2_2 body_B.sl.HS2_3 body_B.sl.HS3_1_1 body_B.sl.HS3_2 body_B.sl.HS3_3 body_B.sl.HS3_4 body_B.sl.HS4_1_1 body_B.sl.HS4_2 body_B.sl.HS4_3 body_B.sl.HS4_4 body_B.sl.cst_100 body_B.sl.cst_69 body_B.sl.cst_89 body_B.sl.cst_96 body_B.sl.r_2 body_B.sl.r_3 body_B.sl.r_4 body_B.sl.r_5 body_B.sl.r_6 body_B.sl.v body_B.sl.v0 body_B.sl.v1 body_B.sl.v102 body_B.sl.v104 body_B.sl.v106 body_B.sl.v107 body_B.sl.v108 body_B.sl.v109 body_B.sl.v110 body_B.sl.v113 body_B.sl.v114 body_B.sl.v116 body_B.sl.v117 body_B.sl.v118 body_B.sl.v119 body_B.sl.v121 body_B.sl.v123 body_B.sl.v124 body_B.sl.v125 body_B.sl.v126 body_B.sl.v127 body_B.sl.v128 body_B.sl.v129 body_B.sl.v130 body_B.sl.v131 body_B.sl.v132 body_B.sl.v133 body_B.sl.v134 body_B.sl.v135 body_B.sl.v138 body_B.sl.v139 body_B.sl.v140 body_B.sl.v141 body_B.sl.v142 body_B.sl.v143 body_B.sl.v144 body_B.sl.v147 body_B.sl.v148 body_B.sl.v149 body_B.sl.v150 body_B.sl.v151 body_B.sl.v152 body_B.sl.v153 body_B.sl.v154 body_B.sl.v157 body_B.sl.v158 body_B.sl.v159 body_B.sl.v160 body_B.sl.v161 body_B.sl.v162 body_B.sl.v163 body_B.sl.v164 body_B.sl.v165 body_B.sl.v166 body_B.sl.v167 body_B.sl.v168 body_B.sl.v173 body_B.sl.v184 body_B.sl.v197 body_B.sl.v202 body_B.sl.v203 body_B.sl.v204 body_B.sl.v205 body_B.sl.v206 body_B.sl.v207 body_B.sl.v208 body_B.sl.v209 body_B.sl.v210 body_B.sl.v211 body_B.sl.v214 body_B.sl.v215 body_B.sl.v216 body_B.sl.v217 body_B.sl.v218 body_B.sl.v219 body_B.sl.v220 body_B.sl.v223 body_B.sl.v224 body_B.sl.v225 body_B.sl.v226 body_B.sl.v227 body_B.sl.v228 body_B.sl.v229 body_B.sl.v230 body_B.sl.v233 body_B.sl.v239 body_B.sl.v252 body_B.sl.v263 body_B.sl.v33 body_B.sl.v34 body_B.sl.v35 body_B.sl.v36 body_B.sl.v37 body_B.sl.v38 body_B.sl.v44 body_B.sl.v45 body_B.sl.v46 body_B.sl.v47 body_B.sl.v48 body_B.sl.v49 body_B.sl.v50 body_B.sl.v52 body_B.sl.v53 body_B.sl.v54 body_B.sl.v57 body_B.sl.v58 body_B.sl.v59 body_B.sl.v84 body_B.sl.v86 body_B.sl.v90 body_B.sl.v92
    simp (config := { proj := false }) only [trips2_eq, hr, hr1]
    generalize pb_k0_t1 (F := F) Variants.none c none i arg3 harg3 arg4 harg4 arg5 harg5 arg6 harg6 arg7 harg7 arg8 harg8 arg9 harg9 arg10 harg10 arg11 harg11 (BitVec.ofNat 32 (i 2).val) (qtile x0 0) (qtile x0 1) (harg4.unread x1) (harg5.unread x2) _ fs1 _ _ _ (Scf.trips (k0_t1_loop i).lb (k0_t1_loop i).ub (k0_t1_loop i).st) = P at HL ⊢
    obtain ⟨⟨h7a, h7b⟩, ⟨h9a, h9b⟩, ⟨h10a, h10b⟩, ⟨h11a, h11b⟩⟩ := HL
    obtain ⟨n, hn⟩ : ∃ n, (i 2).val = 2 * n + 1 := ⟨(i 2).val / 2, by have := odd_of i hc1; omega⟩
    have ht : Scf.trips (k0_t1_loop i).lb (k0_t1_loop i).ub (k0_t1_loop i).st = n := (trips_eq i).trans (by omega)
    rw [ht] at h7a h7b h9a h9b h10a h10b h11a h11b
    have hk10 : ∀ inb, arg4.view.readAt (Elt F) (Rect.unit (s := S1x4096x256) (k0_off10 i) S1x512x128.size inb).toLoadRect (harg4.unread x1) = ktile x1 0 (2 * n + 1) :=
      fun inb => (View.readAt_unit arg4.view _ inb (off10_eq i) _).trans (by rw [harg4.read_unread]; exact congrArg (ktile x1 0) (by omega : ((i 2).val) = 2 * n + 1))
    have hk11 : ∀ inb, arg4.view.readAt (Elt F) (Rect.unit (s := S1x4096x256) (k0_off11 i) S1x512x128.size inb).toLoadRect (harg4.unread x1) = ktile x1 1 (2 * n + 1) :=
      fun inb => (View.readAt_unit arg4.view _ inb (off11_eq i) _).trans (by rw [harg4.read_unread]; exact congrArg (ktile x1 1) (by omega : ((i 2).val) = 2 * n + 1))
    have hv12 : ∀ inb, arg5.view.readAt (Elt F) (Rect.unit (s := S1x128x4096) (k0_off12 i) S1x128x512.size inb).toLoadRect (harg5.unread x2) = vtile x2 (2 * n) :=
      fun inb => (View.readAt_unit arg5.view _ inb (off12_eq i (odd_of i hc1)) _).trans (by rw [harg5.read_unread]; exact congrArg (vtile x2) (by omega : ((i 2).val - 1) = 2 * n))
    have hv13 : ∀ inb, arg5.view.readAt (Elt F) (Rect.unit (s := S1x128x4096) (k0_off13 i) S1x128x512.size inb).toLoadRect (harg5.unread x2) = vtile x2 (2 * n + 1) :=
      fun inb => (View.readAt_unit arg5.view _ inb (off13_eq i) _).trans (by rw [harg5.read_unread]; exact congrArg (vtile x2) (by omega : ((i 2).val) = 2 * n + 1))
    rw [show outBlk x0 x1 x2 (i 2).val = outBlk x0 x1 x2 (2 * n + 1) from congrArg _ hn]
    simp only [pb_k0_t2.eq_1, List.nil_append, View.readCov, View.writes_append, readAt_same, skipS0, skipS1, skipM0, skipM1, skipA0, skipA1, h7a, h7b, h9a, h9b, h10a, h10b, h11a, h11b, hk10, hk11, hv12, hv13]
    rw [View.read_writes_full]
    rfl
  isplitl [HS0]
  · iexists _, _; isplitr; swap; · iexact HS0
    ipureintro; rfl
  isplitl [HS1]
  · iexists _, _; isplitr; swap; · iexact HS1
    ipureintro; rfl
  isplitl [HS2]
  · iexists _, _; isplitr; swap; · iexact HS2
    ipureintro; rfl
  isplitl [HS3]
  · iexists _, _; isplitr; swap; · iexact HS3
    ipureintro; rfl
  iexists _, _; isplitr; swap; · iexact HS4
  ipureintro; rfl

end Cert.Attn

end
-- ==== Proof.Attn.Frame.lean ====
/- The frame of the idealized attention kernel, from the run of its body (Body.lean): the proof data of its pipeline —
   each point leaves the block `outBlk` of its query, key and value blocks —, the run of @main, and what its output
   array holds afterwards. For any float values. -/
module

public import proofs.«01_k».proof.Proof.Attn.Body
public import Idealize.ShloMosaic.Lib.Claim

@[expose] public section

set_option maxRecDepth 16384

noncomputable section

namespace Cert.Attn

open Cert.KernelIdeal Cert.KernelIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The block point `t` leaves. -/
def blkAt (c : Dev nD) (t : Fin cfg0.N) : Vec F S1x512x128 .bf16 :=
  outBlk (iblk m c 0 t) (iblk m c 1 t) (iblk m c 2 t) ((grid0.coords t) 2).val

/-! ## The pipeline's proof data -/

/-- The proof data of the one pipeline on core `c`: the arrays as the region finds them (`V`); after the body at
    point `t` each input's buffer at its block and the outputs' at `outsAt0`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => blkAt m c t
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = blkAt m c t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t))

set_option maxHeartbeats 0 in
/-- The body at any point: the inputs' memrefs hold their blocks (`before0_W`); the closed forms say which case the point is in (`by_cases`), an output the case reads before covering holds what the point before left (`before0_W_κ`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, after0_3]
  rw [show (dats m 0 c).Φ t.castSucc = Pipeline.ΦA spec0 c from rfl, PhiA0_eq]
  have hN : t.val < 256 := lt_of_lt_of_eq t.isLt (show cfg0.N = 256 from N_0)
  by_cases h0 : t.val % 2 = 0
  · by_cases h1 : t.val % 2 = 1
    · exfalso; omega
    · unfold blkAt
      iintro ⟨⟨⟨HS0, HS1, HS2, HS3, HS4⟩, Hg⟩, Ho, ⟨%d0, H0⟩, ⟨%d1, H1⟩, ⟨%d2, H2⟩, ⟨%d3, H3⟩⟩
      iapply (body_A c (grid0.coords t) _ _ _ _ _ _ _ _ _ _ _ _ _ _ _ _ _ _ ((hcond0_0 t).mpr h0) (fun h => h1 ((hcond0_1 t).mp h)) (iblk m c 0 t) (iblk m c 1 t) (iblk m c 2 t) Set.univ _)
      isplitl [H0]; · iexact H0
      isplitl [H1]; · iexact H1
      isplitl [H2]; · iexact H2
      isplitl [H3]; · iexists _; iexact H3
      isplitl [HS0]; · iexact HS0
      isplitl [HS1]; · iexact HS1
      isplitl [HS2]; · iexact HS2
      isplitl [HS3]; · iexact HS3
      isplitl [HS4]; · iexact HS4
      iintro ⟨H0, H1, H2, H3, HS0, HS1, HS2, HS3, HS4⟩
      isplitl [HS0 HS1 HS2 HS3 HS4 Hg]
      · isplitl [HS0 HS1 HS2 HS3 HS4]
        · isplitl [HS0]
          · iexact HS0
          isplitl [HS1]
          · iexact HS1
          isplitl [HS2]
          · iexact HS2
          isplitl [HS3]
          · iexact HS3
          iexact HS4
        iexact Hg
      isplitl [Ho]; · iexact Ho
      isplitl [H0]; · iexact H0
      isplitl [H1]; · iexact H1
      isplitl [H2]; · iexact H2
      iexact H3
  · by_cases h1 : t.val % 2 = 1
    · unfold blkAt
      iintro ⟨⟨⟨HS0, HS1, HS2, HS3, HS4⟩, Hg⟩, Ho, ⟨%d0, H0⟩, ⟨%d1, H1⟩, ⟨%d2, H2⟩, ⟨%d3, H3⟩⟩
      iapply (body_B c (grid0.coords t) _ _ _ _ _ _ _ _ _ _ _ _ _ _ _ _ _ _ (fun h => h0 ((hcond0_0 t).mp h)) ((hcond0_1 t).mpr h1) (iblk m c 0 t) (iblk m c 1 t) (iblk m c 2 t) Set.univ _)
      isplitl [H0]; · iexact H0
      isplitl [H1]; · iexact H1
      isplitl [H2]; · iexact H2
      isplitl [H3]; · iexists _; iexact H3
      isplitl [HS0]; · iexact HS0
      isplitl [HS1]; · iexact HS1
      isplitl [HS2]; · iexact HS2
      isplitl [HS3]; · iexact HS3
      isplitl [HS4]; · iexact HS4
      iintro ⟨H0, H1, H2, H3, HS0, HS1, HS2, HS3, HS4⟩
      isplitl [HS0 HS1 HS2 HS3 HS4 Hg]
      · isplitl [HS0 HS1 HS2 HS3 HS4]
        · isplitl [HS0]
          · iexact HS0
          isplitl [HS1]
          · iexact HS1
          isplitl [HS2]
          · iexact HS2
          isplitl [HS3]
          · iexact HS3
          iexact HS4
        iexact Hg
      isplitl [Ho]; · iexact Ho
      isplitl [H0]; · iexact H0
      isplitl [H1]; · iexact H1
      isplitl [H2]; · iexact H2
      iexact H3
    · exfalso; omega

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

/-- THE FRAME: `Cert.quiescent_KernelIdeal`'s statement (Defs.lean) at any `F` — Proof.lean cites it at `Bits`:
    `theorem Cert.Proof.claim : Cert.Claim := ⟨Cert.KernelIdeal.Gen.facts, fun m ρ _ => Cert.KernelIdeal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ) ((θ_run defs _ _).mono (fun _ h => h.2) (run_main_quiescent m ρ))

/-! ## What the run leaves, array by array -/

/-- What point `t` writes back: its block. -/
theorem flushed3 (c : Dev nD) (t : Fin cfg0.N) :
    (dats m 0 c).flushed 3 t = (cfg0.win 3).cut (grid0.coords t) (blkAt m c t) := by
  show (cfg0.win 3).cut (grid0.coords t) ((dats m 0 c).after 3 t) = _
  rw [after0_3]

/-- After the frame run, output window 3's array is `(dats m 0 c).arrAt 3 N`. -/
theorem post3 (r : PUnit × MemSt nD τ sig (Elt F)) (h : Pipeline.FramePost cfgs (dats m) 0 (V m) r) (c : Dev nD) :
    r.2.mem ((c : Thread nD τ).loc main_v12) = (dats m 0 c).arrAt 3 cfg0.N :=
  (h c).1 3

/-- After the frame run, argument `main_arg0` is as launched: no window stages it, and the run leaves the region's other buffers as they were. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).2 main_arg0 (Pipeline.mem_restRefs_of main_arg0 (by decide) (by decide))).trans (V_main_arg0 m c)

/-- After the frame run, argument `main_arg1` is as launched: no window stages it, and the run leaves the region's other buffers as they were. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).2 main_arg1 (Pipeline.mem_restRefs_of main_arg1 (by decide) (by decide))).trans (V_main_arg1 m c)

/-- After the frame run, argument `main_arg2` is as launched: no window stages it, and the run leaves the region's other buffers as they were. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).2 main_arg2 (Pipeline.mem_restRefs_of main_arg2 (by decide) (by decide))).trans (V_main_arg2 m c)

/-- The frame run with each output array after the run NAMED — `(dats m 0 c).arrAt w N`, which `blocks_w` / `entry_w` read —,
    the arguments unchanged. -/
theorem run_blocks : θ_run defs (onTc (τ := τ) (main (F := F))) ⟨m, fun _ => 0, ρ⟩ fun r => ∀ c : Dev nD,
      r.2.mem ((c : Thread nD τ).loc main_v12) = (dats m 0 c).arrAt 3 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨post3 m r h c,
      kept_main_arg0 m r h c,
      kept_main_arg1 m r h c,
      kept_main_arg2 m r h c⟩)
    (run_main m ρ)

end Cert.Attn

end
-- ==== Proof.Attn.Blocks.lean ====
/- Where a grid point's blocks lie in the attention kernel's arrays. -/
module

public import proofs.«01_k».proof.Proof.Attn.Frame
public import Idealize.ShloMosaic.Lib.Pointwise
public import Idealize.ShloMosaic.Lib.Pipeline.ValueKit

@[expose] public section

set_option maxRecDepth 16384

noncomputable section

namespace Cert.Attn

open Cert.KernelIdeal Cert.KernelIdeal.Gen Idealize.ShloMosaic Idealize.ShloMosaic.TcCoe Idealize.SL.Sem

variable {F : FTy → Type} [FloatOps F] [Named F]
variable (m : (ℓ : Loc nD τ sig) → Buf (Elt F) ℓ) (c : Dev nD)

theorem coords2 : ∀ t : Fin grid0.N, ((grid0.coords t) 2).val = t.val % 8 := by decide +kernel

theorem idx0 : ∀ (t : Fin grid0.N) (a : Fin 3), win0_0.index t a = (![t.val / 32, t.val / 8 % 4, t.val % 8] : Fin 3 → ℕ) a := by decide +kernel
theorem idx1 : ∀ (t : Fin grid0.N) (a : Fin 3), win0_1.index t a = (![t.val / 32, 0, t.val / 8 % 4] : Fin 3 → ℕ) a := by decide +kernel
theorem idx2 : ∀ (t : Fin grid0.N) (a : Fin 3), win0_2.index t a = (![t.val / 32, t.val / 8 % 4, 0] : Fin 3 → ℕ) a := by decide +kernel
theorem idx3 : ∀ (t : Fin grid0.N) (a : Fin 3), win0_3.index t a = (![t.val / 32, t.val % 8, t.val / 8 % 4] : Fin 3 → ℕ) a := by decide +kernel

/-- The block of queries. -/
theorem blkQ (t : Fin cfg0.N) (r : Fin 256) (s : Fin 512) (y : S8x1024x4096.Idx)
    (h0 : (y 0).val = t.val / 32) (h1 : (y 1).val = 256 * (t.val / 8 % 4) + r.val) (h2 : (y 2).val = 512 * (t.val % 8) + s.val) :
    (iblk m c 0 t : S1x256x512.Idx → F .bf16) (ix3 0 r s) = (V m c main_v10 : S8x1024x4096.Idx → F .bf16) y := by
  unfold iblk
  refine congrArg (V m c main_v10 : S8x1024x4096.Idx → F .bf16) (funext fun a => Fin.ext ?_)
  refine (Pipeline.Window.rect_emb_val win0_0 t _ a).trans ?_
  rw [idx0]
  fin_cases a
  · refine Eq.trans ?_ h0.symm; simp [win0_0, ix3]
  · refine Eq.trans ?_ h1.symm; simp [win0_0, ix3]; try omega
  · refine Eq.trans ?_ h2.symm; simp [win0_0, ix3]; try omega

/-- The keys of the pair of heads. -/
theorem blkK (t : Fin cfg0.N) (s : Fin 4096) (r : Fin 256) (y : S8x4096x1024.Idx)
    (h0 : (y 0).val = t.val / 32) (h1 : (y 1).val = s.val) (h2 : (y 2).val = 256 * (t.val / 8 % 4) + r.val) :
    (iblk m c 1 t : S1x4096x256.Idx → F .bf16) (ix3 0 s r) = (V m c main_v7 : S8x4096x1024.Idx → F .bf16) y := by
  unfold iblk
  refine congrArg (V m c main_v7 : S8x4096x1024.Idx → F .bf16) (funext fun a => Fin.ext ?_)
  refine (Pipeline.Window.rect_emb_val win0_1 t _ a).trans ?_
  rw [idx1]
  fin_cases a
  · refine Eq.trans ?_ h0.symm; simp [win0_1, ix3]
  · refine Eq.trans ?_ h1.symm; simp [win0_1, ix3]; try omega
  · refine Eq.trans ?_ h2.symm; simp [win0_1, ix3]; try omega

/-- The values of the pair of heads. -/
theorem blkV (t : Fin cfg0.N) (r : Fin 128) (s : Fin 4096) (y : S8x512x4096.Idx)
    (h0 : (y 0).val = t.val / 32) (h1 : (y 1).val = 128 * (t.val / 8 % 4) + r.val) (h2 : (y 2).val = s.val) :
    (iblk m c 2 t : S1x128x4096.Idx → F .bf16) (ix3 0 r s) = (V m c main_v11 : S8x512x4096.Idx → F .bf16) y := by
  unfold iblk
  refine congrArg (V m c main_v11 : S8x512x4096.Idx → F .bf16) (funext fun a => Fin.ext ?_)
  refine (Pipeline.Window.rect_emb_val win0_2 t _ a).trans ?_
  rw [idx2]
  fin_cases a
  · refine Eq.trans ?_ h0.symm; simp [win0_2, ix3]
  · refine Eq.trans ?_ h1.symm; simp [win0_2, ix3]; try omega
  · refine Eq.trans ?_ h2.symm; simp [win0_2, ix3]; try omega

end Cert.Attn

end
-- ==== Proof.Attn.Online.lean ====
/- Softmax computed as a running sum: the maximum, the sum of exponentials and the weighted sum of the values over the
   keys seen so far, rescaled when the maximum grows, are those of the plain softmax over the same keys. Over the
   extended reals; a score is a real number or `⊥` (a masked key), a value is anything. -/
module

public import Idealize.ShloMosaic.Lib.Pointwise

@[expose] public section

noncomputable section

namespace Cert.Attn

open Idealize.ShloMosaic

/-- A finite nonnegative factor goes into a sum of extended reals, whatever its terms. -/
theorem mul_sum_of_nonneg {ι : Type*} (T : Finset ι) (f : ι → EReal) {a : EReal} (h0 : 0 ≤ a) (ht : a ≠ ⊤) :
    a * ∑ i ∈ T, f i = ∑ i ∈ T, a * f i := by
  classical
  induction T using Finset.induction_on with
  | empty => simp
  | insert i T hi ih => rw [Finset.sum_insert hi, Finset.sum_insert hi, EReal.left_distrib_of_nonneg_of_ne_top h0 ht, ih]

theorem exp_nonneg (x : EReal) : 0 ≤ Ideal.exp x := by
  induction x with
  | bot => simp
  | top => simp
  | coe r => simpa using (Real.exp_pos r).le

theorem exp_ne_top {x : EReal} (h : x ≠ ⊤) : Ideal.exp x ≠ ⊤ := by
  induction x with
  | bot => simp
  | top => exact absurd rfl h
  | coe r => simp

/-- Rescaling an exponential from one maximum to a larger one. -/
theorem exp_rescale {s m m' : EReal} (h : s ≤ m) (h' : m ≤ m') (ht : m' ≠ ⊤) :
    Ideal.exp (m - m') * Ideal.exp (s - m) = Ideal.exp (s - m') := by
  have hm : m ≠ ⊤ := fun e => ht (top_le_iff.mp (e ▸ h'))
  have hs : s ≠ ⊤ := fun e => hm (top_le_iff.mp (e ▸ h))
  induction s with
  | top => exact absurd rfl hs
  | bot => simp [EReal.bot_sub]
  | coe s =>
    induction m with
    | top => exact absurd rfl hm
    | bot => exact absurd (le_bot_iff.mp h) (EReal.coe_ne_bot _)
    | coe m =>
      induction m' with
      | top => exact absurd rfl ht
      | bot => exact absurd (le_bot_iff.mp h') (EReal.coe_ne_bot _)
      | coe m' =>
        rw [← EReal.coe_sub, ← EReal.coe_sub, ← EReal.coe_sub, Ideal.exp_coe, Ideal.exp_coe, Ideal.exp_coe,
          ← EReal.coe_mul, ← Real.exp_add]
        congr 2
        ring

/-- The difference of a score below a maximum short of `⊤` is short of `⊤`. -/
theorem sub_ne_top {m m' : EReal} (h : m ≤ m') (ht : m' ≠ ⊤) : m - m' ≠ ⊤ := by
  have hm : m ≠ ⊤ := fun e => ht (top_le_iff.mp (e ▸ h))
  induction m with
  | top => exact absurd rfl hm
  | bot => simp [EReal.bot_sub]
  | coe m =>
    induction m' with
    | top => exact absurd rfl ht
    | bot => exact absurd (le_bot_iff.mp h) (EReal.coe_ne_bot _)
    | coe m' => rw [← EReal.coe_sub]; exact EReal.coe_ne_top _

/-- The running state `(m, l, a)` is that of the first `n` keys. -/
structure Online (s v : ℕ → EReal) (n : ℕ) (m l a : EReal) : Prop where
  max_eq : m = (Finset.range n).sup s
  sum_eq : l = ∑ k ∈ Finset.range n, Ideal.exp (s k - m)
  acc_eq : a = ∑ k ∈ Finset.range n, v k * Ideal.exp (s k - m)

theorem Online.init (s v : ℕ → EReal) : Online s v 0 ⊥ 0 0 := ⟨by simp, by simp, by simp⟩

/-- The maximum of the first `n + w` keys. -/
theorem sup_range_add (s : ℕ → EReal) (n w : ℕ) :
    (Finset.range (n + w)).sup s = max ((Finset.range n).sup s) ((Finset.range w).sup fun j => s (n + j)) := by
  apply le_antisymm
  · refine Finset.sup_le fun k hk => ?_
    rw [Finset.mem_range] at hk
    by_cases h : k < n
    · exact le_max_of_le_left (Finset.le_sup (f := s) (Finset.mem_range.mpr h))
    · refine le_max_of_le_right ?_
      have := Finset.le_sup (f := fun j => s (n + j)) (Finset.mem_range.mpr (by omega : k - n < w))
      simpa [Nat.add_sub_cancel' (not_lt.mp h)] using this
  · refine max_le (Finset.sup_mono (Finset.range_mono (by omega))) (Finset.sup_le fun j hj => ?_)
    exact Finset.le_sup (f := s) (Finset.mem_range.mpr (by have := Finset.mem_range.mp hj; omega))

theorem sup_ne_top (s : ℕ → EReal) (hs : ∀ k, s k ≠ ⊤) (n : ℕ) : (Finset.range n).sup s ≠ ⊤ := by
  apply ne_of_lt
  rw [Finset.sup_lt_iff (by simp)]
  exact fun k _ => lt_top_iff_ne_top.mpr (hs k)

/-- One tile of `w` keys more. -/
theorem Online.step {s v : ℕ → EReal} {n : ℕ} {m l a : EReal} (h : Online s v n m l a) (hs : ∀ k, s k ≠ ⊤) (w : ℕ) {m' : EReal}
    (hm : m' = max m ((Finset.range w).sup fun j => s (n + j))) :
    Online s v (n + w) m' (Ideal.exp (m - m') * l + ∑ j ∈ Finset.range w, Ideal.exp (s (n + j) - m'))
      (Ideal.exp (m - m') * a + ∑ j ∈ Finset.range w, v (n + j) * Ideal.exp (s (n + j) - m')) := by
  obtain ⟨h1, h2, h3⟩ := h
  have e : m' = (Finset.range (n + w)).sup s := by rw [sup_range_add, hm, h1]
  have ht : m' ≠ ⊤ := by rw [e]; exact sup_ne_top s hs _
  have hle : m ≤ m' := by rw [hm]; exact le_max_left _ _
  have hk : ∀ k ∈ Finset.range n, s k ≤ m := fun k hk => by rw [h1]; exact Finset.le_sup hk
  have hn := exp_nonneg (m - m')
  have hf := exp_ne_top (sub_ne_top hle ht)
  refine ⟨e, ?_, ?_⟩
  · rw [Finset.sum_range_add, h2, mul_sum_of_nonneg _ _ hn hf]
    congr 1
    exact Finset.sum_congr rfl fun k hk' => exp_rescale (hk k hk') hle ht
  · rw [Finset.sum_range_add, h3, mul_sum_of_nonneg _ _ hn hf]
    congr 1
    refine Finset.sum_congr rfl fun k hk' => ?_
    rw [mul_left_comm, exp_rescale (hk k hk') hle ht]

/-- Keys that are masked change nothing. -/
theorem Online.extend {s v : ℕ → EReal} {n : ℕ} {m l a : EReal} (h : Online s v n m l a) (N : ℕ) (hN : n ≤ N)
    (hs : ∀ k, n ≤ k → s k = ⊥) : Online s v N m l a := by
  obtain ⟨w, rfl⟩ := Nat.exists_eq_add_of_le hN
  obtain ⟨h1, h2, h3⟩ := h
  refine ⟨?_, ?_, ?_⟩
  · rw [sup_range_add, ← h1]
    have : (Finset.range w).sup (fun j => s (n + j)) = ⊥ := by
      rw [Finset.sup_eq_bot_iff]; exact fun j _ => hs _ (by omega)
    rw [this]; simp
  · rw [Finset.sum_range_add, ← h2]
    rw [Finset.sum_eq_zero, add_zero]
    intro j _; rw [hs _ (by omega), EReal.bot_sub, Ideal.exp_bot]
  · rw [Finset.sum_range_add, ← h3]
    rw [Finset.sum_eq_zero, add_zero]
    intro j _; rw [hs _ (by omega), EReal.bot_sub, Ideal.exp_bot, mul_zero]

/-- A quotient by a positive real number is a product with its inverse, which is nonnegative and finite. -/
theorem div_eq_mul {l : EReal} (h0 : 0 < l) (ht : l ≠ ⊤) : ∃ c : EReal, 0 ≤ c ∧ c ≠ ⊤ ∧ ∀ x, Ideal.div x l = c * x := by
  induction l with
  | top => exact absurd rfl ht
  | bot => exact absurd h0 (by simp)
  | coe r =>
    have hr : 0 < r := by exact_mod_cast h0
    refine ⟨((r⁻¹ : ℝ) : EReal), by exact_mod_cast (inv_pos.mpr hr).le, EReal.coe_ne_top _, fun x => ?_⟩
    unfold Ideal.div
    rw [if_neg (by exact_mod_cast hr.ne'), mul_comm, EReal.coe_inv]

/-- The sum of exponentials is a positive real number once one key is not masked. -/
theorem Online.pos {s v : ℕ → EReal} {n : ℕ} {m l a : EReal} (h : Online s v n m l a) (hs : ∀ k, s k ≠ ⊤) {k : ℕ} (hk : k < n)
    (hb : s k ≠ ⊥) : 0 < l ∧ l ≠ ⊤ := by
  obtain ⟨h1, h2, h3⟩ := h
  have hmt : m ≠ ⊤ := by rw [h1]; exact sup_ne_top s hs _
  have hle : ∀ j ∈ Finset.range n, s j ≤ m := fun j hj => by rw [h1]; exact Finset.le_sup hj
  constructor
  · have hkm := hle k (Finset.mem_range.mpr hk)
    rw [h2]
    refine lt_of_lt_of_le ?_ (Finset.single_le_sum (f := fun j => Ideal.exp (s j - m)) (fun j _ => exp_nonneg _) (Finset.mem_range.mpr hk))
    have hst := hs k
    generalize s k = x at *
    induction x with
    | top => exact absurd rfl hst
    | bot => exact absurd rfl hb
    | coe x =>
      clear h1 h2 h3
      induction m with
      | top => exact absurd rfl hmt
      | bot => exact absurd (le_bot_iff.mp hkm) (EReal.coe_ne_bot _)
      | coe m =>
        show 0 < Ideal.exp ((x : EReal) - (m : EReal))
        rw [← EReal.coe_sub, Ideal.exp_coe]
        exact_mod_cast Real.exp_pos _
  · rw [h2]
    have : ∀ T ⊆ Finset.range n, ∑ j ∈ T, Ideal.exp (s j - m) ≠ ⊤ := by
      intro T
      induction T using Finset.induction_on with
      | empty => simp
      | insert i T hi ih =>
        intro hT
        rw [Finset.sum_insert hi]
        exact EReal.add_ne_top (exp_ne_top (sub_ne_top (hle i (hT (Finset.mem_insert_self _ _))) hmt))
          (ih fun j hj => hT (Finset.mem_insert_of_mem hj))
    exact this _ subset_rfl

/-- The running quotient is the softmax-weighted sum of the values. -/
theorem Online.quotient {s v : ℕ → EReal} {n : ℕ} {m l a : EReal} (h : Online s v n m l a) (hs : ∀ k, s k ≠ ⊤) {k : ℕ} (hk : k < n)
    (hb : s k ≠ ⊥) : Ideal.div a l = ∑ j ∈ Finset.range n, v j * Ideal.div (Ideal.exp (s j - m)) l := by
  obtain ⟨h0, ht⟩ := h.pos hs hk hb
  obtain ⟨c, c0, ct, hc⟩ := div_eq_mul h0 ht
  rw [hc, h.acc_eq, mul_sum_of_nonneg _ _ c0 ct]
  refine Finset.sum_congr rfl fun j _ => ?_
  rw [hc, mul_left_comm]

end Cert.Attn

end
-- ==== Proof.Attn.Payload.lean ====
/- The attention kernel's vector operations read at an index, at the exact values. -/
module

public import proofs.«01_k».proof.Proof.Attn.Model
public import Idealize.ShloMosaic.Lib.Pointwise
public import Idealize.ShloMosaic.Lib.WordCmp

@[expose] public section

set_option maxRecDepth 16384

noncomputable section

namespace Cert.Attn

open Cert.KernelIdeal Cert.KernelIdeal.Gen Idealize.ShloMosaic Idealize.SL.Sem

/-- The name of the mask is `⊥`. -/
theorem mask_eq : (Named.named κ "mask" 0xF149F2CA#32 : Ideal .f32) = (⊥ : EReal) := by
  show (κ "mask").getD _ = _
  simp [κ]

theorem neg_inf : Ideal.ofBits .f32 0xFF800000#32 = (⊥ : EReal) := by
  simp [Ideal.ofBits, Ideal.ieee]

/-- The maximum over a tile's keys, as a supremum over a range of numbers. -/
theorem fold_max_range {n : ℕ} (f : Fin n → EReal) (g : ℕ → EReal) (h : ∀ k : Fin n, f k = g k) :
    Finset.fold max (⊥ : EReal) f Finset.univ = (Finset.range n).sup g := by
  show (Finset.univ : Finset (Fin n)).sup f = _
  apply le_antisymm
  · exact Finset.sup_le fun k _ => by rw [h]; exact Finset.le_sup (f := g) (Finset.mem_range.mpr k.isLt)
  · refine Finset.sup_le fun k hk => ?_
    have := Finset.le_sup (f := f) (Finset.mem_univ ⟨k, Finset.mem_range.mp hk⟩)
    rwa [h] at this

theorem init_m (r : Fin 512) : (St.init (F := Ideal)).m (ix3 0 0 r) = (⊥ : EReal) := mask_eq
theorem init_l (r : Fin 512) : (St.init (F := Ideal)).l (ix3 0 0 r) = (0 : EReal) := Ideal.ofBits_zero_f32
theorem init_acc (d : Fin 128) (r : Fin 512) : (St.init (F := Ideal)).acc (ix3 0 d r) = (0 : EReal) := Ideal.ofBits_zero_f32

theorem sc_apply (q : FVec Ideal S128x512 .bf16) (kt : Vec Ideal S1x512x128 .bf16) (k r : Fin 512) :
    k0_pay5 (sc q kt) (ix2 k r) = (∑ x : Fin 128, kt (ix3 0 k x) * q (ix2 x r) : EReal) := by
  pointwise [sc, k0_pay2, k0_pay5]

theorem masked_apply (q : FVec Ideal S128x512 .bf16) (kt : Vec Ideal S1x512x128 .bf16) (k r : Fin 512) :
    masked (sc q kt) (ix2 k r) = (if k.val ≤ r.val then ∑ x : Fin 128, kt (ix3 0 k x) * q (ix2 x r) else ⊥ : EReal) := by
  pointwise [masked, k0_pay81, keyPos, qryPos, sc, k0_pay2]
  rw [mask_eq, WordCmp.cmpi_sle_ofNat (by have := k.isLt; omega) (by have := r.isLt; omega)]
  by_cases h : k.val ≤ r.val <;> simp [h, Scalar.select]

theorem upd_m (vt : Vec Ideal S1x128x512 .bf16) (s : FVec Ideal S512x512 .f32) (t : St Ideal) (r : Fin 512) (g : ℕ → EReal)
    (h : ∀ k : Fin 512, s (ix2 k r) = g k) :
    (upd vt s t).m (ix3 0 0 r) = (max (t.m (ix3 0 0 r)) ((Finset.range 512).sup g) : EReal) := by
  unfold upd
  pointwise [k0_pay123, k0_pay120, k0_pay119]
  rw [neg_inf, fold_max_range _ g h]

theorem upd_l (vt : Vec Ideal S1x128x512 .bf16) (s : FVec Ideal S512x512 .f32) (t : St Ideal) (r : Fin 512) (g : ℕ → EReal)
    (h : ∀ k : Fin 512, s (ix2 k r) = g k) :
    (upd vt s t).l (ix3 0 0 r) = (Ideal.exp (t.m (ix3 0 0 r) - (upd vt s t).m (ix3 0 0 r)) * t.l (ix3 0 0 r)
      + ∑ k ∈ Finset.range 512, Ideal.exp (g k - (upd vt s t).m (ix3 0 0 r)) : EReal) := by
  rw [upd_m vt s t r g h, Finset.sum_range]
  unfold upd
  pointwise [k0_pay124, k0_pay122, k0_pay121, k0_pay120, k0_pay119]
  rw [neg_inf, fold_max_range _ g h]
  simp only [h]

theorem upd_acc (vt : Vec Ideal S1x128x512 .bf16) (s : FVec Ideal S512x512 .f32) (t : St Ideal) (d : Fin 128) (r : Fin 512)
    (g v : ℕ → EReal) (h : ∀ k : Fin 512, s (ix2 k r) = g k) (hv : ∀ k : Fin 512, vt (ix3 0 d k) = v k) :
    (upd vt s t).acc (ix3 0 d r) = (Ideal.exp (t.m (ix3 0 0 r) - (upd vt s t).m (ix3 0 0 r)) * t.acc (ix3 0 d r)
      + ∑ k ∈ Finset.range 512, v k * Ideal.exp (g k - (upd vt s t).m (ix3 0 0 r)) : EReal) := by
  rw [upd_m vt s t r g h, Finset.sum_range]
  unfold upd
  pointwise [k0_pay125, k0_pay122, k0_pay121, k0_pay120, k0_pay119, k0_pay4]
  rw [neg_inf, fold_max_range _ g h]
  simp only [h, hv]

theorem outBlk_apply (x0 : Vec Ideal S1x256x512 .bf16) (x1 : Vec Ideal S1x4096x256 .bf16) (x2 : Vec Ideal S1x128x4096 .bf16)
    (n : ℕ) (r : Fin 512) (d : Fin 128) (a : Fin 2) (ha : a.val = d.val / 64) :
    outBlk x0 x1 x2 n (ix3 0 r d)
      = Ideal.div ((fin (qtile x0 a) x1 x2 a n).acc (ix3 0 d r)) ((fin (qtile x0 a) x1 x2 a n).l (ix3 0 0 r)) := by
  unfold outBlk
  pointwise [k0_pay1, k0_pay146, k0_pay147, k0_pay148]
  rw [show (64#32 : BitVec 32) = BitVec.ofNat 32 64 from rfl, WordCmp.cmpi_slt_ofNat (by have := d.isLt; omega) (by omega)]
  have hd := d.isLt
  by_cases h : d.val < 64
  · obtain rfl : a = 0 := Fin.ext (by simp only [Fin.val_zero]; omega)
    simp [h, Scalar.select]
  · obtain rfl : a = 1 := Fin.ext (by simp only [Fin.val_one]; omega)
    simp [h, Scalar.select]

theorem qtile_apply (x0 : Vec Ideal S1x256x512 .bf16) (a : Fin 2) (d : Fin 128) (r : Fin 512) :
    qtile x0 a (ix2 d r) = x0 (ix3 0 ⟨128 * a.val + d.val, by omega⟩ r) := by
  pointwise [qtile, k0_pay134]
  unfold VecWindow.window
  congr 1
  funext b
  fin_cases b <;> apply Fin.ext <;> simp [ix3]

theorem ktile_apply (x1 : Vec Ideal S1x4096x256 .bf16) (a : Fin 2) (j : ℕ) (hj : j < 8) (k : Fin 512) (d : Fin 128) :
    ktile x1 a j (ix3 0 k d) = x1 (ix3 0 ⟨512 * j + k.val, by omega⟩ ⟨128 * a.val + d.val, by omega⟩) := by
  unfold ktile VecWindow.window
  congr 1
  funext b
  fin_cases b <;> apply Fin.ext <;> simp [ix3] <;> omega

theorem vtile_apply (x2 : Vec Ideal S1x128x4096 .bf16) (j : ℕ) (hj : j < 8) (d : Fin 128) (k : Fin 512) :
    vtile x2 j (ix3 0 d k) = x2 (ix3 0 d ⟨512 * j + k.val, by omega⟩) := by
  unfold vtile VecWindow.window
  congr 1
  funext b
  fin_cases b <;> apply Fin.ext <;> simp [ix3] <;> omega

end Cert.Attn

end
-- ==== Proof.Attn.Running.lean ====
/- The running state of the attention kernel after a number of tiles is the running softmax of the keys of those
   tiles. -/
module

public import proofs.«01_k».proof.Proof.Attn.Payload
public import proofs.«01_k».proof.Proof.Attn.Online

@[expose] public section

set_option maxRecDepth 16384

noncomputable section

namespace Cert.Attn

open Cert.KernelIdeal Cert.KernelIdeal.Gen Idealize.ShloMosaic Idealize.SL.Sem

/-- One tile more: the update is a step of the running softmax. -/
theorem Online.upd {s v : ℕ → EReal} {n : ℕ} (hs : ∀ k, s k ≠ ⊤) (vt : Vec Ideal S1x128x512 .bf16)
    (t : FVec Ideal S512x512 .f32) (st : St Ideal) (d : Fin 128) (r : Fin 512)
    (h : Online s v n (st.m (ix3 0 0 r)) (st.l (ix3 0 0 r)) (st.acc (ix3 0 d r)))
    (ht : ∀ k : Fin 512, t (ix2 k r) = s (n + k.val)) (hv : ∀ k : Fin 512, vt (ix3 0 d k) = v (n + k.val)) :
    Online s v (n + 512) ((upd vt t st).m (ix3 0 0 r)) ((upd vt t st).l (ix3 0 0 r)) ((upd vt t st).acc (ix3 0 d r)) := by
  rw [upd_l vt t st r (fun k => s (n + k)) ht, upd_acc vt t st d r (fun k => s (n + k)) (fun k => v (n + k)) ht hv]
  exact h.step hs 512 (upd_m vt t st r (fun k => s (n + k)) ht)

/-- The state before the diagonal tile. -/
theorem state_online {s v : ℕ → EReal} (hs : ∀ k, s k ≠ ⊤) (q : FVec Ideal S128x512 .bf16) (x1 : Vec Ideal S1x4096x256 .bf16)
    (x2 : Vec Ideal S1x128x4096 .bf16) (a : Fin 2) (d : Fin 128) (r : Fin 512) (n : ℕ)
    (ht : ∀ j < n, ∀ k : Fin 512, k0_pay5 (scT q x1 a j) (ix2 k r) = s (512 * j + k.val))
    (hv : ∀ j < n, ∀ k : Fin 512, vtile x2 j (ix3 0 d k) = v (512 * j + k.val)) :
    Online s v (512 * n) ((state q x1 x2 a n).m (ix3 0 0 r)) ((state q x1 x2 a n).l (ix3 0 0 r)) ((state q x1 x2 a n).acc (ix3 0 d r)) := by
  induction n with
  | zero =>
    show Online s v 0 _ _ _
    simp only [state, init_m, init_l, init_acc]
    exact Online.init s v
  | succ n ih =>
    exact Online.upd hs _ _ _ d r (ih (fun j hj => ht j (by omega)) (fun j hj => hv j (by omega)))
      (ht n (by omega)) (hv n (by omega))

/-- The state after the diagonal tile. -/
theorem fin_online {s v : ℕ → EReal} (hs : ∀ k, s k ≠ ⊤) (q : FVec Ideal S128x512 .bf16) (x1 : Vec Ideal S1x4096x256 .bf16)
    (x2 : Vec Ideal S1x128x4096 .bf16) (a : Fin 2) (d : Fin 128) (r : Fin 512) (n : ℕ)
    (ht : ∀ j < n, ∀ k : Fin 512, k0_pay5 (scT q x1 a j) (ix2 k r) = s (512 * j + k.val))
    (hd : ∀ k : Fin 512, masked (scT q x1 a n) (ix2 k r) = s (512 * n + k.val))
    (hv : ∀ j < n + 1, ∀ k : Fin 512, vtile x2 j (ix3 0 d k) = v (512 * j + k.val)) :
    Online s v (512 * n + 512) ((fin q x1 x2 a n).m (ix3 0 0 r)) ((fin q x1 x2 a n).l (ix3 0 0 r)) ((fin q x1 x2 a n).acc (ix3 0 d r)) :=
  Online.upd hs _ _ _ d r (state_online hs q x1 x2 a d r n ht fun j hj => hv j (by omega)) hd (hv n (by omega))

/-- Attention for one query and one column of the values: the softmax of the scores, times the values. -/
def attend (s v : ℕ → EReal) (N : ℕ) : EReal :=
  ∑ j ∈ Finset.range N, v j * Ideal.div (Ideal.exp (s j - (Finset.range N).sup s)) (∑ k ∈ Finset.range N, Ideal.exp (s k - (Finset.range N).sup s))

/-- An element of the kernel's output block is the attention over all keys, those after the query masked. -/
theorem outBlk_attend {s v : ℕ → EReal} (hs : ∀ k, s k ≠ ⊤) (x0 : Vec Ideal S1x256x512 .bf16) (x1 : Vec Ideal S1x4096x256 .bf16)
    (x2 : Vec Ideal S1x128x4096 .bf16) (a : Fin 2) (d : Fin 128) (ha : a.val = d.val / 64) (r : Fin 512) (n : ℕ) (hn : n < 8)
    (ht : ∀ j < n, ∀ k : Fin 512, k0_pay5 (scT (qtile x0 a) x1 a j) (ix2 k r) = s (512 * j + k.val))
    (hd : ∀ k : Fin 512, masked (scT (qtile x0 a) x1 a n) (ix2 k r) = s (512 * n + k.val))
    (hv : ∀ j < n + 1, ∀ k : Fin 512, vtile x2 j (ix3 0 d k) = v (512 * j + k.val))
    (hb : s (512 * n + r.val) ≠ ⊥) (hm : ∀ k, 512 * n + r.val < k → s k = ⊥) :
    outBlk x0 x1 x2 n (ix3 0 r d) = attend s v 4096 := by
  rw [outBlk_apply x0 x1 x2 n r d a ha]
  have H := (fin_online hs _ x1 x2 a d r n ht hd hv).extend 4096 (by omega) fun k hk => hm k (by have := r.isLt; omega)
  rw [H.quotient hs (k := 512 * n + r.val) (by have := r.isLt; omega) hb]
  unfold attend
  rw [H.sum_eq, ← H.max_eq]

end Cert.Attn

end
-- ==== Proof.Attn.Score.lean ====
/- The scores of causal attention as extended reals, and the dot product over padded lanes that the kernel takes for
   one. -/
module

public import proofs.«01_k».proof.Proof.Attn.Online
public import proofs.«01_k».proof.Proof.Attn.Running

@[expose] public section

set_option maxRecDepth 16384

noncomputable section

namespace Cert.Attn

open Cert.KernelIdeal Idealize.ShloMosaic

/-- The scale `96 ^ (-1/2)` as both programs spell it: a rounded constant. -/
abbrev scale : EReal := Ideal.ofBits .f32 0x3DD105EC#32

theorem scale_real : ∃ r : ℝ, scale = (r : EReal) := by
  unfold scale Ideal.ofBits Ideal.ieee
  norm_num
  exact ⟨_, rfl⟩

/-- Every element is a real number. -/
def Finite {ι : Type*} (x : ι → EReal) : Prop := ∀ i, x i ≠ ⊤ ∧ x i ≠ ⊥

theorem Finite.exists_real {ι : Type*} {x : ι → EReal} (h : Finite x) : ∃ y : ι → ℝ, x = fun i => (y i : EReal) :=
  ⟨fun i => (x i).toReal, funext fun i => (EReal.coe_toReal (h i).1 (h i).2).symm⟩

theorem coe_sum {ι : Type*} (T : Finset ι) (f : ι → ℝ) : ((∑ i ∈ T, f i : ℝ) : EReal) = ∑ i ∈ T, (f i : EReal) := by
  classical
  induction T using Finset.induction_on with
  | empty => simp
  | insert i T hi ih => rw [Finset.sum_insert hi, Finset.sum_insert hi, EReal.coe_add, ih]

/-- The dot product over 128 lanes of which the last 32 are padding, the scale moved from the sum into one factor. -/
theorem pad_dot (Q K : Fin 96 → EReal) (hQ : Finite Q) (hK : Finite K) :
    ∑ x : Fin 128, (if h : x.val < 96 then K ⟨x.val, h⟩ else 0) * (if h : x.val < 96 then Q ⟨x.val, h⟩ * scale else 0)
      = (∑ d : Fin 96, Q d * K d) * scale := by
  obtain ⟨q, rfl⟩ := hQ.exists_real
  obtain ⟨k, rfl⟩ := hK.exists_real
  obtain ⟨r, hr⟩ := scale_real
  rw [hr]
  rw [show (∑ x : Fin 128, (if h : x.val < 96 then ((k ⟨x.val, h⟩ : ℝ) : EReal) else 0) * (if h : x.val < 96 then ((q ⟨x.val, h⟩ : ℝ) : EReal) * (r : EReal) else 0))
      = ∑ x : Fin (96 + 32), (if h : x.val < 96 then ((k ⟨x.val, h⟩ : ℝ) : EReal) else 0) * (if h : x.val < 96 then ((q ⟨x.val, h⟩ : ℝ) : EReal) * (r : EReal) else 0) from rfl,
    Fin.sum_univ_add]
  simp only [Fin.val_castAdd, Fin.val_natAdd, Fin.is_lt, dite_true, show ∀ i : Fin 32, ¬ (96 + i.val < 96) from fun i => by omega, dite_false, mul_zero, Finset.sum_const_zero, add_zero]
  simp only [← EReal.coe_mul, ← coe_sum]
  rw [Finset.sum_mul]
  congr 1
  exact Finset.sum_congr rfl fun d _ => by ring

/-- The score of key `j` for query `s` of a head: `⊥` when the key lies after the query. -/
def score (Q K : S8x4096x8x96.Idx → EReal) (b h : Fin 8) (s j : ℕ) : EReal :=
  if j ≤ s then (∑ d : Fin 96, Q (ix4 b (Fin.ofNat 4096 s) h d) * K (ix4 b (Fin.ofNat 4096 j) h d)) * scale else ⊥

/-- The value of key `j`. -/
def value (V : S8x4096x8x64.Idx → EReal) (b h : Fin 8) (d : Fin 64) (j : ℕ) : EReal := V (ix4 b (Fin.ofNat 4096 j) h d)

theorem dot_real (Q K : Fin 96 → EReal) (hQ : Finite Q) (hK : Finite K) : ∃ r : ℝ, (∑ d : Fin 96, Q d * K d) * scale = (r : EReal) := by
  obtain ⟨q, rfl⟩ := hQ.exists_real
  obtain ⟨k, rfl⟩ := hK.exists_real
  obtain ⟨r, hr⟩ := scale_real
  rw [hr]
  simp only [← EReal.coe_mul, ← coe_sum]
  exact ⟨_, rfl⟩

variable {Q K : S8x4096x8x96.Idx → EReal}

theorem score_ne_top (hQ : Finite Q) (hK : Finite K) (b h : Fin 8) (s j : ℕ) : score Q K b h s j ≠ ⊤ := by
  unfold score
  split
  · obtain ⟨r, hr⟩ := dot_real (fun d => Q (ix4 b (Fin.ofNat 4096 s) h d)) (fun d => K (ix4 b (Fin.ofNat 4096 j) h d)) (fun _ => hQ _) (fun _ => hK _)
    rw [hr]; exact EReal.coe_ne_top _
  · simp

theorem score_self (hQ : Finite Q) (hK : Finite K) (b h : Fin 8) (s : ℕ) : score Q K b h s s ≠ ⊥ := by
  unfold score
  rw [if_pos le_rfl]
  obtain ⟨r, hr⟩ := dot_real (fun d => Q (ix4 b (Fin.ofNat 4096 s) h d)) (fun d => K (ix4 b (Fin.ofNat 4096 s) h d)) (fun _ => hQ _) (fun _ => hK _)
  rw [hr]; exact EReal.coe_ne_bot _

theorem score_after (b h : Fin 8) {s j : ℕ} (hj : s < j) : score Q K b h s j = ⊥ := if_neg (by omega)

/-- Causal attention: an element of the result. -/
def result (Q K : S8x4096x8x96.Idx → EReal) (V : S8x4096x8x64.Idx → EReal) (i : S8x4096x512.Idx) : EReal :=
  attend (score Q K (i 0) ⟨(i 2).val / 64, by have : (i 2).val < 512 := (i 2).isLt; omega⟩ (i 1).val)
    (value V (i 0) ⟨(i 2).val / 64, by have : (i 2).val < 512 := (i 2).isLt; omega⟩ ⟨(i 2).val % 64, by omega⟩) 4096

end Cert.Attn

end
-- ==== Proof.Attn.Host.lean ====
/- What the attention kernel's host part hands to its call, read at an index: the scaled queries and the keys, padded
   from 96 lanes to 128 a head, and the values. -/
module

public import proofs.«01_k».proof.Proof.Attn.Frame
public import proofs.«01_k».proof.Proof.Attn.Score
public import Idealize.ShloMosaic.Lib.Pointwise
public import Idealize.ShloMosaic.Lib.Pipeline.ValueKit

@[expose] public section

set_option maxRecDepth 16384

noncomputable section

namespace Cert.Attn

open Cert.KernelIdeal Cert.KernelIdeal.Gen Idealize.ShloMosaic Idealize.ShloMosaic.TcCoe Idealize.SL.Sem

variable (m : (ℓ : Loc nD τ sig) → Buf (Elt Ideal) ℓ) (c : Dev nD)

/-- The arguments. -/
abbrev argQ : S8x4096x8x96.Idx → EReal := m ((c : Thread nD τ).loc main_arg0)
abbrev argK : S8x4096x8x96.Idx → EReal := m ((c : Thread nD τ).loc main_arg1)
abbrev argV : S8x4096x8x64.Idx → EReal := m ((c : Thread nD τ).loc main_arg2)

theorem V_q : (V m c main_v10 : S8x1024x4096.Idx → EReal) =
    transpose S8x1024x4096 [0, 2, 1] (truncf .bf16 (shapeCast S8x4096x1024 (pad S8x4096x8x128 ![0, 0, 0, 0] ![0, 0, 0, 32] ![0, 0, 0, 0]
      (mulf (argQ m c) (broadcastInDim S8x4096x8x96 ![] bcast_S_S8x4096x8x96 (constant (F := Ideal) S_ .f32 0x3DD105EC#32)))
      (sitofp (F := Ideal) .f32 (constantI S_ 32 0#32)) pads_S8x4096x8x96_S8x4096x8x128_000_000_000_0320 h_S_) shapeCasts_S8x4096x8x128_S8x4096x1024) bitsLt_bf16_f32)
      transposes_S8x4096x1024_S8x1024x4096_0_2_1 := by
  simp only [V, hostOps0, hostOps0_1, hostOps0_2, hostOps0_3, hostOps0_4, List.flatten_cons, List.flatten_nil, List.cons_append, List.nil_append, List.append_nil, StableHlo.TRef.unary, StableHlo.TRef.binary, StableHlo.TRef.toBuf, StableHlo.TRef.ofBuf, cast_eq]
  after_results_simp
  rfl

theorem V_k : (V m c main_v7 : S8x4096x1024.Idx → EReal) =
    truncf .bf16 (shapeCast S8x4096x1024 (pad S8x4096x8x128 ![0, 0, 0, 0] ![0, 0, 0, 32] ![0, 0, 0, 0] (argK m c)
      (sitofp (F := Ideal) .f32 (constantI S_ 32 0#32)) pads_S8x4096x8x96_S8x4096x8x128_000_000_000_0320 h_S_) shapeCasts_S8x4096x8x128_S8x4096x1024) bitsLt_bf16_f32 := by
  simp only [V, hostOps0, hostOps0_1, hostOps0_2, hostOps0_3, hostOps0_4, List.flatten_cons, List.flatten_nil, List.cons_append, List.nil_append, List.append_nil, StableHlo.TRef.unary, StableHlo.TRef.binary, StableHlo.TRef.toBuf, StableHlo.TRef.ofBuf, cast_eq]
  after_results_simp
  rfl

theorem V_v : (V m c main_v11 : S8x512x4096.Idx → EReal) =
    transpose S8x512x4096 [0, 2, 1] (truncf (F := Ideal) (φ := .f32) .bf16 (shapeCast S8x4096x512 (argV m c) shapeCasts_S8x4096x8x64_S8x4096x512) bitsLt_bf16_f32)
      transposes_S8x4096x512_S8x512x4096_0_2_1 := by
  simp only [V, hostOps0, hostOps0_1, hostOps0_2, hostOps0_3, hostOps0_4, List.flatten_cons, List.flatten_nil, List.cons_append, List.nil_append, List.append_nil, StableHlo.TRef.unary, StableHlo.TRef.binary, StableHlo.TRef.toBuf, StableHlo.TRef.ofBuf, cast_eq]
  after_results_simp
  rfl

theorem zero_eq : (FloatOps.sitofp .f32 0#32 : Ideal .f32) = (0 : EReal) := by
  show ((((0#32 : BitVec 32).toInt : ℝ)) : EReal) = 0
  simp

/-- The padded, scaled queries. -/
theorem V_q_apply (b : Fin 8) (h : Fin 8) (d : Fin 128) (s : Fin 4096) (e : Fin 1024) (he : e.val = 128 * h.val + d.val) :
    (V m c main_v10 : S8x1024x4096.Idx → EReal) (ix3 b e s)
      = if hd : d.val < 96 then argQ m c (ix4 b s h ⟨d.val, hd⟩) * scale else 0 := by
  rw [V_q]
  pointwise
  have h1 : e.val / 128 = h.val := by have := d.isLt; omega
  have h2 : e.val % 128 = d.val := by have := d.isLt; omega
  simp only [h1, h2, zero_eq, h.isLt, true_and]

/-- The padded keys. -/
theorem V_k_apply (b : Fin 8) (h : Fin 8) (d : Fin 128) (s : Fin 4096) (e : Fin 1024) (he : e.val = 128 * h.val + d.val) :
    (V m c main_v7 : S8x4096x1024.Idx → EReal) (ix3 b s e)
      = if hd : d.val < 96 then argK m c (ix4 b s h ⟨d.val, hd⟩) else 0 := by
  rw [V_k]
  pointwise
  have h1 : e.val / 128 = h.val := by have := d.isLt; omega
  have h2 : e.val % 128 = d.val := by have := d.isLt; omega
  simp only [h1, h2, zero_eq, h.isLt, true_and]

/-- The values. -/
theorem V_v_apply (b : Fin 8) (h : Fin 8) (d : Fin 64) (s : Fin 4096) (e : Fin 512) (he : e.val = 64 * h.val + d.val) :
    (V m c main_v11 : S8x512x4096.Idx → EReal) (ix3 b e s) = argV m c (ix4 b s h d) := by
  rw [V_v]
  pointwise
  have h1 : e.val / 64 = h.val := by have := d.isLt; omega
  have h2 : e.val % 64 = d.val := by have := d.isLt; omega
  simp only [h1, h2]

end Cert.Attn

end
-- ==== Proof.Attn.Value.lean ====
/- What the kernel leaves in its output array: causal attention, element by element. -/
module

public import proofs.«01_k».proof.Proof.Attn.Blocks
public import proofs.«01_k».proof.Proof.Attn.Host
public import proofs.«01_k».proof.Proof.Attn.Running
public import proofs.«01_k».proof.Proof.Attn.Score
public import Idealize.ShloMosaic.Lib.Pipeline.ValueKit

@[expose] public section

set_option maxRecDepth 16384

noncomputable section

namespace Cert.Attn

open Cert.KernelIdeal Cert.KernelIdeal.Gen Idealize.ShloMosaic Idealize.ShloMosaic.TcCoe Idealize.SL.Sem

variable (m : (ℓ : Loc nD τ sig) → Buf (Elt Ideal) ℓ) (c : Dev nD)

/-- A query tile's column: the query's features of one head, scaled and padded with zeros. -/
theorem qtile_at (t : Fin cfg0.N) (a : Fin 2) (x : Fin 128) (r : Fin 512) (b h : Fin 8) (s : Fin 4096)
    (hb : b.val = t.val / 32) (hh : h.val = 2 * (t.val / 8 % 4) + a.val) (hs : s.val = 512 * (t.val % 8) + r.val) :
    qtile (iblk m c 0 t) a (ix2 x r) = (if hd : x.val < 96 then argQ m c (ix4 b s h ⟨x.val, hd⟩) * scale else 0 : EReal) := by
  rw [qtile_apply, blkQ m c t _ _ (ix3 b ⟨128 * h.val + x.val, by omega⟩ s) hb (by simp [ix3]; omega) hs]
  exact V_q_apply m c b h x s _ rfl

/-- A key tile's row: the key's features of one head, padded with zeros. -/
theorem ktile_at (t : Fin cfg0.N) (a : Fin 2) (j : ℕ) (hj : j < 8) (k : Fin 512) (x : Fin 128) (b h : Fin 8) (s : Fin 4096)
    (hb : b.val = t.val / 32) (hh : h.val = 2 * (t.val / 8 % 4) + a.val) (hs : s.val = 512 * j + k.val) :
    ktile (iblk m c 1 t) a j (ix3 0 k x) = (if hd : x.val < 96 then argK m c (ix4 b s h ⟨x.val, hd⟩) else 0 : EReal) := by
  rw [ktile_apply _ _ _ hj, blkK m c t ⟨512 * j + k.val, by omega⟩ _ (ix3 b s ⟨128 * h.val + x.val, by omega⟩) hb hs (by simp [ix3]; omega)]
  exact V_k_apply m c b h x s _ rfl

/-- A value tile's row. -/
theorem vtile_at (t : Fin cfg0.N) (j : ℕ) (hj : j < 8) (d : Fin 128) (k : Fin 512) (b h : Fin 8) (e : Fin 64) (s : Fin 4096)
    (hb : b.val = t.val / 32) (hh : 64 * h.val + e.val = 128 * (t.val / 8 % 4) + d.val) (hs : s.val = 512 * j + k.val) :
    vtile (iblk m c 2 t) j (ix3 0 d k) = (argV m c (ix4 b s h e) : EReal) := by
  rw [vtile_apply _ _ hj, blkV m c t _ ⟨512 * j + k.val, by omega⟩ (ix3 b ⟨64 * h.val + e.val, by omega⟩ s) hb hh hs]
  exact V_v_apply m c b h e s _ rfl

/-- The scores of a tile before the mask. -/
theorem scT_at (hQ : Finite (argQ m c)) (hK : Finite (argK m c)) (t : Fin cfg0.N) (a : Fin 2) (j : ℕ) (hj : j < 8)
    (k r : Fin 512) (b h : Fin 8) (hb : b.val = t.val / 32) (hh : h.val = 2 * (t.val / 8 % 4) + a.val) :
    (∑ x : Fin 128, ktile (iblk m c 1 t) a j (ix3 0 k x) * qtile (iblk m c 0 t) a (ix2 x r) : EReal)
      = (∑ d : Fin 96, argQ m c (ix4 b (Fin.ofNat 4096 (512 * (t.val % 8) + r.val)) h d) * argK m c (ix4 b (Fin.ofNat 4096 (512 * j + k.val)) h d)) * scale := by
  have hr := r.isLt
  have hk := k.isLt
  have e1 : (Fin.ofNat 4096 (512 * (t.val % 8) + r.val)).val = 512 * (t.val % 8) + r.val := Nat.mod_eq_of_lt (by omega)
  have e2 : (Fin.ofNat 4096 (512 * j + k.val)).val = 512 * j + k.val := Nat.mod_eq_of_lt (by omega)
  rw [← pad_dot _ _ (fun _ => hQ _) (fun _ => hK _)]
  exact Finset.sum_congr rfl fun x _ => by rw [ktile_at m c t a j hj k x b h _ hb hh e2, qtile_at m c t a x r b h _ hb hh e1]

/-- An element of the block the body leaves: attention of one query of one head. -/
theorem blkAt_apply (hQ : Finite (argQ m c)) (hK : Finite (argK m c)) (t : Fin cfg0.N) (r : Fin 512) (d : Fin 128)
    (b h : Fin 8) (e : Fin 64) (hb : b.val = t.val / 32) (hh : 64 * h.val + e.val = 128 * (t.val / 8 % 4) + d.val) :
    blkAt m c t (ix3 0 r d) = attend (score (argQ m c) (argK m c) b h (512 * (t.val % 8) + r.val)) (value (argV m c) b h e) 4096 := by
  have hh' : h.val = 2 * (t.val / 8 % 4) + d.val / 64 := by have := e.isLt; omega
  have hr := r.isLt
  unfold blkAt
  rw [coords2]
  refine outBlk_attend (score_ne_top hQ hK b h _) _ _ _ ⟨d.val / 64, by omega⟩ d rfl r (t.val % 8) (by omega) ?_ ?_ ?_
    (score_self hQ hK b h _) fun k hk => score_after b h hk
  · intro j hj k
    have hk := k.isLt
    refine (sc_apply _ _ k r).trans ?_
    rw [scT_at m c hQ hK t _ j (by omega) k r b h hb hh']
    unfold score
    rw [if_pos (by omega)]
  · intro k
    refine (masked_apply _ _ k r).trans ?_
    rw [scT_at m c hQ hK t _ (t.val % 8) (by omega) k r b h hb hh']
    unfold score
    by_cases hkr : k.val ≤ r.val
    · rw [if_pos hkr, if_pos (by omega)]
    · rw [if_neg hkr, if_neg (by omega)]
  · intro j hj k
    have hk := k.isLt
    exact vtile_at m c t j (by omega) d k b h e _ hb hh (Nat.mod_eq_of_lt (by omega))

/-- An element of the block of a grid point, at the array's index it is written to. -/
theorem blkAt_result (hQ : Finite (argQ m c)) (hK : Finite (argK m c)) (t : Fin cfg0.N) (z : S1x512x128.Idx) (i : S8x4096x512.Idx)
    (h0 : (i 0).val = t.val / 32) (h1 : (i 1).val = 512 * (t.val % 8) + (z 1).val) (h2 : (i 2).val = 128 * (t.val / 8 % 4) + (z 2).val) :
    blkAt m c t z = result (argQ m c) (argK m c) (argV m c) i := by
  obtain ⟨z0, r, d, rfl⟩ : ∃ (z0 : Fin 1) (r : Fin 512) (d : Fin 128), z = ix3 z0 r d := ⟨z 0, z 1, z 2, eq_ix3 z⟩
  obtain rfl : z0 = 0 := Subsingleton.elim _ _
  rw [blkAt_apply m c hQ hK t r d (i 0) ⟨(i 2).val / 64, by have : (i 2).val < 512 := (i 2).isLt; omega⟩ ⟨(i 2).val % 64, by omega⟩ h0
    ((show 64 * ((i 2).val / 64) + (i 2).val % 64 = (i 2).val by omega).trans h2)]
  unfold result
  rw [h1]
  rfl

/-- The kernel's output array is causal attention of its arguments. -/
theorem arr_out (hQ : Finite (argQ m c)) (hK : Finite (argK m c)) :
    (dats m 0 c).arrAt 3 cfg0.N = result (argQ m c) (argK m c) (argV m c) := by
  refine (dats m 0 c).arrAt_eq_of_covers 3 _ (by decide +kernel) fun t hf y => ?_
  rw [after0_3]
  refine (blkAt_result m c hQ hK t _ _ ?_ ?_ ?_)
  · refine (Pipeline.Window.rect_emb_val win0_3 t _ 0).trans ?_
    rw [idx3]; simp [win0_3]
  · refine (Pipeline.Window.rect_emb_val win0_3 t _ 1).trans ?_
    rw [idx3]; simp [win0_3]; omega
  · refine (Pipeline.Window.rect_emb_val win0_3 t _ 2).trans ?_
    rw [idx3]; simp [win0_3]; omega

end Cert.Attn

end
-- ==== Proof.Attn.Ref.lean ====
/- The reference's result: causal attention, element by element. -/
module

public import proofs.«01_k».proof.Proof.Gen.ReferenceIdeal.Run
public import proofs.«01_k».proof.Proof.Attn.Payload
public import proofs.«01_k».proof.Proof.Attn.Score
public import Idealize.ShloMosaic.Lib.Pointwise

@[expose] public section

set_option maxRecDepth 16384

noncomputable section

namespace Cert.Attn.Ref

open Cert.ReferenceIdeal Cert.ReferenceIdeal.Gen Cert.ReferenceIdeal.Value Idealize.ShloMosaic Idealize.ShloMosaic.TcCoe Idealize.SL.Sem

/-- The masked scores, as the reference writes them. -/
def scores (q k : FVec Ideal S8x4096x8x96 .f32) : FVec Ideal S8x8x4096x4096 .f32 :=
  select (broadcastInDim S8x8x4096x4096 ![2, 3] bcast_S4096x4096_S8x8x4096x4096_2_3
      (cmpi .sle (broadcastInDim S4096x4096 ![0, 1] bcast_S1x4096_S4096x4096_0_1 (broadcastInDim S1x4096 ![1] bcast_S4096_S1x4096_1 (iotaInDim S4096 32 0)))
        (broadcastInDim S4096x4096 ![0, 1] bcast_S4096x1_S4096x4096_0_1 (broadcastInDim S4096x1 ![0] bcast_S4096_S4096x1_0 (iotaInDim S4096 32 0)))))
    (mulf (Host.dotGeneral dot_S8x4096x8x96_S8x4096x8x96_S8x8x4096x4096_3_3_1_1_02_02 none q k)
      (broadcastInDim S8x8x4096x4096 ![] bcast_S_S8x8x4096x4096 (constant (F := Ideal) S_ .f32 0x3DD105EC#32)))
    (broadcastInDim S8x8x4096x4096 ![] bcast_S_S8x8x4096x4096 (constant (F := Ideal) S_ .f32 0xFF800000#32))

/-- A row's maximum of a rank-four array. -/
theorem rowMax_apply (A B S n : ℕ) (x : FVec Ideal ⟨4, ![A, B, S, n]⟩ .f32) (hr : (⟨4, ![A, B, S, n]⟩ : Shape).ReducesTo [3] ⟨3, ![A, B, S]⟩)
    (hu : 0 < (⟨0, ![]⟩ : Shape).numel) (b : Fin A) (h : Fin B) (s : Fin S) :
    (show EReal from Host.reduce (FloatOps.maximumf (F := Ideal) (φ := .f32)) x (constant (F := Ideal) ⟨0, ![]⟩ .f32 0xFF800000#32) hr hu (ix3 b h s))
      = Finset.fold max (⊥ : EReal) (fun k => x (ix4 b h s k)) Finset.univ := by
  pointwise
  rw [neg_inf]

/-- The scores' maximum of each row. -/
def rowMax (x : FVec Ideal S8x8x4096x4096 .f32) : FVec Ideal S8x8x4096 .f32 :=
  Host.reduce FloatOps.maximumf x (constant (F := Ideal) S_ .f32 0xFF800000#32) reducesTo_S8x8x4096x4096_S8x8x4096_d3 h_S_

/-- The exponentials of the scores less their row's maximum. -/
def exps (x : FVec Ideal S8x8x4096x4096 .f32) (y : FVec Ideal S8x8x4096 .f32) : FVec Ideal S8x8x4096x4096 .f32 :=
  Host.exp (subf x (broadcastInDim S8x8x4096x4096 ![0, 1, 2, 3] bcast_S8x8x4096x1_S8x8x4096x4096_0_1_2_3
    (broadcastInDim S8x8x4096x1 ![0, 1, 2] bcast_S8x8x4096_S8x8x4096x1_0_1_2
      (maximumf (broadcastInDim S8x8x4096 ![] bcast_S_S8x8x4096 (constant (F := Ideal) S_ .f32 0xFF800000#32)) y))))

/-- The weights: the exponentials over their row's sum. -/
def weights (x : FVec Ideal S8x8x4096x4096 .f32) : FVec Ideal S8x8x4096x4096 .f32 :=
  Host.divf x (broadcastInDim S8x8x4096x4096 ![0, 1, 2, 3] bcast_S8x8x4096x1_S8x8x4096x4096_0_1_2_3
    (broadcastInDim S8x8x4096x1 ![0, 1, 2] bcast_S8x8x4096_S8x8x4096x1_0_1_2
      (Host.reduceAdd x (constant (F := Ideal) S_ .f32 0x00000000#32) reducesTo_S8x8x4096x4096_S8x8x4096_d3 h_S_)))

/-- The weighted sums of the values, in the layout of the result. -/
def mix (v : FVec Ideal S8x4096x8x64 .f32) (x : FVec Ideal S8x8x4096x4096 .f32) : FVec Ideal S8x4096x512 .bf16 :=
  truncf .bf16 (shapeCast S8x4096x512 (transpose S8x4096x8x64 [0, 3, 1, 2]
      (Host.dotGeneral dot_S8x4096x8x64_S8x8x4096x4096_S8x8x64x4096_1_3_3_2_02_01 none v x)
      transposes_S8x8x64x4096_S8x4096x8x64_0_3_1_2) shapeCasts_S8x4096x8x64_S8x4096x512) bitsLt_bf16_f32

theorem scores_apply (q k : FVec Ideal S8x4096x8x96 .f32) (b h : Fin 8) (s j : Fin 4096) :
    scores q k (ix4 b h s j) = score q k b h s.val j.val := by
  pointwise [scores]
  rw [WordCmp.cmpi_sle_ofNat (by have := j.isLt; omega) (by have := s.isLt; omega)]
  unfold score
  have e1 : Fin.ofNat 4096 s.val = s := Fin.ext (Nat.mod_eq_of_lt s.isLt)
  have e2 : Fin.ofNat 4096 j.val = j := Fin.ext (Nat.mod_eq_of_lt j.isLt)
  rw [e1, e2]
  by_cases hj : j.val ≤ s.val
  · simp [hj, Scalar.select]
  · simp [hj, Scalar.select, neg_inf]

/-- The exponentials at an index. -/
theorem exps_at (x : FVec Ideal S8x8x4096x4096 .f32) (y : FVec Ideal S8x8x4096 .f32) (b h : Fin 8) (s j : Fin 4096) :
    (show EReal from Host.exp (subf x (broadcastInDim S8x8x4096x4096 ![0, 1, 2, 3] bcast_S8x8x4096x1_S8x8x4096x4096_0_1_2_3
      (broadcastInDim S8x8x4096x1 ![0, 1, 2] bcast_S8x8x4096_S8x8x4096x1_0_1_2 y))) (ix4 b h s j))
      = Ideal.exp (x (ix4 b h s j) - y (ix3 b h s)) := by
  pointwise

/-- The maximum with −∞ changes nothing. -/
theorem max_at (A B S : ℕ) (y : FVec Ideal ⟨3, ![A, B, S]⟩ .f32)
    (h0 : (⟨0, ![]⟩ : Shape).BroadcastsInDim ⟨3, ![A, B, S]⟩ ![]) :
    maximumf (broadcastInDim ⟨3, ![A, B, S]⟩ ![] h0 (constant (F := Ideal) ⟨0, ![]⟩ .f32 0xFF800000#32)) y = y := by
  funext i
  pointwise
  rw [neg_inf]
  exact max_eq_right bot_le

theorem exps_apply (x : FVec Ideal S8x8x4096x4096 .f32) (g : ℕ → EReal) (b h : Fin 8) (s : Fin 4096)
    (hg : ∀ j : Fin 4096, x (ix4 b h s j) = g j.val) (j : Fin 4096) :
    exps x (rowMax x) (ix4 b h s j) = Ideal.exp (g j.val - (Finset.range 4096).sup g) := by
  have e : rowMax x (ix3 b h s) = (Finset.range 4096).sup g :=
    (rowMax_apply 8 8 4096 4096 x reducesTo_S8x8x4096x4096_S8x8x4096_d3 h_S_ b h s).trans (fold_max_range _ g hg)
  generalize rowMax x = y at e ⊢
  unfold exps
  rw [max_at 8 8 4096 y bcast_S_S8x8x4096]
  refine (exps_at x y b h s j).trans ?_
  rw [hg, e]

theorem weights_apply (x : FVec Ideal S8x8x4096x4096 .f32) (g : ℕ → EReal) (b h : Fin 8) (s : Fin 4096)
    (hg : ∀ j : Fin 4096, x (ix4 b h s j) = g j.val) (j : Fin 4096) :
    weights x (ix4 b h s j) = Ideal.div (g j.val) (∑ k ∈ Finset.range 4096, g k) := by
  pointwise [weights]
  rw [hg, Finset.sum_range]
  exact congrArg _ (Finset.sum_congr rfl fun k _ => hg k)

theorem mix_apply (v : FVec Ideal S8x4096x8x64 .f32) (x : FVec Ideal S8x8x4096x4096 .f32) (g : ℕ → EReal) (b h : Fin 8) (s : Fin 4096)
    (hg : ∀ j : Fin 4096, x (ix4 b h s j) = g j.val) (d : Fin 64) (e : Fin 512) (h1 : (⟨e.val / 64, by omega⟩ : Fin 8) = h)
    (h2 : (⟨e.val % 64, by omega⟩ : Fin 64) = d) :
    mix v x (ix3 b s e) = ∑ j ∈ Finset.range 4096, value v b h d j * g j := by
  pointwise [mix]
  rw [Finset.sum_range, h1, h2]
  refine Finset.sum_congr rfl fun k _ => ?_
  rw [hg]
  unfold value
  rw [show Fin.ofNat 4096 k.val = k from Fin.ext (Nat.mod_eq_of_lt k.isLt)]

variable (m : (ℓ : Loc nD τ sig) → Buf (Elt Ideal) ℓ) (c : Dev nD)

theorem res_eq : res_main_v24 m c = mix (m ((c.tc : Thread nD τ).loc main_arg2))
    (weights (exps (scores (m ((c.tc : Thread nD τ).loc main_arg0)) (m ((c.tc : Thread nD τ).loc main_arg1)))
      (rowMax (scores (m ((c.tc : Thread nD τ).loc main_arg0)) (m ((c.tc : Thread nD τ).loc main_arg1)))))) := rfl

/-- The reference's result is causal attention of its arguments. -/
theorem res_result : (res_main_v24 m c : S8x4096x512.Idx → EReal)
    = result (m ((c.tc : Thread nD τ).loc main_arg0)) (m ((c.tc : Thread nD τ).loc main_arg1)) (m ((c.tc : Thread nD τ).loc main_arg2)) := by
  rw [res_eq]
  funext i
  obtain ⟨b, s, e, rfl⟩ : ∃ (b : Fin 8) (s : Fin 4096) (e : Fin 512), i = ix3 b s e := ⟨i 0, i 1, i 2, eq_ix3 i⟩
  have H1 := scores_apply (m ((c.tc : Thread nD τ).loc main_arg0)) (m ((c.tc : Thread nD τ).loc main_arg1)) b ⟨e.val / 64, by omega⟩ s
  have H2 := exps_apply _ (score _ _ b ⟨e.val / 64, by omega⟩ s.val) b ⟨e.val / 64, by omega⟩ s H1
  have H3 := weights_apply _ (fun k => Ideal.exp (score _ _ b ⟨e.val / 64, by omega⟩ s.val k - (Finset.range 4096).sup (score _ _ b ⟨e.val / 64, by omega⟩ s.val))) b ⟨e.val / 64, by omega⟩ s H2
  exact mix_apply _ _ (fun k => Ideal.div (Ideal.exp (score (m ((c.tc : Thread nD τ).loc main_arg0)) (m ((c.tc : Thread nD τ).loc main_arg1)) b ⟨e.val / 64, by omega⟩ s.val k - _)) _) b _ s H3 _ e rfl rfl

end Cert.Attn.Ref

end
-- ==== Proof.Attn.Pre.lean ====
/- The precondition, read: every query and every key element is a real number. -/
module

public import proofs.«01_k».proof.Defs
public import proofs.«01_k».proof.Proof.Attn.Score
public import Idealize.ShloMosaic.Lib.ReduceAll
public import Idealize.ShloMosaic.Lib.Pointwise

@[expose] public section

set_option maxRecDepth 16384

noncomputable section

namespace Cert.Attn

open Idealize.ShloMosaic Idealize.ShloMosaic.TcCoe Idealize.SL.Sem

theorem pos_inf : Ideal.ofBits .f32 0x7F800000#32 = (⊤ : EReal) := by simp [Ideal.ofBits, Ideal.ieee]

/-- What the comparison `|x| < ∞` says of an extended real. -/
theorem finite_of_abs {x : FVec Ideal Cert.Pre_finite_qk.S8x4096x8x96 .f32} (i : Cert.Pre_finite_qk.S8x4096x8x96.Idx)
    (hb : Cert.Pre_finite_qk.S_.BroadcastsInDim Cert.Pre_finite_qk.S8x4096x8x96 ![])
    (h : cmpf .olt (Host.absf x) (broadcastInDim Cert.Pre_finite_qk.S8x4096x8x96 ![] hb (constant (F := Ideal) Cert.Pre_finite_qk.S_ .f32 0x7F800000#32)) i = 1#1) :
    (x i : EReal) ≠ ⊤ ∧ (x i : EReal) ≠ ⊥ := by
  generalize hy : (x i : EReal) = y
  have : max y (-y) < (⊤ : EReal) := by
    pointwise at h
    rw [hy, pos_inf] at h
    by_contra hn
    exact absurd h (by rw [show (FloatOps.absf y : EReal) = max y (-y) from rfl]; simp [hn])
  constructor <;> rintro rfl <;> simp at this

theorem finite_of_pre [hp : Cert.Pre_finite_qk.Facts] {q k : FVec Ideal Cert.Pre_finite_qk.S8x4096x8x96 .f32} {v : FVec Ideal Cert.Pre_finite_qk.S8x4096x8x64 .f32}
    (h : Cert.Pre_finite_qk.fn (F := Ideal) q k v = fun _ => 1#1) : Finite (q : _ → EReal) ∧ Finite (k : _ → EReal) := by
  have h0 := congrFun h (fun a => Fin.elim0 a)
  unfold Cert.Pre_finite_qk.fn at h0
  simp only at h0
  obtain ⟨h1, h2⟩ := IntOp.andi_eq_one.1 h0
  haveI : Subsingleton Cert.Pre_finite_qk.S_.Idx := ⟨fun _ _ => funext fun a => Fin.elim0 a⟩
  exact ⟨fun i => finite_of_abs i _ (Host.reduce_andi_all _ _ _ _ _ h1 i), fun i => finite_of_abs i _ (Host.reduce_andi_all _ _ _ _ _ h2 i)⟩

end Cert.Attn

end
-- ==== Proof.InProj.Model.lean ====
/- The input projection, element by element: a token's features over their root mean square, times a gain, projected. -/
module

public import Idealize.ShloMosaic.PureOps.Ideal
public import Idealize.ShloMosaic.Lib.Pointwise

@[expose] public section

noncomputable section

namespace Cert.InProj9

open Idealize.ShloMosaic

/-- A token's features normalized: over the root of their mean square plus a constant, times the gain. -/
def normed (x g : Fin 1024 → EReal) (k : Fin 1024) : EReal :=
  x k * Ideal.rsqrt (Ideal.div (∑ j, x j * x j) (Ideal.ofBits .f32 0x44800000#32) + Ideal.ofBits .f32 0x358637BD#32) * g k

/-- The normalized features projected by one column. -/
def projected (x g w : Fin 1024 → EReal) : EReal := ∑ k, normed x g k * w k

/-- A slice of whole columns, at an index. -/
theorem columns_apply {R w o : ℕ} (v : (⟨2, ![R, 5664]⟩ : Shape).Idx → EReal) (h : (⟨2, ![R, 5664]⟩ : Shape).Slices ![0, o] ⟨2, ![R, w]⟩)
    (p : o + w ≤ 5664) (i : Fin R) (n : Fin w) : extractStridedSlice ⟨2, ![R, w]⟩ ![0, o] v h (ix2 i n) = v (ix2 i ⟨o + n.val, by omega⟩) := by
  refine congrArg v (funext fun a => Fin.ext ?_)
  fin_cases a
  · exact Nat.zero_add i.val
  · rfl

end Cert.InProj9

end
-- ==== Proof.InProj.Tile.lean ====
/- One grid point of the input projection's kernel: each block it leaves, element by element. -/
module

public import proofs.«01_k».proof.Proof.Gen.InProjIdeal.Frame
public import proofs.«01_k».proof.Proof.InProj.Model
public import Idealize.ShloMosaic.Lib.Pointwise
public import Idealize.ShloMosaic.Lib.Pipeline.ValueKit

@[expose] public section

set_option maxRecDepth 16384

noncomputable section

namespace Cert.InProj9

open Cert.InProjIdeal Cert.InProjIdeal.Gen Idealize.ShloMosaic Idealize.ShloMosaic.TcCoe Idealize.SL.Sem

theorem off0 : (![0, 0] : Fin 2 → ℕ) = fun _ => 0 := by funext a; fin_cases a <;> rfl

/-- The normalized tile at an index. -/
theorem pay1_apply (x : FVec Ideal S512x1024 .f32) (g : FVec Ideal S1x1024 .f32) (r : Fin 512) (k : Fin 1024) :
    (k0_pay1 (F := Ideal) x g : S512x1024.Idx → EReal) (ix2 r k) = normed (fun j => x (ix2 r j)) (fun j => g (ix2 0 j)) k := by
  pointwise [k0_pay1]
  rfl

/-- A row of the tile, normalized, times a column of weights. -/
def along (x : S512x1024.Idx → EReal) (g : S1x1024.Idx → EReal) (r : Fin 512) (w : Fin 1024 → EReal) : EReal :=
  projected (fun j => x (ix2 r j)) (fun j => g (ix2 0 j)) w

theorem sum_along (x : FVec Ideal S512x1024 .f32) (g : FVec Ideal S1x1024 .f32) (r : Fin 512) (w : Fin 1024 → EReal) :
    ∑ k, (k0_pay1 (F := Ideal) x g : S512x1024.Idx → EReal) (ix2 r k) * w k = along x g r w :=
  Finset.sum_congr rfl fun k _ => congrArg (· * w k) (pay1_apply x g r k)

/-- The tile times each of the nine pieces of the weights. -/
theorem products_apply (x : FVec Ideal S512x1024 .f32) (g : FVec Ideal S1x1024 .f32) (r : Fin 512) :
    (∀ (w : FVec Ideal S1024x384 .bf16) (n : Fin 384), (k0_pay2 (F := Ideal) x g w : S512x384.Idx → EReal) (ix2 r n) = along x g r fun k => w (ix2 k n)) ∧
    (∀ (w : FVec Ideal S1024x128 .bf16) (n : Fin 128), (k0_pay3 (F := Ideal) x g w : S512x128.Idx → EReal) (ix2 r n) = along x g r fun k => w (ix2 k n)) ∧
    (∀ (w : FVec Ideal S1024x32 .bf16) (n : Fin 32), (k0_pay4 (F := Ideal) x g w : S512x32.Idx → EReal) (ix2 r n) = along x g r fun k => w (ix2 k n)) ∧
    (∀ (w : FVec Ideal S1024x256 .bf16) (n : Fin 256), (k0_pay6 (F := Ideal) (k0_pay1 x g) (k0_pay5 w) (constant S512x256 .f32 0x00000000#32) : S512x256.Idx → EReal) (ix2 r n) = along x g r fun k => w (ix2 k n)) ∧
    (∀ (w : FVec Ideal S1024x256 .bf16) (n : Fin 256), (k0_pay7 (F := Ideal) (k0_pay1 x g) w : S512x256.Idx → EReal) (ix2 r n) = along x g r fun k => w (ix2 k n)) ∧
    (∀ (w : FVec Ideal S1024x512 .bf16) (n : Fin 512), (k0_pay8 (F := Ideal) (k0_pay1 x g) w : S512x512.Idx → EReal) (ix2 r n) = along x g r fun k => w (ix2 k n)) ∧
    (∀ (w : FVec Ideal S1024x512 .bf16) (n : Fin 512), (k0_pay9 (F := Ideal) (k0_pay1 x g) w : S512x512.Idx → EReal) (ix2 r n) = along x g r fun k => w (ix2 k n)) ∧
    (∀ (w : FVec Ideal S1024x512 .bf16) (n : Fin 512), (k0_pay10 (F := Ideal) (k0_pay1 x g) w : S512x512.Idx → EReal) (ix2 r n) = along x g r fun k => w (ix2 k n)) ∧
    (∀ (w : FVec Ideal S1024x3072 .bf16) (n : Fin 3072), (k0_pay11 (F := Ideal) (k0_pay1 x g) w : S512x3072.Idx → EReal) (ix2 r n) = along x g r fun k => w (ix2 k n)) := by
  refine ⟨fun w n => ?_, fun w n => ?_, fun w n => ?_, fun w n => ?_, fun w n => ?_, fun w n => ?_, fun w n => ?_, fun w n => ?_, fun w n => ?_⟩ <;>
  · refine Eq.trans ?_ (sum_along x g r fun k => w (ix2 k n))
    pointwise [k0_pay2, k0_pay3, k0_pay4, k0_pay5, k0_pay6, k0_pay7, k0_pay8, k0_pay9, k0_pay10, k0_pay11]

variable (x : Vec Ideal S512x1024 .f32) (g : Vec Ideal S1x1024 .f32)
variable (w0 : Vec Ideal S1024x384 .bf16)
variable (w1 : Vec Ideal S1024x128 .bf16)
variable (w2 : Vec Ideal S1024x32 .bf16)
variable (w3 : Vec Ideal S1024x256 .bf16)
variable (w4 : Vec Ideal S1024x256 .bf16)
variable (w5 : Vec Ideal S1024x512 .bf16)
variable (w6 : Vec Ideal S1024x512 .bf16)
variable (w7 : Vec Ideal S1024x512 .bf16)
variable (w8 : Vec Ideal S1024x3072 .bf16)

/-- Each block a grid point leaves is one of those products, of the blocks it is given whole. -/
theorem blocks_eq :
    out0_11 (F := Ideal) x g w0 w1 w2 w3 w4 w5 w6 w7 w8 = k0_pay2 (F := Ideal) x g w0 ∧
    out0_12 (F := Ideal) x g w0 w1 w2 w3 w4 w5 w6 w7 w8 = k0_pay3 (F := Ideal) x g w1 ∧
    out0_13 (F := Ideal) x g w0 w1 w2 w3 w4 w5 w6 w7 w8 = k0_pay4 (F := Ideal) x g w2 ∧
    out0_14 (F := Ideal) x g w0 w1 w2 w3 w4 w5 w6 w7 w8 = k0_pay6 (F := Ideal) (k0_pay1 x g) (k0_pay5 w3) (constant S512x256 .f32 0x00000000#32) ∧
    out0_15 (F := Ideal) x g w0 w1 w2 w3 w4 w5 w6 w7 w8 = k0_pay7 (F := Ideal) (k0_pay1 x g) w4 ∧
    out0_16 (F := Ideal) x g w0 w1 w2 w3 w4 w5 w6 w7 w8 = k0_pay8 (F := Ideal) (k0_pay1 x g) w5 ∧
    out0_17 (F := Ideal) x g w0 w1 w2 w3 w4 w5 w6 w7 w8 = k0_pay9 (F := Ideal) (k0_pay1 x g) w6 ∧
    out0_18 (F := Ideal) x g w0 w1 w2 w3 w4 w5 w6 w7 w8 = k0_pay10 (F := Ideal) (k0_pay1 x g) w7 ∧
    out0_19 (F := Ideal) x g w0 w1 w2 w3 w4 w5 w6 w7 w8 = k0_pay11 (F := Ideal) (k0_pay1 x g) w8 := by
  refine ⟨?_, ?_, ?_, ?_, ?_, ?_, ?_, ?_, ?_⟩ <;>
  · simp only [out0_11, out0_12, out0_13, out0_14, out0_15, out0_16, out0_17, out0_18, out0_19, k0_pay12]
    rw [View.canon_unit_zero off0]
    simp only [show View.ld x r0_0 = x from View.ld_unit_zero off0 _ x, show View.ld g r0_1 = g from View.ld_unit_zero off0 _ g,
      show View.ld w0 r0_2 = w0 from View.ld_unit_zero off0 _ w0, show View.ld w1 r0_4 = w1 from View.ld_unit_zero off0 _ w1,
      show View.ld w2 r0_6 = w2 from View.ld_unit_zero off0 _ w2, show ∀ w, View.ld w r0_8 = w from View.ld_unit_zero off0 _,
      show ∀ w, View.ld w r0_10 = w from View.ld_unit_zero off0 _, show View.ld w8 r0_12 = w8 from View.ld_unit_zero off0 _ w8]

end Cert.InProj9

end
-- ==== Proof.InProj.Value.lean ====
/- The input projection's output arrays, element by element. -/
module

public import proofs.«01_k».proof.Proof.Gen.InProjIdeal.Value
public import proofs.«01_k».proof.Proof.InProj.Tile

@[expose] public section

set_option maxRecDepth 16384

noncomputable section

namespace Cert.InProj9

open Cert.InProjIdeal Cert.InProjIdeal.Gen Idealize.ShloMosaic Idealize.ShloMosaic.TcCoe Idealize.SL.Sem

variable (m : (ℓ : Loc nD τ sig) → Buf (Elt Ideal) ℓ) (c : Dev nD)

/-- The arguments: the tokens by batch and position, the gain, the weights. -/
def argX (b : Fin 8) (s : Fin 4096) (n : Fin 1024) : EReal := (m ((c : Thread nD τ).loc main_arg0) : S8x4096x1024.Idx → EReal) (ix3 b s n)
def argG (k : Fin 1024) : EReal := (m ((c : Thread nD τ).loc main_arg1) : S1024.Idx → EReal) (ix1 k)
def argW (k : Fin 1024) (n : Fin 5664) : EReal := (m ((c : Thread nD τ).loc main_arg2) : S1024x5664.Idx → EReal) (ix2 k n)

/-! What the host part hands to the call. -/

theorem flat_x (x : FVec Ideal S8x4096x1024 .f32) (t : Fin 32768) (n : Fin 1024) :
    (show EReal from (shapeCast S32768x1024 x shapeCasts_S8x4096x1024_S32768x1024 : FVec Ideal S32768x1024 .f32) (ix2 t n)) = x (ix3 ⟨t.val / 4096, by omega⟩ ⟨t.val % 4096, by omega⟩ n) := by
  pointwise

theorem flat_g (g : FVec Ideal S1024 .f32) (n : Fin 1024) :
    (show EReal from (shapeCast S1x1024 g shapeCasts_S1024_S1x1024 : FVec Ideal S1x1024 .f32) (ix2 0 n)) = g (ix1 n) := by
  pointwise

theorem V_x (t : Fin 32768) (n : Fin 1024) :
    (V m c main_v0 : S32768x1024.Idx → EReal) (ix2 t n) = argX m c ⟨t.val / 4096, by omega⟩ ⟨t.val % 4096, by omega⟩ n := by
  have e : (V m c main_v0 : S32768x1024.Idx → EReal) = (shapeCast S32768x1024 (m ((c : Thread nD τ).loc main_arg0) : FVec Ideal S8x4096x1024 .f32) shapeCasts_S8x4096x1024_S32768x1024) := by
    simp only [V, hostOps0, StableHlo.TRef.unary, StableHlo.TRef.toBuf, StableHlo.TRef.ofBuf, cast_eq]
    after_results_simp
    rfl
  rw [e]
  exact flat_x _ t n

theorem V_g (n : Fin 1024) : (V m c main_v19 : S1x1024.Idx → EReal) (ix2 0 n) = argG m c n := by
  have e : (V m c main_v19 : S1x1024.Idx → EReal) = (shapeCast S1x1024 (m ((c : Thread nD τ).loc main_arg1) : FVec Ideal S1024 .f32) shapeCasts_S1024_S1x1024) := by
    simp only [V, hostOps0, StableHlo.TRef.unary, StableHlo.TRef.toBuf, StableHlo.TRef.ofBuf, cast_eq]
    after_results_simp
    rfl
  rw [e]
  exact flat_g _ n

/-- One piece of the weights, cast. -/
def piece (w o : ℕ) (h : S1024x5664.Slices ![0, o] ⟨2, ![1024, w]⟩) (v : FVec Ideal S1024x5664 .f32) : FVec Ideal ⟨2, ![1024, w]⟩ .bf16 :=
  truncf .bf16 (extractStridedSlice ⟨2, ![1024, w]⟩ ![0, o] v h) bitsLt_bf16_f32

theorem piece_apply {w o : ℕ} (h : S1024x5664.Slices ![0, o] ⟨2, ![1024, w]⟩) (v : FVec Ideal S1024x5664 .f32) (p : o + w ≤ 5664) (k : Fin 1024) (n : Fin w) :
    (piece w o h v : (⟨2, ![1024, w]⟩ : Shape).Idx → EReal) (ix2 k n) = v (ix2 k ⟨o + n.val, by omega⟩) :=
  columns_apply v h p k n

/-- The nine pieces of the weights, as the host hands them over. -/
theorem V_w :
    (V m c main_v2 : S1024x384.Idx → EReal) = piece 384 0 slices_S1024x5664_S1024x384_0_0 (m ((c : Thread nD τ).loc main_arg2)) ∧
    (V m c main_v4 : S1024x128.Idx → EReal) = piece 128 384 slices_S1024x5664_S1024x128_0_384 (m ((c : Thread nD τ).loc main_arg2)) ∧
    (V m c main_v6 : S1024x32.Idx → EReal) = piece 32 512 slices_S1024x5664_S1024x32_0_512 (m ((c : Thread nD τ).loc main_arg2)) ∧
    (V m c main_v8 : S1024x256.Idx → EReal) = piece 256 544 slices_S1024x5664_S1024x256_0_544 (m ((c : Thread nD τ).loc main_arg2)) ∧
    (V m c main_v10 : S1024x256.Idx → EReal) = piece 256 800 slices_S1024x5664_S1024x256_0_800 (m ((c : Thread nD τ).loc main_arg2)) ∧
    (V m c main_v12 : S1024x512.Idx → EReal) = piece 512 1056 slices_S1024x5664_S1024x512_0_1056 (m ((c : Thread nD τ).loc main_arg2)) ∧
    (V m c main_v14 : S1024x512.Idx → EReal) = piece 512 1568 slices_S1024x5664_S1024x512_0_1568 (m ((c : Thread nD τ).loc main_arg2)) ∧
    (V m c main_v16 : S1024x512.Idx → EReal) = piece 512 2080 slices_S1024x5664_S1024x512_0_2080 (m ((c : Thread nD τ).loc main_arg2)) ∧
    (V m c main_v18 : S1024x3072.Idx → EReal) = piece 3072 2592 slices_S1024x5664_S1024x3072_0_2592 (m ((c : Thread nD τ).loc main_arg2)) := by
  refine ⟨?_, ?_, ?_, ?_, ?_, ?_, ?_, ?_, ?_⟩ <;>
  · simp only [V, hostOps0, StableHlo.TRef.unary, StableHlo.TRef.toBuf, StableHlo.TRef.ofBuf, cast_eq]
    after_results_simp
    rfl

/-! Where a grid point's blocks lie: the tokens' and the nine outputs' at its rows, the others at the start. -/

theorem idx0 : ∀ (t : Fin grid0.N) (a : Fin 2), win0_0.index t a = (![t.val, 0] : Fin 2 → ℕ) a := by decide +kernel
theorem idx1 : ∀ (t : Fin grid0.N) (a : Fin 2), win0_1.index t a = (![0, 0] : Fin 2 → ℕ) a := by decide +kernel
theorem idx2 : ∀ (t : Fin grid0.N) (a : Fin 2), win0_2.index t a = 0 := by decide +kernel
theorem idx3 : ∀ (t : Fin grid0.N) (a : Fin 2), win0_3.index t a = 0 := by decide +kernel
theorem idx4 : ∀ (t : Fin grid0.N) (a : Fin 2), win0_4.index t a = 0 := by decide +kernel
theorem idx5 : ∀ (t : Fin grid0.N) (a : Fin 2), win0_5.index t a = 0 := by decide +kernel
theorem idx6 : ∀ (t : Fin grid0.N) (a : Fin 2), win0_6.index t a = 0 := by decide +kernel
theorem idx7 : ∀ (t : Fin grid0.N) (a : Fin 2), win0_7.index t a = 0 := by decide +kernel
theorem idx8 : ∀ (t : Fin grid0.N) (a : Fin 2), win0_8.index t a = 0 := by decide +kernel
theorem idx9 : ∀ (t : Fin grid0.N) (a : Fin 2), win0_9.index t a = 0 := by decide +kernel
theorem idx10 : ∀ (t : Fin grid0.N) (a : Fin 2), win0_10.index t a = 0 := by decide +kernel
theorem idx11 : ∀ (t : Fin grid0.N) (a : Fin 2), win0_11.index t a = (![t.val, 0] : Fin 2 → ℕ) a := by decide +kernel
theorem idx12 : ∀ (t : Fin grid0.N) (a : Fin 2), win0_12.index t a = (![t.val, 0] : Fin 2 → ℕ) a := by decide +kernel
theorem idx13 : ∀ (t : Fin grid0.N) (a : Fin 2), win0_13.index t a = (![t.val, 0] : Fin 2 → ℕ) a := by decide +kernel
theorem idx14 : ∀ (t : Fin grid0.N) (a : Fin 2), win0_14.index t a = (![t.val, 0] : Fin 2 → ℕ) a := by decide +kernel
theorem idx15 : ∀ (t : Fin grid0.N) (a : Fin 2), win0_15.index t a = (![t.val, 0] : Fin 2 → ℕ) a := by decide +kernel
theorem idx16 : ∀ (t : Fin grid0.N) (a : Fin 2), win0_16.index t a = (![t.val, 0] : Fin 2 → ℕ) a := by decide +kernel
theorem idx17 : ∀ (t : Fin grid0.N) (a : Fin 2), win0_17.index t a = (![t.val, 0] : Fin 2 → ℕ) a := by decide +kernel
theorem idx18 : ∀ (t : Fin grid0.N) (a : Fin 2), win0_18.index t a = (![t.val, 0] : Fin 2 → ℕ) a := by decide +kernel
theorem idx19 : ∀ (t : Fin grid0.N) (a : Fin 2), win0_19.index t a = (![t.val, 0] : Fin 2 → ℕ) a := by decide +kernel

/-- The token a grid point's row is. -/
def tok (t : Fin cfg0.N) (r : Fin 512) : Fin 32768 := ⟨512 * t.val + r.val, by have := t.isLt; have h : cfg0.N = 64 := rfl; omega⟩

theorem blk_x (t : Fin cfg0.N) (r : Fin 512) (n : Fin 1024) :
    (iblk m c 0 t : S512x1024.Idx → EReal) (ix2 r n) = argX m c ⟨(tok t r).val / 4096, by have := (tok t r).isLt; omega⟩ ⟨(tok t r).val % 4096, by omega⟩ n := by
  refine Eq.trans ?_ (V_x m c (tok t r) n)
  unfold iblk
  refine congrArg (V m c main_v0 : S32768x1024.Idx → EReal) (funext fun a => Fin.ext ?_)
  refine (Pipeline.Window.rect_emb_val win0_0 t _ a).trans ?_
  rw [idx0]
  fin_cases a <;> simp [win0_0, ix2, tok, Nat.mul_comm]

theorem blk_g (t : Fin cfg0.N) (n : Fin 1024) : (iblk m c 1 t : S1x1024.Idx → EReal) (ix2 0 n) = argG m c n := by
  refine Eq.trans ?_ (V_g m c n)
  unfold iblk
  refine congrArg (V m c main_v19 : S1x1024.Idx → EReal) (funext fun a => Fin.ext ?_)
  refine (Pipeline.Window.rect_emb_val win0_1 t _ a).trans ?_
  rw [idx1]
  fin_cases a <;> simp [win0_1, ix2]

theorem whole2 (t : Fin cfg0.N) : (iblk m c 2 t : S1024x384.Idx → EReal) = V m c main_v2 :=
  funext fun z => congrArg (V m c main_v2 : S1024x384.Idx → EReal) (funext fun a => Fin.ext (Pipeline.Window.rect_emb_val_of_index_zero win0_2 t a (idx2 t a) z))
theorem whole3 (t : Fin cfg0.N) : (iblk m c 3 t : S1024x128.Idx → EReal) = V m c main_v4 :=
  funext fun z => congrArg (V m c main_v4 : S1024x128.Idx → EReal) (funext fun a => Fin.ext (Pipeline.Window.rect_emb_val_of_index_zero win0_3 t a (idx3 t a) z))
theorem whole4 (t : Fin cfg0.N) : (iblk m c 4 t : S1024x32.Idx → EReal) = V m c main_v6 :=
  funext fun z => congrArg (V m c main_v6 : S1024x32.Idx → EReal) (funext fun a => Fin.ext (Pipeline.Window.rect_emb_val_of_index_zero win0_4 t a (idx4 t a) z))
theorem whole5 (t : Fin cfg0.N) : (iblk m c 5 t : S1024x256.Idx → EReal) = V m c main_v8 :=
  funext fun z => congrArg (V m c main_v8 : S1024x256.Idx → EReal) (funext fun a => Fin.ext (Pipeline.Window.rect_emb_val_of_index_zero win0_5 t a (idx5 t a) z))
theorem whole6 (t : Fin cfg0.N) : (iblk m c 6 t : S1024x256.Idx → EReal) = V m c main_v10 :=
  funext fun z => congrArg (V m c main_v10 : S1024x256.Idx → EReal) (funext fun a => Fin.ext (Pipeline.Window.rect_emb_val_of_index_zero win0_6 t a (idx6 t a) z))
theorem whole7 (t : Fin cfg0.N) : (iblk m c 7 t : S1024x512.Idx → EReal) = V m c main_v12 :=
  funext fun z => congrArg (V m c main_v12 : S1024x512.Idx → EReal) (funext fun a => Fin.ext (Pipeline.Window.rect_emb_val_of_index_zero win0_7 t a (idx7 t a) z))
theorem whole8 (t : Fin cfg0.N) : (iblk m c 8 t : S1024x512.Idx → EReal) = V m c main_v14 :=
  funext fun z => congrArg (V m c main_v14 : S1024x512.Idx → EReal) (funext fun a => Fin.ext (Pipeline.Window.rect_emb_val_of_index_zero win0_8 t a (idx8 t a) z))
theorem whole9 (t : Fin cfg0.N) : (iblk m c 9 t : S1024x512.Idx → EReal) = V m c main_v16 :=
  funext fun z => congrArg (V m c main_v16 : S1024x512.Idx → EReal) (funext fun a => Fin.ext (Pipeline.Window.rect_emb_val_of_index_zero win0_9 t a (idx9 t a) z))
theorem whole10 (t : Fin cfg0.N) : (iblk m c 10 t : S1024x3072.Idx → EReal) = V m c main_v18 :=
  funext fun z => congrArg (V m c main_v18 : S1024x3072.Idx → EReal) (funext fun a => Fin.ext (Pipeline.Window.rect_emb_val_of_index_zero win0_10 t a (idx10 t a) z))

/-- A token's projection by a column. -/
def column (t : Fin 32768) (n : Fin 5664) : EReal :=
  projected (argX m c ⟨t.val / 4096, by omega⟩ ⟨t.val % 4096, by omega⟩) (argG m c) (fun k => argW m c k n)

/-- A result array: the tokens' projections by `w` columns from column `o`. -/
def result (w o : ℕ) (p : o + w ≤ 5664) (i : (⟨2, ![32768, w]⟩ : Shape).Idx) : EReal :=
  column m c (i 0) ⟨o + (i 1).val, by have : (i 1).val < w := (i 1).isLt; omega⟩

/-- A row of a grid point's tile times a column of one piece is the token's projection. -/
theorem along_piece {w o : ℕ} (p : o + w ≤ 5664) (t : Fin cfg0.N) (r : Fin 512) (n : Fin w) {u : (⟨2, ![1024, w]⟩ : Shape).Idx → EReal}
    {h : S1024x5664.Slices ![0, o] ⟨2, ![1024, w]⟩} (hu : u = piece w o h (m ((c : Thread nD τ).loc main_arg2))) :
    along (iblk m c 0 t) (iblk m c 1 t) r (fun k => u (ix2 k n)) = result m c w o p (ix2 (tok t r) n) := by
  subst hu
  unfold along
  simp only [blk_x, blk_g, piece_apply h _ p]
  rfl

/-- A block's index is its row's token and its column. -/
theorem block_eq {w : ℕ} {f : (⟨2, ![512, w]⟩ : Shape).Idx → EReal} {R : (⟨2, ![32768, w]⟩ : Shape).Idx → EReal} (t : Fin cfg0.N)
    (h : ∀ r n, f (ix2 r n) = R (ix2 (tok t r) n)) (z : (⟨2, ![512, w]⟩ : Shape).Idx) (i : (⟨2, ![32768, w]⟩ : Shape).Idx)
    (h0 : (i 0).val = t.val * 512 + (z 0).val) (h1 : (i 1).val = 0 * w + (z 1).val) : f z = R i := by
  obtain ⟨r, n, rfl⟩ : ∃ (r : Fin 512) (n : Fin w), z = ix2 r n := ⟨z 0, z 1, eq_ix2 z⟩
  obtain rfl : i = ix2 (tok t r) n :=
    (eq_ix2 i).trans (congrArg₂ ix2 (Fin.ext (h0.trans (congrArg (· + r.val) (Nat.mul_comm t.val 512)))) (Fin.ext (h1.trans (by rw [Nat.zero_mul, Nat.zero_add]; rfl))))
  exact h r n

/-! The nine arrays. -/

theorem arr_out0 : (dats m 0 c).arrAt 11 cfg0.N = result m c 384 0 (by decide) := by
  refine (dats m 0 c).arrAt_eq_of_covers 11 _ (by decide +kernel) fun t _ y => ?_
  rw [show (dats m 0 c).after 11 t = _ from (after0_11 m c t).trans (blocks_eq _ _ _ _ _ _ _ _ _ _ _).1]
  exact (cast_eq _ _).trans (block_eq t (fun r n => ((products_apply _ _ r).1 _ n).trans (along_piece m c _ t r n ((whole2 m c t).trans (V_w m c).1))) _ _
    ((Pipeline.Window.rect_emb_val win0_11 t y 0).trans (congrArg (· * 512 + (y 0).val) (idx11 t 0)))
    ((Pipeline.Window.rect_emb_val win0_11 t y 1).trans (congrArg (· * 384 + (y 1).val) (idx11 t 1))))

theorem arr_out1 : (dats m 0 c).arrAt 12 cfg0.N = result m c 128 384 (by decide) := by
  refine (dats m 0 c).arrAt_eq_of_covers 12 _ (by decide +kernel) fun t _ y => ?_
  rw [show (dats m 0 c).after 12 t = _ from (after0_12 m c t).trans (blocks_eq _ _ _ _ _ _ _ _ _ _ _).2.1]
  exact (cast_eq _ _).trans (block_eq t (fun r n => ((products_apply _ _ r).2.1 _ n).trans (along_piece m c _ t r n ((whole3 m c t).trans (V_w m c).2.1))) _ _
    ((Pipeline.Window.rect_emb_val win0_12 t y 0).trans (congrArg (· * 512 + (y 0).val) (idx12 t 0)))
    ((Pipeline.Window.rect_emb_val win0_12 t y 1).trans (congrArg (· * 128 + (y 1).val) (idx12 t 1))))

theorem arr_out2 : (dats m 0 c).arrAt 13 cfg0.N = result m c 32 512 (by decide) := by
  refine (dats m 0 c).arrAt_eq_of_covers 13 _ (by decide +kernel) fun t _ y => ?_
  rw [show (dats m 0 c).after 13 t = _ from (after0_13 m c t).trans (blocks_eq _ _ _ _ _ _ _ _ _ _ _).2.2.1]
  exact (cast_eq _ _).trans (block_eq t (fun r n => ((products_apply _ _ r).2.2.1 _ n).trans (along_piece m c _ t r n ((whole4 m c t).trans (V_w m c).2.2.1))) _ _
    ((Pipeline.Window.rect_emb_val win0_13 t y 0).trans (congrArg (· * 512 + (y 0).val) (idx13 t 0)))
    ((Pipeline.Window.rect_emb_val win0_13 t y 1).trans (congrArg (· * 32 + (y 1).val) (idx13 t 1))))

theorem arr_out3 : (dats m 0 c).arrAt 14 cfg0.N = result m c 256 544 (by decide) := by
  refine (dats m 0 c).arrAt_eq_of_covers 14 _ (by decide +kernel) fun t _ y => ?_
  rw [show (dats m 0 c).after 14 t = _ from (after0_14 m c t).trans (blocks_eq _ _ _ _ _ _ _ _ _ _ _).2.2.2.1]
  exact (cast_eq _ _).trans (block_eq t (fun r n => ((products_apply _ _ r).2.2.2.1 _ n).trans (along_piece m c _ t r n ((whole5 m c t).trans (V_w m c).2.2.2.1))) _ _
    ((Pipeline.Window.rect_emb_val win0_14 t y 0).trans (congrArg (· * 512 + (y 0).val) (idx14 t 0)))
    ((Pipeline.Window.rect_emb_val win0_14 t y 1).trans (congrArg (· * 256 + (y 1).val) (idx14 t 1))))

theorem arr_out4 : (dats m 0 c).arrAt 15 cfg0.N = result m c 256 800 (by decide) := by
  refine (dats m 0 c).arrAt_eq_of_covers 15 _ (by decide +kernel) fun t _ y => ?_
  rw [show (dats m 0 c).after 15 t = _ from (after0_15 m c t).trans (blocks_eq _ _ _ _ _ _ _ _ _ _ _).2.2.2.2.1]
  exact (cast_eq _ _).trans (block_eq t (fun r n => ((products_apply _ _ r).2.2.2.2.1 _ n).trans (along_piece m c _ t r n ((whole6 m c t).trans (V_w m c).2.2.2.2.1))) _ _
    ((Pipeline.Window.rect_emb_val win0_15 t y 0).trans (congrArg (· * 512 + (y 0).val) (idx15 t 0)))
    ((Pipeline.Window.rect_emb_val win0_15 t y 1).trans (congrArg (· * 256 + (y 1).val) (idx15 t 1))))

theorem arr_out5 : (dats m 0 c).arrAt 16 cfg0.N = result m c 512 1056 (by decide) := by
  refine (dats m 0 c).arrAt_eq_of_covers 16 _ (by decide +kernel) fun t _ y => ?_
  rw [show (dats m 0 c).after 16 t = _ from (after0_16 m c t).trans (blocks_eq _ _ _ _ _ _ _ _ _ _ _).2.2.2.2.2.1]
  exact (cast_eq _ _).trans (block_eq t (fun r n => ((products_apply _ _ r).2.2.2.2.2.1 _ n).trans (along_piece m c _ t r n ((whole7 m c t).trans (V_w m c).2.2.2.2.2.1))) _ _
    ((Pipeline.Window.rect_emb_val win0_16 t y 0).trans (congrArg (· * 512 + (y 0).val) (idx16 t 0)))
    ((Pipeline.Window.rect_emb_val win0_16 t y 1).trans (congrArg (· * 512 + (y 1).val) (idx16 t 1))))

theorem arr_out6 : (dats m 0 c).arrAt 17 cfg0.N = result m c 512 1568 (by decide) := by
  refine (dats m 0 c).arrAt_eq_of_covers 17 _ (by decide +kernel) fun t _ y => ?_
  rw [show (dats m 0 c).after 17 t = _ from (after0_17 m c t).trans (blocks_eq _ _ _ _ _ _ _ _ _ _ _).2.2.2.2.2.2.1]
  exact (cast_eq _ _).trans (block_eq t (fun r n => ((products_apply _ _ r).2.2.2.2.2.2.1 _ n).trans (along_piece m c _ t r n ((whole8 m c t).trans (V_w m c).2.2.2.2.2.2.1))) _ _
    ((Pipeline.Window.rect_emb_val win0_17 t y 0).trans (congrArg (· * 512 + (y 0).val) (idx17 t 0)))
    ((Pipeline.Window.rect_emb_val win0_17 t y 1).trans (congrArg (· * 512 + (y 1).val) (idx17 t 1))))

theorem arr_out7 : (dats m 0 c).arrAt 18 cfg0.N = result m c 512 2080 (by decide) := by
  refine (dats m 0 c).arrAt_eq_of_covers 18 _ (by decide +kernel) fun t _ y => ?_
  rw [show (dats m 0 c).after 18 t = _ from (after0_18 m c t).trans (blocks_eq _ _ _ _ _ _ _ _ _ _ _).2.2.2.2.2.2.2.1]
  exact (cast_eq _ _).trans (block_eq t (fun r n => ((products_apply _ _ r).2.2.2.2.2.2.2.1 _ n).trans (along_piece m c _ t r n ((whole9 m c t).trans (V_w m c).2.2.2.2.2.2.2.1))) _ _
    ((Pipeline.Window.rect_emb_val win0_18 t y 0).trans (congrArg (· * 512 + (y 0).val) (idx18 t 0)))
    ((Pipeline.Window.rect_emb_val win0_18 t y 1).trans (congrArg (· * 512 + (y 1).val) (idx18 t 1))))

theorem arr_out8 : (dats m 0 c).arrAt 19 cfg0.N = result m c 3072 2592 (by decide) := by
  refine (dats m 0 c).arrAt_eq_of_covers 19 _ (by decide +kernel) fun t _ y => ?_
  rw [show (dats m 0 c).after 19 t = _ from (after0_19 m c t).trans (blocks_eq _ _ _ _ _ _ _ _ _ _ _).2.2.2.2.2.2.2.2]
  exact (cast_eq _ _).trans (block_eq t (fun r n => ((products_apply _ _ r).2.2.2.2.2.2.2.2 _ n).trans (along_piece m c _ t r n ((whole10 m c t).trans (V_w m c).2.2.2.2.2.2.2.2))) _ _
    ((Pipeline.Window.rect_emb_val win0_19 t y 0).trans (congrArg (· * 512 + (y 0).val) (idx19 t 0)))
    ((Pipeline.Window.rect_emb_val win0_19 t y 1).trans (congrArg (· * 3072 + (y 1).val) (idx19 t 1))))

end Cert.InProj9

end
-- ==== Proof.InProj.Ref.lean ====
/- The input projection's reference, element by element. -/
module

public import proofs.«01_k».proof.Proof.Gen.InProjRefIdeal.Run
public import proofs.«01_k».proof.Proof.InProj.Model
public import Idealize.ShloMosaic.Lib.Pointwise

@[expose] public section

set_option maxRecDepth 16384

noncomputable section

namespace Cert.InProj9.Ref

open Cert.InProjRefIdeal Cert.InProjRefIdeal.Gen Cert.InProjRefIdeal.Value Idealize.ShloMosaic Idealize.ShloMosaic.TcCoe Idealize.SL.Sem

/-- The normalized tokens, as the reference writes them. -/
def norm (x : FVec Ideal S8x4096x1024 .f32) (g : FVec Ideal S1024 .f32) : FVec Ideal S8x4096x1024 .f32 :=
  mulf (mulf x (broadcastInDim S8x4096x1024 ![0, 1, 2] bcast_S8x4096x1_S8x4096x1024_0_1_2 (Host.rsqrt (addf
      (Host.divf (broadcastInDim S8x4096x1 ![0, 1] bcast_S8x4096_S8x4096x1_0_1
          (Host.reduceAdd (mulf x x) (constant (F := Ideal) S_ .f32 0x00000000#32) reducesTo_S8x4096x1024_S8x4096_d2 h_S_))
        (broadcastInDim S8x4096x1 ![] bcast_S_S8x4096x1 (constant (F := Ideal) S_ .f32 0x44800000#32)))
      (broadcastInDim S8x4096x1 ![] bcast_S_S8x4096x1 (constant (F := Ideal) S_ .f32 0x358637BD#32))))))
    (broadcastInDim S8x4096x1024 ![0, 1, 2] bcast_S1x1x1024_S8x4096x1024_0_1_2 (broadcastInDim S1x1x1024 ![2] bcast_S1024_S1x1x1024_2 g))

/-- All the projections, tokens by columns. -/
def proj (y : FVec Ideal S8x4096x1024 .f32) (w : FVec Ideal S1024x5664 .f32) : FVec Ideal S32768x5664 .f32 :=
  shapeCast S32768x5664 (Host.dotGeneral dot_S8x4096x1024_S1024x5664_S8x4096x5664_2_0_01_1_n_n none y w) shapeCasts_S8x4096x5664_S32768x5664

theorem norm_apply (x : FVec Ideal S8x4096x1024 .f32) (g : FVec Ideal S1024 .f32) (b : Fin 8) (s : Fin 4096) (k : Fin 1024) :
    norm x g (ix3 b s k) = normed (fun j => x (ix3 b s j)) (fun j => g (ix1 j)) k := by
  pointwise [norm]
  unfold normed
  rfl

theorem proj_apply (y : FVec Ideal S8x4096x1024 .f32) (w : FVec Ideal S1024x5664 .f32) (t : Fin 32768) (n : Fin 5664) :
    proj y w (ix2 t n) = ∑ k : Fin 1024, y (ix3 ⟨t.val / 4096, by omega⟩ ⟨t.val % 4096, by omega⟩ k) * w (ix2 k n) := by
  pointwise [proj]

/-- An element of the projections. -/
theorem all_apply (x : FVec Ideal S8x4096x1024 .f32) (g : FVec Ideal S1024 .f32) (w : FVec Ideal S1024x5664 .f32) (t : Fin 32768) (n : Fin 5664) :
    (show EReal from proj (norm x g) w (ix2 t n)) = projected (fun k => x (ix3 ⟨t.val / 4096, by omega⟩ ⟨t.val % 4096, by omega⟩ k)) (fun k => g (ix1 k))
      (fun k => w (ix2 k n)) :=
  (proj_apply _ w t n).trans (Finset.sum_congr rfl fun k _ => congrArg (· * _) (norm_apply x g _ _ k))

/-- A result: some columns of the projections (where the program casts them, the cast changes no extended real). -/
theorem columns_of {w o : ℕ} (x : FVec Ideal S8x4096x1024 .f32) (g : FVec Ideal S1024 .f32) (v : FVec Ideal S1024x5664 .f32)
    (h : S32768x5664.Slices ![0, o] ⟨2, ![32768, w]⟩) (p : o + w ≤ 5664) (t : Fin 32768) (n : Fin w) :
    (show EReal from (extractStridedSlice ⟨2, ![32768, w]⟩ ![0, o] (proj (norm x g) v) h : FVec Ideal ⟨2, ![32768, w]⟩ .f32) (ix2 t n))
      = projected (fun k => x (ix3 ⟨t.val / 4096, by omega⟩ ⟨t.val % 4096, by omega⟩ k)) (fun k => g (ix1 k)) (fun k => v (ix2 k ⟨o + n.val, by omega⟩)) :=
  (columns_apply _ h p t n).trans (all_apply x g v t ⟨o + n.val, by omega⟩)

end Cert.InProj9.Ref

end
-- ==== Proof.InProj.Claims.lean ====
/- The input projection's claims: its kernel's frame at every float format, its reference's, and the two programs' nine results equal. -/
module

public import proofs.«01_k».proof.Defs
public import proofs.«01_k».proof.Proof.Gen.InProj
public import proofs.«01_k».proof.Proof.InProj.Value
public import proofs.«01_k».proof.Proof.InProj.Ref
public import Idealize.ShloMosaic.Lib.Quiescent

@[expose] public section

noncomputable section

namespace Cert.InProj9

open Idealize.ShloMosaic Idealize.ShloMosaic.TcCoe Idealize.SL.Sem

theorem frame_ideal : Cert.quiescent_InProjIdeal := fun m ρ _ => Cert.InProjIdeal.Gen.frame (F := Ideal) m ρ

set_option maxHeartbeats 2000000 in
/-- The kernel as it is called has the same body. -/
theorem bodies_eq : Cert.InProj.defs₀ (F := Bits) = Cert.InProjIdeal.defs₀ (F := Bits) := by
  refine congrArg (Defs.onTc (nD := Cert.InProjIdeal.nD) (τ := Cert.InProjIdeal.τ) (sig := Cert.InProjIdeal.sig) (Λ := Cert.InProjIdeal.Λ₀)) (funext fun l => ?_)
  match l with
  | 0 => exact funext fun ⟨t, s⟩ => rfl

theorem defs_eq : Cert.InProj.defs (F := Bits) = Cert.InProjIdeal.defs (F := Bits) :=
  congrArg (Pipeline.defs Cert.InProjIdeal.pcfgs) bodies_eq

/-- So one run serves both frames. -/
theorem frame_kernel : Cert.quiescent_InProj := fun m ρ _ => by
  rw [defs_eq]
  exact Cert.InProjIdeal.Gen.frame (F := Bits) m ρ

theorem frame_ref : Cert.quiescent_InProjRefIdeal := fun m ρ _ =>
  (θ_run Cert.InProjRefIdeal.defs _ _).mono (fun r h => ⟨fun c => (h c).2.2.2.2.2.2.2.2.2, sem_eq_zero_of_no_sems (by decide) r.2⟩)
    (Cert.InProjRefIdeal.Value.run (F := Ideal) m ρ)

/-- The kernel's nine results are the reference's. -/
theorem in_proj : Cert.algebraic_InProjIdeal_InProjRefIdeal := by
  intro m ρ m' ρ' _ hagree
  refine ⟨_, _, _, _, _, _, _, _, _, Cert.InProjIdeal.Value.run_blocks (F := Ideal) m ρ, ?_⟩
  refine (θ_run Cert.InProjRefIdeal.defs _ _).mono (fun _ h c => ?_) (Cert.InProjRefIdeal.Value.run (F := Ideal) m' ρ')
  obtain ⟨e0, e1, e2, e3, e4, e5, e6, e7, e8, hk⟩ := h c
  obtain ⟨h0, h1, h2⟩ := hagree c
  have key : ∀ {w o : ℕ} (hs : Cert.InProjRefIdeal.S32768x5664.Slices ![0, o] ⟨2, ![32768, w]⟩) (p : o + w ≤ 5664),
      (extractStridedSlice ⟨2, ![32768, w]⟩ ![0, o]
        (Ref.proj (Ref.norm (m' ((c : Thread Cert.InProjRefIdeal.nD Cert.InProjRefIdeal.τ).loc Cert.InProjRefIdeal.main_arg0))
            (m' ((c : Thread Cert.InProjRefIdeal.nD Cert.InProjRefIdeal.τ).loc Cert.InProjRefIdeal.main_arg1)))
          (m' ((c : Thread Cert.InProjRefIdeal.nD Cert.InProjRefIdeal.τ).loc Cert.InProjRefIdeal.main_arg2))) hs : (⟨2, ![32768, w]⟩ : Shape).Idx → EReal)
      = result m c w o p := fun hs p => by
    rw [h0, h1, h2]
    exact funext fun i => (congrArg _ (eq_ix2 i)).trans (Ref.columns_of _ _ _ hs p (i 0) (i 1))
  refine ⟨e0.trans ?_, e1.trans ?_, e2.trans ?_, e3.trans ?_, e4.trans ?_, e5.trans ?_, e6.trans ?_, e7.trans ?_, e8.trans ?_, hk⟩
  · exact (key (w := 384) (o := 0) Cert.InProjRefIdeal.Gen.slices_S32768x5664_S32768x384_0_0 (by decide)).trans (arr_out0 m c).symm
  · exact (key (w := 128) (o := 384) Cert.InProjRefIdeal.Gen.slices_S32768x5664_S32768x128_0_384 (by decide)).trans (arr_out1 m c).symm
  · exact (key (w := 32) (o := 512) Cert.InProjRefIdeal.Gen.slices_S32768x5664_S32768x32_0_512 (by decide)).trans (arr_out2 m c).symm
  · exact (key (w := 256) (o := 544) Cert.InProjRefIdeal.Gen.slices_S32768x5664_S32768x256_0_544 (by decide)).trans (arr_out3 m c).symm
  · exact (key (w := 256) (o := 800) Cert.InProjRefIdeal.Gen.slices_S32768x5664_S32768x256_0_800 (by decide)).trans (arr_out4 m c).symm
  · exact (key (w := 512) (o := 1056) Cert.InProjRefIdeal.Gen.slices_S32768x5664_S32768x512_0_1056 (by decide)).trans (arr_out5 m c).symm
  · exact (key (w := 512) (o := 1568) Cert.InProjRefIdeal.Gen.slices_S32768x5664_S32768x512_0_1568 (by decide)).trans (arr_out6 m c).symm
  · exact (key (w := 512) (o := 2080) Cert.InProjRefIdeal.Gen.slices_S32768x5664_S32768x512_0_2080 (by decide)).trans (arr_out7 m c).symm
  · exact (key (w := 3072) (o := 2592) Cert.InProjRefIdeal.Gen.slices_S32768x5664_S32768x3072_0_2592 (by decide)).trans (arr_out8 m c).symm

end Cert.InProj9

end
-- ==== Proof.Merge.Model.lean ====
/- The gated merge, element by element: three projected outputs weighted by the logistic of their gates, summed, projected once
   more and added to the residual stream. -/
module

public import Idealize.ShloMosaic.PureOps.Ideal
public import Idealize.ShloMosaic.Lib.Pointwise

@[expose] public section

noncomputable section

namespace Cert.Merge3

open Idealize.ShloMosaic

/-- One branch at a feature: the gate's logistic times the projected output. -/
def branch (γ : EReal) (o w : Fin 512 → EReal) : EReal := Ideal.logistic γ * ∑ j, o j * w j

/-- The three branches of feature `k` of token `(b, s)`. -/
def mixed (γ : Fin 8 → Fin 4096 → Fin 3072 → EReal) (o1 o2 o3 : Fin 8 → Fin 4096 → Fin 512 → EReal) (w1 w2 w3 : Fin 512 → Fin 1024 → EReal)
    (b : Fin 8) (s : Fin 4096) (k : Fin 1024) : EReal :=
  branch (γ b s ⟨k.val, by omega⟩) (o1 b s) (fun j => w1 j k) + branch (γ b s ⟨1024 + k.val, by omega⟩) (o2 b s) (fun j => w2 j k)
    + branch (γ b s ⟨2048 + k.val, by omega⟩) (o3 b s) (fun j => w3 j k)

/-- The merge at feature `n` of token `(b, s)`. -/
def merged (x : Fin 8 → Fin 4096 → Fin 1024 → EReal) (γ : Fin 8 → Fin 4096 → Fin 3072 → EReal)
    (o1 o2 o3 : Fin 8 → Fin 4096 → Fin 512 → EReal) (w1 w2 w3 : Fin 512 → Fin 1024 → EReal) (w : Fin 1024 → Fin 1024 → EReal)
    (b : Fin 8) (s : Fin 4096) (n : Fin 1024) : EReal :=
  x b s n + ∑ k, mixed γ o1 o2 o3 w1 w2 w3 b s k * w k n

end Cert.Merge3

end
-- ==== Proof.Merge.Value.lean ====
/- The merge kernel's output array, element by element. -/
module

public import proofs.«01_k».proof.Proof.Gen.MergeIdeal.Value
public import proofs.«01_k».proof.Proof.Merge.Model
public import Idealize.ShloMosaic.Lib.Pointwise
public import Idealize.ShloMosaic.Lib.Pipeline.ValueKit

@[expose] public section

set_option maxRecDepth 16384

noncomputable section

namespace Cert.Merge3

open Cert.MergeIdeal Cert.MergeIdeal.Gen Idealize.ShloMosaic Idealize.ShloMosaic.TcCoe Idealize.SL.Sem

theorem off0 : (![0, 0] : Fin 2 → ℕ) = fun _ => 0 := by funext a; fin_cases a <;> rfl

/-- The gated sum of a grid point's tiles at an index. -/
theorem pay3_apply (o1 o2 o3 : FVec Ideal S512x512 .bf16) (w1 w2 w3 g1 g2 g3 : FVec Ideal S512x1024 .bf16) (r : Fin 512) (k : Fin 1024) :
    (k0_pay3 (F := Ideal) o1 w1 g1 o2 w2 g2 o3 w3 g3 : S512x1024.Idx → EReal) (ix2 r k)
      = branch (g1 (ix2 r k)) (fun j => o1 (ix2 r j)) (fun j => w1 (ix2 j k))
        + branch (g2 (ix2 r k)) (fun j => o2 (ix2 r j)) (fun j => w2 (ix2 j k))
        + branch (g3 (ix2 r k)) (fun j => o3 (ix2 r j)) (fun j => w3 (ix2 j k)) := by
  unfold branch
  pointwise [k0_pay3]

/-- The block a grid point leaves, at an index. -/
theorem out_apply (x : Vec Ideal S512x1024 .f32) (g : Vec Ideal S512x3072 .bf16) (o1 o2 o3 : Vec Ideal S512x512 .bf16)
    (w1 w2 w3 : Vec Ideal S512x1024 .bf16) (w : Vec Ideal S1024x1024 .bf16) (r : Fin 512) (n : Fin 1024) :
    (out0_9 (F := Ideal) x g o1 o2 o3 w1 w2 w3 w : S512x1024.Idx → EReal) (ix2 r n)
      = x (ix2 r n) + ∑ k : Fin 1024,
        (branch (g (ix2 r ⟨k.val, by omega⟩)) (fun j => o1 (ix2 r j)) (fun j => w1 (ix2 j k))
        + branch (g (ix2 r ⟨1024 + k.val, by omega⟩)) (fun j => o2 (ix2 r j)) (fun j => w2 (ix2 j k))
        + branch (g (ix2 r ⟨2048 + k.val, by omega⟩)) (fun j => o3 (ix2 r j)) (fun j => w3 (ix2 j k))) * w (ix2 k n) := by
  unfold out0_9
  rw [View.canon_unit_zero off0]
  rw [show View.ld o1 r0_0 = o1 from View.ld_unit_zero off0 _ o1, show View.ld o2 r0_0 = o2 from View.ld_unit_zero off0 _ o2,
    show View.ld o3 r0_0 = o3 from View.ld_unit_zero off0 _ o3, show View.ld x r0_1 = x from View.ld_unit_zero off0 _ x,
    show View.ld w1 r0_1 = w1 from View.ld_unit_zero off0 _ w1, show View.ld w2 r0_1 = w2 from View.ld_unit_zero off0 _ w2,
    show View.ld w3 r0_1 = w3 from View.ld_unit_zero off0 _ w3, show View.ld w r0_5 = w from View.ld_unit_zero off0 _ w]
  have e (l : FVec Ideal S512x1024 .bf16) : (k0_pay1 (F := Ideal) (k0_pay2 x) l w : S512x1024.Idx → EReal) (ix2 r n) = x (ix2 r n) + ∑ k : Fin 1024, l (ix2 r k) * w (ix2 k n) := by
    pointwise [k0_pay1, k0_pay2]
  refine (e _).trans (congrArg _ (Finset.sum_congr rfl fun k _ => congrArg (· * _) ?_))
  refine (pay3_apply _ _ _ _ _ _ _ _ _ r k).trans ?_
  rw [View.ld_unit, View.ld_unit, View.ld_unit]
  pointwise

variable (m : (ℓ : Loc nD τ sig) → Buf (Elt Ideal) ℓ) (c : Dev nD)

/-- The arguments, by batch, position and feature. -/
def argX (b : Fin 8) (s : Fin 4096) (n : Fin 1024) : EReal := (m ((c : Thread nD τ).loc main_arg0) : S8x4096x1024.Idx → EReal) (ix3 b s n)
def argG (b : Fin 8) (s : Fin 4096) (n : Fin 3072) : EReal := (m ((c : Thread nD τ).loc main_arg1) : S8x4096x3072.Idx → EReal) (ix3 b s n)
def argO1 (b : Fin 8) (s : Fin 4096) (n : Fin 512) : EReal := (m ((c : Thread nD τ).loc main_arg2) : S8x4096x512.Idx → EReal) (ix3 b s n)
def argO2 (b : Fin 8) (s : Fin 4096) (n : Fin 512) : EReal := (m ((c : Thread nD τ).loc main_arg3) : S8x4096x512.Idx → EReal) (ix3 b s n)
def argO3 (b : Fin 8) (s : Fin 4096) (n : Fin 512) : EReal := (m ((c : Thread nD τ).loc main_arg4) : S8x4096x512.Idx → EReal) (ix3 b s n)
def argW1 (j : Fin 512) (n : Fin 1024) : EReal := (m ((c : Thread nD τ).loc main_arg5) : S512x1024.Idx → EReal) (ix2 j n)
def argW2 (j : Fin 512) (n : Fin 1024) : EReal := (m ((c : Thread nD τ).loc main_arg6) : S512x1024.Idx → EReal) (ix2 j n)
def argW3 (j : Fin 512) (n : Fin 1024) : EReal := (m ((c : Thread nD τ).loc main_arg7) : S512x1024.Idx → EReal) (ix2 j n)
def argW (k n : Fin 1024) : EReal := (m ((c : Thread nD τ).loc main_arg8) : S1024x1024.Idx → EReal) (ix2 k n)

/-! What the host part hands to the call. -/

theorem flat_x (x : FVec Ideal S8x4096x1024 .f32) (t : Fin 32768) (n : Fin 1024) :
    (show EReal from (shapeCast S32768x1024 x shapeCasts_S8x4096x1024_S32768x1024 : FVec Ideal S32768x1024 .f32) (ix2 t n)) = x (ix3 ⟨t.val / 4096, by omega⟩ ⟨t.val % 4096, by omega⟩ n) := by
  pointwise

theorem flat_g (x : FVec Ideal S8x4096x3072 .f32) (t : Fin 32768) (n : Fin 3072) :
    (show EReal from (truncf (F := Ideal) .bf16 (shapeCast S32768x3072 x shapeCasts_S8x4096x3072_S32768x3072) bitsLt_bf16_f32 : FVec Ideal S32768x3072 .bf16) (ix2 t n)) = x (ix3 ⟨t.val / 4096, by omega⟩ ⟨t.val % 4096, by omega⟩ n) := by
  pointwise

theorem flat_o (x : FVec Ideal S8x4096x512 .f32) (t : Fin 32768) (n : Fin 512) :
    (show EReal from (truncf (F := Ideal) .bf16 (shapeCast S32768x512 x shapeCasts_S8x4096x512_S32768x512) bitsLt_bf16_f32 : FVec Ideal S32768x512 .bf16) (ix2 t n)) = x (ix3 ⟨t.val / 4096, by omega⟩ ⟨t.val % 4096, by omega⟩ n) := by
  pointwise

theorem V_x (t : Fin 32768) (n : Fin 1024) :
    (V m c main_v0 : S32768x1024.Idx → EReal) (ix2 t n) = argX m c ⟨t.val / 4096, by omega⟩ ⟨t.val % 4096, by omega⟩ n := by
  have e : (V m c main_v0 : S32768x1024.Idx → EReal) = (shapeCast S32768x1024 (m ((c : Thread nD τ).loc main_arg0) : FVec Ideal S8x4096x1024 .f32) shapeCasts_S8x4096x1024_S32768x1024) := by
    simp only [V, hostOps0, StableHlo.TRef.unary, StableHlo.TRef.toBuf, StableHlo.TRef.ofBuf, cast_eq]
    after_results_simp
    rfl
  rw [e]
  exact flat_x _ t n

theorem V_g (t : Fin 32768) (n : Fin 3072) :
    (V m c main_v2 : S32768x3072.Idx → EReal) (ix2 t n) = argG m c ⟨t.val / 4096, by omega⟩ ⟨t.val % 4096, by omega⟩ n := by
  have e : (V m c main_v2 : S32768x3072.Idx → EReal) = (truncf (F := Ideal) (φ := .f32) .bf16 (shapeCast S32768x3072 (m ((c : Thread nD τ).loc main_arg1) : FVec Ideal S8x4096x3072 .f32) shapeCasts_S8x4096x3072_S32768x3072) bitsLt_bf16_f32 : FVec Ideal S32768x3072 .bf16) := by
    simp only [V, hostOps0, StableHlo.TRef.unary, StableHlo.TRef.toBuf, StableHlo.TRef.ofBuf, cast_eq]
    after_results_simp
    rfl
  rw [e]
  exact flat_g _ t n

theorem V_o1 (t : Fin 32768) (n : Fin 512) :
    (V m c main_v4 : S32768x512.Idx → EReal) (ix2 t n) = argO1 m c ⟨t.val / 4096, by omega⟩ ⟨t.val % 4096, by omega⟩ n := by
  have e : (V m c main_v4 : S32768x512.Idx → EReal) = (truncf (F := Ideal) (φ := .f32) .bf16 (shapeCast S32768x512 (m ((c : Thread nD τ).loc main_arg2) : FVec Ideal S8x4096x512 .f32) shapeCasts_S8x4096x512_S32768x512) bitsLt_bf16_f32 : FVec Ideal S32768x512 .bf16) := by
    simp only [V, hostOps0, StableHlo.TRef.unary, StableHlo.TRef.toBuf, StableHlo.TRef.ofBuf, cast_eq]
    after_results_simp
    rfl
  rw [e]
  exact flat_o _ t n

theorem V_o2 (t : Fin 32768) (n : Fin 512) :
    (V m c main_v6 : S32768x512.Idx → EReal) (ix2 t n) = argO2 m c ⟨t.val / 4096, by omega⟩ ⟨t.val % 4096, by omega⟩ n := by
  have e : (V m c main_v6 : S32768x512.Idx → EReal) = (truncf (F := Ideal) (φ := .f32) .bf16 (shapeCast S32768x512 (m ((c : Thread nD τ).loc main_arg3) : FVec Ideal S8x4096x512 .f32) shapeCasts_S8x4096x512_S32768x512) bitsLt_bf16_f32 : FVec Ideal S32768x512 .bf16) := by
    simp only [V, hostOps0, StableHlo.TRef.unary, StableHlo.TRef.toBuf, StableHlo.TRef.ofBuf, cast_eq]
    after_results_simp
    rfl
  rw [e]
  exact flat_o _ t n

theorem V_o3 (t : Fin 32768) (n : Fin 512) :
    (V m c main_v8 : S32768x512.Idx → EReal) (ix2 t n) = argO3 m c ⟨t.val / 4096, by omega⟩ ⟨t.val % 4096, by omega⟩ n := by
  have e : (V m c main_v8 : S32768x512.Idx → EReal) = (truncf (F := Ideal) (φ := .f32) .bf16 (shapeCast S32768x512 (m ((c : Thread nD τ).loc main_arg4) : FVec Ideal S8x4096x512 .f32) shapeCasts_S8x4096x512_S32768x512) bitsLt_bf16_f32 : FVec Ideal S32768x512 .bf16) := by
    simp only [V, hostOps0, StableHlo.TRef.unary, StableHlo.TRef.toBuf, StableHlo.TRef.ofBuf, cast_eq]
    after_results_simp
    rfl
  rw [e]
  exact flat_o _ t n

theorem V_w1 (j : Fin 512) (n : Fin 1024) : (V m c main_v9 : S512x1024.Idx → EReal) (ix2 j n) = argW1 m c j n := by
  have e : (V m c main_v9 : S512x1024.Idx → EReal) = (truncf (F := Ideal) (φ := .f32) .bf16 (m ((c : Thread nD τ).loc main_arg5) : FVec Ideal S512x1024 .f32) bitsLt_bf16_f32 : FVec Ideal S512x1024 .bf16) := by
    simp only [V, hostOps0, StableHlo.TRef.unary, StableHlo.TRef.toBuf, StableHlo.TRef.ofBuf, cast_eq]
    after_results_simp
  rw [e]
  rfl

theorem V_w2 (j : Fin 512) (n : Fin 1024) : (V m c main_v10 : S512x1024.Idx → EReal) (ix2 j n) = argW2 m c j n := by
  have e : (V m c main_v10 : S512x1024.Idx → EReal) = (truncf (F := Ideal) (φ := .f32) .bf16 (m ((c : Thread nD τ).loc main_arg6) : FVec Ideal S512x1024 .f32) bitsLt_bf16_f32 : FVec Ideal S512x1024 .bf16) := by
    simp only [V, hostOps0, StableHlo.TRef.unary, StableHlo.TRef.toBuf, StableHlo.TRef.ofBuf, cast_eq]
    after_results_simp
  rw [e]
  rfl

theorem V_w3 (j : Fin 512) (n : Fin 1024) : (V m c main_v11 : S512x1024.Idx → EReal) (ix2 j n) = argW3 m c j n := by
  have e : (V m c main_v11 : S512x1024.Idx → EReal) = (truncf (F := Ideal) (φ := .f32) .bf16 (m ((c : Thread nD τ).loc main_arg7) : FVec Ideal S512x1024 .f32) bitsLt_bf16_f32 : FVec Ideal S512x1024 .bf16) := by
    simp only [V, hostOps0, StableHlo.TRef.unary, StableHlo.TRef.toBuf, StableHlo.TRef.ofBuf, cast_eq]
    after_results_simp
  rw [e]
  rfl

theorem V_w (j : Fin 1024) (n : Fin 1024) : (V m c main_v12 : S1024x1024.Idx → EReal) (ix2 j n) = argW m c j n := by
  have e : (V m c main_v12 : S1024x1024.Idx → EReal) = (truncf (F := Ideal) (φ := .f32) .bf16 (m ((c : Thread nD τ).loc main_arg8) : FVec Ideal S1024x1024 .f32) bitsLt_bf16_f32 : FVec Ideal S1024x1024 .bf16) := by
    simp only [V, hostOps0, StableHlo.TRef.unary, StableHlo.TRef.toBuf, StableHlo.TRef.ofBuf, cast_eq]
    after_results_simp
  rw [e]
  rfl

/-! Where a grid point's blocks lie. -/

theorem idx0 : ∀ (t : Fin grid0.N) (a : Fin 2), win0_0.index t a = (![t.val, 0] : Fin 2 → ℕ) a := by decide +kernel
theorem idx1 : ∀ (t : Fin grid0.N) (a : Fin 2), win0_1.index t a = (![t.val, 0] : Fin 2 → ℕ) a := by decide +kernel
theorem idx2 : ∀ (t : Fin grid0.N) (a : Fin 2), win0_2.index t a = (![t.val, 0] : Fin 2 → ℕ) a := by decide +kernel
theorem idx3 : ∀ (t : Fin grid0.N) (a : Fin 2), win0_3.index t a = (![t.val, 0] : Fin 2 → ℕ) a := by decide +kernel
theorem idx4 : ∀ (t : Fin grid0.N) (a : Fin 2), win0_4.index t a = (![t.val, 0] : Fin 2 → ℕ) a := by decide +kernel
theorem idx5 : ∀ (t : Fin grid0.N) (a : Fin 2), win0_5.index t a = (![0, 0] : Fin 2 → ℕ) a := by decide +kernel
theorem idx6 : ∀ (t : Fin grid0.N) (a : Fin 2), win0_6.index t a = (![0, 0] : Fin 2 → ℕ) a := by decide +kernel
theorem idx7 : ∀ (t : Fin grid0.N) (a : Fin 2), win0_7.index t a = (![0, 0] : Fin 2 → ℕ) a := by decide +kernel
theorem idx8 : ∀ (t : Fin grid0.N) (a : Fin 2), win0_8.index t a = (![0, 0] : Fin 2 → ℕ) a := by decide +kernel
theorem idx9 : ∀ (t : Fin grid0.N) (a : Fin 2), win0_9.index t a = (![t.val, 0] : Fin 2 → ℕ) a := by decide +kernel

/-- The token a grid point's row is. -/
def tok (t : Fin cfg0.N) (r : Fin 512) : Fin 32768 := ⟨512 * t.val + r.val, by have := t.isLt; have h : cfg0.N = 64 := rfl; omega⟩

theorem blk_x (t : Fin cfg0.N) (r : Fin 512) (n : Fin 1024) :
    (iblk m c 0 t : S512x1024.Idx → EReal) (ix2 r n) = argX m c ⟨(tok t r).val / 4096, by have := (tok t r).isLt; omega⟩ ⟨(tok t r).val % 4096, by omega⟩ n := by
  refine Eq.trans ?_ (V_x m c (tok t r) n)
  unfold iblk
  refine congrArg (V m c main_v0 : S32768x1024.Idx → EReal) (funext fun a => Fin.ext ?_)
  refine (Pipeline.Window.rect_emb_val win0_0 t _ a).trans ?_
  rw [idx0]
  fin_cases a <;> simp [win0_0, ix2, tok, Nat.mul_comm]

theorem blk_g (t : Fin cfg0.N) (r : Fin 512) (n : Fin 3072) :
    (iblk m c 1 t : S512x3072.Idx → EReal) (ix2 r n) = argG m c ⟨(tok t r).val / 4096, by have := (tok t r).isLt; omega⟩ ⟨(tok t r).val % 4096, by omega⟩ n := by
  refine Eq.trans ?_ (V_g m c (tok t r) n)
  unfold iblk
  refine congrArg (V m c main_v2 : S32768x3072.Idx → EReal) (funext fun a => Fin.ext ?_)
  refine (Pipeline.Window.rect_emb_val win0_1 t _ a).trans ?_
  rw [idx1]
  fin_cases a <;> simp [win0_1, ix2, tok, Nat.mul_comm]

theorem blk_o1 (t : Fin cfg0.N) (r : Fin 512) (n : Fin 512) :
    (iblk m c 2 t : S512x512.Idx → EReal) (ix2 r n) = argO1 m c ⟨(tok t r).val / 4096, by have := (tok t r).isLt; omega⟩ ⟨(tok t r).val % 4096, by omega⟩ n := by
  refine Eq.trans ?_ (V_o1 m c (tok t r) n)
  unfold iblk
  refine congrArg (V m c main_v4 : S32768x512.Idx → EReal) (funext fun a => Fin.ext ?_)
  refine (Pipeline.Window.rect_emb_val win0_2 t _ a).trans ?_
  rw [idx2]
  fin_cases a <;> simp [win0_2, ix2, tok, Nat.mul_comm]

theorem blk_o2 (t : Fin cfg0.N) (r : Fin 512) (n : Fin 512) :
    (iblk m c 3 t : S512x512.Idx → EReal) (ix2 r n) = argO2 m c ⟨(tok t r).val / 4096, by have := (tok t r).isLt; omega⟩ ⟨(tok t r).val % 4096, by omega⟩ n := by
  refine Eq.trans ?_ (V_o2 m c (tok t r) n)
  unfold iblk
  refine congrArg (V m c main_v6 : S32768x512.Idx → EReal) (funext fun a => Fin.ext ?_)
  refine (Pipeline.Window.rect_emb_val win0_3 t _ a).trans ?_
  rw [idx3]
  fin_cases a <;> simp [win0_3, ix2, tok, Nat.mul_comm]

theorem blk_o3 (t : Fin cfg0.N) (r : Fin 512) (n : Fin 512) :
    (iblk m c 4 t : S512x512.Idx → EReal) (ix2 r n) = argO3 m c ⟨(tok t r).val / 4096, by have := (tok t r).isLt; omega⟩ ⟨(tok t r).val % 4096, by omega⟩ n := by
  refine Eq.trans ?_ (V_o3 m c (tok t r) n)
  unfold iblk
  refine congrArg (V m c main_v8 : S32768x512.Idx → EReal) (funext fun a => Fin.ext ?_)
  refine (Pipeline.Window.rect_emb_val win0_4 t _ a).trans ?_
  rw [idx4]
  fin_cases a <;> simp [win0_4, ix2, tok, Nat.mul_comm]

theorem blk_w1 (t : Fin cfg0.N) (j : Fin 512) (n : Fin 1024) :
    (iblk m c 5 t : S512x1024.Idx → EReal) (ix2 j n) = argW1 m c j n := by
  refine Eq.trans ?_ (V_w1 m c j n)
  unfold iblk
  refine congrArg (V m c main_v9 : S512x1024.Idx → EReal) (funext fun a => Fin.ext ?_)
  refine (Pipeline.Window.rect_emb_val win0_5 t _ a).trans ?_
  rw [idx5]
  fin_cases a <;> simp [win0_5, ix2]

theorem blk_w2 (t : Fin cfg0.N) (j : Fin 512) (n : Fin 1024) :
    (iblk m c 6 t : S512x1024.Idx → EReal) (ix2 j n) = argW2 m c j n := by
  refine Eq.trans ?_ (V_w2 m c j n)
  unfold iblk
  refine congrArg (V m c main_v10 : S512x1024.Idx → EReal) (funext fun a => Fin.ext ?_)
  refine (Pipeline.Window.rect_emb_val win0_6 t _ a).trans ?_
  rw [idx6]
  fin_cases a <;> simp [win0_6, ix2]

theorem blk_w3 (t : Fin cfg0.N) (j : Fin 512) (n : Fin 1024) :
    (iblk m c 7 t : S512x1024.Idx → EReal) (ix2 j n) = argW3 m c j n := by
  refine Eq.trans ?_ (V_w3 m c j n)
  unfold iblk
  refine congrArg (V m c main_v11 : S512x1024.Idx → EReal) (funext fun a => Fin.ext ?_)
  refine (Pipeline.Window.rect_emb_val win0_7 t _ a).trans ?_
  rw [idx7]
  fin_cases a <;> simp [win0_7, ix2]

theorem blk_w (t : Fin cfg0.N) (j : Fin 1024) (n : Fin 1024) :
    (iblk m c 8 t : S1024x1024.Idx → EReal) (ix2 j n) = argW m c j n := by
  refine Eq.trans ?_ (V_w m c j n)
  unfold iblk
  refine congrArg (V m c main_v12 : S1024x1024.Idx → EReal) (funext fun a => Fin.ext ?_)
  refine (Pipeline.Window.rect_emb_val win0_8 t _ a).trans ?_
  rw [idx8]
  fin_cases a <;> simp [win0_8, ix2]

/-- The merge of the arguments, as the result lays it out. -/
def result (i : S32768x1024.Idx) : EReal :=
  merged (argX m c) (argG m c) (argO1 m c) (argO2 m c) (argO3 m c) (argW1 m c) (argW2 m c) (argW3 m c) (argW m c)
    ⟨(i 0).val / 4096, by have : (i 0).val < 32768 := (i 0).isLt; omega⟩ ⟨(i 0).val % 4096, by omega⟩ (i 1)

/-- The block a grid point leaves. -/
def blkAt (t : Fin cfg0.N) : S512x1024.Idx → EReal :=
  out0_9 (F := Ideal) (iblk m c 0 t) (iblk m c 1 t) (iblk m c 2 t) (iblk m c 3 t) (iblk m c 4 t) (iblk m c 5 t) (iblk m c 6 t) (iblk m c 7 t)
    (iblk m c 8 t)

/-- An element of a grid point's block is the merge at the array's index it is written to. -/
theorem out_result (t : Fin cfg0.N) (z : S512x1024.Idx) (i : S32768x1024.Idx) (h0 : (i 0).val = 512 * t.val + (z 0).val) (h1 : (i 1).val = (z 1).val) :
    blkAt m c t z = result m c i := by
  obtain ⟨r, n, rfl⟩ : ∃ (r : Fin 512) (n : Fin 1024), z = ix2 r n := ⟨z 0, z 1, eq_ix2 z⟩
  obtain rfl : i = ix2 (tok t r) n := (eq_ix2 i).trans (congrArg₂ ix2 (Fin.ext h0) (Fin.ext h1))
  refine (out_apply _ _ _ _ _ _ _ _ _ r n).trans ?_
  simp only [blk_x, blk_g, blk_o1, blk_o2, blk_o3, blk_w1, blk_w2, blk_w3, blk_w]
  rfl

theorem after9 (t : Fin cfg0.N) : (dats m 0 c).after 9 t = blkAt m c t := after0_9 m c t

/-- The kernel's output array is the merge of its arguments. -/
theorem arr_out : (dats m 0 c).arrAt 9 cfg0.N = result m c := by
  refine (dats m 0 c).arrAt_eq_of_covers 9 _ (by decide +kernel) fun t hf y => ?_
  rw [after9]
  refine (cast_eq _ _).trans ?_
  refine out_result m c t ((cfg0.win 9).xinj (cfg0.grid.coords t) y) (((cfg0.win 9).blk t).view.emb y) ?_ ?_
  · refine (Pipeline.Window.rect_emb_val win0_9 t _ 0).trans ?_
    rw [idx9]; simp [win0_9, Nat.mul_comm]
  · refine (Pipeline.Window.rect_emb_val win0_9 t _ 1).trans ?_
    rw [idx9]; simp [win0_9]

end Cert.Merge3

end
-- ==== Proof.Merge.Ref.lean ====
/- The merge's reference, element by element. -/
module

public import proofs.«01_k».proof.Proof.Gen.MergeRefIdeal.Run
public import proofs.«01_k».proof.Proof.Merge.Model
public import Idealize.ShloMosaic.Lib.Pointwise

@[expose] public section

set_option maxRecDepth 16384

noncomputable section

namespace Cert.Merge3.Ref

open Cert.MergeRefIdeal Cert.MergeRefIdeal.Gen Cert.MergeRefIdeal.Value Idealize.ShloMosaic Idealize.ShloMosaic.TcCoe Idealize.SL.Sem

/-- The logistic of the gates, by branch. -/
def sig4 (g : FVec Ideal S8x4096x3072 .f32) : FVec Ideal S8x4096x3x1024 .f32 :=
  Host.divf (broadcastInDim S8x4096x3x1024 ![] bcast_S_S8x4096x3x1024 (constant (F := Ideal) S_ .f32 0x3F800000#32))
    (addf (broadcastInDim S8x4096x3x1024 ![] bcast_S_S8x4096x3x1024 (constant (F := Ideal) S_ .f32 0x3F800000#32))
      (Host.exp (Host.negf (shapeCast S8x4096x3x1024 g shapeCasts_S8x4096x3072_S8x4096x3x1024))))

/-- The three branches, summed. -/
def mix (γ : FVec Ideal S8x4096x3x1024 .f32) (o1 o2 o3 : FVec Ideal S8x4096x512 .f32) (w1 w2 w3 : FVec Ideal S512x1024 .f32) : FVec Ideal S8x4096x1024 .f32 :=
  addf (addf
    (mulf (shapeCast S8x4096x1024 (extractStridedSlice S8x4096x1x1024 ![0, 0, 0, 0] γ slices_S8x4096x3x1024_S8x4096x1x1024_0_0_0_0) shapeCasts_S8x4096x1x1024_S8x4096x1024)
      (Host.dotGeneral dot_S8x4096x512_S512x1024_S8x4096x1024_2_0_01_1_n_n none o1 w1))
    (mulf (shapeCast S8x4096x1024 (extractStridedSlice S8x4096x1x1024 ![0, 0, 1, 0] γ slices_S8x4096x3x1024_S8x4096x1x1024_0_0_1_0) shapeCasts_S8x4096x1x1024_S8x4096x1024)
      (Host.dotGeneral dot_S8x4096x512_S512x1024_S8x4096x1024_2_0_01_1_n_n none o2 w2)))
    (mulf (shapeCast S8x4096x1024 (extractStridedSlice S8x4096x1x1024 ![0, 0, 2, 0] γ slices_S8x4096x3x1024_S8x4096x1x1024_0_0_2_0) shapeCasts_S8x4096x1x1024_S8x4096x1024)
      (Host.dotGeneral dot_S8x4096x512_S512x1024_S8x4096x1024_2_0_01_1_n_n none o3 w3))

/-- The projected sum, added to the residual stream. -/
def last (x y : FVec Ideal S8x4096x1024 .f32) (w : FVec Ideal S1024x1024 .f32) : FVec Ideal S32768x1024 .f32 :=
  shapeCast S32768x1024 (addf x (Host.dotGeneral dot_S8x4096x1024_S1024x1024_S8x4096x1024_2_0_01_1_n_n none y w)) shapeCasts_S8x4096x1024_S32768x1024

theorem sig4_apply (g : FVec Ideal S8x4096x3072 .f32) (b : Fin 8) (s : Fin 4096) (a : Fin 3) (k : Fin 1024) :
    sig4 g (ix4 b s a k) = Ideal.logistic (g (ix3 b s ⟨1024 * a.val + k.val, by omega⟩)) := by
  pointwise [sig4]
  unfold Ideal.logistic
  have e : (⟨a.val * 1024 + k.val, by omega⟩ : Fin 3072) = ⟨1024 * a.val + k.val, by omega⟩ := Fin.ext (by show a.val * 1024 + k.val = 1024 * a.val + k.val; omega)
  rw [e]

theorem mix_apply (γ : FVec Ideal S8x4096x3x1024 .f32) (o1 o2 o3 : FVec Ideal S8x4096x512 .f32) (w1 w2 w3 : FVec Ideal S512x1024 .f32)
    (b : Fin 8) (s : Fin 4096) (k : Fin 1024) :
    mix γ o1 o2 o3 w1 w2 w3 (ix3 b s k)
      = γ (ix4 b s 0 k) * (∑ j : Fin 512, o1 (ix3 b s j) * w1 (ix2 j k)) + γ (ix4 b s 1 k) * (∑ j : Fin 512, o2 (ix3 b s j) * w2 (ix2 j k))
        + γ (ix4 b s 2 k) * (∑ j : Fin 512, o3 (ix3 b s j) * w3 (ix2 j k)) := by
  pointwise [mix]

theorem last_apply (x y : FVec Ideal S8x4096x1024 .f32) (w : FVec Ideal S1024x1024 .f32) (t : Fin 32768) (n : Fin 1024) :
    last x y w (ix2 t n) = x (ix3 ⟨t.val / 4096, by omega⟩ ⟨t.val % 4096, by omega⟩ n)
      + ∑ k : Fin 1024, y (ix3 ⟨t.val / 4096, by omega⟩ ⟨t.val % 4096, by omega⟩ k) * w (ix2 k n) := by
  pointwise [last]

/-- The reference's result is the merge of its arguments. -/
theorem res_apply (x : FVec Ideal S8x4096x1024 .f32) (g : FVec Ideal S8x4096x3072 .f32) (o1 o2 o3 : FVec Ideal S8x4096x512 .f32)
    (w1 w2 w3 : FVec Ideal S512x1024 .f32) (w : FVec Ideal S1024x1024 .f32) (t : Fin 32768) (n : Fin 1024) :
    (show EReal from last x (mix (sig4 g) o1 o2 o3 w1 w2 w3) w (ix2 t n))
      = merged (fun b s n => x (ix3 b s n)) (fun b s n => g (ix3 b s n)) (fun b s n => o1 (ix3 b s n)) (fun b s n => o2 (ix3 b s n))
        (fun b s n => o3 (ix3 b s n)) (fun j n => w1 (ix2 j n)) (fun j n => w2 (ix2 j n)) (fun j n => w3 (ix2 j n)) (fun k n => w (ix2 k n))
        ⟨t.val / 4096, by omega⟩ ⟨t.val % 4096, by omega⟩ n := by
  refine (last_apply x _ w t n).trans (congrArg _ (Finset.sum_congr rfl fun k _ => congrArg (· * _) ?_))
  refine (mix_apply _ o1 o2 o3 w1 w2 w3 _ _ k).trans ?_
  rw [sig4_apply, sig4_apply, sig4_apply]
  unfold mixed branch
  simp

end Cert.Merge3.Ref

end
-- ==== Proof.Merge.Claims.lean ====
/- The merge's claims: its kernel's frame at every float format, its reference's, and the two results equal. -/
module

public import proofs.«01_k».proof.Defs
public import proofs.«01_k».proof.Proof.Gen.Merge
public import proofs.«01_k».proof.Proof.Merge.Value
public import proofs.«01_k».proof.Proof.Merge.Ref
public import Idealize.ShloMosaic.Lib.Quiescent

@[expose] public section

noncomputable section

namespace Cert.Merge3

open Idealize.ShloMosaic Idealize.ShloMosaic.TcCoe Idealize.SL.Sem

theorem frame_ideal : Cert.quiescent_MergeIdeal := fun m ρ _ => Cert.MergeIdeal.Gen.frame (F := Ideal) m ρ

/-- The kernel as it is called has the same body. -/
theorem bodies_eq : Cert.Merge.defs₀ (F := Bits) = Cert.MergeIdeal.defs₀ (F := Bits) := by
  refine congrArg (Defs.onTc (nD := Cert.MergeIdeal.nD) (τ := Cert.MergeIdeal.τ) (sig := Cert.MergeIdeal.sig) (Λ := Cert.MergeIdeal.Λ₀)) (funext fun l => ?_)
  match l with
  | 0 => exact funext fun ⟨t, s⟩ => rfl

theorem defs_eq : Cert.Merge.defs (F := Bits) = Cert.MergeIdeal.defs (F := Bits) :=
  congrArg (Pipeline.defs Cert.MergeIdeal.pcfgs) bodies_eq

/-- So one run serves both frames. -/
theorem frame_kernel : Cert.quiescent_Merge := fun m ρ _ => by
  rw [defs_eq]
  exact Cert.MergeIdeal.Gen.frame (F := Bits) m ρ

theorem frame_ref : Cert.quiescent_MergeRefIdeal := fun m ρ _ =>
  (θ_run Cert.MergeRefIdeal.defs _ _).mono (fun r h => ⟨fun c => (h c).2, sem_eq_zero_of_no_sems (by decide) r.2⟩)
    (Cert.MergeRefIdeal.Value.run (F := Ideal) m ρ)

/-- The kernel's merge is the reference's. -/
theorem merge : Cert.algebraic_MergeIdeal_MergeRefIdeal := by
  intro m ρ m' ρ' _ hagree
  refine ⟨_, Cert.MergeIdeal.Value.run_blocks (F := Ideal) m ρ, ?_⟩
  refine (θ_run Cert.MergeRefIdeal.defs _ _).mono (fun _ h c => ⟨(h c).1.trans ?_, (h c).2⟩)
    (Cert.MergeRefIdeal.Value.run (F := Ideal) m' ρ')
  obtain ⟨h0, h1, h2, h3, h4, h5, h6, h7, h8⟩ := hagree c
  rw [h0, h1, h2, h3, h4, h5, h6, h7, h8]
  refine Eq.trans ?_ (arr_out m c).symm
  funext i
  refine (congrArg _ (eq_ix2 i)).trans ?_
  exact Ref.res_apply _ _ _ _ _ _ _ _ _ (i 0) (i 1)

end Cert.Merge3

end
-- ==== Proof.MemKv.Model.lean ====
/- The memory's keys and values, element by element: a slot's features normalized and projected, a key's head normalized again. -/
module

public import Idealize.ShloMosaic.PureOps.Ideal
public import Idealize.ShloMosaic.Lib.Pointwise

@[expose] public section

noncomputable section

namespace Cert.MemKv4

open Idealize.ShloMosaic

/-- Features over the root of their mean square plus a constant, times a gain; `c` is how many they are. -/
def rms {n : ℕ} (c : EReal) (x g : Fin n → EReal) (k : Fin n) : EReal :=
  x k * Ideal.rsqrt (Ideal.div (∑ j, x j * x j) c + Ideal.ofBits .f32 0x358637BD#32) * g k

/-- A slot's normalized features, projected by one column. -/
def feature (x g w : Fin 1024 → EReal) : EReal := ∑ k, rms (Ideal.ofBits .f32 0x44800000#32) x g k * w k

/-- One feature of a head, normalized over the head. -/
def headNorm (y g : Fin 128 → EReal) (d : Fin 128) : EReal := rms (Ideal.ofBits .f32 0x43000000#32) y g d

end Cert.MemKv4

end
-- ==== Proof.MemKv.Tile.lean ====
/- One grid point of the memory projection's kernel: the two blocks it leaves, element by element. -/
module

public import proofs.«01_k».proof.Proof.Gen.MemKvIdeal.Frame
public import proofs.«01_k».proof.Proof.MemKv.Model
public import Idealize.ShloMosaic.Lib.Pointwise
public import Idealize.ShloMosaic.Lib.Pipeline.ValueKit

@[expose] public section

set_option maxRecDepth 16384

noncomputable section

namespace Cert.MemKv4

open Cert.MemKvIdeal Cert.MemKvIdeal.Gen Idealize.ShloMosaic Idealize.ShloMosaic.TcCoe Idealize.SL.Sem

theorem off2 : (![0, 0] : Fin 2 → ℕ) = fun _ => 0 := by funext a; fin_cases a <;> rfl
theorem off3 : (![0, 0, 0] : Fin 3 → ℕ) = fun _ => 0 := by funext a; fin_cases a <;> rfl

/-- The projected tile at an index. -/
theorem tile_apply (x : FVec Ideal S1x256x1024 .f32) (g : FVec Ideal S1x1024 .f32) (w : FVec Ideal S1024x1024 .bf16) (r : Fin 256) (n : Fin 1024) :
    (k0_pay3 (F := Ideal) x g w : S256x1024.Idx → EReal) (ix2 r n)
      = feature (fun j => x (ix3 0 r j)) (fun j => g (ix2 0 j)) (fun k => w (ix2 k n)) := by
  pointwise [k0_pay3]
  rfl

/-- A head's tile normalized, at an index. -/
theorem norm_apply (y : FVec Ideal S256x128 .f32) (kn : FVec Ideal S1x128 .f32) (r : Fin 256) (d : Fin 128) :
    (k0_pay1 (F := Ideal) y kn : S1x256x128.Idx → EReal) (ix3 0 r d) = headNorm (fun j => y (ix2 r j)) (fun j => kn (ix2 0 j)) d := by
  pointwise [k0_pay1]
  rfl

variable (x : Vec Ideal S1x256x1024 .f32) (g : Vec Ideal S1x1024 .f32) (w : Vec Ideal S1024x1024 .bf16) (kn : Vec Ideal S1x128 .f32)

/-- A slot's projected feature. -/
def feat (r : Fin 256) (n : Fin 1024) : EReal := feature (fun j => x (ix3 0 r j)) (fun j => g (ix2 0 j)) (fun k => w (ix2 k n))

/-- The block of keys: each feature normalized over its head. -/
def keyAt (r : Fin 256) (n : Fin 512) : EReal :=
  headNorm (fun j => feat x g w r ⟨128 * (n.val / 128) + j.val, by omega⟩) (fun j => kn (ix2 0 j)) ⟨n.val % 128, by omega⟩

/-- One head's store, from the columns of the projected tile that begin at `o`. -/
theorem head_apply (h : Fin 4) (o : ℕ) (ho : o = 128 * h.val) (hs : S256x1024.Slices ![0, o] S256x128) (r : Fin 256) (d : Fin 128) (n : Fin 512)
    (hn : n.val = o + d.val) :
    (k0_pay1 (F := Ideal) (extractStridedSlice S256x128 ![0, o] (k0_pay3 (F := Ideal) x g w) hs) kn : S1x256x128.Idx → EReal) (ix3 0 r d)
      = keyAt x g w kn r n := by
  rw [norm_apply]
  unfold keyAt
  have hd : (⟨n.val % 128, by omega⟩ : Fin 128) = d := Fin.ext (by have := d.isLt; show n.val % 128 = d.val; omega)
  rw [hd]
  refine congrArg (fun f => headNorm f _ d) (funext fun j => ?_)
  refine (extractStridedSlice_apply _ _ hs (ix2 r j) (ix2 r ⟨128 * (n.val / 128) + j.val, by omega⟩) ?_).trans (tile_apply x g w r _)
  intro a
  fin_cases a
  · exact (Nat.zero_add _).symm
  · show 128 * (n.val / 128) + j.val = o + j.val
    have := d.isLt; omega

/-- The same at the block's index the store writes it to. -/
theorem piece_apply (h : Fin 4) (o : ℕ) (ho : o = 128 * h.val) (hs : S256x1024.Slices ![0, o] S256x128) (inb : ∀ a, ![0, 0, o] a + S1x256x128.size a ≤ S1x256x512.size a)
    (z : S1x256x128.Idx) :
    (k0_pay1 (F := Ideal) (extractStridedSlice S256x128 ![0, o] (k0_pay3 (F := Ideal) x g w) hs) kn : S1x256x128.Idx → EReal) z
      = keyAt x g w kn ((Rect.unit (s := S1x256x512) ![0, 0, o] S1x256x128.size inb).emb z 1) ((Rect.unit (s := S1x256x512) ![0, 0, o] S1x256x128.size inb).emb z 2) := by
  obtain ⟨z0, r, d, rfl⟩ : ∃ (z0 : Fin 1) (r : Fin 256) (d : Fin 128), z = ix3 z0 r d := ⟨z 0, z 1, z 2, eq_ix3 z⟩
  obtain rfl : z0 = 0 := Subsingleton.elim _ _
  have e1 : (Rect.unit (s := S1x256x512) ![0, 0, o] S1x256x128.size inb).emb (ix3 0 r d) 1 = r :=
    Fin.ext ((Rect.idx_unit_val (s := S1x256x512) ![0, 0, o] S1x256x128.size inb (ix3 0 r d) 1).trans (Nat.zero_add _))
  rw [e1]
  exact head_apply x g w kn h o ho hs r d _ (Rect.idx_unit_val (s := S1x256x512) ![0, 0, o] S1x256x128.size inb (ix3 0 r d) 2)

/-- Four stores that agree with one function of the block's index leave that function. -/
theorem four_stores (G : S1x256x512.Idx → EReal) (p3 p2 p1 p0 : Vec Ideal S1x256x128 .bf16) (h3 : ∀ z, p3 z = G (r0_7.emb z)) (h2 : ∀ z, p2 z = G (r0_6.emb z))
    (h1 : ∀ z, p1 z = G (r0_5.emb z)) (h0 : ∀ z, p0 z = G (r0_4.emb z)) (i : S1x256x512.Idx) :
    (View.canon [⟨r0_7, p3⟩, ⟨r0_6, p2⟩, ⟨r0_5, p1⟩, ⟨r0_4, p0⟩] : Vec Ideal S1x256x512 .bf16) i = G i := by
  refine View.canon_apply_of_pieces (Val := Elt Ideal) (e := .bf16) G _ ?_ i (cover0_4 p3 p2 p1 p0 i)
  intro p hp
  simp only [List.mem_cons, List.not_mem_nil, or_false] at hp
  obtain rfl | rfl | rfl | rfl := hp
  exacts [h3, h2, h1, h0]

/-! The four stores are one function of the four heads' columns. -/

theorem pay4_eq : k0_pay4 (F := Ideal) x g w kn = k0_pay1 (F := Ideal) (extractStridedSlice S256x128 ![0, 0] (k0_pay3 (F := Ideal) x g w) slices_S256x1024_o0_0_S256x128) kn := rfl

variable (y : FVec Ideal S256x1024 .f32)

theorem pay5_eq : k0_pay5 (F := Ideal) y kn = k0_pay1 (F := Ideal) (extractStridedSlice S256x128 ![0, 128] y slices_S256x1024_o0_128_S256x128) kn := rfl
theorem pay6_eq : k0_pay6 (F := Ideal) y kn = k0_pay1 (F := Ideal) (extractStridedSlice S256x128 ![0, 256] y slices_S256x1024_o0_256_S256x128) kn := rfl
theorem pay7_eq : k0_pay7 (F := Ideal) y = extractStridedSlice S256x128 ![0, 384] y slices_S256x1024_o0_384_S256x128 := rfl

theorem out4_apply (r : Fin 256) (n : Fin 512) : (out0_4 (F := Ideal) x g w kn : S1x256x512.Idx → EReal) (ix3 0 r n) = keyAt x g w kn r n := by
  unfold out0_4 k0_pay8
  rw [show View.ld x r0_0 = x from View.ld_unit_zero off3 _ x, show View.ld g r0_1 = g from View.ld_unit_zero off2 _ g,
    show View.ld w r0_2 = w from View.ld_unit_zero off2 _ w, show View.ld kn r0_3 = kn from View.ld_unit_zero off2 _ kn]
  rw [pay7_eq, pay6_eq, pay5_eq, pay4_eq]
  exact four_stores (fun i => keyAt x g w kn (i 1) (i 2)) _ _ _ _ (piece_apply x g w kn 3 384 rfl slices_S256x1024_o0_384_S256x128 _)
    (piece_apply x g w kn 2 256 rfl slices_S256x1024_o0_256_S256x128 _) (piece_apply x g w kn 1 128 rfl slices_S256x1024_o0_128_S256x128 _)
    (piece_apply x g w kn 0 0 rfl slices_S256x1024_o0_0_S256x128 _) (ix3 0 r n)

/-- The block of values: the projected features' second half. -/
theorem out5_apply (r : Fin 256) (n : Fin 512) :
    (out0_5 (F := Ideal) x g w kn : S1x256x512.Idx → EReal) (ix3 0 r n) = feat x g w r ⟨512 + n.val, by omega⟩ := by
  unfold out0_5 k0_pay8
  rw [View.canon_unit_zero off3]
  rw [show View.ld x r0_0 = x from View.ld_unit_zero off3 _ x, show View.ld g r0_1 = g from View.ld_unit_zero off2 _ g,
    show View.ld w r0_2 = w from View.ld_unit_zero off2 _ w]
  refine Eq.trans ?_ (tile_apply x g w r ⟨512 + n.val, by omega⟩)
  pointwise [k0_pay2]

end Cert.MemKv4

end
-- ==== Proof.MemKv.Value.lean ====
/- The memory projection's output arrays, element by element. -/
module

public import proofs.«01_k».proof.Proof.Gen.MemKvIdeal.Frame
public import proofs.«01_k».proof.Proof.MemKv.Tile

@[expose] public section

set_option maxRecDepth 16384

noncomputable section

namespace Cert.MemKv4

open Cert.MemKvIdeal Cert.MemKvIdeal.Gen Idealize.ShloMosaic Idealize.ShloMosaic.TcCoe Idealize.SL.Sem

variable (m : (ℓ : Loc nD τ sig) → Buf (Elt Ideal) ℓ) (c : Dev nD)

/-- The arguments: the memory by batch and slot, its gain, the weights, the keys' gain. -/
def argX (b : Fin 8) (s : Fin 256) (n : Fin 1024) : EReal := (m ((c : Thread nD τ).loc main_arg0) : S8x256x1024.Idx → EReal) (ix3 b s n)
def argG (k : Fin 1024) : EReal := (m ((c : Thread nD τ).loc main_arg1) : S1024.Idx → EReal) (ix1 k)
def argW (k : Fin 1024) (n : Fin 1024) : EReal := (m ((c : Thread nD τ).loc main_arg2) : S1024x1024.Idx → EReal) (ix2 k n)
def argN (d : Fin 128) : EReal := (m ((c : Thread nD τ).loc main_arg3) : S128.Idx → EReal) (ix1 d)

/-! What the host part hands to the call. -/

theorem flat_g (g : FVec Ideal S1024 .f32) (n : Fin 1024) :
    (show EReal from (shapeCast S1x1024 g shapeCasts_S1024_S1x1024 : FVec Ideal S1x1024 .f32) (ix2 0 n)) = g (ix1 n) := by
  pointwise

theorem flat_n (g : FVec Ideal S128 .f32) (n : Fin 128) :
    (show EReal from (shapeCast S1x128 g shapeCasts_S128_S1x128 : FVec Ideal S1x128 .f32) (ix2 0 n)) = g (ix1 n) := by
  pointwise

/-- The weights by row, head, keys or values, and feature. -/
def byHead (w : FVec Ideal S1024x1024 .f32) : FVec Ideal S1024x4x2x128 .f32 := shapeCast S1024x4x2x128 w shapeCasts_S1024x1024_S1024x4x2x128

/-- The keys' columns of every head, and the values'. -/
def keyCols (w : FVec Ideal S1024x1024 .f32) : FVec Ideal S1024x512 .f32 :=
  shapeCast S1024x512 (shapeCast S1024x4x128 (extractStridedSlice S1024x4x1x128 ![0, 0, 0, 0] (byHead w) slices_S1024x4x2x128_S1024x4x1x128_0_0_0_0)
    shapeCasts_S1024x4x1x128_S1024x4x128) shapeCasts_S1024x4x128_S1024x512
def valueCols (w : FVec Ideal S1024x1024 .f32) : FVec Ideal S1024x512 .f32 :=
  shapeCast S1024x512 (shapeCast S1024x4x128 (extractStridedSlice S1024x4x1x128 ![0, 0, 1, 0] (byHead w) slices_S1024x4x2x128_S1024x4x1x128_0_0_1_0)
    shapeCasts_S1024x4x1x128_S1024x4x128) shapeCasts_S1024x4x128_S1024x512

/-- The weights with all the keys' columns before all the values'. -/
def sorted (w : FVec Ideal S1024x1024 .f32) : FVec Ideal S1024x1024 .bf16 :=
  truncf (F := Ideal) (φ := .f32) .bf16 (concatenate S1024x1024 1 [⟨S1024x512, keyCols w⟩, ⟨S1024x512, valueCols w⟩] concatenates_S1024x512_S1024x512_S1024x1024_d1) bitsLt_bf16_f32

theorem keyCols_apply (w : FVec Ideal S1024x1024 .f32) (k : Fin 1024) (n : Fin 512) :
    keyCols w (ix2 k n) = w (ix2 k ⟨256 * (n.val / 128) + n.val % 128, by omega⟩) := by
  pointwise [keyCols, byHead]
  exact congrArg (fun q => w (ix2 k q)) (Fin.ext (by show n.val / 128 * 256 + n.val % 128 = 256 * (n.val / 128) + n.val % 128; omega))

theorem valueCols_apply (w : FVec Ideal S1024x1024 .f32) (k : Fin 1024) (n : Fin 512) :
    valueCols w (ix2 k n) = w (ix2 k ⟨256 * (n.val / 128) + (128 + n.val % 128), by omega⟩) := by
  pointwise [valueCols, byHead]
  exact congrArg (fun q => w (ix2 k q)) (Fin.ext (by show n.val / 128 * 256 + 128 + n.val % 128 = 256 * (n.val / 128) + (128 + n.val % 128); omega))

theorem sorted_key (w : FVec Ideal S1024x1024 .f32) (k : Fin 1024) (n : Fin 512) :
    (show EReal from sorted w (ix2 k ⟨n.val, by omega⟩)) = keyCols w (ix2 k n) := by
  pointwise [sorted]

theorem sorted_value (w : FVec Ideal S1024x1024 .f32) (k : Fin 1024) (n : Fin 512) :
    (show EReal from sorted w (ix2 k ⟨512 + n.val, by omega⟩)) = valueCols w (ix2 k n) := by
  pointwise [sorted]

theorem V_w : (V m c main_v8 : S1024x1024.Idx → EReal) = sorted (m ((c : Thread nD τ).loc main_arg2) : FVec Ideal S1024x1024 .f32) := by
  unfold sorted keyCols valueCols byHead
  simp only [V, hostOps0, StableHlo.TRef.unary, StableHlo.TRef.binary, StableHlo.TRef.toBuf, StableHlo.TRef.ofBuf, cast_eq]
  after_results_simp
  rfl

theorem V_g (n : Fin 1024) : (V m c main_v9 : S1x1024.Idx → EReal) (ix2 0 n) = argG m c n := by
  have e : (V m c main_v9 : S1x1024.Idx → EReal) = (shapeCast S1x1024 (m ((c : Thread nD τ).loc main_arg1) : FVec Ideal S1024 .f32) shapeCasts_S1024_S1x1024) := by
    simp only [V, hostOps0, StableHlo.TRef.unary, StableHlo.TRef.toBuf, StableHlo.TRef.ofBuf, cast_eq]
    after_results_simp
    rfl
  rw [e]
  exact flat_g _ n

theorem V_n (n : Fin 128) : (V m c main_v10 : S1x128.Idx → EReal) (ix2 0 n) = argN m c n := by
  have e : (V m c main_v10 : S1x128.Idx → EReal) = (shapeCast S1x128 (m ((c : Thread nD τ).loc main_arg3) : FVec Ideal S128 .f32) shapeCasts_S128_S1x128) := by
    simp only [V, hostOps0, StableHlo.TRef.unary, StableHlo.TRef.toBuf, StableHlo.TRef.ofBuf, cast_eq]
    after_results_simp
    rfl
  rw [e]
  exact flat_n _ n

/-! Where a grid point's blocks lie: its batch's, the other arguments whole. -/

theorem idx0 : ∀ (t : Fin grid0.N) (a : Fin 3), win0_0.index t a = (![t.val, 0, 0] : Fin 3 → ℕ) a := by decide +kernel
theorem idx1 : ∀ (t : Fin grid0.N) (a : Fin 2), win0_1.index t a = (![0, 0] : Fin 2 → ℕ) a := by decide +kernel
theorem idx2 : ∀ (t : Fin grid0.N) (a : Fin 2), win0_2.index t a = (![0, 0] : Fin 2 → ℕ) a := by decide +kernel
theorem idx3 : ∀ (t : Fin grid0.N) (a : Fin 2), win0_3.index t a = (![0, 0] : Fin 2 → ℕ) a := by decide +kernel
theorem idx4 : ∀ (t : Fin grid0.N) (a : Fin 3), win0_4.index t a = (![t.val, 0, 0] : Fin 3 → ℕ) a := by decide +kernel
theorem idx5 : ∀ (t : Fin grid0.N) (a : Fin 3), win0_5.index t a = (![t.val, 0, 0] : Fin 3 → ℕ) a := by decide +kernel

theorem blk_x (t : Fin cfg0.N) (r : Fin 256) (n : Fin 1024) :
    (iblk m c 0 t : S1x256x1024.Idx → EReal) (ix3 0 r n) = argX m c t r n := by
  unfold iblk argX
  refine congrArg (m ((c : Thread nD τ).loc main_arg0) : S8x256x1024.Idx → EReal) (funext fun a => Fin.ext ?_)
  refine (Pipeline.Window.rect_emb_val win0_0 t _ a).trans ?_
  rw [idx0]
  fin_cases a <;> simp [win0_0, ix3]

theorem blk_g (t : Fin cfg0.N) (n : Fin 1024) : (iblk m c 1 t : S1x1024.Idx → EReal) (ix2 0 n) = argG m c n := by
  refine Eq.trans ?_ (V_g m c n)
  unfold iblk
  refine congrArg (V m c main_v9 : S1x1024.Idx → EReal) (funext fun a => Fin.ext ?_)
  refine (Pipeline.Window.rect_emb_val win0_1 t _ a).trans ?_
  rw [idx1]
  fin_cases a <;> simp [win0_1, ix2]

theorem blk_w (t : Fin cfg0.N) (k n : Fin 1024) :
    (iblk m c 2 t : S1024x1024.Idx → EReal) (ix2 k n) = sorted (m ((c : Thread nD τ).loc main_arg2) : FVec Ideal S1024x1024 .f32) (ix2 k n) := by
  refine Eq.trans ?_ (congrFun (V_w m c) (ix2 k n))
  unfold iblk
  refine congrArg (V m c main_v8 : S1024x1024.Idx → EReal) (funext fun a => Fin.ext ?_)
  refine (Pipeline.Window.rect_emb_val win0_2 t _ a).trans ?_
  rw [idx2]
  fin_cases a <;> simp [win0_2, ix2]

theorem blk_n (t : Fin cfg0.N) (n : Fin 128) : (iblk m c 3 t : S1x128.Idx → EReal) (ix2 0 n) = argN m c n := by
  refine Eq.trans ?_ (V_n m c n)
  unfold iblk
  refine congrArg (V m c main_v10 : S1x128.Idx → EReal) (funext fun a => Fin.ext ?_)
  refine (Pipeline.Window.rect_emb_val win0_3 t _ a).trans ?_
  rw [idx3]
  fin_cases a <;> simp [win0_3, ix2]

/-- A slot's feature in the weights' own column. -/
def column (b : Fin 8) (s : Fin 256) (n : Fin 1024) : EReal := feature (argX m c b s) (argG m c) (fun k => argW m c k n)

theorem feat_key (t : Fin cfg0.N) (r : Fin 256) (n : Fin 512) :
    feat (iblk m c 0 t) (iblk m c 1 t) (iblk m c 2 t) r ⟨n.val, by omega⟩ = column m c t r ⟨256 * (n.val / 128) + n.val % 128, by omega⟩ := by
  unfold feat column
  simp only [blk_x, blk_g, blk_w]
  refine congrArg (feature _ _) (funext fun k => ?_)
  exact (sorted_key _ k n).trans (keyCols_apply _ k n)

theorem feat_value (t : Fin cfg0.N) (r : Fin 256) (n : Fin 512) :
    feat (iblk m c 0 t) (iblk m c 1 t) (iblk m c 2 t) r ⟨512 + n.val, by omega⟩ = column m c t r ⟨256 * (n.val / 128) + (128 + n.val % 128), by omega⟩ := by
  unfold feat column
  simp only [blk_x, blk_g, blk_w]
  refine congrArg (feature _ _) (funext fun k => ?_)
  exact (sorted_value _ k n).trans (valueCols_apply _ k n)

/-! The keys. -/

def keyRes (b : Fin 8) (s : Fin 256) (n : Fin 512) : EReal :=
  headNorm (fun j => column m c b s ⟨256 * (n.val / 128) + j.val, by omega⟩) (argN m c) ⟨n.val % 128, by omega⟩

def blkAtK (t : Fin cfg0.N) : S1x256x512.Idx → EReal := out0_4 (F := Ideal) (iblk m c 0 t) (iblk m c 1 t) (iblk m c 2 t) (iblk m c 3 t)

theorem key_result (t : Fin cfg0.N) (z : S1x256x512.Idx) (i : S8x256x512.Idx) (h0 : (i 0).val = t.val) (h1 : (i 1).val = (z 1).val) (h2 : (i 2).val = (z 2).val) :
    blkAtK m c t z = keyRes m c (i 0) (i 1) (i 2) := by
  obtain ⟨z0, r, n, rfl⟩ : ∃ (z0 : Fin 1) (r : Fin 256) (n : Fin 512), z = ix3 z0 r n := ⟨z 0, z 1, z 2, eq_ix3 z⟩
  obtain rfl : z0 = 0 := Subsingleton.elim _ _
  obtain rfl : i = ix3 t r n := (eq_ix3 i).trans (by rw [show i 0 = t from Fin.ext h0, show i 1 = r from Fin.ext h1, show i 2 = n from Fin.ext h2]; rfl)
  refine (out4_apply _ _ _ _ r n).trans ?_
  unfold keyAt
  simp only [blk_n]
  refine congrArg (fun f => headNorm f _ _) (funext fun j => ?_)
  refine (feat_key m c t r ⟨128 * (n.val / 128) + j.val, by omega⟩).trans (congrArg (column m c t r) (Fin.ext ?_))
  show 256 * ((128 * (n.val / 128) + j.val) / 128) + (128 * (n.val / 128) + j.val) % 128 = 256 * (n.val / 128) + j.val
  have := j.isLt
  omega

theorem afterK (t : Fin cfg0.N) : (dats m 0 c).after 4 t = blkAtK m c t := after0_4 m c t

theorem arr_k : (dats m 0 c).arrAt 4 cfg0.N = (fun i => keyRes m c (i 0) (i 1) (i 2) : S8x256x512.Idx → EReal) := by
  refine (dats m 0 c).arrAt_eq_of_covers 4 _ (by decide +kernel) fun t hf y => ?_
  rw [afterK]
  refine (cast_eq _ _).trans ?_
  refine key_result m c t ((cfg0.win 4).xinj (cfg0.grid.coords t) y) (((cfg0.win 4).blk t).view.emb y) ?_ ?_ ?_
  · refine (Pipeline.Window.rect_emb_val win0_4 t _ 0).trans ?_
    rw [idx4]; simp [win0_4]
  · refine (Pipeline.Window.rect_emb_val win0_4 t _ 1).trans ?_
    rw [idx4]; simp [win0_4]
  · refine (Pipeline.Window.rect_emb_val win0_4 t _ 2).trans ?_
    rw [idx4]; simp [win0_4]

/-! The values. -/

def valueRes (b : Fin 8) (s : Fin 256) (n : Fin 512) : EReal := column m c b s ⟨256 * (n.val / 128) + (128 + n.val % 128), by omega⟩

def blkAtV (t : Fin cfg0.N) : S1x256x512.Idx → EReal := out0_5 (F := Ideal) (iblk m c 0 t) (iblk m c 1 t) (iblk m c 2 t) (iblk m c 3 t)

theorem value_result (t : Fin cfg0.N) (z : S1x256x512.Idx) (i : S8x256x512.Idx) (h0 : (i 0).val = t.val) (h1 : (i 1).val = (z 1).val) (h2 : (i 2).val = (z 2).val) :
    blkAtV m c t z = valueRes m c (i 0) (i 1) (i 2) := by
  obtain ⟨z0, r, n, rfl⟩ : ∃ (z0 : Fin 1) (r : Fin 256) (n : Fin 512), z = ix3 z0 r n := ⟨z 0, z 1, z 2, eq_ix3 z⟩
  obtain rfl : z0 = 0 := Subsingleton.elim _ _
  obtain rfl : i = ix3 t r n := (eq_ix3 i).trans (by rw [show i 0 = t from Fin.ext h0, show i 1 = r from Fin.ext h1, show i 2 = n from Fin.ext h2]; rfl)
  exact (out5_apply _ _ _ _ r n).trans (feat_value m c t r n)

theorem afterV (t : Fin cfg0.N) : (dats m 0 c).after 5 t = blkAtV m c t := after0_5 m c t

theorem arr_v : (dats m 0 c).arrAt 5 cfg0.N = (fun i => valueRes m c (i 0) (i 1) (i 2) : S8x256x512.Idx → EReal) := by
  refine (dats m 0 c).arrAt_eq_of_covers 5 _ (by decide +kernel) fun t hf y => ?_
  rw [afterV]
  refine (cast_eq _ _).trans ?_
  refine value_result m c t ((cfg0.win 5).xinj (cfg0.grid.coords t) y) (((cfg0.win 5).blk t).view.emb y) ?_ ?_ ?_
  · refine (Pipeline.Window.rect_emb_val win0_5 t _ 0).trans ?_
    rw [idx5]; simp [win0_5]
  · refine (Pipeline.Window.rect_emb_val win0_5 t _ 1).trans ?_
    rw [idx5]; simp [win0_5]
  · refine (Pipeline.Window.rect_emb_val win0_5 t _ 2).trans ?_
    rw [idx5]; simp [win0_5]

end Cert.MemKv4

end
-- ==== Proof.MemKv.Ref.lean ====
/- The memory projection's reference, element by element. -/
module

public import proofs.«01_k».proof.Proof.Gen.MemKvRefIdeal.Run
public import proofs.«01_k».proof.Proof.MemKv.Model
public import Idealize.ShloMosaic.Lib.Pointwise

@[expose] public section

set_option maxRecDepth 16384

noncomputable section

namespace Cert.MemKv4.Ref

open Cert.MemKvRefIdeal Cert.MemKvRefIdeal.Gen Cert.MemKvRefIdeal.Value Idealize.ShloMosaic Idealize.ShloMosaic.TcCoe Idealize.SL.Sem

/-- The memory normalized, as the reference writes it. -/
def norm (x : FVec Ideal S8x256x1024 .f32) (g : FVec Ideal S1024 .f32) : FVec Ideal S8x256x1024 .f32 :=
  mulf (mulf x (broadcastInDim S8x256x1024 ![0, 1, 2] bcast_S8x256x1_S8x256x1024_0_1_2 (Host.rsqrt (addf
      (Host.divf (broadcastInDim S8x256x1 ![0, 1] bcast_S8x256_S8x256x1_0_1
          (Host.reduceAdd (mulf x x) (constant (F := Ideal) S_ .f32 0x00000000#32) reducesTo_S8x256x1024_S8x256_d2 h_S_))
        (broadcastInDim S8x256x1 ![] bcast_S_S8x256x1 (constant (F := Ideal) S_ .f32 0x44800000#32)))
      (broadcastInDim S8x256x1 ![] bcast_S_S8x256x1 (constant (F := Ideal) S_ .f32 0x358637BD#32))))))
    (broadcastInDim S8x256x1024 ![0, 1, 2] bcast_S1x1x1024_S8x256x1024_0_1_2 (broadcastInDim S1x1x1024 ![2] bcast_S1024_S1x1x1024_2 g))

/-- The projection, each head's keys and values side by side. -/
def kv (y : FVec Ideal S8x256x1024 .f32) (w : FVec Ideal S1024x1024 .f32) : FVec Ideal S8x256x4x256 .f32 :=
  shapeCast S8x256x4x256 (Host.dotGeneral dot_S8x256x1024_S1024x1024_S8x256x1024_2_0_01_1_n_n none y w) shapeCasts_S8x256x1024_S8x256x4x256

/-- The keys normalized over each head. -/
def keyNorm (k : FVec Ideal S8x256x4x128 .f32) (g : FVec Ideal S128 .f32) : FVec Ideal S8x256x4x128 .f32 :=
  mulf (mulf k (broadcastInDim S8x256x4x128 ![0, 1, 2, 3] bcast_S8x256x4x1_S8x256x4x128_0_1_2_3 (Host.rsqrt (addf
      (Host.divf (broadcastInDim S8x256x4x1 ![0, 1, 2] bcast_S8x256x4_S8x256x4x1_0_1_2
          (Host.reduceAdd (mulf k k) (constant (F := Ideal) S_ .f32 0x00000000#32) reducesTo_S8x256x4x128_S8x256x4_d3 h_S_))
        (broadcastInDim S8x256x4x1 ![] bcast_S_S8x256x4x1 (constant (F := Ideal) S_ .f32 0x43000000#32)))
      (broadcastInDim S8x256x4x1 ![] bcast_S_S8x256x4x1 (constant (F := Ideal) S_ .f32 0x358637BD#32))))))
    (broadcastInDim S8x256x4x128 ![0, 1, 2, 3] bcast_S1x1x1x128_S8x256x4x128_0_1_2_3 (broadcastInDim S1x1x1x128 ![3] bcast_S128_S1x1x1x128_3 g))

theorem norm_apply (x : FVec Ideal S8x256x1024 .f32) (g : FVec Ideal S1024 .f32) (b : Fin 8) (s : Fin 256) (k : Fin 1024) :
    norm x g (ix3 b s k) = rms (Ideal.ofBits .f32 0x44800000#32) (fun j => x (ix3 b s j)) (fun j => g (ix1 j)) k := by
  pointwise [norm]
  unfold rms
  rfl

theorem keyNorm_apply (k : FVec Ideal S8x256x4x128 .f32) (g : FVec Ideal S128 .f32) (b : Fin 8) (s : Fin 256) (h : Fin 4) (d : Fin 128) :
    keyNorm k g (ix4 b s h d) = headNorm (fun j => k (ix4 b s h j)) (fun j => g (ix1 j)) d := by
  pointwise [keyNorm]
  unfold headNorm rms
  rfl

theorem kv_apply (y : FVec Ideal S8x256x1024 .f32) (w : FVec Ideal S1024x1024 .f32) (b : Fin 8) (s : Fin 256) (h : Fin 4) (e : Fin 256) :
    kv y w (ix4 b s h e) = ∑ k : Fin 1024, y (ix3 b s k) * w (ix2 k ⟨256 * h.val + e.val, by omega⟩) := by
  pointwise [kv]
  simp only [Nat.mul_comm h.val 256]

variable (x : FVec Ideal S8x256x1024 .f32) (g : FVec Ideal S1024 .f32) (w : FVec Ideal S1024x1024 .f32) (kn : FVec Ideal S128 .f32)

/-- An element of the projection. -/
theorem all_apply (b : Fin 8) (s : Fin 256) (h : Fin 4) (e : Fin 256) :
    (show EReal from kv (norm x g) w (ix4 b s h e)) = feature (fun k => x (ix3 b s k)) (fun k => g (ix1 k))
      (fun k => w (ix2 k ⟨256 * h.val + e.val, by omega⟩)) :=
  (kv_apply _ w b s h e).trans (Finset.sum_congr rfl fun k _ => congrArg (· * _) (norm_apply x g b s k))

/-- The first result: the keys. -/
theorem res_k (b : Fin 8) (s : Fin 256) (n : Fin 512) :
    (show EReal from (truncf (F := Ideal) (φ := .f32) .bf16 (shapeCast S8x256x512 (keyNorm (extractStridedSlice S8x256x4x128 ![0, 0, 0, 0]
        (kv (norm x g) w) slices_S8x256x4x256_S8x256x4x128_0_0_0_0) kn) shapeCasts_S8x256x4x128_S8x256x512) bitsLt_bf16_f32 : FVec Ideal S8x256x512 .bf16) (ix3 b s n))
      = headNorm (fun j => feature (fun k => x (ix3 b s k)) (fun k => g (ix1 k)) (fun k => w (ix2 k ⟨256 * (n.val / 128) + j.val, by omega⟩)))
          (fun j => kn (ix1 j)) ⟨n.val % 128, by omega⟩ := by
  refine Eq.trans ?_ ((keyNorm_apply (extractStridedSlice S8x256x4x128 ![0, 0, 0, 0] (kv (norm x g) w) slices_S8x256x4x256_S8x256x4x128_0_0_0_0) kn b s ⟨n.val / 128, by omega⟩ ⟨n.val % 128, by omega⟩).trans
    (congrArg (fun f => headNorm f _ _) (funext fun j => ?_)))
  · pointwise
  · refine Eq.trans ?_ (all_apply x g w b s ⟨n.val / 128, by omega⟩ ⟨j.val, by omega⟩)
    pointwise

/-- The second result: the values. -/
theorem res_v (b : Fin 8) (s : Fin 256) (n : Fin 512) :
    (show EReal from (truncf (F := Ideal) (φ := .f32) .bf16 (shapeCast S8x256x512 (extractStridedSlice S8x256x4x128 ![0, 0, 0, 128]
        (kv (norm x g) w) slices_S8x256x4x256_S8x256x4x128_0_0_0_128) shapeCasts_S8x256x4x128_S8x256x512) bitsLt_bf16_f32 : FVec Ideal S8x256x512 .bf16) (ix3 b s n))
      = feature (fun k => x (ix3 b s k)) (fun k => g (ix1 k)) (fun k => w (ix2 k ⟨256 * (n.val / 128) + (128 + n.val % 128), by omega⟩)) := by
  refine Eq.trans ?_ (all_apply x g w b s ⟨n.val / 128, by omega⟩ ⟨128 + n.val % 128, by omega⟩)
  pointwise

end Cert.MemKv4.Ref

end
-- ==== Proof.MemKv.Claims.lean ====
/- The memory projection's claims: its kernel's frame at every float format, its reference's, and the two programs' keys and values equal. -/
module

public import proofs.«01_k».proof.Defs
public import proofs.«01_k».proof.Proof.Gen.MemKv
public import proofs.«01_k».proof.Proof.Gen.MemKvIdeal.Value
public import proofs.«01_k».proof.Proof.MemKv.Value
public import proofs.«01_k».proof.Proof.MemKv.Ref
public import Idealize.ShloMosaic.Lib.Quiescent

@[expose] public section

noncomputable section

namespace Cert.MemKv4

open Idealize.ShloMosaic Idealize.ShloMosaic.TcCoe Idealize.SL.Sem

theorem frame_ideal : Cert.quiescent_MemKvIdeal := fun m ρ _ => Cert.MemKvIdeal.Gen.frame (F := Ideal) m ρ

set_option maxHeartbeats 2000000 in
/-- The kernel as it is called has the same body. -/
theorem bodies_eq : Cert.MemKv.defs₀ (F := Bits) = Cert.MemKvIdeal.defs₀ (F := Bits) := by
  refine congrArg (Defs.onTc (nD := Cert.MemKvIdeal.nD) (τ := Cert.MemKvIdeal.τ) (sig := Cert.MemKvIdeal.sig) (Λ := Cert.MemKvIdeal.Λ₀)) (funext fun l => ?_)
  match l with
  | 0 => exact funext fun ⟨t, s⟩ => rfl

theorem defs_eq : Cert.MemKv.defs (F := Bits) = Cert.MemKvIdeal.defs (F := Bits) :=
  congrArg (Pipeline.defs Cert.MemKvIdeal.pcfgs) bodies_eq

/-- So one run serves both frames. -/
theorem frame_kernel : Cert.quiescent_MemKv := fun m ρ _ => by
  rw [defs_eq]
  exact Cert.MemKvIdeal.Gen.frame (F := Bits) m ρ

theorem frame_ref : Cert.quiescent_MemKvRefIdeal := fun m ρ _ =>
  (θ_run Cert.MemKvRefIdeal.defs _ _).mono (fun r h => ⟨fun c => (h c).2.2, sem_eq_zero_of_no_sems (by decide) r.2⟩)
    (Cert.MemKvRefIdeal.Value.run (F := Ideal) m ρ)

/-- The kernel's keys and values are the reference's. -/
theorem mem_kv : Cert.algebraic_MemKvIdeal_MemKvRefIdeal := by
  intro m ρ m' ρ' _ hagree
  refine ⟨_, _, Cert.MemKvIdeal.Value.run_blocks (F := Ideal) m ρ, ?_⟩
  refine (θ_run Cert.MemKvRefIdeal.defs _ _).mono (fun _ h c => ?_) (Cert.MemKvRefIdeal.Value.run (F := Ideal) m' ρ')
  obtain ⟨e0, e1, hk⟩ := h c
  obtain ⟨h0, h1, h2, h3⟩ := hagree c
  refine ⟨e0.trans ?_, e1.trans ?_, hk⟩
  · rw [h0, h1, h2, h3]
    refine Eq.trans ?_ (arr_k m c).symm
    funext i
    exact (congrArg _ (eq_ix3 i)).trans (Ref.res_k _ _ _ _ (i 0) (i 1) (i 2))
  · rw [h0, h1, h2]
    refine Eq.trans ?_ (arr_v m c).symm
    funext i
    exact (congrArg _ (eq_ix3 i)).trans (Ref.res_v _ _ _ (i 0) (i 1) (i 2))

end Cert.MemKv4

end
-- ==== Proof.MemAttn.Model.lean ====
/- Attention of a query over the memory's slots, element by element: the head's query normalized, the scores scaled,
   their softmax times the values. -/
module

public import proofs.«01_k».proof.Proof.Attn.Score
public import proofs.«01_k».proof.Proof.MemKv.Model

@[expose] public section

noncomputable section

namespace Cert.MemAttn5

open Idealize.ShloMosaic Cert.Attn Cert.MemKv4

/-- The scale `128 ^ (-1/2)` as both programs spell it: a rounded constant. -/
abbrev scale : EReal := Ideal.ofBits .f32 0x3DB504F3#32

theorem scale_real : ∃ r : ℝ, 0 ≤ r ∧ scale = (r : EReal) := by
  unfold scale Ideal.ofBits Ideal.ieee
  simp
  exact ⟨11863283 * (2 ^ 27)⁻¹, by positivity, (EReal.coe_mul _ _).symm⟩

/-- The scaled score of slot `j` for a query of one head. -/
def score (x g : Fin 128 → EReal) (K : Fin 256 → Fin 128 → EReal) (j : ℕ) : EReal :=
  (∑ d, headNorm x g d * K (Fin.ofNat 256 j) d) * scale

/-- One feature of the values, by slot. -/
def value (V : Fin 256 → EReal) (j : ℕ) : EReal := V (Fin.ofNat 256 j)

/-- One feature of a head's result for one query. -/
def attended (x g : Fin 128 → EReal) (K : Fin 256 → Fin 128 → EReal) (V : Fin 256 → EReal) : EReal :=
  attend (score x g K) (value V) 256

theorem ofNat_val (j : Fin 256) : Fin.ofNat 256 j.val = j := Fin.ext (Nat.mod_eq_of_lt j.isLt)

theorem count_real : Ideal.ofBits .f32 0x43000000#32 = ((128 : ℝ) : EReal) := by
  unfold Ideal.ofBits Ideal.ieee
  simp
  rw [← EReal.coe_mul]
  norm_num

theorem eps_real : ∃ r : ℝ, 0 < r ∧ Ideal.ofBits .f32 0x358637BD#32 = (r : EReal) := by
  unfold Ideal.ofBits Ideal.ieee
  simp
  exact ⟨_, by positivity, (EReal.coe_mul _ _).symm⟩

/-- A normalized head is real if its gain is: the mean square plus a constant is positive, and where it is infinite the whole head is 0. -/
theorem headNorm_real (x : Fin 128 → EReal) {g : Fin 128 → EReal} (hg : Finite g) (d : Fin 128) : ∃ r : ℝ, headNorm x g d = (r : EReal) := by
  obtain ⟨h, rfl⟩ := hg.exists_real
  obtain ⟨e, he, hE⟩ := eps_real
  unfold headNorm rms
  rw [count_real, hE]
  by_cases hx : Finite x
  · obtain ⟨y, rfl⟩ := hx.exists_real
    simp only [← EReal.coe_mul, ← coe_sum]
    rw [show Ideal.div ((∑ j, y j * y j : ℝ) : EReal) ((128 : ℝ) : EReal) = (((∑ j, y j * y j) * (128 : ℝ)⁻¹ : ℝ) : EReal) by
      unfold Ideal.div
      rw [if_neg (by norm_num), ← EReal.coe_inv, ← EReal.coe_mul]]
    rw [← EReal.coe_add, Ideal.rsqrt_coe]
    have hp : 0 < (∑ j, y j * y j) * (128 : ℝ)⁻¹ + e := by
      have : 0 ≤ ∑ j, y j * y j := Finset.sum_nonneg fun j _ => mul_self_nonneg _
      positivity
    rw [if_neg (not_lt.mpr hp.le), if_neg hp.ne']
    simp only [← EReal.coe_mul]
    exact ⟨_, rfl⟩
  · obtain ⟨i, hi⟩ : ∃ i, x i * x i = ⊤ := by
      unfold Cert.Attn.Finite at hx
      push Not at hx
      obtain ⟨i, hi⟩ := hx
      by_cases ht : x i = ⊤
      · exact ⟨i, by simp [ht]⟩
      · exact ⟨i, by simp [hi ht]⟩
    have sq : ∀ y : EReal, 0 ≤ y * y := fun y => by
      obtain h | h := le_total 0 y
      · exact mul_nonneg h h
      · rw [← neg_mul_neg]
        exact mul_nonneg (EReal.neg_nonneg.mpr h) (EReal.neg_nonneg.mpr h)
    have hs : ∑ j, x j * x j = ⊤ := top_le_iff.mp (hi ▸ Finset.single_le_sum (f := fun j => x j * x j) (fun j _ => sq _) (Finset.mem_univ i))
    rw [hs]
    rw [show Ideal.div ⊤ ((128 : ℝ) : EReal) = ⊤ by
      unfold Ideal.div
      rw [if_neg (by norm_num), ← EReal.coe_inv, EReal.top_mul_coe_of_pos (by norm_num)]]
    rw [EReal.top_add_coe, Ideal.rsqrt_top, mul_zero, zero_mul]
    exact ⟨0, rfl⟩

variable {x g : Fin 128 → EReal} {K : Fin 256 → Fin 128 → EReal}

/-- So every score is a real number. -/
theorem score_real (hg : Finite g) (hK : ∀ j, Finite (K j)) (j : ℕ) : ∃ r : ℝ, score x g K j = (r : EReal) := by
  obtain ⟨r, -, hr⟩ := scale_real
  choose q hq using headNorm_real x hg
  obtain ⟨k, hk⟩ := (hK (Fin.ofNat 256 j)).exists_real
  unfold score
  rw [hr, hk]
  simp only [hq, ← EReal.coe_mul, ← coe_sum]
  exact ⟨_, rfl⟩

/-- The scale applied to the query before the product, or to the product. -/
theorem scaled_dot (x g : Fin 128 → EReal) (K : Fin 256 → Fin 128 → EReal) (j : Fin 256) :
    ∑ d, headNorm x g d * scale * K j d = score x g K j.val := by
  obtain ⟨r, h0, hr⟩ := scale_real
  unfold score
  rw [ofNat_val, mul_comm _ scale, mul_sum_of_nonneg _ _ (by rw [hr]; exact_mod_cast h0) (by rw [hr]; exact EReal.coe_ne_top r)]
  exact Finset.sum_congr rfl fun d _ => by rw [mul_comm _ scale, mul_assoc]

/-- The weighted sum of the values over the sum of the weights is the attention, the scores being real. -/
theorem quotient_attended (hg : Finite g) (hK : ∀ j, Finite (K j)) (V : Fin 256 → EReal) :
    Ideal.div (∑ j : Fin 256, Ideal.exp (score x g K j.val - (Finset.range 256).sup (score x g K)) * V j)
        (∑ j : Fin 256, Ideal.exp (score x g K j.val - (Finset.range 256).sup (score x g K))) = attended x g K V := by
  have H : Online (score x g K) (value V) 256 ((Finset.range 256).sup (score x g K))
      (∑ j : Fin 256, Ideal.exp (score x g K j.val - (Finset.range 256).sup (score x g K)))
      (∑ j : Fin 256, Ideal.exp (score x g K j.val - (Finset.range 256).sup (score x g K)) * V j) :=
    ⟨rfl, by rw [Finset.sum_range], by
      rw [Finset.sum_range]
      exact Finset.sum_congr rfl fun j _ => by unfold value; rw [ofNat_val, mul_comm]⟩
  have top : ∀ k, score x g K k ≠ ⊤ := fun k => by obtain ⟨r, hr⟩ := score_real hg hK k; rw [hr]; exact EReal.coe_ne_top r
  rw [H.quotient top (k := 0) (by norm_num) (by obtain ⟨r, hr⟩ := score_real hg hK 0; rw [hr]; exact EReal.coe_ne_bot r)]
  unfold attended attend
  simp only [Finset.sum_range]

end Cert.MemAttn5

end
-- ==== Proof.MemAttn.Tile.lean ====
/- One grid point of the memory attention's kernel: the block it leaves, element by element. -/
module

public import proofs.«01_k».proof.Proof.Gen.MemAttnIdeal.Frame
public import proofs.«01_k».proof.Proof.MemAttn.Model
public import Idealize.ShloMosaic.Lib.Pointwise
public import Idealize.ShloMosaic.Lib.Pipeline.ValueKit

@[expose] public section

set_option maxRecDepth 16384

noncomputable section

namespace Cert.MemAttn5

open Cert.MemAttnIdeal Cert.MemAttnIdeal.Gen Idealize.ShloMosaic Idealize.ShloMosaic.TcCoe Idealize.SL.Sem
open Cert.Attn (Finite neg_inf fold_max_range)

/-- A head's queries normalized and scaled, as the kernel writes it. -/
def queries (q : FVec Ideal S1x512x128 .bf16) (g : FVec Ideal S1x128 .f32) : FVec Ideal S512x128 .bf16 :=
  let y : FVec Ideal S512x128 .f32 := extf .f32 (shapeCast S512x128 q shapeCasts_S1x512x128_S512x128) bitsLt_bf16_f32
  truncf .bf16 (mulf (mulf (mulf y (broadcastTo S512x128 (rsqrt (addf (divf (shapeCast S512x1
    (multiReduction .add [1] S512 (mulf y y) 0x00000000#32 reduces_S512x128_S512 (.inl rfl) rfl) shapeCasts_S512_S512x1)
      (broadcast S512x1 (Scalar.ofBits .f32 0x43000000#32))) (broadcast S512x1 (Scalar.ofBits .f32 0x358637BD#32)))) broadcasts_S512x1_S512x128))
    (broadcastTo S512x128 (shapeCast S1x128 g shapeCasts_S1x128_S1x128) broadcasts_S1x128_S512x128))
    (broadcast S512x128 (Scalar.ofBits .f32 0x3DB504F3#32))) bitsLt_bf16_f32

/-- Their scores over the slots. -/
def scores (y : FVec Ideal S512x128 .bf16) (k : FVec Ideal S1x256x128 .bf16) : FVec Ideal S512x256 .f32 :=
  matmul dot_S512x128_S256x128_S512x256_1_1_0_0_n_n none y (shapeCast S256x128 k shapeCasts_S1x256x128_S256x128) (constant S512x256 .f32 0x00000000#32)

/-- The exponentials of the scores less their row's maximum. -/
def exps (s : FVec Ideal S512x256 .f32) : FVec Ideal S512x256 .f32 :=
  exp (subf s (broadcastTo S512x256 (shapeCast S512x1 (multiReduction .maximumf [1] S512 s 0xFF800000#32 reduces_S512x256_S512 (.inl rfl) rfl)
    shapeCasts_S512_S512x1) broadcasts_S512x1_S512x256))

/-- The values summed with these weights, over the weights' sum. -/
def mixed (p : FVec Ideal S512x256 .f32) (v : FVec Ideal S1x256x128 .bf16) : FVec Ideal S1x512x128 .bf16 :=
  k0_pay1 p (truncf .bf16 p bitsLt_bf16_f32) (k0_pay12 v) (constant S512x128 .f32 0x00000000#32)

variable (q : FVec Ideal S1x512x128 .bf16) (g : FVec Ideal S1x128 .f32) (k v : FVec Ideal S1x256x128 .bf16)

theorem queries_apply (r : Fin 512) (d : Fin 128) :
    queries q g (ix2 r d) = Cert.MemKv4.headNorm (fun j => q (ix3 0 r j)) (fun j => g (ix2 0 j)) d * scale := by
  pointwise [queries]
  rfl

theorem scores_apply (y : FVec Ideal S512x128 .bf16) (r : Fin 512) (j : Fin 256) :
    scores y k (ix2 r j) = (∑ d : Fin 128, y (ix2 r d) * k (ix3 0 j d) : EReal) := by
  pointwise [scores]

theorem exps_apply (s : FVec Ideal S512x256 .f32) (f : ℕ → EReal) (r : Fin 512) (h : ∀ j : Fin 256, s (ix2 r j) = f j.val) (j : Fin 256) :
    exps s (ix2 r j) = Ideal.exp (f j.val - (Finset.range 256).sup f) := by
  pointwise [exps]
  rw [neg_inf, fold_max_range _ f h, h]

theorem mixed_apply (p : FVec Ideal S512x256 .f32) (r : Fin 512) (d : Fin 128) :
    mixed p v (ix3 0 r d) = Ideal.div (∑ j : Fin 256, p (ix2 r j) * v (ix3 0 j d)) (∑ j : Fin 256, p (ix2 r j)) := by
  pointwise [mixed, k0_pay1, k0_pay12]

/-- A head's result. -/
def headOut : FVec Ideal S1x512x128 .bf16 := mixed (exps (scores (queries q g) k)) v

/-- Its element: the attention of a query over the slots. -/
theorem headOut_apply (r : Fin 512) (d : Fin 128) (hg : Finite (fun j : Fin 128 => (g (ix2 0 j) : EReal)))
    (hk : ∀ j : Fin 256, Finite (fun e : Fin 128 => (k (ix3 0 j e) : EReal))) :
    headOut q g k v (ix3 0 r d)
      = attended (fun j => q (ix3 0 r j)) (fun j => g (ix2 0 j)) (fun j e => k (ix3 0 j e)) (fun j => v (ix3 0 j d)) := by
  have h1 : ∀ j : Fin 256, scores (queries q g) k (ix2 r j) = score (fun j => q (ix3 0 r j)) (fun j => g (ix2 0 j)) (fun j e => k (ix3 0 j e)) j.val := fun j => by
    rw [scores_apply, ← scaled_dot]
    exact Finset.sum_congr rfl fun e _ => congrArg (· * _) (queries_apply q g r e)
  unfold headOut
  rw [mixed_apply]
  simp only [exps_apply _ _ r h1]
  exact quotient_attended hg hk _

/-! The four stores are this function of the four heads' columns. -/

theorem store0_eq : k0_pay3 (F := Ideal) (k0_pay2 (F := Ideal) q g k v) = headOut q g k v := rfl
theorem store1_eq : k0_pay5 (F := Ideal) (k0_pay4 (F := Ideal) q g k v) = headOut q g k v := rfl
theorem store2_eq : k0_pay9 (F := Ideal) (k0_pay7 (F := Ideal) q g k v) (k0_pay8 (F := Ideal) q g k) = headOut q g k v := rfl
theorem store3_eq : k0_pay1 (F := Ideal) (k0_pay10 (F := Ideal) q g k) (k0_pay11 (F := Ideal) q g k) (k0_pay12 (F := Ideal) v) (constant S512x128 .f32 0x00000000#32)
    = headOut q g k v := rfl

/-- Four stores that agree with one function of the block's index leave that function. -/
theorem four_stores (G : S1x512x512.Idx → EReal) (p3 p2 p1 p0 : Vec Ideal S1x512x128 .bf16) (h3 : ∀ z, p3 z = G (r0_7.emb z)) (h2 : ∀ z, p2 z = G (r0_5.emb z))
    (h1 : ∀ z, p1 z = G (r0_3.emb z)) (h0 : ∀ z, p0 z = G (r0_0.emb z)) (i : S1x512x512.Idx) :
    (View.canon [⟨r0_7, p3⟩, ⟨r0_5, p2⟩, ⟨r0_3, p1⟩, ⟨r0_0, p0⟩] : Vec Ideal S1x512x512 .bf16) i = G i := by
  refine View.canon_apply_of_pieces (Val := Elt Ideal) (e := .bf16) G _ ?_ i (cover0_4 p3 p2 p1 p0 i)
  intro p hp
  simp only [List.mem_cons, List.not_mem_nil, or_false] at hp
  obtain rfl | rfl | rfl | rfl := hp
  exacts [h3, h2, h1, h0]

variable (X : Vec Ideal S1x512x512 .bf16) (K V : Vec Ideal S1x256x512 .bf16)

/-- The block: each feature the attention of its head. -/
def attAt (r n : Fin 512) : EReal :=
  attended (fun j => X (ix3 0 r ⟨128 * (n.val / 128) + j.val, by omega⟩)) (fun j => g (ix2 0 j))
    (fun s j => K (ix3 0 s ⟨128 * (n.val / 128) + j.val, by omega⟩)) (fun s => V (ix3 0 s n))

/-- One head's store, from the columns that begin at `o`. -/
theorem piece_apply (hg : Finite (g : _ → EReal)) (hK : Finite (K : _ → EReal)) (h : Fin 4) (o : ℕ) (ho : o = 128 * h.val)
    (iq : ∀ a, ![0, 0, o] a + S1x512x128.size a ≤ S1x512x512.size a) (ik : ∀ a, ![0, 0, o] a + S1x256x128.size a ≤ S1x256x512.size a) (z : S1x512x128.Idx) :
    headOut (View.ld X (Rect.unit (s := S1x512x512) ![0, 0, o] S1x512x128.size iq)) g (View.ld K (Rect.unit (s := S1x256x512) ![0, 0, o] S1x256x128.size ik))
        (View.ld V (Rect.unit (s := S1x256x512) ![0, 0, o] S1x256x128.size ik)) z
      = attAt g X K V ((Rect.unit (s := S1x512x512) ![0, 0, o] S1x512x128.size iq).emb z 1) ((Rect.unit (s := S1x512x512) ![0, 0, o] S1x512x128.size iq).emb z 2) := by
  obtain ⟨z0, r, d, rfl⟩ : ∃ (z0 : Fin 1) (r : Fin 512) (d : Fin 128), z = ix3 z0 r d := ⟨z 0, z 1, z 2, eq_ix3 z⟩
  obtain rfl : z0 = 0 := Subsingleton.elim _ _
  have e1 : (Rect.unit (s := S1x512x512) ![0, 0, o] S1x512x128.size iq).emb (ix3 0 r d) 1 = r :=
    Fin.ext ((Rect.idx_unit_val (s := S1x512x512) ![0, 0, o] S1x512x128.size iq (ix3 0 r d) 1).trans (Nat.zero_add _))
  obtain ⟨n, hn⟩ : ∃ n : Fin 512, (Rect.unit (s := S1x512x512) ![0, 0, o] S1x512x128.size iq).emb (ix3 0 r d) 2 = n := ⟨_, rfl⟩
  have hv : n.val = o + d.val := (congrArg Fin.val hn).symm.trans (Rect.idx_unit_val (s := S1x512x512) ![0, 0, o] S1x512x128.size iq (ix3 0 r d) 2)
  have hd := d.isLt
  have hlt := n.isLt
  rw [e1, hn, headOut_apply _ _ _ _ r d (fun j => hg _) (fun s j => hK _)]
  unfold attAt
  have ex : ∀ j : Fin 128, View.ld X (Rect.unit (s := S1x512x512) ![0, 0, o] S1x512x128.size iq) (ix3 0 r j) = X (ix3 0 r ⟨128 * (n.val / 128) + j.val, by omega⟩) := fun j =>
    View.ld_unit_apply_of X _ _ iq _ _ fun a => by
      fin_cases a
      · rfl
      · exact (Nat.zero_add _).symm
      · show 128 * (n.val / 128) + j.val = o + j.val
        omega
  have ek : ∀ (W : Vec Ideal S1x256x512 .bf16) (s : Fin 256) (j : Fin 128) (e : Fin 512), e.val = o + j.val →
      View.ld W (Rect.unit (s := S1x256x512) ![0, 0, o] S1x256x128.size ik) (ix3 0 s j) = W (ix3 0 s e) := fun W s j e he =>
    View.ld_unit_apply_of W _ _ ik _ _ fun a => by
      fin_cases a
      · rfl
      · exact (Nat.zero_add _).symm
      · exact he
  rw [funext ex, funext fun s => ek V s d n hv, funext fun s => funext fun j => ek K s j ⟨128 * (n.val / 128) + j.val, by omega⟩ (by show 128 * (n.val / 128) + j.val = o + j.val; omega)]

theorem off2 : (![0, 0] : Fin 2 → ℕ) = fun _ => 0 := by funext a; fin_cases a <;> rfl

/-- An element of the block a grid point leaves. -/
theorem out_apply (γ : Vec Ideal S1x128 .f32) (hg : Finite (γ : S1x128.Idx → EReal)) (hK : Finite (K : _ → EReal)) (r n : Fin 512) :
    (out0_4 (F := Ideal) X K V γ : S1x512x512.Idx → EReal) (ix3 0 r n) = attAt γ X K V r n := by
  unfold out0_4
  rw [show View.ld γ r0_1 = γ from View.ld_unit_zero off2 _ γ]
  rw [store0_eq, store1_eq, store2_eq, store3_eq]
  exact four_stores (fun i => attAt γ X K V (i 1) (i 2)) _ _ _ _ (piece_apply γ X K V hg hK 3 384 rfl _ _) (piece_apply γ X K V hg hK 2 256 rfl _ _)
    (piece_apply γ X K V hg hK 1 128 rfl _ _) (piece_apply γ X K V hg hK 0 0 rfl _ _) (ix3 0 r n)

end Cert.MemAttn5

end
-- ==== Proof.MemAttn.Value.lean ====
/- The memory attention's output array, element by element. -/
module

public import proofs.«01_k».proof.Proof.Gen.MemAttnIdeal.Frame
public import proofs.«01_k».proof.Proof.MemAttn.Tile

@[expose] public section

set_option maxRecDepth 16384

noncomputable section

namespace Cert.MemAttn5

open Cert.MemAttnIdeal Cert.MemAttnIdeal.Gen Idealize.ShloMosaic Idealize.ShloMosaic.TcCoe Idealize.SL.Sem
open Cert.Attn (Finite)

variable (m : (ℓ : Loc nD τ sig) → Buf (Elt Ideal) ℓ) (c : Dev nD)

/-- The arguments: the queries, the keys and values by slot and head, the queries' gain. -/
def argX : S8x4096x512.Idx → EReal := m ((c : Thread nD τ).loc main_arg0)
def argK : S8x256x4x128.Idx → EReal := m ((c : Thread nD τ).loc main_arg1)
def argV : S8x256x4x128.Idx → EReal := m ((c : Thread nD τ).loc main_arg2)
def argG : S128.Idx → EReal := m ((c : Thread nD τ).loc main_arg3)

/-- An element of the result: the attention of a query's head over the memory. -/
def result (X : S8x4096x512.Idx → EReal) (K V : S8x256x4x128.Idx → EReal) (G : S128.Idx → EReal) (b : Fin 8) (s : Fin 4096) (n : Fin 512) : EReal :=
  attended (fun j => X (ix3 b s ⟨128 * (n.val / 128) + j.val, by omega⟩)) (fun j => G (ix1 j))
    (fun t j => K (ix4 b t ⟨n.val / 128, by omega⟩ j)) (fun t => V (ix4 b t ⟨n.val / 128, by omega⟩ ⟨n.val % 128, by omega⟩))

/-! What the host part hands to the call. -/

/-- Keys or values with the heads side by side. -/
def flat (k : FVec Ideal S8x256x4x128 .f32) : FVec Ideal S8x256x512 .bf16 :=
  truncf .bf16 (shapeCast S8x256x512 k shapeCasts_S8x256x4x128_S8x256x512) bitsLt_bf16_f32

theorem flat_apply (k : FVec Ideal S8x256x4x128 .f32) (b : Fin 8) (t : Fin 256) (n : Fin 512) (h : Fin 4) (e : Fin 128) (hn : n.val = 128 * h.val + e.val) :
    (show EReal from flat k (ix3 b t n)) = k (ix4 b t h e) := by
  have he := e.isLt
  have eh : (⟨n.val / 128, by omega⟩ : Fin 4) = h := Fin.ext (by show n.val / 128 = h.val; omega)
  have ee : (⟨n.val % 128, by omega⟩ : Fin 128) = e := Fin.ext (by show n.val % 128 = e.val; omega)
  refine Eq.trans (b := (k (ix4 b t ⟨n.val / 128, by omega⟩ ⟨n.val % 128, by omega⟩) : EReal)) ?_ (by rw [eh, ee])
  pointwise [flat]

theorem flat_g (g : FVec Ideal S128 .f32) (n : Fin 128) :
    (show EReal from (shapeCast S1x128 g shapeCasts_S128_S1x128 : FVec Ideal S1x128 .f32) (ix2 0 n)) = g (ix1 n) := by
  pointwise

theorem V_x : (V m c main_v0 : S8x4096x512.Idx → EReal) = argX m c := by
  unfold argX
  simp only [V, hostOps0, StableHlo.TRef.unary, StableHlo.TRef.toBuf, StableHlo.TRef.ofBuf, cast_eq]
  after_results_simp
  rfl

theorem V_k : (V m c main_v2 : S8x256x512.Idx → EReal) = flat (m ((c : Thread nD τ).loc main_arg1) : FVec Ideal S8x256x4x128 .f32) := by
  unfold flat
  simp only [V, hostOps0, StableHlo.TRef.unary, StableHlo.TRef.toBuf, StableHlo.TRef.ofBuf, cast_eq]
  after_results_simp
  rfl

theorem V_v : (V m c main_v4 : S8x256x512.Idx → EReal) = flat (m ((c : Thread nD τ).loc main_arg2) : FVec Ideal S8x256x4x128 .f32) := by
  unfold flat
  simp only [V, hostOps0, StableHlo.TRef.unary, StableHlo.TRef.toBuf, StableHlo.TRef.ofBuf, cast_eq]
  after_results_simp
  rfl

theorem V_g : (V m c main_v5 : S1x128.Idx → EReal) = (shapeCast S1x128 (m ((c : Thread nD τ).loc main_arg3) : FVec Ideal S128 .f32) shapeCasts_S128_S1x128) := by
  simp only [V, hostOps0, StableHlo.TRef.unary, StableHlo.TRef.toBuf, StableHlo.TRef.ofBuf, cast_eq]
  after_results_simp
  rfl

/-! Where a grid point's blocks lie: 512 queries of a batch, that batch's keys and values. -/

theorem idx0 : ∀ (t : Fin grid0.N) (a : Fin 3), win0_0.index t a = (![t.val / 8, t.val % 8, 0] : Fin 3 → ℕ) a := by decide +kernel
theorem idx1 : ∀ (t : Fin grid0.N) (a : Fin 3), win0_1.index t a = (![t.val / 8, 0, 0] : Fin 3 → ℕ) a := by decide +kernel
theorem idx2 : ∀ (t : Fin grid0.N) (a : Fin 3), win0_2.index t a = (![t.val / 8, 0, 0] : Fin 3 → ℕ) a := by decide +kernel
theorem idx3 : ∀ (t : Fin grid0.N) (a : Fin 2), win0_3.index t a = (![0, 0] : Fin 2 → ℕ) a := by decide +kernel
theorem idx4 : ∀ (t : Fin grid0.N) (a : Fin 3), win0_4.index t a = (![t.val / 8, t.val % 8, 0] : Fin 3 → ℕ) a := by decide +kernel

theorem blk_x (t : Fin cfg0.N) (r n : Fin 512) (b : Fin 8) (s : Fin 4096) (hb : b.val = t.val / 8) (hs : s.val = 512 * (t.val % 8) + r.val) :
    (iblk m c 0 t : S1x512x512.Idx → EReal) (ix3 0 r n) = argX m c (ix3 b s n) := by
  refine Eq.trans ?_ (congrFun (V_x m c) (ix3 b s n))
  unfold iblk
  refine congrArg (V m c main_v0 : S8x4096x512.Idx → EReal) (funext fun a => Fin.ext ?_)
  refine (Pipeline.Window.rect_emb_val win0_0 t _ a).trans ?_
  rw [idx0]
  fin_cases a <;> simp [win0_0, ix3] <;> omega

theorem blk_k (t : Fin cfg0.N) (s : Fin 256) (n : Fin 512) (b : Fin 8) (hb : b.val = t.val / 8) (h : Fin 4) (e : Fin 128) (hn : n.val = 128 * h.val + e.val) :
    (iblk m c 1 t : S1x256x512.Idx → EReal) (ix3 0 s n) = argK m c (ix4 b s h e) := by
  refine Eq.trans ?_ ((congrFun (V_k m c) (ix3 b s n)).trans (flat_apply _ b s n h e hn))
  unfold iblk
  refine congrArg (V m c main_v2 : S8x256x512.Idx → EReal) (funext fun a => Fin.ext ?_)
  refine (Pipeline.Window.rect_emb_val win0_1 t _ a).trans ?_
  rw [idx1]
  fin_cases a <;> simp [win0_1, ix3] <;> omega

theorem blk_v (t : Fin cfg0.N) (s : Fin 256) (n : Fin 512) (b : Fin 8) (hb : b.val = t.val / 8) (h : Fin 4) (e : Fin 128) (hn : n.val = 128 * h.val + e.val) :
    (iblk m c 2 t : S1x256x512.Idx → EReal) (ix3 0 s n) = argV m c (ix4 b s h e) := by
  refine Eq.trans ?_ ((congrFun (V_v m c) (ix3 b s n)).trans (flat_apply _ b s n h e hn))
  unfold iblk
  refine congrArg (V m c main_v4 : S8x256x512.Idx → EReal) (funext fun a => Fin.ext ?_)
  refine (Pipeline.Window.rect_emb_val win0_2 t _ a).trans ?_
  rw [idx2]
  fin_cases a <;> simp [win0_2, ix3] <;> omega

theorem blk_g (t : Fin cfg0.N) (n : Fin 128) : (iblk m c 3 t : S1x128.Idx → EReal) (ix2 0 n) = argG m c (ix1 n) := by
  refine Eq.trans ?_ ((congrFun (V_g m c) (ix2 0 n)).trans (flat_g _ n))
  unfold iblk
  refine congrArg (V m c main_v5 : S1x128.Idx → EReal) (funext fun a => Fin.ext ?_)
  refine (Pipeline.Window.rect_emb_val win0_3 t _ a).trans ?_
  rw [idx3]
  fin_cases a <;> simp [win0_3, ix2]

/-! The blocks of real arguments are real. -/

theorem fin_k (h : Finite (argK m c)) (t : Fin cfg0.N) : Finite (iblk m c 1 t : S1x256x512.Idx → EReal) := fun z => by
  obtain ⟨z0, s, n, rfl⟩ : ∃ (z0 : Fin 1) (s : Fin 256) (n : Fin 512), z = ix3 z0 s n := ⟨z 0, z 1, z 2, eq_ix3 z⟩
  obtain rfl : z0 = 0 := Subsingleton.elim _ _
  have ht : t.val < 64 := t.isLt
  rw [blk_k m c t s n ⟨t.val / 8, by omega⟩ rfl ⟨n.val / 128, by omega⟩ ⟨n.val % 128, by omega⟩ (by show n.val = 128 * (n.val / 128) + n.val % 128; omega)]
  exact h _

theorem fin_g (h : Finite (argG m c)) (t : Fin cfg0.N) : Finite (iblk m c 3 t : S1x128.Idx → EReal) := fun z => by
  obtain ⟨z0, n, rfl⟩ : ∃ (z0 : Fin 1) (n : Fin 128), z = ix2 z0 n := ⟨z 0, z 1, eq_ix2 z⟩
  obtain rfl : z0 = 0 := Subsingleton.elim _ _
  rw [blk_g m c t n]
  exact h _

def blkAt (t : Fin cfg0.N) : S1x512x512.Idx → EReal := out0_4 (F := Ideal) (iblk m c 0 t) (iblk m c 1 t) (iblk m c 2 t) (iblk m c 3 t)

theorem blkAt_result (hK : Finite (argK m c)) (hG : Finite (argG m c)) (t : Fin cfg0.N) (z : S1x512x512.Idx) (i : S8x4096x512.Idx)
    (h0 : (i 0).val = t.val / 8) (h1 : (i 1).val = 512 * (t.val % 8) + (z 1).val) (h2 : (i 2).val = (z 2).val) :
    blkAt m c t z = result (argX m c) (argK m c) (argV m c) (argG m c) (i 0) (i 1) (i 2) := by
  obtain ⟨z0, r, n, rfl⟩ : ∃ (z0 : Fin 1) (r : Fin 512) (n : Fin 512), z = ix3 z0 r n := ⟨z 0, z 1, z 2, eq_ix3 z⟩
  obtain rfl : z0 = 0 := Subsingleton.elim _ _
  obtain ⟨b, s, k, rfl⟩ : ∃ (b : Fin 8) (s : Fin 4096) (k : Fin 512), i = ix3 b s k := ⟨i 0, i 1, i 2, eq_ix3 i⟩
  obtain rfl : k = n := Fin.ext h2
  refine (out_apply _ _ _ _ (fin_g m c hG t) (fin_k m c hK t) r k).trans ?_
  show attAt (iblk m c 3 t) (iblk m c 0 t) (iblk m c 1 t) (iblk m c 2 t) r k = result (argX m c) (argK m c) (argV m c) (argG m c) b s k
  unfold attAt result
  simp only [blk_x m c t r _ b s h0 h1, blk_g]
  rw [funext fun s' => funext fun j : Fin 128 => blk_k m c t s' ⟨128 * (k.val / 128) + j.val, by omega⟩ b h0 ⟨k.val / 128, by omega⟩ j rfl,
    funext fun s' => blk_v m c t s' k b h0 ⟨k.val / 128, by omega⟩ ⟨k.val % 128, by omega⟩ (by show k.val = 128 * (k.val / 128) + k.val % 128; omega)]

theorem after_out (t : Fin cfg0.N) : (dats m 0 c).after 4 t = blkAt m c t := after0_4 m c t

/-- The kernel's output array is the attention over the memory. -/
theorem arr_out (hK : Finite (argK m c)) (hG : Finite (argG m c)) :
    (dats m 0 c).arrAt 4 cfg0.N = (fun i => result (argX m c) (argK m c) (argV m c) (argG m c) (i 0) (i 1) (i 2) : S8x4096x512.Idx → EReal) := by
  refine (dats m 0 c).arrAt_eq_of_covers 4 _ (by decide +kernel) fun t hf y => ?_
  rw [after_out]
  refine (cast_eq _ _).trans ?_
  refine blkAt_result m c hK hG t ((cfg0.win 4).xinj (cfg0.grid.coords t) y) (((cfg0.win 4).blk t).view.emb y) ?_ ?_ ?_
  · refine (Pipeline.Window.rect_emb_val win0_4 t _ 0).trans ?_
    rw [idx4]; simp [win0_4]
  · refine (Pipeline.Window.rect_emb_val win0_4 t _ 1).trans ?_
    rw [idx4]; simp [win0_4]; omega
  · refine (Pipeline.Window.rect_emb_val win0_4 t _ 2).trans ?_
    rw [idx4]; simp [win0_4]

end Cert.MemAttn5

end
-- ==== Proof.MemAttn.Ref.lean ====
/- The memory attention's reference, element by element. -/
module

public import proofs.«01_k».proof.Proof.Gen.MemAttnRefIdeal.Run
public import proofs.«01_k».proof.Proof.Attn.Ref
public import proofs.«01_k».proof.Proof.MemAttn.Model
public import Idealize.ShloMosaic.Lib.Pointwise

@[expose] public section

set_option maxRecDepth 16384

noncomputable section

namespace Cert.MemAttn5.Ref

open Cert.MemAttnRefIdeal Cert.MemAttnRefIdeal.Gen Cert.MemAttnRefIdeal.Value Idealize.ShloMosaic Idealize.ShloMosaic.TcCoe Idealize.SL.Sem
open Cert.Attn (fold_max_range)

/-- The queries by head, normalized over each head, as the reference writes it. -/
def queryNorm (x : FVec Ideal S8x4096x4x128 .f32) (g : FVec Ideal S128 .f32) : FVec Ideal S8x4096x4x128 .f32 :=
  mulf (mulf x (broadcastInDim S8x4096x4x128 ![0, 1, 2, 3] bcast_S8x4096x4x1_S8x4096x4x128_0_1_2_3 (Host.rsqrt (addf
      (Host.divf (broadcastInDim S8x4096x4x1 ![0, 1, 2] bcast_S8x4096x4_S8x4096x4x1_0_1_2
          (Host.reduceAdd (mulf x x) (constant (F := Ideal) S_ .f32 0x00000000#32) reducesTo_S8x4096x4x128_S8x4096x4_d3 h_S_))
        (broadcastInDim S8x4096x4x1 ![] bcast_S_S8x4096x4x1 (constant (F := Ideal) S_ .f32 0x43000000#32)))
      (broadcastInDim S8x4096x4x1 ![] bcast_S_S8x4096x4x1 (constant (F := Ideal) S_ .f32 0x358637BD#32))))))
    (broadcastInDim S8x4096x4x128 ![0, 1, 2, 3] bcast_S1x1x1x128_S8x4096x4x128_0_1_2_3 (broadcastInDim S1x1x1x128 ![3] bcast_S128_S1x1x1x128_3 g))

/-- The scaled scores over the slots. -/
def scores (q : FVec Ideal S8x4096x4x128 .f32) (k : FVec Ideal S8x256x4x128 .f32) : FVec Ideal S8x4x4096x256 .f32 :=
  mulf (Host.dotGeneral dot_S8x4096x4x128_S8x256x4x128_S8x4x4096x256_3_3_1_1_02_02 none q k)
    (broadcastInDim S8x4x4096x256 ![] bcast_S_S8x4x4096x256 (constant (F := Ideal) S_ .f32 0x3DB504F3#32))

/-- The scores' maximum of each row. -/
def rowMax (x : FVec Ideal S8x4x4096x256 .f32) : FVec Ideal S8x4x4096 .f32 :=
  Host.reduce FloatOps.maximumf x (constant (F := Ideal) S_ .f32 0xFF800000#32) reducesTo_S8x4x4096x256_S8x4x4096_d3 h_S_

/-- The exponentials of the scores less their row's maximum. -/
def exps (x : FVec Ideal S8x4x4096x256 .f32) (y : FVec Ideal S8x4x4096 .f32) : FVec Ideal S8x4x4096x256 .f32 :=
  Host.exp (subf x (broadcastInDim S8x4x4096x256 ![0, 1, 2, 3] bcast_S8x4x4096x1_S8x4x4096x256_0_1_2_3
    (broadcastInDim S8x4x4096x1 ![0, 1, 2] bcast_S8x4x4096_S8x4x4096x1_0_1_2
      (maximumf (broadcastInDim S8x4x4096 ![] bcast_S_S8x4x4096 (constant (F := Ideal) S_ .f32 0xFF800000#32)) y))))

/-- The weights: the exponentials over their row's sum. -/
def weights (x : FVec Ideal S8x4x4096x256 .f32) : FVec Ideal S8x4x4096x256 .f32 :=
  Host.divf x (broadcastInDim S8x4x4096x256 ![0, 1, 2, 3] bcast_S8x4x4096x1_S8x4x4096x256_0_1_2_3
    (broadcastInDim S8x4x4096x1 ![0, 1, 2] bcast_S8x4x4096_S8x4x4096x1_0_1_2
      (Host.reduceAdd x (constant (F := Ideal) S_ .f32 0x00000000#32) reducesTo_S8x4x4096x256_S8x4x4096_d3 h_S_)))

/-- The weighted sums of the values, the heads side by side. -/
def mix (v : FVec Ideal S8x256x4x128 .f32) (x : FVec Ideal S8x4x4096x256 .f32) : FVec Ideal S8x4096x512 .bf16 :=
  truncf .bf16 (shapeCast S8x4096x512 (transpose S8x4096x4x128 [0, 3, 1, 2]
      (Host.dotGeneral dot_S8x256x4x128_S8x4x4096x256_S8x4x128x4096_1_3_3_2_02_01 none v x)
      transposes_S8x4x128x4096_S8x4096x4x128_0_3_1_2) shapeCasts_S8x4096x4x128_S8x4096x512) bitsLt_bf16_f32

theorem queryNorm_apply (x : FVec Ideal S8x4096x4x128 .f32) (g : FVec Ideal S128 .f32) (b : Fin 8) (s : Fin 4096) (h : Fin 4) (d : Fin 128) :
    queryNorm x g (ix4 b s h d) = Cert.MemKv4.headNorm (fun j => x (ix4 b s h j)) (fun j => g (ix1 j)) d := by
  pointwise [queryNorm]
  unfold Cert.MemKv4.headNorm Cert.MemKv4.rms
  rfl

theorem scores_dot (q : FVec Ideal S8x4096x4x128 .f32) (k : FVec Ideal S8x256x4x128 .f32) (b : Fin 8) (h : Fin 4) (s : Fin 4096) (j : Fin 256) :
    scores q k (ix4 b h s j) = ((∑ d : Fin 128, q (ix4 b s h d) * k (ix4 b j h d)) * scale : EReal) := by
  pointwise [scores]

theorem scores_apply (x : FVec Ideal S8x4096x4x128 .f32) (g : FVec Ideal S128 .f32) (k : FVec Ideal S8x256x4x128 .f32) (b : Fin 8) (h : Fin 4) (s : Fin 4096) (j : Fin 256) :
    scores (queryNorm x g) k (ix4 b h s j) = score (fun d => x (ix4 b s h d)) (fun d => g (ix1 d)) (fun t d => k (ix4 b t h d)) j.val := by
  rw [scores_dot]
  unfold score
  rw [ofNat_val]
  exact congrArg (· * scale) (Finset.sum_congr rfl fun d _ => congrArg (· * _) (queryNorm_apply x g b s h d))

/-- The exponentials at an index. -/
theorem exps_at (x : FVec Ideal S8x4x4096x256 .f32) (y : FVec Ideal S8x4x4096 .f32) (b : Fin 8) (h : Fin 4) (s : Fin 4096) (j : Fin 256) :
    (show EReal from Host.exp (subf x (broadcastInDim S8x4x4096x256 ![0, 1, 2, 3] bcast_S8x4x4096x1_S8x4x4096x256_0_1_2_3
      (broadcastInDim S8x4x4096x1 ![0, 1, 2] bcast_S8x4x4096_S8x4x4096x1_0_1_2 y))) (ix4 b h s j))
      = Ideal.exp (x (ix4 b h s j) - y (ix3 b h s)) := by
  pointwise

theorem exps_apply (x : FVec Ideal S8x4x4096x256 .f32) (g : ℕ → EReal) (b : Fin 8) (h : Fin 4) (s : Fin 4096)
    (hg : ∀ j : Fin 256, x (ix4 b h s j) = g j.val) (j : Fin 256) :
    exps x (rowMax x) (ix4 b h s j) = Ideal.exp (g j.val - (Finset.range 256).sup g) := by
  have e : rowMax x (ix3 b h s) = (Finset.range 256).sup g :=
    (Cert.Attn.Ref.rowMax_apply 8 4 4096 256 x reducesTo_S8x4x4096x256_S8x4x4096_d3 h_S_ b h s).trans (fold_max_range _ g hg)
  generalize rowMax x = y at e ⊢
  unfold exps
  rw [Cert.Attn.Ref.max_at 8 4 4096 y bcast_S_S8x4x4096]
  refine (exps_at x y b h s j).trans ?_
  rw [hg, e]

theorem weights_apply (x : FVec Ideal S8x4x4096x256 .f32) (g : ℕ → EReal) (b : Fin 8) (h : Fin 4) (s : Fin 4096)
    (hg : ∀ j : Fin 256, x (ix4 b h s j) = g j.val) (j : Fin 256) :
    weights x (ix4 b h s j) = Ideal.div (g j.val) (∑ k ∈ Finset.range 256, g k) := by
  pointwise [weights]
  rw [hg, Finset.sum_range]
  exact congrArg _ (Finset.sum_congr rfl fun k _ => hg k)

theorem mix_apply (v : FVec Ideal S8x256x4x128 .f32) (x : FVec Ideal S8x4x4096x256 .f32) (g : ℕ → EReal) (b : Fin 8) (s : Fin 4096) (n : Fin 512)
    (hg : ∀ j : Fin 256, x (ix4 b ⟨n.val / 128, by omega⟩ s j) = g j.val) :
    mix v x (ix3 b s n) = ∑ j ∈ Finset.range 256, value (fun t => v (ix4 b t ⟨n.val / 128, by omega⟩ ⟨n.val % 128, by omega⟩)) j * g j := by
  pointwise [mix]
  rw [Finset.sum_range]
  refine Finset.sum_congr rfl fun k _ => ?_
  rw [hg]
  unfold value
  rw [ofNat_val]

/-- The queries with the heads split. -/
def byHead (x : FVec Ideal S8x4096x512 .f32) : FVec Ideal S8x4096x4x128 .f32 := shapeCast S8x4096x4x128 x shapeCasts_S8x4096x512_S8x4096x4x128

theorem byHead_apply (x : FVec Ideal S8x4096x512 .f32) (b : Fin 8) (s : Fin 4096) (h : Fin 4) (d : Fin 128) :
    byHead x (ix4 b s h d) = x (ix3 b s ⟨128 * h.val + d.val, by omega⟩) := by
  pointwise [byHead]
  simp only [Nat.mul_comm h.val 128]

/-- The reference's result as these pieces. -/
def out (x : FVec Ideal S8x4096x512 .f32) (k v : FVec Ideal S8x256x4x128 .f32) (g : FVec Ideal S128 .f32) : FVec Ideal S8x4096x512 .bf16 :=
  mix v (weights (exps (scores (queryNorm (byHead x) g) k) (rowMax (scores (queryNorm (byHead x) g) k))))

theorem res_eq (m : (ℓ : Loc nD τ sig) → Buf (Elt Ideal) ℓ) (c : Dev nD) : res_main_v31 m c
    = out (m ((c.tc : Thread nD τ).loc main_arg0)) (m ((c.tc : Thread nD τ).loc main_arg1)) (m ((c.tc : Thread nD τ).loc main_arg2)) (m ((c.tc : Thread nD τ).loc main_arg3)) := rfl

/-- The reference's element: the attention of a query's head over the memory. -/
theorem out_apply (x : FVec Ideal S8x4096x512 .f32) (k v : FVec Ideal S8x256x4x128 .f32) (g : FVec Ideal S128 .f32) (b : Fin 8) (s : Fin 4096) (n : Fin 512) :
    (show EReal from out x k v g (ix3 b s n)) = attended (fun j => x (ix3 b s ⟨128 * (n.val / 128) + j.val, by omega⟩)) (fun j => g (ix1 j))
      (fun t j => k (ix4 b t ⟨n.val / 128, by omega⟩ j)) (fun t => v (ix4 b t ⟨n.val / 128, by omega⟩ ⟨n.val % 128, by omega⟩)) := by
  have H1 := scores_apply (byHead x) g k b ⟨n.val / 128, by omega⟩ s
  simp only [byHead_apply] at H1
  have H2 := exps_apply _ _ b ⟨n.val / 128, by omega⟩ s H1
  have H3 := weights_apply _ (fun j => Ideal.exp (score _ _ _ j - (Finset.range 256).sup _)) b ⟨n.val / 128, by omega⟩ s H2
  exact mix_apply v _ (fun j => Ideal.div (Ideal.exp (score _ _ _ j - _)) _) b s n H3

end Cert.MemAttn5.Ref

end
-- ==== Proof.MemAttn.Pre.lean ====
/- The memory attention's precondition, read: the keys and the queries' gain are real numbers. -/
module

public import proofs.«01_k».proof.Defs
public import proofs.«01_k».proof.Proof.Attn.Pre

@[expose] public section

set_option maxRecDepth 16384

noncomputable section

namespace Cert.MemAttn5

open Idealize.ShloMosaic Idealize.ShloMosaic.TcCoe Idealize.SL.Sem
open Cert.Attn (Finite pos_inf)

/-- What the comparison `|x| < ∞` says of an extended real, at any shape. -/
theorem finite_of_abs {S : Shape} {x : FVec Ideal S .f32} (i : S.Idx) (hb : Cert.Pre_finite_mem.S_.BroadcastsInDim S ![])
    (h : cmpf .olt (Host.absf x) (broadcastInDim S ![] hb (constant (F := Ideal) Cert.Pre_finite_mem.S_ .f32 0x7F800000#32)) i = 1#1) :
    (x i : EReal) ≠ ⊤ ∧ (x i : EReal) ≠ ⊥ := by
  generalize hy : (x i : EReal) = y
  have : max y (-y) < (⊤ : EReal) := by
    pointwise at h
    rw [hy, pos_inf] at h
    by_contra hn
    exact absurd h (by rw [show (FloatOps.absf y : EReal) = max y (-y) from rfl]; simp [hn])
  constructor <;> rintro rfl <;> simp at this

theorem finite_of_pre [hp : Cert.Pre_finite_mem.Facts] {x : FVec Ideal Cert.Pre_finite_mem.S8x4096x512 .f32} {k v : FVec Ideal Cert.Pre_finite_mem.S8x256x4x128 .f32}
    {g : FVec Ideal Cert.Pre_finite_mem.S128 .f32} (h : Cert.Pre_finite_mem.fn (F := Ideal) x k v g = fun _ => 1#1) :
    Finite (k : _ → EReal) ∧ Finite (g : _ → EReal) := by
  have h0 := congrFun h (fun a => Fin.elim0 a)
  unfold Cert.Pre_finite_mem.fn at h0
  simp only at h0
  obtain ⟨h1, h2⟩ := IntOp.andi_eq_one.1 h0
  haveI : Subsingleton Cert.Pre_finite_mem.S_.Idx := ⟨fun _ _ => funext fun a => Fin.elim0 a⟩
  exact ⟨fun i => finite_of_abs i _ (Host.reduce_andi_all _ _ _ _ _ h1 i), fun i => finite_of_abs i _ (Host.reduce_andi_all _ _ _ _ _ h2 i)⟩

end Cert.MemAttn5

end
-- ==== Proof.MemAttn.Claims.lean ====
/- The memory attention's claims: its kernel's frame at every float format, its reference's, and the two programs' results equal. -/
module

public import proofs.«01_k».proof.Defs
public import proofs.«01_k».proof.Proof.Gen.MemAttn
public import proofs.«01_k».proof.Proof.Gen.MemAttnIdeal.Value
public import proofs.«01_k».proof.Proof.Gen.Pre_finite_mem
public import proofs.«01_k».proof.Proof.MemAttn.Value
public import proofs.«01_k».proof.Proof.MemAttn.Ref
public import proofs.«01_k».proof.Proof.MemAttn.Pre
public import Idealize.ShloMosaic.Lib.Quiescent

@[expose] public section

noncomputable section

namespace Cert.MemAttn5

open Idealize.ShloMosaic Idealize.ShloMosaic.TcCoe Idealize.SL.Sem

theorem frame_ideal : Cert.quiescent_MemAttnIdeal := fun m ρ _ => Cert.MemAttnIdeal.Gen.frame (F := Ideal) m ρ

set_option maxHeartbeats 2000000 in
/-- The kernel as it is called has the same body. -/
theorem bodies_eq : Cert.MemAttn.defs₀ (F := Bits) = Cert.MemAttnIdeal.defs₀ (F := Bits) := by
  refine congrArg (Defs.onTc (nD := Cert.MemAttnIdeal.nD) (τ := Cert.MemAttnIdeal.τ) (sig := Cert.MemAttnIdeal.sig) (Λ := Cert.MemAttnIdeal.Λ₀)) (funext fun l => ?_)
  match l with
  | 0 => exact funext fun ⟨t, s⟩ => rfl

theorem defs_eq : Cert.MemAttn.defs (F := Bits) = Cert.MemAttnIdeal.defs (F := Bits) :=
  congrArg (Pipeline.defs Cert.MemAttnIdeal.pcfgs) bodies_eq

/-- So one run serves both frames. -/
theorem frame_kernel : Cert.quiescent_MemAttn := fun m ρ _ => by
  rw [defs_eq]
  exact Cert.MemAttnIdeal.Gen.frame (F := Bits) m ρ

theorem frame_ref : Cert.quiescent_MemAttnRefIdeal := fun m ρ _ =>
  (θ_run Cert.MemAttnRefIdeal.defs _ _).mono (fun r h => ⟨fun c => (h c).2, sem_eq_zero_of_no_sems (by decide) r.2⟩)
    (Cert.MemAttnRefIdeal.Value.run (F := Ideal) m ρ)

/-- The kernel's result is the reference's, where keys and gain are finite. -/
theorem mem_attn : Cert.algebraic_MemAttnIdeal_MemAttnRefIdeal_pre_finite_mem := by
  intro m ρ m' ρ' hpre hagree
  refine ⟨_, Cert.MemAttnIdeal.Value.run_blocks (F := Ideal) m ρ, ?_⟩
  refine (θ_run Cert.MemAttnRefIdeal.defs _ _).mono (fun _ h c => ⟨(h c).1.trans ?_, (h c).2⟩) (Cert.MemAttnRefIdeal.Value.run (F := Ideal) m' ρ')
  obtain ⟨h0, h1, h2, h3⟩ := hagree c
  obtain ⟨hK, hG⟩ := finite_of_pre (hpre c)
  refine (Ref.res_eq m' c).trans ?_
  rw [h0, h1, h2, h3]
  refine Eq.trans ?_ (arr_out m c hK hG).symm
  funext i
  exact (congrArg _ (eq_ix3 i)).trans (Ref.out_apply _ _ _ _ (i 0) (i 1) (i 2))

end Cert.MemAttn5

end
-- ==== Proof.MlaPrep.Model.lean ====
/- The queries and keys of the MLA branch, element by element: a head's features normalized, the last 32 of them rotated by the
   token's position, the head padded to 128 lanes. The kernel rotates before it divides by the norm, over padded lanes. -/
module

public import proofs.«01_k».proof.Proof.MemKv.Model
public import proofs.«01_k».proof.Proof.Attn.Score

@[expose] public section

noncomputable section

namespace Cert.MlaPrep6

open Idealize.ShloMosaic Cert.MemKv4

/-- A token's latent features normalized and projected by one column; `c` is how many they are. -/
def proj {n : ℕ} (c : EReal) (x g w : Fin n → EReal) : EReal := ∑ k, rms c x g k * w k

/-- A head's last 32 features rotated, in pairs 16 apart, by the token's cosines and sines. -/
def rotated (u : Fin 96 → EReal) (cs sn : Fin 16 → EReal) (d : Fin 96) : EReal :=
  if h : d.val < 64 then u d
  else if h' : d.val < 80 then u d * cs ⟨d.val - 64, by omega⟩ - u ⟨d.val + 16, by omega⟩ * sn ⟨d.val - 64, by omega⟩
  else u ⟨d.val - 16, by omega⟩ * sn ⟨d.val - 80, by omega⟩ + u d * cs ⟨d.val - 80, by omega⟩

/-- A column of zeros projects to zero. -/
theorem proj_zero {n : ℕ} (c : EReal) (x g : Fin n → EReal) : proj c x g (fun _ => 0) = 0 :=
  Finset.sum_eq_zero fun _ _ => mul_zero _

/-- A head padded with zeros to 128 lanes. -/
def lane (u : Fin 96 → EReal) (d : Fin 128) : EReal := if h : d.val < 96 then u ⟨d.val, h⟩ else 0

/-- A head's features, normalized and rotated. -/
def headOf (y g : Fin 96 → EReal) (cs sn : Fin 16 → EReal) : Fin 96 → EReal := rotated (rms (Ideal.ofBits .f32 0x42C00000#32) y g) cs sn

/-- One lane of the queries: a head's 96 projected columns, normalized, rotated, scaled and padded. -/
def queryAt (x g : Fin 384 → EReal) (w : Fin 384 → Fin 768 → EReal) (n : Fin 96 → EReal) (a : Fin 16 → EReal) (h : Fin 8) : Fin 128 → EReal :=
  lane fun e => headOf (fun j => proj (Ideal.ofBits .f32 0x43C00000#32) x g fun k => w k ⟨96 * h.val + j.val, by omega⟩) n
    (fun i => Ideal.cos (a i)) (fun i => Ideal.sin (a i)) e * Ideal.ofBits .f32 0x3DD105EC#32

/-- A head's key features: 64 projected columns, then the 32 that all heads share. -/
def keyFeature (x g : Fin 128 → EReal) (w : Fin 128 → Fin 1024 → EReal) (r : Fin 32 → EReal) (h : Fin 8) (e : Fin 96) : EReal :=
  if h' : e.val < 64 then proj (Ideal.ofBits .f32 0x43000000#32) x g fun k => w k ⟨128 * h.val + e.val, by omega⟩ else r ⟨e.val - 64, by omega⟩

/-- One lane of the keys. -/
def keyAt (x g : Fin 128 → EReal) (w : Fin 128 → Fin 1024 → EReal) (r : Fin 32 → EReal) (n : Fin 96 → EReal) (a : Fin 16 → EReal) (h : Fin 8) : Fin 128 → EReal :=
  lane (headOf (keyFeature x g w r h) n (fun i => Ideal.cos (a i)) (fun i => Ideal.sin (a i)))

/-- One feature of the values: a column of the second half of a head's 128. -/
def valueAt (x g : Fin 128 → EReal) (w : Fin 128 → Fin 1024 → EReal) (n : Fin 512) : EReal :=
  proj (Ideal.ofBits .f32 0x43000000#32) x g fun k => w k ⟨128 * (n.val / 64) + 64 + n.val % 64, by omega⟩

/-- The lane whose feature is paired with this lane's by the rotation. -/
def partner (d : Fin 128) : Fin 128 :=
  if h : d.val < 64 then d else if h' : d.val < 80 then ⟨d.val + 16, by omega⟩ else if h'' : d.val < 96 then ⟨d.val - 16, by omega⟩ else d

/-- The cosines by lane: 1 where nothing rotates, 0 in the padding. -/
def cosLane (cs : Fin 16 → EReal) (d : Fin 128) : EReal :=
  if h : d.val < 64 then 1 else if h' : d.val < 80 then cs ⟨d.val - 64, by omega⟩ else if h'' : d.val < 96 then cs ⟨d.val - 80, by omega⟩ else 0

/-- The sines by lane, signed: 0 where nothing rotates. -/
def sinLane (sn : Fin 16 → EReal) (d : Fin 128) : EReal :=
  if h : d.val < 64 then 0 else if h' : d.val < 80 then -sn ⟨d.val - 64, by omega⟩ else if h'' : d.val < 96 then sn ⟨d.val - 80, by omega⟩ else 0

/-- One lane as the kernel computes it: `x` the lanes, `xs` their partners, `c` and `s` the signed cosines and sines by lane. -/
def kernelLane (x xs g gs c s : Fin 128 → EReal) (q : EReal) (d : Fin 128) : EReal :=
  (x d * g d * c d + xs d * gs d * s d) *
    (Ideal.rsqrt ((∑ j, x j * x j) * ((1 / 96 : ℝ) : EReal) + Ideal.ofBits .f32 0x358637BD#32) * q)

theorem eps_real : ∃ r : ℝ, 0 < r ∧ Ideal.ofBits .f32 0x358637BD#32 = (r : EReal) := by
  unfold Ideal.ofBits Ideal.ieee
  simp
  exact ⟨_, by positivity, (EReal.coe_mul _ _).symm⟩

theorem count_real : Ideal.ofBits .f32 0x42C00000#32 = ((96 : ℝ) : EReal) := by
  unfold Ideal.ofBits Ideal.ieee
  simp
  rw [← EReal.coe_mul]
  norm_num

theorem scale_real : ∃ r : ℝ, 0 ≤ r ∧ Ideal.ofBits .f32 0x3DD105EC#32 = (r : EReal) := by
  unfold Ideal.ofBits Ideal.ieee
  simp
  exact ⟨_, by positivity, (EReal.coe_mul _ _).symm⟩

theorem one_real : Ideal.ofBits .f32 0x3F800000#32 = 1 := by
  unfold Ideal.ofBits Ideal.ieee
  simp
  rw [← EReal.coe_mul]
  norm_num

theorem sq_nonneg' (y : EReal) : 0 ≤ y * y := by
  obtain h | h := le_total 0 y
  · exact mul_nonneg h h
  · rw [← neg_mul_neg]
    exact mul_nonneg (EReal.neg_nonneg.mpr h) (EReal.neg_nonneg.mpr h)

/-- The root of a mean square plus a constant, inverted, is a nonnegative real number. -/
theorem inv_root_real {s : EReal} (hs : 0 ≤ s) : ∃ r : ℝ, 0 ≤ r ∧ Ideal.rsqrt (s * ((1 / 96 : ℝ) : EReal) + Ideal.ofBits .f32 0x358637BD#32) = (r : EReal) := by
  obtain ⟨e, he, hE⟩ := eps_real
  rw [hE]
  by_cases ht : s = ⊤
  · rw [ht, EReal.top_mul_coe_of_pos (by norm_num), EReal.top_add_coe, Ideal.rsqrt_top]
    exact ⟨0, le_rfl, rfl⟩
  · lift s to ℝ using ⟨ht, fun h => by rw [h] at hs; exact absurd hs (by simp)⟩
    have h0 : 0 ≤ s := by exact_mod_cast hs
    rw [← EReal.coe_mul, ← EReal.coe_add, Ideal.rsqrt_coe]
    have hp : 0 < s * (1 / 96) + e := by positivity
    rw [if_neg (not_lt.mpr hp.le), if_neg hp.ne']
    exact ⟨_, by positivity, rfl⟩

/-- The padding adds nothing to a head's square sum. -/
theorem sum_lane (y : Fin 96 → EReal) : ∑ j, lane y j * lane y j = ∑ j, y j * y j := by
  have h := Fin.sum_univ_add (a := 96) (b := 32) fun j => lane y j * lane y j
  refine h.trans ?_
  rw [Finset.sum_eq_zero (s := Finset.univ) (f := fun j : Fin 32 => lane y (Fin.natAdd 96 j) * lane y (Fin.natAdd 96 j)), add_zero]
  · refine Finset.sum_congr rfl fun j _ => ?_
    have e : lane y (Fin.castAdd 32 j) = y j := dif_pos j.isLt
    rw [e]
  · intro j _
    have e : lane y (Fin.natAdd 96 j) = 0 := dif_neg (by simp)
    rw [e, mul_zero]

theorem mean_eq (s : EReal) : Ideal.div s (Ideal.ofBits .f32 0x42C00000#32) = s * ((1 / 96 : ℝ) : EReal) := by
  rw [count_real]
  unfold Ideal.div
  rw [if_neg (by norm_num), ← EReal.coe_inv]
  norm_num

variable {y g : Fin 96 → EReal} {cs sn : Fin 16 → EReal} {x xs γ γs c s : Fin 128 → EReal} {q : EReal}

/-- The kernel's lane is the padded head's, times the scale. -/
theorem kernelLane_eq (hx : ∀ d, x d = lane y d) (hg : ∀ d, γ d = lane g d) (hc : ∀ d, c d = cosLane cs d) (hs : ∀ d, s d = sinLane sn d)
    (hxs : ∀ d : Fin 128, 64 ≤ d.val → d.val < 96 → xs d = lane y (partner d)) (hgs : ∀ d, γs d = lane g (partner d))
    (hq : ∃ r : ℝ, 0 ≤ r ∧ q = (r : EReal)) (d : Fin 128) :
    kernelLane x xs γ γs c s q d = lane (fun e => headOf y g cs sn e * q) d := by
  obtain ⟨ρ, hρ, rfl⟩ := hq
  unfold kernelLane headOf
  rw [show (∑ j, x j * x j) = ∑ j, y j * y j from (Finset.sum_congr rfl fun j _ => by rw [hx]).trans (sum_lane y)]
  obtain ⟨r, hr, hR⟩ := inv_root_real (s := ∑ j, y j * y j) (Finset.sum_nonneg fun j _ => sq_nonneg' _)
  have hrms : ∀ e, rms (Ideal.ofBits .f32 0x42C00000#32) y g e = y e * (r : EReal) * g e := fun e => by
    unfold rms
    rw [mean_eq, hR]
  rw [hR, hx, hg, hc, hs, hgs]
  have distrib : ∀ a b : EReal, (a + b) * ((r : EReal) * (ρ : EReal)) = a * (r * ρ) + b * (r * ρ) := fun a b =>
    EReal.right_distrib_of_nonneg_of_ne_top (by rw [← EReal.coe_mul]; exact_mod_cast mul_nonneg hr hρ) (by rw [← EReal.coe_mul]; exact EReal.coe_ne_top _) a b
  have distrib' : ∀ a b : EReal, (a + b) * (ρ : EReal) = a * ρ + b * ρ := fun a b =>
    EReal.right_distrib_of_nonneg_of_ne_top (by exact_mod_cast hρ) (EReal.coe_ne_top _) a b
  by_cases h96 : d.val < 96
  · rw [show lane (fun e => rotated (rms (Ideal.ofBits .f32 0x42C00000#32) y g) cs sn e * (ρ : EReal)) d
        = rotated (rms (Ideal.ofBits .f32 0x42C00000#32) y g) cs sn ⟨d.val, h96⟩ * ρ from dif_pos h96]
    rw [show lane y d = y ⟨d.val, h96⟩ from dif_pos h96, show lane g d = g ⟨d.val, h96⟩ from dif_pos h96]
    by_cases h64 : d.val < 64
    · rw [show cosLane cs d = 1 from dif_pos h64, show sinLane sn d = 0 from dif_pos h64]
      unfold rotated
      rw [dif_pos h64, hrms, mul_zero, add_zero, mul_one]
      ac_rfl
    · by_cases h80 : d.val < 80
      · rw [hxs d (by omega) h96]
        have hp : partner d = ⟨d.val + 16, by omega⟩ := by unfold partner; rw [dif_neg h64, dif_pos h80]
        rw [hp, show lane y ⟨d.val + 16, by omega⟩ = y ⟨d.val + 16, by omega⟩ from dif_pos _, show lane g ⟨d.val + 16, by omega⟩ = g ⟨d.val + 16, by omega⟩ from dif_pos _]
        rw [show cosLane cs d = cs ⟨d.val - 64, by omega⟩ by unfold cosLane; rw [dif_neg h64, dif_pos h80],
          show sinLane sn d = -sn ⟨d.val - 64, by omega⟩ by unfold sinLane; rw [dif_neg h64, dif_pos h80]]
        unfold rotated
        rw [dif_neg h64, dif_pos h80, hrms, hrms, sub_eq_add_neg, distrib, distrib', mul_neg, neg_mul, neg_mul]
        congr 1
        · ac_rfl
        · congr 1
          ac_rfl
      · rw [hxs d (by omega) h96]
        have hp : partner d = ⟨d.val - 16, by omega⟩ := by unfold partner; rw [dif_neg h64, dif_neg h80, dif_pos h96]
        rw [hp, show lane y ⟨d.val - 16, by omega⟩ = y ⟨d.val - 16, by omega⟩ from dif_pos _, show lane g ⟨d.val - 16, by omega⟩ = g ⟨d.val - 16, by omega⟩ from dif_pos _]
        rw [show cosLane cs d = cs ⟨d.val - 80, by omega⟩ by unfold cosLane; rw [dif_neg h64, dif_neg h80, dif_pos h96],
          show sinLane sn d = sn ⟨d.val - 80, by omega⟩ by unfold sinLane; rw [dif_neg h64, dif_neg h80, dif_pos h96]]
        unfold rotated
        rw [dif_neg h64, dif_neg h80, hrms, hrms, distrib, distrib', add_comm]
        congr 1
        · ac_rfl
        · ac_rfl
  · rw [show lane (fun e => rotated (rms (Ideal.ofBits .f32 0x42C00000#32) y g) cs sn e * (ρ : EReal)) d = 0 from dif_neg h96]
    rw [show lane y d = 0 from dif_neg h96, show sinLane sn d = 0 by unfold sinLane; rw [dif_neg (by omega), dif_neg (by omega), dif_neg h96]]
    simp

end Cert.MlaPrep6

end
-- ==== Proof.MlaPrep.Tile.lean ====
/- One grid point of the kernel that prepares the MLA branch's queries, keys and values: the three blocks it leaves, element by element. -/
module

public import proofs.«01_k».proof.Proof.Gen.MlaPrepIdeal.Frame
public import proofs.«01_k».proof.Proof.MlaPrep.Model
public import Idealize.ShloMosaic.Lib.Pointwise
public import Idealize.ShloMosaic.Lib.Pipeline.ValueKit

@[expose] public section

set_option maxRecDepth 16384

noncomputable section

namespace Cert.MlaPrep6

open Cert.MlaPrepIdeal Cert.MlaPrepIdeal.Gen Idealize.ShloMosaic Idealize.ShloMosaic.TcCoe Idealize.SL.Sem Cert.MemKv4

theorem off2 : (![0, 0] : Fin 2 → ℕ) = fun _ => 0 := by funext a; fin_cases a <;> rfl

/-- What the kernel stores for one head, of its lanes `x`, their partners `xs`, the cosines and sines, the gains and the scale's bits. -/
def headTile (x xs c s : FVec Ideal S512x128 .f32) (γ γs : FVec Ideal S1x128 .f32) (q : BitVec 32) : FVec Ideal S512x128 .bf16 :=
  truncf (F := Ideal) (φ := .f32) .bf16 (mulf
    (addf (mulf (mulf x (broadcastTo S512x128 (shapeCast S1x128 γ shapeCasts_S1x128_S1x128) broadcasts_S1x128_S512x128)) c)
      (mulf (mulf xs (broadcastTo S512x128 (shapeCast S1x128 γs shapeCasts_S1x128_S1x128) broadcasts_S1x128_S512x128)) s))
    (broadcastTo S512x128 (mulf (rsqrt (addf
        (mulf (shapeCast S512x1 (multiReduction (F := Ideal) .add [1] S512 (mulf x x) 0x00000000#32 reduces_S512x128_S512 (.inl rfl) rfl) shapeCasts_S512_S512x1)
          (broadcast S512x1 (Named.named κ "inv_qk" 0x3C2AAAAB#32 : Ideal .f32)))
        (broadcast S512x1 (Scalar.ofBits .f32 0x358637BD#32 : Ideal .f32))))
      (broadcast S512x1 (Scalar.ofBits .f32 q : Ideal .f32))) broadcasts_S512x1_S512x128)) bitsLt_bf16_f32

/-- The named constant is one over the 96 features. -/
theorem inv_qk : (Named.named κ "inv_qk" 0x3C2AAAAB#32 : Ideal .f32) = ((1 / 96 : ℝ) : EReal) := rfl

theorem headTile_apply (x xs c s : FVec Ideal S512x128 .f32) (γ γs : FVec Ideal S1x128 .f32) (q : BitVec 32) (r : Fin 512) (d : Fin 128) :
    (headTile x xs c s γ γs q : S512x128.Idx → EReal) (ix2 r d)
      = kernelLane (fun j => x (ix2 r j)) (fun j => xs (ix2 r j)) (fun j => γ (ix2 0 j)) (fun j => γs (ix2 0 j)) (fun j => c (ix2 r j)) (fun j => s (ix2 r j))
          (Ideal.ofBits .f32 q) d := by
  pointwise [headTile]
  rw [inv_qk]
  rfl

/-- Eight stores that agree with one function of the block's index leave that function. -/
theorem eight_stores (G : S512x1024.Idx → EReal) (p7 p6 p5 p4 p3 p2 p1 p0 : Vec Ideal S512x128 .bf16) (h7 : ∀ z, p7 z = G (r0_16.emb z)) (h6 : ∀ z, p6 z = G (r0_15.emb z))
    (h5 : ∀ z, p5 z = G (r0_14.emb z)) (h4 : ∀ z, p4 z = G (r0_13.emb z)) (h3 : ∀ z, p3 z = G (r0_12.emb z)) (h2 : ∀ z, p2 z = G (r0_11.emb z))
    (h1 : ∀ z, p1 z = G (r0_10.emb z)) (h0 : ∀ z, p0 z = G (r0_9.emb z)) (i : S512x1024.Idx) :
    (View.canon [⟨r0_16, p7⟩, ⟨r0_15, p6⟩, ⟨r0_14, p5⟩, ⟨r0_13, p4⟩, ⟨r0_12, p3⟩, ⟨r0_11, p2⟩, ⟨r0_10, p1⟩, ⟨r0_9, p0⟩] : Vec Ideal S512x1024 .bf16) i = G i := by
  refine View.canon_apply_of_pieces (Val := Elt Ideal) (e := .bf16) G _ ?_ i (cover0_15 p7 p6 p5 p4 p3 p2 p1 p0 i)
  intro p hp
  simp only [List.mem_cons, List.not_mem_nil, or_false] at hp
  obtain rfl | rfl | rfl | rfl | rfl | rfl | rfl | rfl := hp
  exacts [h7, h6, h5, h4, h3, h2, h1, h0]

/-! Each head's store is that one function: the queries of the head's columns of the two projections. -/

section
variable (y ys : FVec Ideal S512x1024 .f32) (c s : FVec Ideal S512x128 .f32) (γ γs : Vec Ideal S1x128 .f32)

/-- The queries' store of the head whose columns begin at `o`. -/
def queryTile (o : ℕ) (h : S512x1024.Slices ![0, o] S512x128) : FVec Ideal S512x128 .bf16 :=
  headTile (extractStridedSlice S512x128 ![0, o] y h) (extractStridedSlice S512x128 ![0, o] ys h) c s γ γs 0x3DD105EC#32

theorem q7_eq : k0_pay1 (F := Ideal) (k0_pay56 (F := Ideal) y ys c s γ γs) = queryTile y ys c s γ γs 896 slices_S512x1024_o0_896_S512x128 := rfl
theorem q6_eq : k0_pay50 (F := Ideal) y ys c s γ γs = queryTile y ys c s γ γs 768 slices_S512x1024_o0_768_S512x128 := rfl
theorem q5_eq : k0_pay45 (F := Ideal) c s (k0_pay43 (F := Ideal) y) (k0_pay44 (F := Ideal) ys) γ γs = queryTile y ys c s γ γs 640 slices_S512x1024_o0_640_S512x128 := rfl
theorem q4_eq : k0_pay41 (F := Ideal) s (k0_pay37 (F := Ideal) ys) (k0_pay38 (F := Ideal) y) (k0_pay39 (F := Ideal) y c γ) (k0_pay40 (F := Ideal) γs)
    = queryTile y ys c s γ γs 512 slices_S512x1024_o0_512_S512x128 := rfl
theorem q3_eq : k0_pay34 (F := Ideal) y ys c s γ γs = queryTile y ys c s γ γs 384 slices_S512x1024_o0_384_S512x128 := rfl
theorem q2_eq : k0_pay28 (F := Ideal) y ys c s γ γs = queryTile y ys c s γ γs 256 slices_S512x1024_o0_256_S512x128 := rfl
theorem q1_eq : k0_pay23 (F := Ideal) c s (k0_pay20 (F := Ideal) y) (k0_pay21 (F := Ideal) ys) (k0_pay22 (F := Ideal) γ) γs
    = queryTile y ys c s γ γs 128 slices_S512x1024_o0_128_S512x128 := rfl
theorem q0_eq (c s : Vec Ideal S512x128 .f32) : k0_pay18 (F := Ideal) (k0_pay16 (F := Ideal) y) (k0_pay17 (F := Ideal) y ys c s γ γs) (Scalar.ofBits .f32 0x358637BD#32)
    = queryTile y ys (k0_pay13 (F := Ideal) c) (k0_pay14 (F := Ideal) s) γ γs 0 slices_S512x1024_o0_0_S512x128 := rfl

/-! The keys' stores, of the projection's columns plus the rotary features `k` every head shares, and their partners `ks`. -/

variable (k ks : FVec Ideal S512x128 .f32)

def keyTile (o : ℕ) (h : S512x1024.Slices ![0, o] S512x128) : FVec Ideal S512x128 .bf16 :=
  headTile (addf (extractStridedSlice S512x128 ![0, o] y h) k) ks c s γ γs 0x3F800000#32

theorem k7_eq : k0_pay2 (F := Ideal) y k ks c s γ γs = keyTile y c s γ γs k ks 896 slices_S512x1024_o0_896_S512x128 := rfl
theorem k6_eq : k0_pay55 (F := Ideal) ks c s (k0_pay51 (F := Ideal) y k) (k0_pay52 (F := Ideal) γ) (k0_pay53 (F := Ideal) γs) (k0_pay54 (F := Ideal) y k)
    = keyTile y c s γ γs k ks 768 slices_S512x1024_o0_768_S512x128 := rfl
theorem k5_eq : k0_pay49 (F := Ideal) (k0_pay47 (F := Ideal) y k ks c s γ γs) (k0_pay48 (F := Ideal) y k)
    = keyTile y c s γ γs k ks 640 slices_S512x1024_o0_640_S512x128 := rfl
theorem k4_eq : k0_pay42 (F := Ideal) y k ks c s γ γs = keyTile y c s γ γs k ks 512 slices_S512x1024_o0_512_S512x128 := rfl
theorem k3_eq : k0_pay35 (F := Ideal) y k ks c s γ γs = keyTile y c s γ γs k ks 384 slices_S512x1024_o0_384_S512x128 := rfl
theorem k2_eq : k0_pay33 (F := Ideal) ks c s (k0_pay29 (F := Ideal) y k) (k0_pay30 (F := Ideal) γ) (k0_pay31 (F := Ideal) γs) (k0_pay32 (F := Ideal) y k)
    (Named.named κ "inv_qk" 0x3C2AAAAB#32) = keyTile y c s γ γs k ks 256 slices_S512x1024_o0_256_S512x128 := rfl
theorem k1_eq : k0_pay27 (F := Ideal) (k0_pay25 (F := Ideal) y k ks c s γ γs) (k0_pay26 (F := Ideal) y k)
    = keyTile y c s γ γs k ks 128 slices_S512x1024_o0_128_S512x128 := rfl
theorem k0_eq : k0_pay19 (F := Ideal) y k ks c s γ γs = keyTile y c s γ γs k ks 0 slices_S512x1024_o0_0_S512x128 := rfl

/-- A lane of a block: the head's lane as the kernel computes it. -/
def laneAt (c s : FVec Ideal S512x128 .f32) (γ γs : FVec Ideal S1x128 .f32) (q : BitVec 32) (x xs : Fin 8 → Fin 512 → Fin 128 → EReal) (r : Fin 512) (n : Fin 1024) : EReal :=
  kernelLane (x ⟨n.val / 128, by omega⟩ r) (xs ⟨n.val / 128, by omega⟩ r) (fun j => γ (ix2 0 j)) (fun j => γs (ix2 0 j)) (fun j => c (ix2 r j)) (fun j => s (ix2 r j))
    (Ideal.ofBits .f32 q) ⟨n.val % 128, by omega⟩

/-- A head's lanes among the projection's columns. -/
def cols (y : FVec Ideal S512x1024 .f32) (h : Fin 8) (r : Fin 512) (j : Fin 128) : EReal := y (ix2 r ⟨128 * h.val + j.val, by omega⟩)

/-- A head's tile at the block's index its store writes. -/
theorem tile_at (q : BitVec 32) (x xs : Fin 8 → Fin 512 → Fin 128 → EReal) (X XS : FVec Ideal S512x128 .f32) (h : Fin 8) (o : ℕ) (ho : o = 128 * h.val)
    (hX : ∀ r j, X (ix2 r j) = x h r j) (hXS : ∀ r j, XS (ix2 r j) = xs h r j)
    (inb : ∀ a, ![0, o] a + S512x128.size a ≤ S512x1024.size a) (z : S512x128.Idx) :
    (headTile X XS c s γ γs q : S512x128.Idx → EReal) z = laneAt c s γ γs q x xs ((Rect.unit (s := S512x1024) ![0, o] S512x128.size inb).emb z 0)
      ((Rect.unit (s := S512x1024) ![0, o] S512x128.size inb).emb z 1) := by
  obtain ⟨r, d, rfl⟩ : ∃ (r : Fin 512) (d : Fin 128), z = ix2 r d := ⟨z 0, z 1, eq_ix2 z⟩
  have e0 : (Rect.unit (s := S512x1024) ![0, o] S512x128.size inb).emb (ix2 r d) 0 = r :=
    Fin.ext ((Rect.idx_unit_val (s := S512x1024) ![0, o] S512x128.size inb (ix2 r d) 0).trans (Nat.zero_add _))
  have e1 : ((Rect.unit (s := S512x1024) ![0, o] S512x128.size inb).emb (ix2 r d) 1).val = o + d.val :=
    Rect.idx_unit_val (s := S512x1024) ![0, o] S512x128.size inb (ix2 r d) 1
  rw [e0]
  obtain ⟨n, hn⟩ : ∃ n : Fin 1024, (Rect.unit (s := S512x1024) ![0, o] S512x128.size inb).emb (ix2 r d) 1 = n := ⟨_, rfl⟩
  rw [hn] at e1 ⊢
  rw [headTile_apply]
  unfold laneAt
  have eh : (⟨n.val / 128, by omega⟩ : Fin 8) = h := Fin.ext (by have := d.isLt; show n.val / 128 = h.val; omega)
  have ed : (⟨n.val % 128, by omega⟩ : Fin 128) = d := Fin.ext (by have := d.isLt; show n.val % 128 = d.val; omega)
  rw [eh, ed, show (fun j => X (ix2 r j)) = x h r from funext (hX r), show (fun j => XS (ix2 r j)) = xs h r from funext (hXS r)]

theorem slice_at (y : FVec Ideal S512x1024 .f32) (h : Fin 8) (o : ℕ) (ho : o = 128 * h.val) (hs : S512x1024.Slices ![0, o] S512x128) (r : Fin 512) (j : Fin 128) :
    (extractStridedSlice S512x128 ![0, o] y hs : FVec Ideal S512x128 .f32) (ix2 r j) = cols y h r j := by
  refine (extractStridedSlice_apply _ _ hs (ix2 r j) (ix2 r ⟨128 * h.val + j.val, by omega⟩) ?_)
  intro a
  fin_cases a
  · exact (Nat.zero_add _).symm
  · show 128 * h.val + j.val = o + j.val
    omega

theorem query_at (h : Fin 8) (o : ℕ) (ho : o = 128 * h.val) (hs : S512x1024.Slices ![0, o] S512x128) (inb : ∀ a, ![0, o] a + S512x128.size a ≤ S512x1024.size a) (z : S512x128.Idx) :
    (queryTile y ys c s γ γs o hs : S512x128.Idx → EReal) z = laneAt c s γ γs 0x3DD105EC#32 (cols y) (cols ys) ((Rect.unit (s := S512x1024) ![0, o] S512x128.size inb).emb z 0)
      ((Rect.unit (s := S512x1024) ![0, o] S512x128.size inb).emb z 1) :=
  tile_at c s γ γs _ _ _ _ _ h o ho (slice_at y h o ho hs) (slice_at ys h o ho hs) inb z

/-- The keys' lanes: the projection's plus the shared ones. -/
def keyCols (h : Fin 8) (r : Fin 512) (j : Fin 128) : EReal := cols y h r j + k (ix2 r j)

theorem key_at (h : Fin 8) (o : ℕ) (ho : o = 128 * h.val) (hs : S512x1024.Slices ![0, o] S512x128) (inb : ∀ a, ![0, o] a + S512x128.size a ≤ S512x1024.size a) (z : S512x128.Idx) :
    (keyTile y c s γ γs k ks o hs : S512x128.Idx → EReal) z = laneAt c s γ γs 0x3F800000#32 (keyCols y k) (fun _ r j => ks (ix2 r j))
      ((Rect.unit (s := S512x1024) ![0, o] S512x128.size inb).emb z 0) ((Rect.unit (s := S512x1024) ![0, o] S512x128.size inb).emb z 1) :=
  tile_at c s γ γs _ _ _ _ _ h o ho (fun r j => congrArg (· + k (ix2 r j)) (slice_at y h o ho hs r j)) (fun _ _ => rfl) inb z

end

/-! The projections and the shared lanes. -/

theorem pay5_apply (x : FVec Ideal S512x384 .f32) (g : FVec Ideal S1x384 .f32) (w : FVec Ideal S384x1024 .bf16) (r : Fin 512) (n : Fin 1024) :
    (k0_pay5 (F := Ideal) x g w : S512x1024.Idx → EReal) (ix2 r n)
      = proj (Ideal.ofBits .f32 0x43C00000#32) (fun j => x (ix2 r j)) (fun j => g (ix2 0 j)) (fun k => w (ix2 k n)) := by
  pointwise [k0_pay5, k0_pay3]
  rfl

theorem pay6_apply (x : FVec Ideal S512x384 .f32) (g : FVec Ideal S1x384 .f32) (w : FVec Ideal S384x1024 .bf16) (r : Fin 512) (n : Fin 1024) :
    (k0_pay6 (F := Ideal) x g w : S512x1024.Idx → EReal) (ix2 r n)
      = proj (Ideal.ofBits .f32 0x43C00000#32) (fun j => x (ix2 r j)) (fun j => g (ix2 0 j)) (fun k => w (ix2 k n)) :=
  pay5_apply x g w r n

theorem pay7_apply (x : FVec Ideal S512x128 .f32) (g : FVec Ideal S1x128 .f32) (w : FVec Ideal S128x1024 .bf16) (r : Fin 512) (n : Fin 1024) :
    (k0_pay7 (F := Ideal) (k0_pay4 (F := Ideal) x g) w : S512x1024.Idx → EReal) (ix2 r n)
      = proj (Ideal.ofBits .f32 0x43000000#32) (fun j => x (ix2 r j)) (fun j => g (ix2 0 j)) (fun k => w (ix2 k n)) := by
  pointwise [k0_pay7, k0_pay4]
  rfl

theorem pay8_apply (x : FVec Ideal S512x128 .f32) (g : FVec Ideal S1x128 .f32) (w : FVec Ideal S128x512 .bf16) (r : Fin 512) (n : Fin 512) :
    (k0_pay8 (F := Ideal) (k0_pay4 (F := Ideal) x g) w : S512x512.Idx → EReal) (ix2 r n)
      = proj (Ideal.ofBits .f32 0x43000000#32) (fun j => x (ix2 r j)) (fun j => g (ix2 0 j)) (fun k => w (ix2 k n)) := by
  pointwise [k0_pay8, k0_pay4]
  rfl

theorem pay13_eq (x : FVec Ideal S512x128 .f32) : k0_pay13 (F := Ideal) x = x := by
  funext i
  obtain ⟨r, d, rfl⟩ : ∃ (r : Fin 512) (d : Fin 128), i = ix2 r d := ⟨i 0, i 1, eq_ix2 i⟩
  pointwise [k0_pay13]

/-- The rotary features at their lanes, 0 elsewhere. -/
theorem pay11_lead (v : FVec Ideal S512x32 .f32) (r : Fin 512) (i : Fin 64) : (k0_pay11 (F := Ideal) v : S512x128.Idx → EReal) (ix2 r ⟨i.val, by omega⟩) = 0 := by
  pointwise [k0_pay11, k0_pay9]

theorem pay11_mid (v : FVec Ideal S512x32 .f32) (r : Fin 512) (i : Fin 32) :
    (k0_pay11 (F := Ideal) v : S512x128.Idx → EReal) (ix2 r ⟨64 + i.val, by omega⟩) = v (ix2 r i) := by
  pointwise [k0_pay11, k0_pay9]

theorem pay11_tail (v : FVec Ideal S512x32 .f32) (r : Fin 512) (i : Fin 32) :
    (k0_pay11 (F := Ideal) v : S512x128.Idx → EReal) (ix2 r ⟨96 + i.val, by omega⟩) = 0 := by
  pointwise [k0_pay11, k0_pay9, k0_pay10]
  rw [dif_neg (by omega), dif_neg (by omega)]

/-- Their partners, half a rotation apart. -/
theorem pay12_left (v : FVec Ideal S512x32 .f32) (r : Fin 512) (i : Fin 16) :
    (k0_pay12 (F := Ideal) v : S512x128.Idx → EReal) (ix2 r ⟨64 + i.val, by omega⟩) = v (ix2 r ⟨16 + i.val, by omega⟩) := by
  pointwise [k0_pay12, k0_pay9, k0_pay10]

theorem pay12_right (v : FVec Ideal S512x32 .f32) (r : Fin 512) (i : Fin 16) :
    (k0_pay12 (F := Ideal) v : S512x128.Idx → EReal) (ix2 r ⟨80 + i.val, by omega⟩) = v (ix2 r ⟨i.val, by omega⟩) := by
  pointwise [k0_pay12, k0_pay9, k0_pay10]
  rw [dif_neg (by omega), dif_neg (by omega), dif_pos (by omega)]
  exact congrArg (fun q => v (ix2 r q)) (Fin.ext (by show 80 + i.val - 64 - 16 = i.val; omega))

/-! The three blocks. -/

variable (x0 : Vec Ideal S512x384 .f32) (x1 : Vec Ideal S512x128 .f32) (x2 : Vec Ideal S512x32 .f32) (x3 x4 : Vec Ideal S512x128 .f32) (x5 : Vec Ideal S1x384 .f32)
  (x6 : Vec Ideal S1x128 .f32) (x7 x8 : Vec Ideal S384x1024 .bf16) (x9 : Vec Ideal S128x1024 .bf16) (x10 : Vec Ideal S128x512 .bf16)
  (x11 x12 x13 x14 : Vec Ideal S1x128 .f32)

theorem pay57_eq : k0_pay57 (F := Ideal) x0 x1 x2 x3 x4 x5 x6 x7 x8 x9 x10 x11 x12 x13 x14 = k0_pay4 (F := Ideal) x1 x6 := by
  unfold k0_pay57
  rw [show View.ld x1 r0_2 = x1 from View.ld_unit_zero off2 _ x1, show View.ld x6 r0_3 = x6 from View.ld_unit_zero off2 _ x6]
theorem pay58_eq : k0_pay58 (F := Ideal) x0 x1 x2 x3 x4 x5 x6 x7 x8 x9 x10 x11 x12 x13 x14 = k0_pay5 (F := Ideal) x0 x5 x7 := by
  unfold k0_pay58
  rw [show View.ld x0 r0_0 = x0 from View.ld_unit_zero off2 _ x0, show View.ld x5 r0_1 = x5 from View.ld_unit_zero off2 _ x5, show View.ld x7 r0_4 = x7 from View.ld_unit_zero off2 _ x7]
theorem pay59_eq : k0_pay59 (F := Ideal) x0 x1 x2 x3 x4 x5 x6 x7 x8 x9 x10 x11 x12 x13 x14 = k0_pay6 (F := Ideal) x0 x5 x8 := by
  unfold k0_pay59
  rw [show View.ld x0 r0_0 = x0 from View.ld_unit_zero off2 _ x0, show View.ld x5 r0_1 = x5 from View.ld_unit_zero off2 _ x5, show View.ld x8 r0_4 = x8 from View.ld_unit_zero off2 _ x8]
theorem pay60_eq : k0_pay60 (F := Ideal) x0 x1 x2 x3 x4 x5 x6 x7 x8 x9 x10 x11 x12 x13 x14 = k0_pay7 (F := Ideal) (k0_pay4 (F := Ideal) x1 x6) x9 := by
  unfold k0_pay60
  rw [pay57_eq, show View.ld x9 r0_5 = x9 from View.ld_unit_zero off2 _ x9]
theorem pay61_eq : k0_pay61 (F := Ideal) x0 x1 x2 x3 x4 x5 x6 x7 x8 x9 x10 x11 x12 x13 x14 = k0_pay11 (F := Ideal) x2 := by
  unfold k0_pay61
  rw [show View.ld x2 r0_8 = x2 from View.ld_unit_zero off2 _ x2]
theorem pay62_eq : k0_pay62 (F := Ideal) x0 x1 x2 x3 x4 x5 x6 x7 x8 x9 x10 x11 x12 x13 x14 = k0_pay12 (F := Ideal) x2 := by
  unfold k0_pay62
  rw [show View.ld x2 r0_8 = x2 from View.ld_unit_zero off2 _ x2]
theorem pay63_eq : k0_pay63 (F := Ideal) x0 x1 x2 x3 x4 x5 x6 x7 x8 x9 x10 x11 x12 x13 x14 = x3 := by
  unfold k0_pay63
  rw [show View.ld x3 r0_2 = x3 from View.ld_unit_zero off2 _ x3]
  exact pay13_eq x3
theorem pay64_eq : k0_pay64 (F := Ideal) x0 x1 x2 x3 x4 x5 x6 x7 x8 x9 x10 x11 x12 x13 x14 = x4 := by
  unfold k0_pay64
  rw [show View.ld x4 r0_2 = x4 from View.ld_unit_zero off2 _ x4]
  exact pay13_eq x4

/-- The block of queries. -/
theorem out15_apply (r : Fin 512) (n : Fin 1024) : (out0_15 (F := Ideal) x0 x1 x2 x3 x4 x5 x6 x7 x8 x9 x10 x11 x12 x13 x14 : S512x1024.Idx → EReal) (ix2 r n)
    = laneAt x3 x4 x11 x12 0x3DD105EC#32 (cols (k0_pay5 (F := Ideal) x0 x5 x7)) (cols (k0_pay6 (F := Ideal) x0 x5 x8)) r n := by
  unfold out0_15
  rw [pay58_eq, pay59_eq, pay63_eq, pay64_eq, show View.ld x3 r0_2 = x3 from View.ld_unit_zero off2 _ x3, show View.ld x4 r0_2 = x4 from View.ld_unit_zero off2 _ x4,
    show View.ld x11 r0_3 = x11 from View.ld_unit_zero off2 _ x11, show View.ld x12 r0_3 = x12 from View.ld_unit_zero off2 _ x12]
  rw [q7_eq, q6_eq, q5_eq, q4_eq, q3_eq, q2_eq, q1_eq, q0_eq, pay13_eq, show k0_pay14 (F := Ideal) x4 = x4 from pay13_eq x4]
  exact eight_stores (fun i => laneAt x3 x4 x11 x12 0x3DD105EC#32 (cols (k0_pay5 (F := Ideal) x0 x5 x7)) (cols (k0_pay6 (F := Ideal) x0 x5 x8)) (i 0) (i 1)) _ _ _ _ _ _ _ _
    (query_at _ _ x3 x4 x11 x12 7 896 rfl _ _) (query_at _ _ x3 x4 x11 x12 6 768 rfl _ _) (query_at _ _ x3 x4 x11 x12 5 640 rfl _ _) (query_at _ _ x3 x4 x11 x12 4 512 rfl _ _)
    (query_at _ _ x3 x4 x11 x12 3 384 rfl _ _) (query_at _ _ x3 x4 x11 x12 2 256 rfl _ _) (query_at _ _ x3 x4 x11 x12 1 128 rfl _ _) (query_at _ _ x3 x4 x11 x12 0 0 rfl _ _) (ix2 r n)

/-- The block of keys. -/
theorem out16_apply (r : Fin 512) (n : Fin 1024) : (out0_16 (F := Ideal) x0 x1 x2 x3 x4 x5 x6 x7 x8 x9 x10 x11 x12 x13 x14 : S512x1024.Idx → EReal) (ix2 r n)
    = laneAt x3 x4 x13 x14 0x3F800000#32 (keyCols (k0_pay7 (F := Ideal) (k0_pay4 (F := Ideal) x1 x6) x9) (k0_pay11 (F := Ideal) x2))
        (fun _ r j => k0_pay12 (F := Ideal) x2 (ix2 r j)) r n := by
  unfold out0_16
  rw [pay60_eq, pay61_eq, pay62_eq, pay63_eq, pay64_eq, show View.ld x13 r0_3 = x13 from View.ld_unit_zero off2 _ x13, show View.ld x14 r0_3 = x14 from View.ld_unit_zero off2 _ x14]
  rw [k7_eq, k6_eq, k5_eq, k4_eq, k3_eq, k2_eq, k1_eq, k0_eq]
  exact eight_stores (fun i => laneAt x3 x4 x13 x14 0x3F800000#32 (keyCols (k0_pay7 (F := Ideal) (k0_pay4 (F := Ideal) x1 x6) x9) (k0_pay11 (F := Ideal) x2))
      (fun _ r j => k0_pay12 (F := Ideal) x2 (ix2 r j)) (i 0) (i 1)) _ _ _ _ _ _ _ _
    (key_at _ x3 x4 x13 x14 _ _ 7 896 rfl _ _) (key_at _ x3 x4 x13 x14 _ _ 6 768 rfl _ _) (key_at _ x3 x4 x13 x14 _ _ 5 640 rfl _ _) (key_at _ x3 x4 x13 x14 _ _ 4 512 rfl _ _)
    (key_at _ x3 x4 x13 x14 _ _ 3 384 rfl _ _) (key_at _ x3 x4 x13 x14 _ _ 2 256 rfl _ _) (key_at _ x3 x4 x13 x14 _ _ 1 128 rfl _ _) (key_at _ x3 x4 x13 x14 _ _ 0 0 rfl _ _) (ix2 r n)

/-- The block of values. -/
theorem out17_apply (r : Fin 512) (n : Fin 512) : (out0_17 (F := Ideal) x0 x1 x2 x3 x4 x5 x6 x7 x8 x9 x10 x11 x12 x13 x14 : S512x512.Idx → EReal) (ix2 r n)
    = proj (Ideal.ofBits .f32 0x43000000#32) (fun j => x1 (ix2 r j)) (fun j => x6 (ix2 0 j)) (fun k => x10 (ix2 k n)) := by
  unfold out0_17
  rw [View.canon_unit_zero off2, pay57_eq, show View.ld x10 r0_6 = x10 from View.ld_unit_zero off2 _ x10]
  exact pay8_apply x1 x6 x10 r n

end Cert.MlaPrep6

end
-- ==== Proof.MlaPrep.Host.lean ====
/- What the host part hands to the call: the rotation's cosines and sines by lane, the weights and gains padded per head,
   and the same with the rotation's pairs exchanged. -/
module

public import proofs.«01_k».proof.Proof.MlaPrep.Tile

@[expose] public section

set_option maxRecDepth 16384

noncomputable section

namespace Cert.MlaPrep6

open Cert.MlaPrepIdeal Cert.MlaPrepIdeal.Gen Idealize.ShloMosaic Idealize.ShloMosaic.TcCoe Idealize.SL.Sem

/-! The host's arrays as functions of the arguments. -/

/-- The padding's value: the integer 0, converted. -/
def zeroWord : FVec Ideal S_ .f32 := sitofp .f32 (constantI S_ 32 0#32)

/-- A gain of 96 features as 128 lanes. -/
def padFeatures (g : FVec Ideal S96 .f32) : FVec Ideal S1x128 .f32 :=
  shapeCast S1x128 (pad S128 ![0] ![32] ![0] g zeroWord pads_S96_S128_0320 h_S_) shapeCasts_S128_S1x128

/-- The query weights, each head's 96 columns padded to 128. -/
def padQuery (w : FVec Ideal S384x768 .f32) : FVec Ideal S384x1024 .bf16 :=
  truncf .bf16 (shapeCast S384x1024 (pad S384x8x128 ![0, 0, 0] ![0, 0, 32] ![0, 0, 0] (shapeCast S384x8x96 w shapeCasts_S384x768_S384x8x96) zeroWord
    pads_S384x8x96_S384x8x128_000_000_0320 h_S_) shapeCasts_S384x8x128_S384x1024) bitsLt_bf16_f32

/-- The key weights: the first 64 of each head's 128 columns, padded back to 128. -/
def padKey (w : FVec Ideal S128x1024 .f32) : FVec Ideal S128x1024 .bf16 :=
  truncf .bf16 (shapeCast S128x1024 (pad S128x8x128 ![0, 0, 0] ![0, 0, 64] ![0, 0, 0]
    (shapeCast S128x8x64 (shapeCast S128x512 (extractStridedSlice S128x8x64 ![0, 0, 0] (shapeCast S128x8x128 w shapeCasts_S128x1024_S128x8x128)
      slices_S128x8x128_S128x8x64_0_0_0) shapeCasts_S128x8x64_S128x512) shapeCasts_S128x512_S128x8x64) zeroWord
    pads_S128x8x64_S128x8x128_000_000_0640 h_S_) shapeCasts_S128x8x128_S128x1024) bitsLt_bf16_f32

/-- The value weights: the last 64 of each head's 128 columns. -/
def valueWeights (w : FVec Ideal S128x1024 .f32) : FVec Ideal S128x512 .bf16 :=
  truncf .bf16 (shapeCast S128x512 (extractStridedSlice S128x8x64 ![0, 0, 64] (shapeCast S128x8x128 w shapeCasts_S128x1024_S128x8x128)
    slices_S128x8x128_S128x8x64_0_0_64) shapeCasts_S128x8x64_S128x512) bitsLt_bf16_f32

/-- Four pieces of a gain put side by side. -/
def four (a : FVec Ideal S1x1x64 .f32) (b b' : FVec Ideal S1x1x16 .f32) (d : FVec Ideal S1x1x32 .f32) : FVec Ideal S1x1x128 .f32 :=
  concatenate S1x1x128 2 [⟨S1x1x64, a⟩, ⟨S1x1x16, b⟩, ⟨S1x1x16, b'⟩, ⟨S1x1x32, d⟩] concatenates_S1x1x64_S1x1x16_S1x1x16_S1x1x32_S1x1x128_d2

/-- A gain with the rotation's halves exchanged. -/
def swapFeatures (g : FVec Ideal S1x128 .f32) : FVec Ideal S1x128 .f32 :=
  shapeCast S1x128 (four (extractStridedSlice S1x1x64 ![0, 0, 0] (shapeCast S1x1x128 g shapeCasts_S1x128_S1x1x128) slices_S1x1x128_S1x1x64_0_0_0)
    (extractStridedSlice S1x1x16 ![0, 0, 80] (shapeCast S1x1x128 g shapeCasts_S1x128_S1x1x128) slices_S1x1x128_S1x1x16_0_0_80)
    (extractStridedSlice S1x1x16 ![0, 0, 64] (shapeCast S1x1x128 g shapeCasts_S1x128_S1x1x128) slices_S1x1x128_S1x1x16_0_0_64)
    (extractStridedSlice S1x1x32 ![0, 0, 96] (shapeCast S1x1x128 g shapeCasts_S1x128_S1x1x128) slices_S1x1x128_S1x1x32_0_0_96)) shapeCasts_S1x1x128_S1x128

/-- Four pieces of every head's columns put side by side. -/
def fourCols (a : FVec Ideal S384x8x64 .bf16) (b b' : FVec Ideal S384x8x16 .bf16) (d : FVec Ideal S384x8x32 .bf16) : FVec Ideal S384x8x128 .bf16 :=
  concatenate S384x8x128 2 [⟨S384x8x64, a⟩, ⟨S384x8x16, b⟩, ⟨S384x8x16, b'⟩, ⟨S384x8x32, d⟩] concatenates_S384x8x64_S384x8x16_S384x8x16_S384x8x32_S384x8x128_d2

/-- Padded query weights with the rotation's halves exchanged in every head. -/
def swapCols (w : FVec Ideal S384x1024 .bf16) : FVec Ideal S384x1024 .bf16 :=
  shapeCast S384x1024 (fourCols (extractStridedSlice S384x8x64 ![0, 0, 0] (shapeCast S384x8x128 w shapeCasts_S384x1024_S384x8x128) slices_S384x8x128_S384x8x64_0_0_0)
    (extractStridedSlice S384x8x16 ![0, 0, 80] (shapeCast S384x8x128 w shapeCasts_S384x1024_S384x8x128) slices_S384x8x128_S384x8x16_0_0_80)
    (extractStridedSlice S384x8x16 ![0, 0, 64] (shapeCast S384x8x128 w shapeCasts_S384x1024_S384x8x128) slices_S384x8x128_S384x8x16_0_0_64)
    (extractStridedSlice S384x8x32 ![0, 0, 96] (shapeCast S384x8x128 w shapeCasts_S384x1024_S384x8x128) slices_S384x8x128_S384x8x32_0_0_96)) shapeCasts_S384x8x128_S384x1024

/-- The rotation's angles, by token and pair. -/
def angles (p : IVec S32768 32) : FVec Ideal S32768x16 .f32 :=
  mulf (broadcastInDim S32768x16 ![0, 1] bcast_S32768x1_S32768x16_0_1 (shapeCast S32768x1 (sitofp .f32 p : FVec Ideal S32768 .f32) shapeCasts_S32768_S32768x1))
    (broadcastInDim S32768x16 ![0, 1] bcast_S1x16_S32768x16_0_1 (broadcastInDim S1x16 ![1] bcast_S16_S1x16_1
      (Host.powf (broadcastInDim S16 ![] bcast_S_S16 (constant S_ .f32 0x461C4000#32))
        (Host.divf (Host.negf (addf (broadcastInDim S16 ![] bcast_S_S16 (constant S_ .f32 0x00000000#32))
          (mulf (broadcastInDim S16 ![] bcast_S_S16 (constant S_ .f32 0x40000000#32)) (sitofp .f32 (iotaInDim S16 32 0)))))
          (broadcastInDim S16 ![] bcast_S_S16 (constant S_ .f32 0x42000000#32))))))

/-- Four pieces put side by side, by token. -/
def fourRows (a : FVec Ideal S32768x64 .f32) (b b' : FVec Ideal S32768x16 .f32) (d : FVec Ideal S32768x32 .f32) : FVec Ideal S32768x128 .f32 :=
  concatenate S32768x128 1 [⟨S32768x64, a⟩, ⟨S32768x16, b⟩, ⟨S32768x16, b'⟩, ⟨S32768x32, d⟩] concatenates_S32768x64_S32768x16_S32768x16_S32768x32_S32768x128_d1

/-- An array by token through the shape with two unit axes, unchanged. -/
def through (x : FVec Ideal S32768x128 .f32) : FVec Ideal S32768x128 .f32 :=
  shapeCast S32768x128 (broadcastInDim S1x32768x1x128 ![0, 1, 2, 3] bcast_S1x32768x1x128_S1x32768x1x128_0_1_2_3
    (shapeCast S1x32768x1x128 x shapeCasts_S32768x128_S1x32768x1x128)) shapeCasts_S1x32768x1x128_S32768x128

/-- The cosines by lane. -/
def cosLanes (a : FVec Ideal S32768x16 .f32) : FVec Ideal S32768x128 .f32 :=
  fourRows (broadcastInDim S32768x64 ![] bcast_S_S32768x64 (constant S_ .f32 0x3F800000#32)) (Host.cos a) (Host.cos a)
    (broadcastInDim S32768x32 ![] bcast_S_S32768x32 (constant S_ .f32 0x00000000#32))

/-- The signed sines by lane. -/
def sinLanes (a : FVec Ideal S32768x16 .f32) : FVec Ideal S32768x128 .f32 :=
  fourRows (broadcastInDim S32768x64 ![] bcast_S_S32768x64 (constant S_ .f32 0x00000000#32)) (Host.negf (Host.sin a)) (Host.sin a)
    (broadcastInDim S32768x32 ![] bcast_S_S32768x32 (constant S_ .f32 0x00000000#32))

/-! The arrays the call is given. -/

section Given

variable (m : (ℓ : Loc nD τ sig) → Buf (Elt Ideal) ℓ) (c : Dev nD)

/-- The gains of the two latents. -/
theorem V_49 : (V m c main_v49 : FVec Ideal S1x384 .f32) = shapeCast S1x384 (m ((c : Thread nD τ).loc main_arg4)) shapeCasts_S384_S1x384 := by
  simp only [V, hostOps0, hostOps0_1, hostOps0_2, hostOps0_3, hostOps0_4, hostOps0_5, hostOps0_6, hostOps0_7, hostOps0_8,
    List.flatten_cons, List.flatten_nil, List.append_nil, List.cons_append, List.nil_append, StableHlo.TRef.unary,
    StableHlo.TRef.binary, StableHlo.TRef.nullary, StableHlo.TRef.toBuf, StableHlo.TRef.ofBuf, cast_eq]
  after_results_simp
  rfl

theorem V_50 : (V m c main_v50 : FVec Ideal S1x128 .f32) = shapeCast S1x128 (m ((c : Thread nD τ).loc main_arg6)) shapeCasts_S128_S1x128 := by
  simp only [V, hostOps0, hostOps0_1, hostOps0_2, hostOps0_3, hostOps0_4, hostOps0_5, hostOps0_6, hostOps0_7, hostOps0_8,
    List.flatten_cons, List.flatten_nil, List.append_nil, List.cons_append, List.nil_append, StableHlo.TRef.unary,
    StableHlo.TRef.binary, StableHlo.TRef.nullary, StableHlo.TRef.toBuf, StableHlo.TRef.ofBuf, cast_eq]
  after_results_simp
  rfl

/-- The weights. -/
theorem V_44 : (V m c main_v44 : FVec Ideal S384x1024 .bf16) = padQuery (m ((c : Thread nD τ).loc main_arg5)) := by
  simp only [V, hostOps0, hostOps0_1, hostOps0_2, hostOps0_3, hostOps0_4, hostOps0_5, hostOps0_6, hostOps0_7, hostOps0_8,
    List.flatten_cons, List.flatten_nil, List.append_nil, List.cons_append, List.nil_append, StableHlo.TRef.unary,
    StableHlo.TRef.binary, StableHlo.TRef.nullary, StableHlo.TRef.toBuf, StableHlo.TRef.ofBuf, cast_eq]
  after_results_simp
  rfl

theorem V_57 : (V m c main_v57 : FVec Ideal S384x1024 .bf16) = swapCols (V m c main_v44) := by
  simp only [V, hostOps0, hostOps0_1, hostOps0_2, hostOps0_3, hostOps0_4, hostOps0_5, hostOps0_6, hostOps0_7, hostOps0_8,
    List.flatten_cons, List.flatten_nil, List.append_nil, List.cons_append, List.nil_append, StableHlo.TRef.unary,
    StableHlo.TRef.binary, StableHlo.TRef.nullary, StableHlo.TRef.toBuf, StableHlo.TRef.ofBuf, cast_eq]
  after_results_simp
  unfold swapCols
  show shapeCast S384x1024 (fourCols _ _ _ _) _ = _
  simp only [Matrix.cons_val]
  after_results_simp
  rfl

theorem V_37 : (V m c main_v37 : FVec Ideal S128x1024 .bf16) = padKey (m ((c : Thread nD τ).loc main_arg7)) := by
  simp only [V, hostOps0, hostOps0_1, hostOps0_2, hostOps0_3, hostOps0_4, hostOps0_5, hostOps0_6, hostOps0_7, hostOps0_8,
    List.flatten_cons, List.flatten_nil, List.append_nil, List.cons_append, List.nil_append, StableHlo.TRef.unary,
    StableHlo.TRef.binary, StableHlo.TRef.nullary, StableHlo.TRef.toBuf, StableHlo.TRef.ofBuf, cast_eq]
  after_results_simp
  rfl

theorem V_40 : (V m c main_v40 : FVec Ideal S128x512 .bf16) = valueWeights (m ((c : Thread nD τ).loc main_arg7)) := by
  simp only [V, hostOps0, hostOps0_1, hostOps0_2, hostOps0_3, hostOps0_4, hostOps0_5, hostOps0_6, hostOps0_7, hostOps0_8,
    List.flatten_cons, List.flatten_nil, List.append_nil, List.cons_append, List.nil_append, StableHlo.TRef.unary,
    StableHlo.TRef.binary, StableHlo.TRef.nullary, StableHlo.TRef.toBuf, StableHlo.TRef.ofBuf, cast_eq]
  after_results_simp
  rfl

/-- The heads' gains. -/
theorem V_46 : (V m c main_v46 : FVec Ideal S1x128 .f32) = padFeatures (m ((c : Thread nD τ).loc main_arg8)) := by
  simp only [V, hostOps0, hostOps0_1, hostOps0_2, hostOps0_3, hostOps0_4, hostOps0_5, hostOps0_6, hostOps0_7, hostOps0_8,
    List.flatten_cons, List.flatten_nil, List.append_nil, List.cons_append, List.nil_append, StableHlo.TRef.unary,
    StableHlo.TRef.binary, StableHlo.TRef.nullary, StableHlo.TRef.toBuf, StableHlo.TRef.ofBuf, cast_eq]
  after_results_simp
  rfl

theorem V_48 : (V m c main_v48 : FVec Ideal S1x128 .f32) = padFeatures (m ((c : Thread nD τ).loc main_arg9)) := by
  simp only [V, hostOps0, hostOps0_1, hostOps0_2, hostOps0_3, hostOps0_4, hostOps0_5, hostOps0_6, hostOps0_7, hostOps0_8,
    List.flatten_cons, List.flatten_nil, List.append_nil, List.cons_append, List.nil_append, StableHlo.TRef.unary,
    StableHlo.TRef.binary, StableHlo.TRef.nullary, StableHlo.TRef.toBuf, StableHlo.TRef.ofBuf, cast_eq]
  after_results_simp
  rfl

theorem V_64 : (V m c main_v64 : FVec Ideal S1x128 .f32) = swapFeatures (V m c main_v46) := by
  simp only [V, hostOps0, hostOps0_1, hostOps0_2, hostOps0_3, hostOps0_4, hostOps0_5, hostOps0_6, hostOps0_7, hostOps0_8,
    List.flatten_cons, List.flatten_nil, List.append_nil, List.cons_append, List.nil_append, StableHlo.TRef.unary,
    StableHlo.TRef.binary, StableHlo.TRef.nullary, StableHlo.TRef.toBuf, StableHlo.TRef.ofBuf, cast_eq]
  after_results_simp
  unfold swapFeatures
  show shapeCast S1x128 (four _ _ _ _) _ = _
  simp only [Matrix.cons_val]
  after_results_simp
  rfl

theorem V_71 : (V m c main_v71 : FVec Ideal S1x128 .f32) = swapFeatures (V m c main_v48) := by
  simp only [V, hostOps0, hostOps0_1, hostOps0_2, hostOps0_3, hostOps0_4, hostOps0_5, hostOps0_6, hostOps0_7, hostOps0_8,
    List.flatten_cons, List.flatten_nil, List.append_nil, List.cons_append, List.nil_append, StableHlo.TRef.unary,
    StableHlo.TRef.binary, StableHlo.TRef.nullary, StableHlo.TRef.toBuf, StableHlo.TRef.ofBuf, cast_eq]
  after_results_simp
  unfold swapFeatures
  show shapeCast S1x128 (four _ _ _ _) _ = _
  simp only [Matrix.cons_val]
  after_results_simp
  rfl

/-- The cosines and sines. -/
theorem V_27 : (V m c main_v27 : FVec Ideal S32768x128 .f32) = through (cosLanes (angles (m ((c : Thread nD τ).loc main_arg3)))) := by
  simp only [V, hostOps0, hostOps0_1, hostOps0_2, hostOps0_3, hostOps0_4, hostOps0_5, hostOps0_6, hostOps0_7, hostOps0_8,
    List.flatten_cons, List.flatten_nil, List.append_nil, List.cons_append, List.nil_append, StableHlo.TRef.unary,
    StableHlo.TRef.binary, StableHlo.TRef.nullary, StableHlo.TRef.toBuf, StableHlo.TRef.ofBuf, cast_eq]
  after_results_simp
  unfold through cosLanes
  show shapeCast S32768x128 (broadcastInDim S1x32768x1x128 ![0, 1, 2, 3] _ (shapeCast S1x32768x1x128 (fourRows _ _ _ _) _)) _ = _
  simp only [Matrix.cons_val]
  after_results_simp
  rfl

theorem V_30 : (V m c main_v30 : FVec Ideal S32768x128 .f32) = through (sinLanes (angles (m ((c : Thread nD τ).loc main_arg3)))) := by
  simp only [V, hostOps0, hostOps0_1, hostOps0_2, hostOps0_3, hostOps0_4, hostOps0_5, hostOps0_6, hostOps0_7, hostOps0_8,
    List.flatten_cons, List.flatten_nil, List.append_nil, List.cons_append, List.nil_append, StableHlo.TRef.unary,
    StableHlo.TRef.binary, StableHlo.TRef.nullary, StableHlo.TRef.toBuf, StableHlo.TRef.ofBuf, cast_eq]
  after_results_simp
  unfold through sinLanes
  show shapeCast S32768x128 (broadcastInDim S1x32768x1x128 ![0, 1, 2, 3] _ (shapeCast S1x32768x1x128 (fourRows _ _ _ _) _)) _ = _
  simp only [Matrix.cons_val]
  after_results_simp
  rfl

end Given

/-! The same, at an index. -/

theorem zeroWord_apply (j : S_.Idx) : zeroWord j = 0 := by
  have h : zeroWord j = (((0#32 : BitVec 32).toInt : ℝ) : EReal) := rfl
  rw [h]
  simp

theorem padFeatures_apply (g : FVec Ideal S96 .f32) (d : Fin 128) : padFeatures g (ix2 0 d) = lane (fun e => g (ix1 e)) d := by
  pointwise [padFeatures]
  rw [zeroWord_apply]
  rfl

/-- The four pieces together are the lanes' partners. -/
theorem pick {α : Type} (f : Fin 128 → α) (d : Fin 128) :
    (if h : d.val < 64 then f d
      else if h : d.val - 64 < 16 then f ⟨80 + (d.val - 64), by omega⟩
      else if h : d.val - 64 - 16 < 16 then f ⟨64 + (d.val - 64 - 16), by omega⟩
      else f ⟨96 + (d.val - 64 - 16 - 16), by omega⟩) = f (partner d) := by
  unfold partner
  by_cases h64 : d.val < 64
  · rw [dif_pos h64, dif_pos h64]
  · rw [dif_neg h64, dif_neg h64]
    by_cases h80 : d.val < 80
    · rw [dif_pos (show d.val - 64 < 16 by omega), dif_pos h80]
      exact congrArg f (Fin.ext (by show 80 + (d.val - 64) = d.val + 16; omega))
    · rw [dif_neg (show ¬d.val - 64 < 16 by omega), dif_neg h80]
      by_cases h96 : d.val < 96
      · rw [dif_pos (show d.val - 64 - 16 < 16 by omega), dif_pos h96]
        exact congrArg f (Fin.ext (by show 64 + (d.val - 64 - 16) = d.val - 16; omega))
      · rw [dif_neg (show ¬d.val - 64 - 16 < 16 by omega), dif_neg h96]
        exact congrArg f (Fin.ext (by show 96 + (d.val - 64 - 16 - 16) = d.val; omega))

theorem swapFeatures_apply (g : FVec Ideal S1x128 .f32) (d : Fin 128) : swapFeatures g (ix2 0 d) = g (ix2 0 (partner d)) := by
  pointwise [swapFeatures, four]
  exact pick (fun e => g (ix2 0 e)) d

theorem padQuery_apply (w : FVec Ideal S384x768 .f32) (k : Fin 384) (h : Fin 8) (d : Fin 128) :
    padQuery w (ix2 k ⟨128 * h + d, by omega⟩) = lane (fun e => w (ix2 k ⟨96 * h + e, by omega⟩)) d := by
  pointwise [padQuery]
  rw [zeroWord_apply]
  simp only [Nat.mul_comm h.val 96]
  rfl

theorem swapCols_apply (w : FVec Ideal S384x1024 .bf16) (k : Fin 384) (h : Fin 8) (d : Fin 128) :
    swapCols w (ix2 k ⟨128 * h + d, by omega⟩) = w (ix2 k ⟨128 * h + partner d, by omega⟩) := by
  pointwise [swapCols, fourCols]
  simp only [Nat.mul_comm h.val 128]
  exact pick (fun e => w (ix2 k ⟨128 * h.val + e.val, by omega⟩)) d

theorem padKey_apply (w : FVec Ideal S128x1024 .f32) (k : Fin 128) (h : Fin 8) (d : Fin 128) :
    padKey w (ix2 k ⟨128 * h + d, by omega⟩) = if _h : d.val < 64 then w (ix2 k ⟨128 * h + d, by omega⟩) else 0 := by
  pointwise [padKey]
  rw [zeroWord_apply]
  simp only [Nat.mul_comm h.val 128]

theorem valueWeights_apply (w : FVec Ideal S128x1024 .f32) (k : Fin 128) (n : Fin 512) :
    valueWeights w (ix2 k n) = w (ix2 k ⟨128 * (n.val / 64) + 64 + n.val % 64, by omega⟩) := by
  pointwise [valueWeights]
  exact congrArg (fun q => w (ix2 k q)) (Fin.ext (by show n.val / 64 * 128 + (64 + n.val % 64) = 128 * (n.val / 64) + 64 + n.val % 64; omega))

theorem through_apply (x : FVec Ideal S32768x128 .f32) (t : Fin 32768) (d : Fin 128) : through x (ix2 t d) = x (ix2 t d) := by
  pointwise [through]

/-- The four pieces by token are the lanes' pieces. -/
theorem quarters (a z : EReal) (f f' : Fin 16 → EReal) (d : Fin 128) :
    (if h : d.val < 64 then a else if h : d.val - 64 < 16 then f ⟨d.val - 64, h⟩
      else if h : d.val - 64 - 16 < 16 then f' ⟨d.val - 64 - 16, h⟩ else z)
    = if h : d.val < 64 then a else if h' : d.val < 80 then f ⟨d.val - 64, by omega⟩
      else if h'' : d.val < 96 then f' ⟨d.val - 80, by omega⟩ else z := by
  by_cases h64 : d.val < 64
  · rw [dif_pos h64, dif_pos h64]
  · rw [dif_neg h64, dif_neg h64]
    by_cases h80 : d.val < 80
    · rw [dif_pos (show d.val - 64 < 16 by omega), dif_pos h80]
    · rw [dif_neg (show ¬d.val - 64 < 16 by omega), dif_neg h80]
      by_cases h96 : d.val < 96
      · rw [dif_pos (show d.val - 64 - 16 < 16 by omega), dif_pos h96]
        exact congrArg f' (Fin.ext (by show d.val - 64 - 16 = d.val - 80; omega))
      · rw [dif_neg (show ¬d.val - 64 - 16 < 16 by omega), dif_neg h96]

theorem cosLanes_apply (a : FVec Ideal S32768x16 .f32) (t : Fin 32768) (d : Fin 128) :
    cosLanes a (ix2 t d) = cosLane (fun i => Ideal.cos (a (ix2 t i))) d := by
  pointwise [cosLanes, fourRows]
  exact quarters 1 0 (fun i => Ideal.cos (a (ix2 t i))) (fun i => Ideal.cos (a (ix2 t i))) d

theorem sinLanes_apply (a : FVec Ideal S32768x16 .f32) (t : Fin 32768) (d : Fin 128) :
    sinLanes a (ix2 t d) = sinLane (fun i => Ideal.sin (a (ix2 t i))) d := by
  pointwise [sinLanes, fourRows]
  exact quarters 0 0 (fun i => -Ideal.sin (a (ix2 t i))) (fun i => Ideal.sin (a (ix2 t i))) d

end Cert.MlaPrep6

end
-- ==== Proof.MlaPrep.Value.lean ====
/- The three output arrays, element by element: queries and keys by token and lane, values by token and feature. -/
module

public import proofs.«01_k».proof.Proof.Gen.MlaPrepIdeal.Frame
public import proofs.«01_k».proof.Proof.MlaPrep.Host

@[expose] public section

set_option maxRecDepth 16384

noncomputable section

namespace Cert.MlaPrep6

open Cert.MlaPrepIdeal Cert.MlaPrepIdeal.Gen Idealize.ShloMosaic Idealize.ShloMosaic.TcCoe Idealize.SL.Sem

variable (m : (ℓ : Loc nD τ sig) → Buf (Elt Ideal) ℓ) (c : Dev nD)

/-- The arguments: the two latents and the shared key features by token, the positions, the gains and the weights. -/
def argQ (t : Fin 32768) (k : Fin 384) : EReal := (m ((c : Thread nD τ).loc main_arg0) : S32768x384.Idx → EReal) (ix2 t k)
def argKv (t : Fin 32768) (k : Fin 128) : EReal := (m ((c : Thread nD τ).loc main_arg1) : S32768x128.Idx → EReal) (ix2 t k)
def argKr (t : Fin 32768) (k : Fin 32) : EReal := (m ((c : Thread nD τ).loc main_arg2) : S32768x32.Idx → EReal) (ix2 t k)
def argGq (k : Fin 384) : EReal := (m ((c : Thread nD τ).loc main_arg4) : S384.Idx → EReal) (ix1 k)
def argWq (k : Fin 384) (n : Fin 768) : EReal := (m ((c : Thread nD τ).loc main_arg5) : S384x768.Idx → EReal) (ix2 k n)
def argGkv (k : Fin 128) : EReal := (m ((c : Thread nD τ).loc main_arg6) : S128.Idx → EReal) (ix1 k)
def argWkv (k : Fin 128) (n : Fin 1024) : EReal := (m ((c : Thread nD τ).loc main_arg7) : S128x1024.Idx → EReal) (ix2 k n)
def argNq (e : Fin 96) : EReal := (m ((c : Thread nD τ).loc main_arg8) : S96.Idx → EReal) (ix1 e)
def argNk (e : Fin 96) : EReal := (m ((c : Thread nD τ).loc main_arg9) : S96.Idx → EReal) (ix1 e)
def argA (t : Fin 32768) (i : Fin 16) : EReal := angles (m ((c : Thread nD τ).loc main_arg3)) (ix2 t i)

/-! Where a grid point's blocks lie: rows for the arrays by token, the whole array for the others. -/

/-- The token a grid point's row is. -/
def tok (t : Fin cfg0.N) (r : Fin 512) : Fin 32768 := ⟨512 * t.val + r.val, by have := t.isLt; have h : cfg0.N = 64 := rfl; omega⟩

theorem idx0 : ∀ (t : Fin grid0.N) (a : Fin 2), win0_0.index t a = (![t.val, 0] : Fin 2 → ℕ) a := by decide +kernel
theorem idx1 : ∀ (t : Fin grid0.N) (a : Fin 2), win0_1.index t a = (![t.val, 0] : Fin 2 → ℕ) a := by decide +kernel
theorem idx2 : ∀ (t : Fin grid0.N) (a : Fin 2), win0_2.index t a = (![t.val, 0] : Fin 2 → ℕ) a := by decide +kernel
theorem idx3 : ∀ (t : Fin grid0.N) (a : Fin 2), win0_3.index t a = (![t.val, 0] : Fin 2 → ℕ) a := by decide +kernel
theorem idx4 : ∀ (t : Fin grid0.N) (a : Fin 2), win0_4.index t a = (![t.val, 0] : Fin 2 → ℕ) a := by decide +kernel
theorem idx15 : ∀ (t : Fin grid0.N) (a : Fin 2), win0_15.index t a = (![t.val, 0] : Fin 2 → ℕ) a := by decide +kernel
theorem idx16 : ∀ (t : Fin grid0.N) (a : Fin 2), win0_16.index t a = (![t.val, 0] : Fin 2 → ℕ) a := by decide +kernel
theorem idx17 : ∀ (t : Fin grid0.N) (a : Fin 2), win0_17.index t a = (![t.val, 0] : Fin 2 → ℕ) a := by decide +kernel
theorem idx5 : ∀ (t : Fin grid0.N) (a : Fin 2), win0_5.index t a = 0 := by decide +kernel
theorem idx6 : ∀ (t : Fin grid0.N) (a : Fin 2), win0_6.index t a = 0 := by decide +kernel
theorem idx7 : ∀ (t : Fin grid0.N) (a : Fin 2), win0_7.index t a = 0 := by decide +kernel
theorem idx8 : ∀ (t : Fin grid0.N) (a : Fin 2), win0_8.index t a = 0 := by decide +kernel
theorem idx9 : ∀ (t : Fin grid0.N) (a : Fin 2), win0_9.index t a = 0 := by decide +kernel
theorem idx10 : ∀ (t : Fin grid0.N) (a : Fin 2), win0_10.index t a = 0 := by decide +kernel
theorem idx11 : ∀ (t : Fin grid0.N) (a : Fin 2), win0_11.index t a = 0 := by decide +kernel
theorem idx12 : ∀ (t : Fin grid0.N) (a : Fin 2), win0_12.index t a = 0 := by decide +kernel
theorem idx13 : ∀ (t : Fin grid0.N) (a : Fin 2), win0_13.index t a = 0 := by decide +kernel
theorem idx14 : ∀ (t : Fin grid0.N) (a : Fin 2), win0_14.index t a = 0 := by decide +kernel

theorem rows0 (t : Fin cfg0.N) (r : Fin 512) (n : Fin 384) : (iblk m c 0 t : S512x384.Idx → EReal) (ix2 r n) = (V m c main_arg0 : S32768x384.Idx → EReal) (ix2 (tok t r) n) := by
  unfold iblk
  refine congrArg (V m c main_arg0 : S32768x384.Idx → EReal) (funext fun a => Fin.ext ((Pipeline.Window.rect_emb_val win0_0 t _ a).trans ?_))
  rw [idx0]
  fin_cases a <;> simp [win0_0, ix2, tok, Nat.mul_comm]

theorem rows1 (t : Fin cfg0.N) (r : Fin 512) (n : Fin 128) : (iblk m c 1 t : S512x128.Idx → EReal) (ix2 r n) = (V m c main_arg1 : S32768x128.Idx → EReal) (ix2 (tok t r) n) := by
  unfold iblk
  refine congrArg (V m c main_arg1 : S32768x128.Idx → EReal) (funext fun a => Fin.ext ((Pipeline.Window.rect_emb_val win0_1 t _ a).trans ?_))
  rw [idx1]
  fin_cases a <;> simp [win0_1, ix2, tok, Nat.mul_comm]

theorem rows2 (t : Fin cfg0.N) (r : Fin 512) (n : Fin 32) : (iblk m c 2 t : S512x32.Idx → EReal) (ix2 r n) = (V m c main_arg2 : S32768x32.Idx → EReal) (ix2 (tok t r) n) := by
  unfold iblk
  refine congrArg (V m c main_arg2 : S32768x32.Idx → EReal) (funext fun a => Fin.ext ((Pipeline.Window.rect_emb_val win0_2 t _ a).trans ?_))
  rw [idx2]
  fin_cases a <;> simp [win0_2, ix2, tok, Nat.mul_comm]

theorem rows3 (t : Fin cfg0.N) (r : Fin 512) (n : Fin 128) : (iblk m c 3 t : S512x128.Idx → EReal) (ix2 r n) = (V m c main_v27 : S32768x128.Idx → EReal) (ix2 (tok t r) n) := by
  unfold iblk
  refine congrArg (V m c main_v27 : S32768x128.Idx → EReal) (funext fun a => Fin.ext ((Pipeline.Window.rect_emb_val win0_3 t _ a).trans ?_))
  rw [idx3]
  fin_cases a <;> simp [win0_3, ix2, tok, Nat.mul_comm]

theorem rows4 (t : Fin cfg0.N) (r : Fin 512) (n : Fin 128) : (iblk m c 4 t : S512x128.Idx → EReal) (ix2 r n) = (V m c main_v30 : S32768x128.Idx → EReal) (ix2 (tok t r) n) := by
  unfold iblk
  refine congrArg (V m c main_v30 : S32768x128.Idx → EReal) (funext fun a => Fin.ext ((Pipeline.Window.rect_emb_val win0_4 t _ a).trans ?_))
  rw [idx4]
  fin_cases a <;> simp [win0_4, ix2, tok, Nat.mul_comm]

theorem whole5 (t : Fin cfg0.N) : (iblk m c 5 t : S1x384.Idx → EReal) = V m c main_v49 :=
  funext fun z => congrArg (V m c main_v49 : S1x384.Idx → EReal) (funext fun a => Fin.ext (Pipeline.Window.rect_emb_val_of_index_zero win0_5 t a (idx5 t a) z))
theorem whole6 (t : Fin cfg0.N) : (iblk m c 6 t : S1x128.Idx → EReal) = V m c main_v50 :=
  funext fun z => congrArg (V m c main_v50 : S1x128.Idx → EReal) (funext fun a => Fin.ext (Pipeline.Window.rect_emb_val_of_index_zero win0_6 t a (idx6 t a) z))
theorem whole7 (t : Fin cfg0.N) : (iblk m c 7 t : S384x1024.Idx → EReal) = V m c main_v44 :=
  funext fun z => congrArg (V m c main_v44 : S384x1024.Idx → EReal) (funext fun a => Fin.ext (Pipeline.Window.rect_emb_val_of_index_zero win0_7 t a (idx7 t a) z))
theorem whole8 (t : Fin cfg0.N) : (iblk m c 8 t : S384x1024.Idx → EReal) = V m c main_v57 :=
  funext fun z => congrArg (V m c main_v57 : S384x1024.Idx → EReal) (funext fun a => Fin.ext (Pipeline.Window.rect_emb_val_of_index_zero win0_8 t a (idx8 t a) z))
theorem whole9 (t : Fin cfg0.N) : (iblk m c 9 t : S128x1024.Idx → EReal) = V m c main_v37 :=
  funext fun z => congrArg (V m c main_v37 : S128x1024.Idx → EReal) (funext fun a => Fin.ext (Pipeline.Window.rect_emb_val_of_index_zero win0_9 t a (idx9 t a) z))
theorem whole10 (t : Fin cfg0.N) : (iblk m c 10 t : S128x512.Idx → EReal) = V m c main_v40 :=
  funext fun z => congrArg (V m c main_v40 : S128x512.Idx → EReal) (funext fun a => Fin.ext (Pipeline.Window.rect_emb_val_of_index_zero win0_10 t a (idx10 t a) z))
theorem whole11 (t : Fin cfg0.N) : (iblk m c 11 t : S1x128.Idx → EReal) = V m c main_v46 :=
  funext fun z => congrArg (V m c main_v46 : S1x128.Idx → EReal) (funext fun a => Fin.ext (Pipeline.Window.rect_emb_val_of_index_zero win0_11 t a (idx11 t a) z))
theorem whole12 (t : Fin cfg0.N) : (iblk m c 12 t : S1x128.Idx → EReal) = V m c main_v64 :=
  funext fun z => congrArg (V m c main_v64 : S1x128.Idx → EReal) (funext fun a => Fin.ext (Pipeline.Window.rect_emb_val_of_index_zero win0_12 t a (idx12 t a) z))
theorem whole13 (t : Fin cfg0.N) : (iblk m c 13 t : S1x128.Idx → EReal) = V m c main_v48 :=
  funext fun z => congrArg (V m c main_v48 : S1x128.Idx → EReal) (funext fun a => Fin.ext (Pipeline.Window.rect_emb_val_of_index_zero win0_13 t a (idx13 t a) z))
theorem whole14 (t : Fin cfg0.N) : (iblk m c 14 t : S1x128.Idx → EReal) = V m c main_v71 :=
  funext fun z => congrArg (V m c main_v71 : S1x128.Idx → EReal) (funext fun a => Fin.ext (Pipeline.Window.rect_emb_val_of_index_zero win0_14 t a (idx14 t a) z))

/-! The blocks at an index, in the arguments. -/

theorem blk_q (t : Fin cfg0.N) (r : Fin 512) (n : Fin 384) : (iblk m c 0 t : S512x384.Idx → EReal) (ix2 r n) = argQ m c (tok t r) n := by
  rw [rows0, V_main_arg0]
  rfl
theorem blk_kv (t : Fin cfg0.N) (r : Fin 512) (n : Fin 128) : (iblk m c 1 t : S512x128.Idx → EReal) (ix2 r n) = argKv m c (tok t r) n := by
  rw [rows1, V_main_arg1]
  rfl
theorem blk_kr (t : Fin cfg0.N) (r : Fin 512) (n : Fin 32) : (iblk m c 2 t : S512x32.Idx → EReal) (ix2 r n) = argKr m c (tok t r) n := by
  rw [rows2, V_main_arg2]
  rfl
theorem blk_cos (t : Fin cfg0.N) (r : Fin 512) (d : Fin 128) :
    (iblk m c 3 t : S512x128.Idx → EReal) (ix2 r d) = cosLane (fun i => Ideal.cos (argA m c (tok t r) i)) d := by
  rw [rows3, V_27, through_apply, cosLanes_apply]
  rfl
theorem blk_sin (t : Fin cfg0.N) (r : Fin 512) (d : Fin 128) :
    (iblk m c 4 t : S512x128.Idx → EReal) (ix2 r d) = sinLane (fun i => Ideal.sin (argA m c (tok t r) i)) d := by
  rw [rows4, V_30, through_apply, sinLanes_apply]
  rfl

theorem flat_gq (g : FVec Ideal S384 .f32) (n : Fin 384) : (shapeCast S1x384 g shapeCasts_S384_S1x384 : FVec Ideal S1x384 .f32) (ix2 0 n) = g (ix1 n) := by
  pointwise
theorem flat_gkv (g : FVec Ideal S128 .f32) (n : Fin 128) : (shapeCast S1x128 g shapeCasts_S128_S1x128 : FVec Ideal S1x128 .f32) (ix2 0 n) = g (ix1 n) := by
  pointwise
theorem blk_gq (t : Fin cfg0.N) (n : Fin 384) : (iblk m c 5 t : S1x384.Idx → EReal) (ix2 0 n) = argGq m c n := by
  rw [whole5, V_49]
  exact flat_gq _ n
theorem blk_gkv (t : Fin cfg0.N) (n : Fin 128) : (iblk m c 6 t : S1x128.Idx → EReal) (ix2 0 n) = argGkv m c n := by
  rw [whole6, V_50]
  exact flat_gkv _ n

theorem blk_wq (t : Fin cfg0.N) (k : Fin 384) (h : Fin 8) (d : Fin 128) :
    (iblk m c 7 t : S384x1024.Idx → EReal) (ix2 k ⟨128 * h + d, by omega⟩) = lane (fun e => argWq m c k ⟨96 * h + e, by omega⟩) d := by
  rw [whole7, V_44, padQuery_apply]
  rfl
theorem blk_wqs (t : Fin cfg0.N) (k : Fin 384) (h : Fin 8) (d : Fin 128) :
    (iblk m c 8 t : S384x1024.Idx → EReal) (ix2 k ⟨128 * h + d, by omega⟩) = lane (fun e => argWq m c k ⟨96 * h + e, by omega⟩) (partner d) := by
  rw [whole8, V_57, swapCols_apply, V_44, padQuery_apply]
  rfl
theorem blk_wk (t : Fin cfg0.N) (k : Fin 128) (h : Fin 8) (d : Fin 128) :
    (iblk m c 9 t : S128x1024.Idx → EReal) (ix2 k ⟨128 * h + d, by omega⟩) = if _h : d.val < 64 then argWkv m c k ⟨128 * h + d, by omega⟩ else 0 := by
  rw [whole9, V_37, padKey_apply]
  rfl
theorem blk_wv (t : Fin cfg0.N) (k : Fin 128) (n : Fin 512) :
    (iblk m c 10 t : S128x512.Idx → EReal) (ix2 k n) = argWkv m c k ⟨128 * (n.val / 64) + 64 + n.val % 64, by omega⟩ := by
  rw [whole10, V_40, valueWeights_apply]
  rfl
theorem blk_nq (t : Fin cfg0.N) (d : Fin 128) : (iblk m c 11 t : S1x128.Idx → EReal) (ix2 0 d) = lane (argNq m c) d := by
  rw [whole11, V_46, padFeatures_apply]
  rfl
theorem blk_nqs (t : Fin cfg0.N) (d : Fin 128) : (iblk m c 12 t : S1x128.Idx → EReal) (ix2 0 d) = lane (argNq m c) (partner d) := by
  rw [whole12, V_64, swapFeatures_apply, V_46, padFeatures_apply]
  rfl
theorem blk_nk (t : Fin cfg0.N) (d : Fin 128) : (iblk m c 13 t : S1x128.Idx → EReal) (ix2 0 d) = lane (argNk m c) d := by
  rw [whole13, V_48, padFeatures_apply]
  rfl
theorem blk_nks (t : Fin cfg0.N) (d : Fin 128) : (iblk m c 14 t : S1x128.Idx → EReal) (ix2 0 d) = lane (argNk m c) (partner d) := by
  rw [whole14, V_71, swapFeatures_apply, V_48, padFeatures_apply]
  rfl

/-! The projections' lanes. -/

/-- Columns padded with zeros project to the padded projections. -/
theorem proj_lane {n : ℕ} (q : EReal) (x g : Fin n → EReal) (w : Fin n → Fin 96 → EReal) (d : Fin 128) :
    proj q x g (fun k => lane (w k) d) = lane (fun e => proj q x g fun k => w k e) d := by
  by_cases h : d.val < 96
  · rw [show lane (fun e => proj q x g fun k => w k e) d = proj q x g (fun k => w k ⟨d.val, h⟩) from dif_pos h]
    exact congrArg (proj q x g) (funext fun k => dif_pos h)
  · rw [show lane (fun e => proj q x g fun k => w k e) d = 0 from dif_neg h, ← proj_zero q x g]
    exact congrArg (proj q x g) (funext fun k => dif_neg h)

/-- A lane of a run of lanes, by its place in the run. -/
theorem lane_in (a w : ℕ) (d : Fin 128) (h : a ≤ d.val) (h' : d.val < a + w) : ∃ (i : Fin w) (p : a + i.val < 128), d = ⟨a + i.val, p⟩ :=
  ⟨⟨d.val - a, by omega⟩, by show a + (d.val - a) < 128; omega, Fin.ext (by show d.val = a + (d.val - a); omega)⟩

theorem query_lanes (t : Fin cfg0.N) (h : Fin 8) (r : Fin 512) (d : Fin 128) :
    cols (k0_pay5 (F := Ideal) (iblk m c 0 t) (iblk m c 5 t) (iblk m c 7 t)) h r d
      = lane (fun e => proj (Ideal.ofBits .f32 0x43C00000#32) (argQ m c (tok t r)) (argGq m c) fun k => argWq m c k ⟨96 * h + e, by omega⟩) d := by
  refine (pay5_apply _ _ _ r _).trans ?_
  simp only [blk_q, blk_gq, blk_wq]
  exact proj_lane _ _ _ _ d

theorem query_partners (t : Fin cfg0.N) (h : Fin 8) (r : Fin 512) (d : Fin 128) :
    cols (k0_pay6 (F := Ideal) (iblk m c 0 t) (iblk m c 5 t) (iblk m c 8 t)) h r d
      = lane (fun e => proj (Ideal.ofBits .f32 0x43C00000#32) (argQ m c (tok t r)) (argGq m c) fun k => argWq m c k ⟨96 * h + e, by omega⟩) (partner d) := by
  refine (pay6_apply _ _ _ r _).trans ?_
  simp only [blk_q, blk_gq, blk_wqs]
  exact proj_lane _ _ _ _ (partner d)

theorem key_lanes (t : Fin cfg0.N) (h : Fin 8) (r : Fin 512) (d : Fin 128) :
    keyCols (k0_pay7 (F := Ideal) (k0_pay4 (F := Ideal) (iblk m c 1 t) (iblk m c 6 t)) (iblk m c 9 t)) (k0_pay11 (F := Ideal) (iblk m c 2 t)) h r d
      = lane (keyFeature (argKv m c (tok t r)) (argGkv m c) (argWkv m c) (argKr m c (tok t r)) h) d := by
  refine (congrArg (· + _) (pay7_apply _ _ _ r _)).trans ?_
  simp only [blk_kv, blk_gkv, blk_wk]
  by_cases h64 : d.val < 64
  · rw [show lane (keyFeature (argKv m c (tok t r)) (argGkv m c) (argWkv m c) (argKr m c (tok t r)) h) d
      = proj (Ideal.ofBits .f32 0x43000000#32) (argKv m c (tok t r)) (argGkv m c) (fun k => argWkv m c k ⟨128 * h + d, by omega⟩)
      from (dif_pos (by omega)).trans (dif_pos h64)]
    rw [show (k0_pay11 (F := Ideal) (iblk m c 2 t) : S512x128.Idx → EReal) (ix2 r d) = 0 from pay11_lead _ r ⟨d.val, h64⟩, add_zero]
    exact congrArg (proj _ _ _) (funext fun k => dif_pos h64)
  · rw [show proj (Ideal.ofBits .f32 0x43000000#32) (argKv m c (tok t r)) (argGkv m c) (fun k => if _h : d.val < 64 then argWkv m c k ⟨128 * h + d, by omega⟩ else 0) = 0
      from (congrArg (proj _ _ _) (funext fun k => dif_neg h64)).trans (proj_zero _ _ _), zero_add]
    by_cases h96 : d.val < 96
    · obtain ⟨i, p, rfl⟩ := lane_in 64 32 d (by omega) (by omega)
      refine (pay11_mid _ r i).trans ((blk_kr m c t r i).trans ?_)
      refine Eq.symm (((dif_pos h96).trans (dif_neg h64)).trans ?_)
      exact congrArg (argKr m c (tok t r)) (Fin.ext (by show 64 + i.val - 64 = i.val; omega))
    · obtain ⟨i, p, rfl⟩ := lane_in 96 32 d (by omega) (by omega)
      exact (pay11_tail _ r i).trans (show lane _ ⟨96 + i.val, p⟩ = 0 from dif_neg h96).symm

theorem key_partners (t : Fin cfg0.N) (h : Fin 8) (r : Fin 512) (d : Fin 128) (h64 : 64 ≤ d.val) (h96 : d.val < 96) :
    (k0_pay12 (F := Ideal) (iblk m c 2 t) : S512x128.Idx → EReal) (ix2 r d)
      = lane (keyFeature (argKv m c (tok t r)) (argGkv m c) (argWkv m c) (argKr m c (tok t r)) h) (partner d) := by
  by_cases h80 : d.val < 80
  · obtain ⟨i, p, rfl⟩ := lane_in 64 16 d (by omega) (by omega)
    refine (pay12_left _ r i).trans ((blk_kr m c t r _).trans ?_)
    have hp : partner ⟨64 + i.val, by omega⟩ = ⟨80 + i.val, by omega⟩ := by
      unfold partner
      rw [dif_neg (by omega), dif_pos h80]
      exact Fin.ext (by show 64 + i.val + 16 = 80 + i.val; omega)
    rw [hp]
    refine Eq.symm (((dif_pos (show 80 + i.val < 96 by omega)).trans (dif_neg (show ¬80 + i.val < 64 by omega))).trans ?_)
    exact congrArg (argKr m c (tok t r)) (Fin.ext (by show 80 + i.val - 64 = 16 + i.val; omega))
  · obtain ⟨i, p, rfl⟩ := lane_in 80 16 d (by omega) (by omega)
    refine (pay12_right _ r i).trans ((blk_kr m c t r _).trans ?_)
    have hp : partner ⟨80 + i.val, by omega⟩ = ⟨64 + i.val, by omega⟩ := by
      unfold partner
      rw [dif_neg (by omega), dif_neg h80, dif_pos h96]
      exact Fin.ext (by show 80 + i.val - 16 = 64 + i.val; omega)
    rw [hp]
    refine Eq.symm (((dif_pos (show 64 + i.val < 96 by omega)).trans (dif_neg (show ¬64 + i.val < 64 by omega))).trans ?_)
    exact congrArg (argKr m c (tok t r)) (Fin.ext (by show 64 + i.val - 64 = i.val; omega))

/-! The results. -/

def resultQ (i : S32768x1024.Idx) : EReal :=
  queryAt (argQ m c (i 0)) (argGq m c) (argWq m c) (argNq m c) (argA m c (i 0)) ⟨(i 1).val / 128, by have : (i 1).val < 1024 := (i 1).isLt; omega⟩ ⟨(i 1).val % 128, by omega⟩

def resultK (i : S32768x1024.Idx) : EReal :=
  keyAt (argKv m c (i 0)) (argGkv m c) (argWkv m c) (argKr m c (i 0)) (argNk m c) (argA m c (i 0)) ⟨(i 1).val / 128, by have : (i 1).val < 1024 := (i 1).isLt; omega⟩ ⟨(i 1).val % 128, by omega⟩

def resultV (i : S32768x512.Idx) : EReal := valueAt (argKv m c (i 0)) (argGkv m c) (argWkv m c) (i 1)

def blkQ (t : Fin cfg0.N) : S512x1024.Idx → EReal :=
  out0_15 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t)

def blkK (t : Fin cfg0.N) : S512x1024.Idx → EReal :=
  out0_16 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t)

def blkV (t : Fin cfg0.N) : S512x512.Idx → EReal :=
  out0_17 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t)

theorem blkQ_apply (t : Fin cfg0.N) (r : Fin 512) (n : Fin 1024) : blkQ m c t (ix2 r n) = resultQ m c (ix2 (tok t r) n) := by
  refine (out15_apply _ _ _ _ _ _ _ _ _ _ _ _ _ _ _ r n).trans ?_
  exact kernelLane_eq (query_lanes m c t _ r) (blk_nq m c t) (blk_cos m c t r) (blk_sin m c t r) (fun d _ _ => query_partners m c t _ r d) (blk_nqs m c t)
    scale_real _

theorem blkK_apply (t : Fin cfg0.N) (r : Fin 512) (n : Fin 1024) : blkK m c t (ix2 r n) = resultK m c (ix2 (tok t r) n) := by
  refine (out16_apply _ _ _ _ _ _ _ _ _ _ _ _ _ _ _ r n).trans ?_
  refine (kernelLane_eq (key_lanes m c t _ r) (blk_nk m c t) (blk_cos m c t r) (blk_sin m c t r) (fun d => key_partners m c t _ r d) (blk_nks m c t)
    ⟨1, zero_le_one, one_real⟩ _).trans ?_
  rw [one_real]
  simp only [mul_one]
  rfl

theorem blkV_apply (t : Fin cfg0.N) (r : Fin 512) (n : Fin 512) : blkV m c t (ix2 r n) = resultV m c (ix2 (tok t r) n) := by
  refine (out17_apply _ _ _ _ _ _ _ _ _ _ _ _ _ _ _ r n).trans ?_
  simp only [blk_kv, blk_gkv, blk_wv]
  rfl

/-- A block's index is its row's token and its column. -/
theorem block_eq {w : ℕ} {f : (⟨2, ![512, w]⟩ : Shape).Idx → EReal} {R : (⟨2, ![32768, w]⟩ : Shape).Idx → EReal} (t : Fin cfg0.N)
    (h : ∀ r n, f (ix2 r n) = R (ix2 (tok t r) n)) (z : (⟨2, ![512, w]⟩ : Shape).Idx) (i : (⟨2, ![32768, w]⟩ : Shape).Idx)
    (h0 : (i 0).val = 512 * t.val + (z 0).val) (h1 : (i 1).val = (z 1).val) : f z = R i := by
  obtain ⟨r, n, rfl⟩ : ∃ (r : Fin 512) (n : Fin w), z = ix2 r n := ⟨z 0, z 1, eq_ix2 z⟩
  obtain rfl : i = ix2 (tok t r) n := (eq_ix2 i).trans (congrArg₂ ix2 (Fin.ext h0) (Fin.ext h1))
  exact h r n

theorem arr_q : (dats m 0 c).arrAt 15 cfg0.N = resultQ m c := by
  refine (dats m 0 c).arrAt_eq_of_covers 15 _ (by decide +kernel) fun t hf y => ?_
  rw [show (dats m 0 c).after 15 t = blkQ m c t from after0_15 m c t]
  refine (cast_eq _ _).trans (block_eq t (blkQ_apply m c t) ((cfg0.win 15).xinj (cfg0.grid.coords t) y) (((cfg0.win 15).blk t).view.emb y) ?_ ?_)
  · refine (Pipeline.Window.rect_emb_val win0_15 t _ 0).trans ?_
    rw [idx15]; simp [win0_15, Nat.mul_comm]
  · refine (Pipeline.Window.rect_emb_val win0_15 t _ 1).trans ?_
    rw [idx15]; simp [win0_15]

theorem arr_k : (dats m 0 c).arrAt 16 cfg0.N = resultK m c := by
  refine (dats m 0 c).arrAt_eq_of_covers 16 _ (by decide +kernel) fun t hf y => ?_
  rw [show (dats m 0 c).after 16 t = blkK m c t from after0_16 m c t]
  refine (cast_eq _ _).trans (block_eq t (blkK_apply m c t) ((cfg0.win 16).xinj (cfg0.grid.coords t) y) (((cfg0.win 16).blk t).view.emb y) ?_ ?_)
  · refine (Pipeline.Window.rect_emb_val win0_16 t _ 0).trans ?_
    rw [idx16]; simp [win0_16, Nat.mul_comm]
  · refine (Pipeline.Window.rect_emb_val win0_16 t _ 1).trans ?_
    rw [idx16]; simp [win0_16]

theorem arr_v : (dats m 0 c).arrAt 17 cfg0.N = resultV m c := by
  refine (dats m 0 c).arrAt_eq_of_covers 17 _ (by decide +kernel) fun t hf y => ?_
  rw [show (dats m 0 c).after 17 t = blkV m c t from after0_17 m c t]
  refine (cast_eq _ _).trans (block_eq t (blkV_apply m c t) ((cfg0.win 17).xinj (cfg0.grid.coords t) y) (((cfg0.win 17).blk t).view.emb y) ?_ ?_)
  · refine (Pipeline.Window.rect_emb_val win0_17 t _ 0).trans ?_
    rw [idx17]; simp [win0_17, Nat.mul_comm]
  · refine (Pipeline.Window.rect_emb_val win0_17 t _ 1).trans ?_
    rw [idx17]; simp [win0_17]

end Cert.MlaPrep6

end
-- ==== Proof.MlaPrep.Ref.lean ====
/- The reference's queries, keys and values, element by element. -/
module

public import proofs.«01_k».proof.Proof.Gen.MlaPrepRefIdeal.Run
public import proofs.«01_k».proof.Proof.MlaPrep.Model
public import Idealize.ShloMosaic.Lib.Pointwise

@[expose] public section

set_option maxRecDepth 16384

noncomputable section

namespace Cert.MlaPrep6.Ref

open Cert.MlaPrepRefIdeal Cert.MlaPrepRefIdeal.Gen Cert.MlaPrepRefIdeal.Value Cert.MemKv4 Idealize.ShloMosaic Idealize.ShloMosaic.TcCoe Idealize.SL.Sem

/-- The query latent normalized. -/
def normQ (x : FVec Ideal S32768x384 .f32) (g : FVec Ideal S384 .f32) : FVec Ideal S32768x384 .f32 :=
  mulf (mulf x (broadcastInDim S32768x384 ![0, 1] bcast_S32768x1_S32768x384_0_1 (Host.rsqrt (addf
      (Host.divf (broadcastInDim S32768x1 ![0] bcast_S32768_S32768x1_0
          (Host.reduceAdd (mulf x x) (constant (F := Ideal) S_ .f32 0x00000000#32) reducesTo_S32768x384_S32768_d1 h_S_))
        (broadcastInDim S32768x1 ![] bcast_S_S32768x1 (constant (F := Ideal) S_ .f32 0x43C00000#32)))
      (broadcastInDim S32768x1 ![] bcast_S_S32768x1 (constant (F := Ideal) S_ .f32 0x358637BD#32))))))
    (broadcastInDim S32768x384 ![0, 1] bcast_S1x384_S32768x384_0_1 (broadcastInDim S1x384 ![1] bcast_S384_S1x384_1 g))

/-- The latent of keys and values normalized. -/
def normKv (x : FVec Ideal S32768x128 .f32) (g : FVec Ideal S128 .f32) : FVec Ideal S32768x128 .f32 :=
  mulf (mulf x (broadcastInDim S32768x128 ![0, 1] bcast_S32768x1_S32768x128_0_1 (Host.rsqrt (addf
      (Host.divf (broadcastInDim S32768x1 ![0] bcast_S32768_S32768x1_0
          (Host.reduceAdd (mulf x x) (constant (F := Ideal) S_ .f32 0x00000000#32) reducesTo_S32768x128_S32768_d1 h_S_))
        (broadcastInDim S32768x1 ![] bcast_S_S32768x1 (constant (F := Ideal) S_ .f32 0x43000000#32)))
      (broadcastInDim S32768x1 ![] bcast_S_S32768x1 (constant (F := Ideal) S_ .f32 0x358637BD#32))))))
    (broadcastInDim S32768x128 ![0, 1] bcast_S1x128_S32768x128_0_1 (broadcastInDim S1x128 ![1] bcast_S128_S1x128_1 g))

/-- The queries' projection by head. -/
def heads (y : FVec Ideal S32768x384 .f32) (w : FVec Ideal S384x768 .f32) : FVec Ideal S32768x8x96 .f32 :=
  shapeCast S32768x8x96 (Host.dotGeneral dot_S32768x384_S384x768_S32768x768_1_0_0_1_n_n none y w) shapeCasts_S32768x768_S32768x8x96

/-- The keys' and values' projection by head. -/
def headsKv (y : FVec Ideal S32768x128 .f32) (w : FVec Ideal S128x1024 .f32) : FVec Ideal S32768x8x128 .f32 :=
  shapeCast S32768x8x128 (Host.dotGeneral dot_S32768x128_S128x1024_S32768x1024_1_0_0_1_n_n none y w) shapeCasts_S32768x1024_S32768x8x128

/-- The keys before their norm: a head's own features, then those all heads share. -/
def keys (y : FVec Ideal S32768x8x128 .f32) (r : FVec Ideal S32768x32 .f32) : FVec Ideal S32768x8x96 .f32 :=
  concatenate S32768x8x96 2 [⟨S32768x8x64, extractStridedSlice S32768x8x64 ![0, 0, 0] y slices_S32768x8x128_S32768x8x64_0_0_0⟩,
    ⟨S32768x8x32, broadcastInDim S32768x8x32 ![0, 1, 2] bcast_S32768x1x32_S32768x8x32_0_1_2 (broadcastInDim S32768x1x32 ![0, 2] bcast_S32768x32_S32768x1x32_0_2 r)⟩]
    concatenates_S32768x8x64_S32768x8x32_S32768x8x96_d2

/-- Every head normalized. -/
def normHeads (u : FVec Ideal S32768x8x96 .f32) (g : FVec Ideal S96 .f32) : FVec Ideal S32768x8x96 .f32 :=
  mulf (mulf u (broadcastInDim S32768x8x96 ![0, 1, 2] bcast_S32768x8x1_S32768x8x96_0_1_2 (Host.rsqrt (addf
      (Host.divf (broadcastInDim S32768x8x1 ![0, 1] bcast_S32768x8_S32768x8x1_0_1
          (Host.reduceAdd (mulf u u) (constant (F := Ideal) S_ .f32 0x00000000#32) reducesTo_S32768x8x96_S32768x8_d2 h_S_))
        (broadcastInDim S32768x8x1 ![] bcast_S_S32768x8x1 (constant (F := Ideal) S_ .f32 0x42C00000#32)))
      (broadcastInDim S32768x8x1 ![] bcast_S_S32768x8x1 (constant (F := Ideal) S_ .f32 0x358637BD#32))))))
    (broadcastInDim S32768x8x96 ![0, 1, 2] bcast_S1x1x96_S32768x8x96_0_1_2 (broadcastInDim S1x1x96 ![2] bcast_S96_S1x1x96_2 g))

/-- The rotation's angles by token and pair, as the reference writes them. -/
def angles (p : IVec S32768 32) : FVec Ideal S32768x16 .f32 :=
  mulf (broadcastInDim S32768x16 ![0, 1] bcast_S32768x1_S32768x16_0_1 (broadcastInDim S32768x1 ![0] bcast_S32768_S32768x1_0 (sitofp .f32 p : FVec Ideal S32768 .f32)))
    (broadcastInDim S32768x16 ![0, 1] bcast_S1x16_S32768x16_0_1 (broadcastInDim S1x16 ![1] bcast_S16_S1x16_1
      (Host.powf (broadcastInDim S16 ![] bcast_S_S16 (constant S_ .f32 0x461C4000#32))
        (Host.divf (Host.negf (addf (broadcastInDim S16 ![] bcast_S_S16 (constant S_ .f32 0x00000000#32))
          (mulf (broadcastInDim S16 ![] bcast_S_S16 (constant S_ .f32 0x40000000#32)) (sitofp .f32 (iotaInDim S16 32 0)))))
          (broadcastInDim S16 ![] bcast_S_S16 (constant S_ .f32 0x42000000#32))))))

/-- An array by token and pair, given to every head. -/
def perHead (x : FVec Ideal S32768x16 .f32) : FVec Ideal S32768x8x16 .f32 :=
  broadcastInDim S32768x8x16 ![0, 1, 2] bcast_S32768x1x16_S32768x8x16_0_1_2 (broadcastInDim S32768x1x16 ![0, 2] bcast_S32768x16_S32768x1x16_0_2 x)

/-- One of the two halves of the 32 features that rotate. -/
def lowHalf (u : FVec Ideal S32768x8x96 .f32) : FVec Ideal S32768x8x16 .f32 :=
  extractStridedSlice S32768x8x16 ![0, 0, 0] (extractStridedSlice S32768x8x32 ![0, 0, 64] u slices_S32768x8x96_S32768x8x32_0_0_64) slices_S32768x8x32_S32768x8x16_0_0_0
def highHalf (u : FVec Ideal S32768x8x96 .f32) : FVec Ideal S32768x8x16 .f32 :=
  extractStridedSlice S32768x8x16 ![0, 0, 16] (extractStridedSlice S32768x8x32 ![0, 0, 64] u slices_S32768x8x96_S32768x8x32_0_0_64) slices_S32768x8x32_S32768x8x16_0_0_16

/-- Every head's last 32 features rotated. -/
def rotate (u : FVec Ideal S32768x8x96 .f32) (a : FVec Ideal S32768x16 .f32) : FVec Ideal S32768x8x96 .f32 :=
  concatenate S32768x8x96 2 [⟨S32768x8x64, extractStridedSlice S32768x8x64 ![0, 0, 0] u slices_S32768x8x96_S32768x8x64_0_0_0⟩,
    ⟨S32768x8x32, concatenate S32768x8x32 2 [⟨S32768x8x16, subf (mulf (lowHalf u) (perHead (Host.cos a))) (mulf (highHalf u) (perHead (Host.sin a)))⟩,
      ⟨S32768x8x16, addf (mulf (lowHalf u) (perHead (Host.sin a))) (mulf (highHalf u) (perHead (Host.cos a)))⟩] concatenates_S32768x8x16_S32768x8x16_S32768x8x32_d2⟩]
    concatenates_S32768x8x64_S32768x8x32_S32768x8x96_d2

/-- Every head padded to 128 lanes. -/
def lanes (u : FVec Ideal S32768x8x96 .f32) : FVec Ideal S32768x1024 .bf16 :=
  truncf .bf16 (shapeCast S32768x1024 (pad S32768x8x128 ![0, 0, 0] ![0, 0, 32] ![0, 0, 0] u (sitofp .f32 (constantI S_ 32 0#32) : FVec Ideal S_ .f32)
    pads_S32768x8x96_S32768x8x128_000_000_0320 h_S_) shapeCasts_S32768x8x128_S32768x1024) bitsLt_bf16_f32

/-- The values: the second half of every head's 128 columns. -/
def values (y : FVec Ideal S32768x8x128 .f32) : FVec Ideal S32768x512 .bf16 :=
  truncf .bf16 (shapeCast S32768x512 (extractStridedSlice S32768x8x64 ![0, 0, 64] y slices_S32768x8x128_S32768x8x64_0_0_64) shapeCasts_S32768x8x64_S32768x512) bitsLt_bf16_f32

theorem normQ_apply (x : FVec Ideal S32768x384 .f32) (g : FVec Ideal S384 .f32) (t : Fin 32768) (k : Fin 384) :
    normQ x g (ix2 t k) = rms (Ideal.ofBits .f32 0x43C00000#32) (fun j => x (ix2 t j)) (fun j => g (ix1 j)) k := by
  pointwise [normQ]
  rfl

theorem normKv_apply (x : FVec Ideal S32768x128 .f32) (g : FVec Ideal S128 .f32) (t : Fin 32768) (k : Fin 128) :
    normKv x g (ix2 t k) = rms (Ideal.ofBits .f32 0x43000000#32) (fun j => x (ix2 t j)) (fun j => g (ix1 j)) k := by
  pointwise [normKv]
  rfl

theorem heads_apply (y : FVec Ideal S32768x384 .f32) (w : FVec Ideal S384x768 .f32) (t : Fin 32768) (h : Fin 8) (e : Fin 96) :
    heads y w (ix3 t h e) = ∑ k, y (ix2 t k) * w (ix2 k ⟨96 * h.val + e.val, by omega⟩) := by
  pointwise [heads]
  simp only [Nat.mul_comm h.val 96]

theorem headsKv_apply (y : FVec Ideal S32768x128 .f32) (w : FVec Ideal S128x1024 .f32) (t : Fin 32768) (h : Fin 8) (e : Fin 128) :
    headsKv y w (ix3 t h e) = ∑ k, y (ix2 t k) * w (ix2 k ⟨128 * h.val + e.val, by omega⟩) := by
  pointwise [headsKv]
  simp only [Nat.mul_comm h.val 128]

theorem keys_apply (y : FVec Ideal S32768x8x128 .f32) (r : FVec Ideal S32768x32 .f32) (t : Fin 32768) (h : Fin 8) (e : Fin 96) :
    keys y r (ix3 t h e) = if h' : e.val < 64 then y (ix3 t h ⟨e.val, by omega⟩) else r (ix2 t ⟨e.val - 64, by omega⟩) := by
  pointwise [keys]

theorem normHeads_apply (u : FVec Ideal S32768x8x96 .f32) (g : FVec Ideal S96 .f32) (t : Fin 32768) (h : Fin 8) (e : Fin 96) :
    normHeads u g (ix3 t h e) = rms (Ideal.ofBits .f32 0x42C00000#32) (fun j => u (ix3 t h j)) (fun j => g (ix1 j)) e := by
  pointwise [normHeads]
  rfl

/-- The rotation of each head, feature by feature. -/
theorem rotate_apply (u : FVec Ideal S32768x8x96 .f32) (a : FVec Ideal S32768x16 .f32) (t : Fin 32768) (h : Fin 8) (e : Fin 96) :
    rotate u a (ix3 t h e) = rotated (fun j => u (ix3 t h j)) (fun i => Ideal.cos (a (ix2 t i))) (fun i => Ideal.sin (a (ix2 t i))) e := by
  pointwise [rotate, perHead, lowHalf, highHalf]
  unfold rotated
  by_cases h64 : e.val < 64
  · rw [dif_pos h64, dif_pos h64]
  · rw [dif_neg h64, dif_neg h64]
    by_cases h80 : e.val < 80
    · rw [dif_pos (show e.val - 64 < 16 by omega), dif_pos h80]
      have f0 : (⟨64 + (e.val - 64), by omega⟩ : Fin 96) = e := Fin.ext (show 64 + (e.val - 64) = e.val by omega)
      have f1 : (⟨64 + (16 + (e.val - 64)), by omega⟩ : Fin 96) = ⟨e.val + 16, by omega⟩ :=
        Fin.ext (show 64 + (16 + (e.val - 64)) = e.val + 16 by omega)
      simp only [f0, f1]
    · have h16 : ¬e.val - 64 < 16 := by omega
      simp only [h80, h16, ↓reduceDIte]
      have f0 : (⟨64 + (e.val - 80), by omega⟩ : Fin 96) = ⟨e.val - 16, by omega⟩ :=
        Fin.ext (show 64 + (e.val - 80) = e.val - 16 by omega)
      have f1 : (⟨64 + (16 + (e.val - 80)), by omega⟩ : Fin 96) = e :=
        Fin.ext (show 64 + (16 + (e.val - 80)) = e.val by omega)
      simp only [Nat.sub_sub, Nat.reduceAdd, f0, f1]

/-- The padded heads side by side: lane `n % 128` of head `n / 128`. -/
theorem lanes_apply (u : FVec Ideal S32768x8x96 .f32) (t : Fin 32768) (n : Fin 1024) :
    lanes u (ix2 t n) = lane (fun e => u (ix3 t ⟨n.val / 128, by omega⟩ e)) ⟨n.val % 128, by omega⟩ := by
  pointwise [lanes]
  unfold lane
  by_cases h96 : n.val % 128 < 96
  · rw [dif_pos ⟨by omega, h96⟩, dif_pos h96]
  · rw [dif_neg (fun q => h96 q.2), dif_neg h96]
    have h : FloatOps.sitofp (F := Ideal) FTy.f32 0#32 = (((0#32 : BitVec 32).toInt : ℝ) : EReal) := rfl
    rw [h]
    simp

theorem values_apply (y : FVec Ideal S32768x8x128 .f32) (t : Fin 32768) (n : Fin 512) :
    values y (ix2 t n) = y (ix3 t ⟨n.val / 64, by omega⟩ ⟨64 + n.val % 64, by omega⟩) := by
  pointwise [values]

section Results

variable (x : FVec Ideal S32768x384 .f32) (y : FVec Ideal S32768x128 .f32) (r : FVec Ideal S32768x32 .f32) (p : IVec S32768 32) (gq : FVec Ideal S384 .f32)
  (wq : FVec Ideal S384x768 .f32) (gkv : FVec Ideal S128 .f32) (wkv : FVec Ideal S128x1024 .f32) (nq nk : FVec Ideal S96 .f32)

/-- The three results. -/
def outQ : FVec Ideal S32768x1024 .bf16 :=
  lanes (mulf (rotate (normHeads (heads (normQ x gq) wq) nq) (angles p)) (broadcastInDim S32768x8x96 ![] bcast_S_S32768x8x96 (constant S_ .f32 0x3DD105EC#32)))
def outK : FVec Ideal S32768x1024 .bf16 := lanes (rotate (normHeads (keys (headsKv (normKv y gkv) wkv) r) nk) (angles p))
def outV : FVec Ideal S32768x512 .bf16 := values (headsKv (normKv y gkv) wkv)

theorem outQ_apply (t : Fin 32768) (n : Fin 1024) : outQ x p gq wq nq (ix2 t n)
    = queryAt (fun k => x (ix2 t k)) (fun k => gq (ix1 k)) (fun k n => wq (ix2 k n)) (fun e => nq (ix1 e)) (fun i => angles p (ix2 t i))
        ⟨n.val / 128, by omega⟩ ⟨n.val % 128, by omega⟩ := by
  refine (lanes_apply _ t n).trans ?_
  unfold queryAt headOf
  refine congrArg (fun f => lane f _) (funext fun e => congrArg (· * _) ?_)
  refine (rotate_apply _ _ t _ e).trans ?_
  simp only [normHeads_apply, heads_apply, normQ_apply]
  rfl

theorem outK_apply (t : Fin 32768) (n : Fin 1024) : outK y r p gkv wkv nk (ix2 t n)
    = keyAt (fun k => y (ix2 t k)) (fun k => gkv (ix1 k)) (fun k n => wkv (ix2 k n)) (fun e => r (ix2 t e)) (fun e => nk (ix1 e)) (fun i => angles p (ix2 t i))
        ⟨n.val / 128, by omega⟩ ⟨n.val % 128, by omega⟩ := by
  refine (lanes_apply _ t n).trans ?_
  unfold keyAt headOf
  refine congrArg (fun f => lane f _) (funext fun e => ?_)
  refine (rotate_apply _ _ t _ e).trans ?_
  simp only [normHeads_apply, keys_apply, headsKv_apply, normKv_apply]
  rfl

theorem outV_apply (t : Fin 32768) (n : Fin 512) : outV y gkv wkv (ix2 t n)
    = valueAt (fun k => y (ix2 t k)) (fun k => gkv (ix1 k)) (fun k n => wkv (ix2 k n)) n := by
  refine (values_apply _ t n).trans ?_
  rw [headsKv_apply]
  simp only [normKv_apply]
  unfold valueAt proj
  simp only [Nat.add_assoc]

end Results

variable (m : (ℓ : Loc nD τ sig) → Buf (Elt Ideal) ℓ) (c : Dev nD)

theorem res_q : res_main_v137 m c = outQ (m ((c.tc : Thread nD τ).loc main_arg0)) (m ((c.tc : Thread nD τ).loc main_arg3)) (m ((c.tc : Thread nD τ).loc main_arg4))
    (m ((c.tc : Thread nD τ).loc main_arg5)) (m ((c.tc : Thread nD τ).loc main_arg8)) := by
  unfold res_main_v137
  rfl

theorem res_k : res_main_v140 m c = outK (m ((c.tc : Thread nD τ).loc main_arg1)) (m ((c.tc : Thread nD τ).loc main_arg2)) (m ((c.tc : Thread nD τ).loc main_arg3))
    (m ((c.tc : Thread nD τ).loc main_arg6)) (m ((c.tc : Thread nD τ).loc main_arg7)) (m ((c.tc : Thread nD τ).loc main_arg9)) := by
  unfold res_main_v140
  rfl

end Cert.MlaPrep6.Ref

end
-- ==== Proof.MlaPrep.Claims.lean ====
/- The claims for the queries, keys and values of the MLA branch: the frames, the named constant, and the two programs' results equal. -/
module

public import proofs.«01_k».proof.Defs
public import proofs.«01_k».proof.Proof.Gen.MlaPrep
public import proofs.«01_k».proof.Proof.Gen.MlaPrep.Frame
public import proofs.«01_k».proof.Proof.Gen.MlaPrepIdeal.Value
public import proofs.«01_k».proof.Proof.MlaPrep.Value
public import proofs.«01_k».proof.Proof.MlaPrep.Ref
public import Idealize.ShloMosaic.Lib.Quiescent

@[expose] public section

set_option maxRecDepth 16384

noncomputable section

namespace Cert.MlaPrep6

open Idealize.ShloMosaic Idealize.ShloMosaic.TcCoe Idealize.SL.Sem

theorem frame_kernel : Cert.quiescent_MlaPrep := fun m ρ _ => Cert.MlaPrep.Gen.frame (F := Bits) m ρ

theorem frame_ideal : Cert.quiescent_MlaPrepIdeal := fun m ρ _ => Cert.MlaPrepIdeal.Gen.frame (F := Ideal) m ρ

theorem frame_ref : Cert.quiescent_MlaPrepRefIdeal := fun m ρ _ =>
  (θ_run Cert.MlaPrepRefIdeal.defs _ _).mono (fun r h => ⟨fun c => (h c).2.2.2, sem_eq_zero_of_no_sems (by decide) r.2⟩)
    (Cert.MlaPrepRefIdeal.Value.run (F := Ideal) m ρ)

/-- The constant the kernel multiplies a head's square sum by is named 1/96. -/
theorem inv_named : Cert.preserves_MlaPrep_MlaPrepIdeal :=
  IdealRules.named_const.statement Cert.MlaPrepIdeal.κ "inv_qk" .f32 0x3C2AAAAB#32 ((1 / 96 : ℝ) : EReal) rfl

/-- The two programs' angles are the same: one reshapes the positions to a column, the other broadcasts them to one. -/
theorem angles_eq (p : IVec Cert.MlaPrepIdeal.S32768 32) : Ref.angles p = angles p := by
  funext i
  obtain ⟨t, k, rfl⟩ : ∃ (t : Fin 32768) (k : Fin 16), i = ix2 t k := ⟨i 0, i 1, eq_ix2 i⟩
  have e : Ref.angles p (ix2 t k) = angles p (ix2 t k) := by
    pointwise [Ref.angles, angles]
  exact e

/-- The kernel's queries, keys and values are the reference's. -/
theorem mla_prep : Cert.algebraic_MlaPrepIdeal_MlaPrepRefIdeal := by
  intro m ρ m' ρ' _ hagree
  refine ⟨_, _, _, Cert.MlaPrepIdeal.Value.run_blocks (F := Ideal) m ρ, ?_⟩
  refine (θ_run Cert.MlaPrepRefIdeal.defs _ _).mono (fun _ h c => ?_) (Cert.MlaPrepRefIdeal.Value.run (F := Ideal) m' ρ')
  obtain ⟨e0, e1, e2, hk⟩ := h c
  obtain ⟨h0, h1, h2, h3, h4, h5, h6, h7, h8, h9⟩ := hagree c
  refine ⟨(e0.trans (Ref.res_q m' c)).trans ?_, (e1.trans (Ref.res_k m' c)).trans ?_, e2.trans ?_, hk⟩
  · rw [h0, h3, h4, h5, h8]
    refine Eq.trans ?_ (arr_q m c).symm
    funext i
    refine (congrArg _ (eq_ix2 i)).trans ((Ref.outQ_apply _ _ _ _ _ (i 0) (i 1)).trans ?_)
    rw [angles_eq]
    rfl
  · rw [h1, h2, h3, h6, h7, h9]
    refine Eq.trans ?_ (arr_k m c).symm
    funext i
    refine (congrArg _ (eq_ix2 i)).trans ((Ref.outK_apply _ _ _ _ _ _ (i 0) (i 1)).trans ?_)
    rw [angles_eq]
    rfl
  · rw [h1, h6, h7]
    refine Eq.trans ?_ (arr_v m c).symm
    funext i
    exact (congrArg _ (eq_ix2 i)).trans (Ref.outV_apply _ _ _ (i 0) (i 1))

end Cert.MlaPrep6

end
-- ==== Proof.lean ====
module

public import proofs.«01_k».proof.Defs
public import proofs.«01_k».proof.Proof.Plain.Frame
public import proofs.«01_k».proof.Proof.Attn.Frame
public import proofs.«01_k».proof.Proof.Attn.Value
public import proofs.«01_k».proof.Proof.Attn.Ref
public import proofs.«01_k».proof.Proof.Attn.Pre
public import proofs.«01_k».proof.Proof.InProj.Claims
public import proofs.«01_k».proof.Proof.Merge.Claims
public import proofs.«01_k».proof.Proof.MemKv.Claims
public import proofs.«01_k».proof.Proof.MemAttn.Claims
public import proofs.«01_k».proof.Proof.MlaPrep.Claims
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Pre_finite_qk
public import proofs.«01_k».proof.Proof.Gen.Pre_finite_mem
public import proofs.«01_k».proof.Proof.Gen.InProj
public import proofs.«01_k».proof.Proof.Gen.InProjIdeal
public import proofs.«01_k».proof.Proof.Gen.InProjIdeal.Value
public import proofs.«01_k».proof.Proof.Gen.InProjRefIdeal
public import proofs.«01_k».proof.Proof.Gen.InProjRefIdeal.Run
public import proofs.«01_k».proof.Proof.Gen.Merge
public import proofs.«01_k».proof.Proof.Gen.MergeIdeal
public import proofs.«01_k».proof.Proof.Gen.MergeIdeal.Value
public import proofs.«01_k».proof.Proof.Gen.MergeRefIdeal
public import proofs.«01_k».proof.Proof.Gen.MergeRefIdeal.Run
public import proofs.«01_k».proof.Proof.Gen.MemKv
public import proofs.«01_k».proof.Proof.Gen.MemKvIdeal
public import proofs.«01_k».proof.Proof.Gen.MemKvIdeal.Value
public import proofs.«01_k».proof.Proof.Gen.MemKvRefIdeal
public import proofs.«01_k».proof.Proof.Gen.MemKvRefIdeal.Run
public import proofs.«01_k».proof.Proof.Gen.MemAttn
public import proofs.«01_k».proof.Proof.Gen.MemAttnIdeal
public import proofs.«01_k».proof.Proof.Gen.MemAttnIdeal.Value
public import proofs.«01_k».proof.Proof.Gen.MemAttnRefIdeal
public import proofs.«01_k».proof.Proof.Gen.MemAttnRefIdeal.Run
public import proofs.«01_k».proof.Proof.Gen.MlaPrep
public import proofs.«01_k».proof.Proof.Gen.MlaPrep.Frame
public import proofs.«01_k».proof.Proof.Gen.MlaPrepIdeal
public import proofs.«01_k».proof.Proof.Gen.MlaPrepIdeal.Value
public import proofs.«01_k».proof.Proof.Gen.MlaPrepRefIdeal
public import proofs.«01_k».proof.Proof.Gen.MlaPrepRefIdeal.Run
public import Idealize.ShloMosaic.Adequacy
public import Idealize.ShloMosaic.Init
public import Idealize.ShloMosaic.Lib.Quiescent

@[expose] public section

noncomputable section

namespace Cert.Proof

open Idealize.ShloMosaic Idealize.SL.Sem

theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The mask's constant is named −∞. -/
theorem mask_named : Cert.preserves_Kernel_KernelIdeal :=
  IdealRules.named_const.statement Cert.KernelIdeal.κ "mask" .f32 0xF149F2CA#32 ⊥ rfl

/-- Of finite queries and keys the kernel and the reference give the same array. -/
theorem attention : Cert.algebraic_KernelIdeal_ReferenceIdeal_pre_finite_qk := by
  intro m ρ m' ρ' hpre hagree
  refine ⟨_, Cert.Attn.run_blocks (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨hQ, hK⟩ := Cert.Attn.finite_of_pre (hpre c)
  refine (Cert.Attn.Ref.res_result m' c).trans ?_
  rw [(hagree c).1, (hagree c).2.1, (hagree c).2.2]
  exact (Cert.Attn.arr_out m c hQ hK).symm

theorem claim : Cert.Claim :=
  ⟨Cert.Kernel.Gen.facts, Cert.KernelIdeal.Gen.facts, Cert.ReferenceIdeal.Gen.facts,
    Cert.InProj.Gen.facts, Cert.InProjIdeal.Gen.facts, Cert.InProjRefIdeal.Gen.facts,
    Cert.Merge.Gen.facts, Cert.MergeIdeal.Gen.facts, Cert.MergeRefIdeal.Gen.facts,
    Cert.MemKv.Gen.facts, Cert.MemKvIdeal.Gen.facts, Cert.MemKvRefIdeal.Gen.facts,
    Cert.MemAttn.Gen.facts, Cert.MemAttnIdeal.Gen.facts, Cert.MemAttnRefIdeal.Gen.facts,
    Cert.MlaPrep.Gen.facts, Cert.MlaPrepIdeal.Gen.facts, Cert.MlaPrepRefIdeal.Gen.facts,
    Cert.Pre_finite_qk.Gen.facts, Cert.Pre_finite_mem.Gen.facts,
    fun m ρ _ => Cert.Kernel.Gen.frame m ρ, fun m ρ _ => Cert.Attn.frame m ρ, fun m ρ _ => Cert.Attn.frame m ρ,
    frame_reference, fun m ρ _ => frame_reference m ρ trivial,
    Cert.InProj9.frame_kernel, Cert.InProj9.frame_ideal, Cert.InProj9.frame_ref,
    Cert.Merge3.frame_kernel, Cert.Merge3.frame_ideal, Cert.Merge3.frame_ref,
    Cert.MemKv4.frame_kernel, Cert.MemKv4.frame_ideal, Cert.MemKv4.frame_ref,
    Cert.MemAttn5.frame_kernel, Cert.MemAttn5.frame_ideal, fun m ρ _ => Cert.MemAttn5.frame_ideal m ρ trivial,
    Cert.MemAttn5.frame_ref, fun m ρ _ => Cert.MemAttn5.frame_ref m ρ trivial,
    Cert.MlaPrep6.frame_kernel, Cert.MlaPrep6.frame_ideal, Cert.MlaPrep6.frame_ref,
    mask_named, attention, trivial, Cert.InProj9.in_proj, trivial, Cert.Merge3.merge,
    trivial, Cert.MemKv4.mem_kv, trivial, Cert.MemAttn5.mem_attn,
    Cert.MlaPrep6.inv_named, Cert.MlaPrep6.mla_prep⟩

end Cert.Proof

end
